-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_mem_finite [hPre_mem_finite : Cert.Pre_mem_finite.Facts] (m : (ℓ : Loc Cert.KernelIdeal.nD Cert.KernelIdeal.τ Cert.KernelIdeal.sig) → Buf (Elt Ideal) ℓ) : Prop :=
  ∀ c : Dev Cert.KernelIdeal.nD,
    (Cert.Pre_mem_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_mem_finite [hPre_mem_finite : Cert.Pre_mem_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_mem_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_dact_finite [hPre_dact_finite : Cert.Pre_dact_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_dact_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_dact_finite [hPre_dact_finite : Cert.Pre_dact_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_dact_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_gla_finite [hPre_gla_finite : Cert.Pre_gla_finite.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_gla_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_gla_finite [hPre_gla_finite : Cert.Pre_gla_finite.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_gla_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Kernel23Ideal_mla_finite [hPre_mla_finite : Cert.Pre_mla_finite.Facts] (m : (ℓ : Loc Cert.Kernel23Ideal.nD Cert.Kernel23Ideal.τ Cert.Kernel23Ideal.sig) → Buf (Elt Ideal) ℓ) : Prop :=
  ∀ c : Dev Cert.Kernel23Ideal.nD,
    (Cert.Pre_mla_finite.fn (F := Ideal) (m ((c.tc : Thread Cert.Kernel23Ideal.nD Cert.Kernel23Ideal.τ).loc Cert.Kernel23Ideal.main_arg0)) (m ((c.tc : Thread Cert.Kernel23Ideal.nD Cert.Kernel23Ideal.τ).loc Cert.Kernel23Ideal.main_arg1)) (m ((c.tc : Thread Cert.Kernel23Ideal.nD Cert.Kernel23Ideal.τ).loc Cert.Kernel23Ideal.main_arg2))) = (fun _ => 1#1)

def Pre_Reference23Ideal (m : (ℓ : Loc Cert.Reference23Ideal.nD Cert.Reference23Ideal.τ Cert.Reference23Ideal.sig) → Buf (Elt Ideal) ℓ) : Prop :=
  True

def Pre_Reference23Ideal_mla_finite [hPre_mla_finite : Cert.Pre_mla_finite.Facts] (m : (ℓ : Loc Cert.Reference23Ideal.nD Cert.Reference23Ideal.τ Cert.Reference23Ideal.sig) → Buf (Elt Ideal) ℓ) : Prop :=
  ∀ c : Dev Cert.Reference23Ideal.nD,
    (Cert.Pre_mla_finite.fn (F := Ideal) (m ((c.tc : Thread Cert.Reference23Ideal.nD Cert.Reference23Ideal.τ).loc Cert.Reference23Ideal.main_arg0)) (m ((c.tc : Thread Cert.Reference23Ideal.nD Cert.Reference23Ideal.τ).loc Cert.Reference23Ideal.main_arg1)) (m ((c.tc : Thread Cert.Reference23Ideal.nD Cert.Reference23Ideal.τ).loc Cert.Reference23Ideal.main_arg2))) = (fun _ => 1#1)

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_mem_finite [hKernelIdeal : Cert.KernelIdeal.Facts] [hPre_mem_finite : Cert.Pre_mem_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_mem_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_mem_finite [hReferenceIdeal : Cert.ReferenceIdeal.Facts] [hPre_mem_finite : Cert.Pre_mem_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_mem_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_dact_finite [hKernel2Ideal : Cert.Kernel2Ideal.Facts] [hPre_dact_finite : Cert.Pre_dact_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_dact_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_dact_finite [hReference2Ideal : Cert.Reference2Ideal.Facts] [hPre_dact_finite : Cert.Pre_dact_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_dact_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Kernel4Ideal_pre_gla_finite [hKernel4Ideal : Cert.Kernel4Ideal.Facts] [hPre_gla_finite : Cert.Pre_gla_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_gla_finite m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Reference4Ideal_pre_gla_finite [hReference4Ideal : Cert.Reference4Ideal.Facts] [hPre_gla_finite : Cert.Pre_gla_finite.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_gla_finite m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ r.2.sem = fun _ => 0)

def quiescent_Kernel23Ideal_pre_mla_finite [hKernel23Ideal : Cert.Kernel23Ideal.Facts] [hPre_mla_finite : Cert.Pre_mla_finite.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal_mla_finite m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2))
      ∧ r.2.sem = fun _ => 0)

def quiescent_Reference23Ideal_pre_mla_finite [hReference23Ideal : Cert.Reference23Ideal.Facts] [hPre_mla_finite : Cert.Pre_mla_finite.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal_mla_finite m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1)
      ∧ r.2.mem ((c.tc : Thread Cert.Kernel33.nD Cert.Kernel33.τ).loc Cert.Kernel33.main_arg2) = m ((c.tc : Thread Cert.Kernel33.nD Cert.Kernel33.τ).loc Cert.Kernel33.main_arg2))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
      ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1)
      ∧ r.2.mem ((c.tc : Thread Cert.Reference33Ideal.nD Cert.Reference33Ideal.τ).loc Cert.Reference33Ideal.main_arg2) = m ((c.tc : Thread Cert.Reference33Ideal.nD Cert.Reference33Ideal.τ).loc Cert.Reference33Ideal.main_arg2))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1)
      ∧ r.2.mem ((c.tc : Thread Cert.Kernel34.nD Cert.Kernel34.τ).loc Cert.Kernel34.main_arg2) = m ((c.tc : Thread Cert.Kernel34.nD Cert.Kernel34.τ).loc Cert.Kernel34.main_arg2)
      ∧ r.2.mem ((c.tc : Thread Cert.Kernel34.nD Cert.Kernel34.τ).loc Cert.Kernel34.main_arg3) = m ((c.tc : Thread Cert.Kernel34.nD Cert.Kernel34.τ).loc Cert.Kernel34.main_arg3))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
      ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
      ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1)
      ∧ r.2.mem ((c.tc : Thread Cert.Reference34Ideal.nD Cert.Reference34Ideal.τ).loc Cert.Reference34Ideal.main_arg2) = m ((c.tc : Thread Cert.Reference34Ideal.nD Cert.Reference34Ideal.τ).loc Cert.Reference34Ideal.main_arg2)
      ∧ r.2.mem ((c.tc : Thread Cert.Reference34Ideal.nD Cert.Reference34Ideal.τ).loc Cert.Reference34Ideal.main_arg3) = m ((c.tc : Thread Cert.Reference34Ideal.nD Cert.Reference34Ideal.τ).loc Cert.Reference34Ideal.main_arg3))
      ∧ r.2.sem = fun _ => 0)

def preserves_Kernel_KernelIdeal : Prop :=
  True

def algebraic_KernelIdeal_ReferenceIdeal_pre_mem_finite [hKernelIdeal : Cert.KernelIdeal.Facts] [hReferenceIdeal : Cert.ReferenceIdeal.Facts] [hPre_mem_finite : Cert.Pre_mem_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_mem_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_v63) = v1 c
          ∧ r.2.mem ((c.tc : Thread Cert.ReferenceIdeal.nD Cert.ReferenceIdeal.τ).loc Cert.ReferenceIdeal.main_v64) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_pre_dact_finite [hKernel2Ideal : Cert.Kernel2Ideal.Facts] [hReference2Ideal : Cert.Reference2Ideal.Facts] [hPre_dact_finite : Cert.Pre_dact_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_dact_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v15) = v0 c
          ∧ r.2.mem ((c.tc : Thread Cert.Reference2Ideal.nD Cert.Reference2Ideal.τ).loc Cert.Reference2Ideal.main_v16) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v9) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal_pre_gla_finite [hKernel4Ideal : Cert.Kernel4Ideal.Facts] [hReference4Ideal : Cert.Reference4Ideal.Facts] [hPre_gla_finite : Cert.Pre_gla_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_gla_finite m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v34_0)) (v1 : (c : Dev Cert.Kernel4Ideal.nD) → Buf (Elt Ideal) ((c.tc : Thread Cert.Kernel4Ideal.nD Cert.Kernel4Ideal.τ).loc Cert.Kernel4Ideal.main_v34_1)) (v2 : (c : Dev Cert.Kernel4Ideal.nD) → Buf (Elt Ideal) ((c.tc : Thread Cert.Kernel4Ideal.nD Cert.Kernel4Ideal.τ).loc Cert.Kernel4Ideal.main_v34_2)) (v3 : (c : Dev Cert.Kernel4Ideal.nD) → Buf (Elt Ideal) ((c.tc : Thread Cert.Kernel4Ideal.nD Cert.Kernel4Ideal.τ).loc Cert.Kernel4Ideal.main_v34_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v34_0) = v0 c
          ∧ r.2.mem ((c.tc : Thread Cert.Kernel4Ideal.nD Cert.Kernel4Ideal.τ).loc Cert.Kernel4Ideal.main_v34_1) = v1 c
          ∧ r.2.mem ((c.tc : Thread Cert.Kernel4Ideal.nD Cert.Kernel4Ideal.τ).loc Cert.Kernel4Ideal.main_v34_2) = v2 c
          ∧ r.2.mem ((c.tc : Thread Cert.Kernel4Ideal.nD Cert.Kernel4Ideal.τ).loc Cert.Kernel4Ideal.main_v34_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v78) = v0 c
          ∧ r.2.mem ((c.tc : Thread Cert.Reference4Ideal.nD Cert.Reference4Ideal.τ).loc Cert.Reference4Ideal.main_v70) = v1 c
          ∧ r.2.mem ((c.tc : Thread Cert.Reference4Ideal.nD Cert.Reference4Ideal.τ).loc Cert.Reference4Ideal.main_v61) = v2 c
          ∧ r.2.mem ((c.tc : Thread Cert.Reference4Ideal.nD Cert.Reference4Ideal.τ).loc Cert.Reference4Ideal.main_v75) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v9) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v9) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v4_0)) (v1 : (c : Dev Cert.Kernel7Ideal.nD) → Buf (Elt Ideal) ((c.tc : Thread Cert.Kernel7Ideal.nD Cert.Kernel7Ideal.τ).loc Cert.Kernel7Ideal.main_v4_1)) (v2 : (c : Dev Cert.Kernel7Ideal.nD) → Buf (Elt Ideal) ((c.tc : Thread Cert.Kernel7Ideal.nD Cert.Kernel7Ideal.τ).loc Cert.Kernel7Ideal.main_v4_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4_0) = v0 c
          ∧ r.2.mem ((c.tc : Thread Cert.Kernel7Ideal.nD Cert.Kernel7Ideal.τ).loc Cert.Kernel7Ideal.main_v4_1) = v1 c
          ∧ r.2.mem ((c.tc : Thread Cert.Kernel7Ideal.nD Cert.Kernel7Ideal.τ).loc Cert.Kernel7Ideal.main_v4_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_v6) = v1 c
          ∧ r.2.mem ((c.tc : Thread Cert.Reference7Ideal.nD Cert.Reference7Ideal.τ).loc Cert.Reference7Ideal.main_v9) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v9) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v3) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v4) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v2) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v3) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v4) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v5) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v4) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v5) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v3) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v4) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v4) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v5) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  IdealRules.named_const.Statement Cert.Kernel23Ideal.κ "mask" .f32 0xF149F2CA#32 ⊥

def algebraic_Kernel23Ideal_Reference23Ideal_pre_mla_finite [hKernel23Ideal : Cert.Kernel23Ideal.Facts] [hReference23Ideal : Cert.Reference23Ideal.Facts] [hPre_mla_finite : Cert.Pre_mla_finite.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal_mla_finite m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)) →
    ∃ (v0 : (c : Dev Cert.Kernel23Ideal.nD) → Buf (Elt Ideal) ((c.tc : Thread Cert.Kernel23Ideal.nD Cert.Kernel23Ideal.τ).loc Cert.Kernel23Ideal.main_v6)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v6) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v31) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)) →
    ∃ (v0 : (c : Dev Cert.Kernel24Ideal.nD) → Buf (Elt Ideal) ((c.tc : Thread Cert.Kernel24Ideal.nD Cert.Kernel24Ideal.τ).loc Cert.Kernel24Ideal.main_v0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v22) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)) →
    ∃ (v0 : (c : Dev Cert.Kernel25Ideal.nD) → Buf (Elt Ideal) ((c.tc : Thread Cert.Kernel25Ideal.nD Cert.Kernel25Ideal.τ).loc Cert.Kernel25Ideal.main_v1_0)) (v1 : (c : Dev Cert.Kernel25Ideal.nD) → Buf (Elt Ideal) ((c.tc : Thread Cert.Kernel25Ideal.nD Cert.Kernel25Ideal.τ).loc Cert.Kernel25Ideal.main_v1_1)) (v2 : (c : Dev Cert.Kernel25Ideal.nD) → Buf (Elt Ideal) ((c.tc : Thread Cert.Kernel25Ideal.nD Cert.Kernel25Ideal.τ).loc Cert.Kernel25Ideal.main_v1_2)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v1_0) = v0 c
          ∧ r.2.mem ((c.tc : Thread Cert.Kernel25Ideal.nD Cert.Kernel25Ideal.τ).loc Cert.Kernel25Ideal.main_v1_1) = v1 c
          ∧ r.2.mem ((c.tc : Thread Cert.Kernel25Ideal.nD Cert.Kernel25Ideal.τ).loc Cert.Kernel25Ideal.main_v1_2) = v2 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v36) = v0 c
          ∧ r.2.mem ((c.tc : Thread Cert.Reference25Ideal.nD Cert.Reference25Ideal.τ).loc Cert.Reference25Ideal.main_v37) = v1 c
          ∧ r.2.mem ((c.tc : Thread Cert.Reference25Ideal.nD Cert.Reference25Ideal.τ).loc Cert.Reference25Ideal.main_v38) = v2 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)) →
    ∃ (v0 : (c : Dev Cert.Kernel26Ideal.nD) → Buf (Elt Ideal) ((c.tc : Thread Cert.Kernel26Ideal.nD Cert.Kernel26Ideal.τ).loc Cert.Kernel26Ideal.main_v0)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v8) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)) →
    ∃ (v0 : (c : Dev Cert.Kernel27Ideal.nD) → Buf (Elt Ideal) ((c.tc : Thread Cert.Kernel27Ideal.nD Cert.Kernel27Ideal.τ).loc Cert.Kernel27Ideal.main_v0)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v5) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)) →
    ∃ (v0 : (c : Dev Cert.Kernel28Ideal.nD) → Buf (Elt Ideal) ((c.tc : Thread Cert.Kernel28Ideal.nD Cert.Kernel28Ideal.τ).loc Cert.Kernel28Ideal.main_v0)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0) = v0 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v4) = v0 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)) →
    ∃ (v0 : (c : Dev Cert.Kernel29Ideal.nD) → Buf (Elt Ideal) ((c.tc : Thread Cert.Kernel29Ideal.nD Cert.Kernel29Ideal.τ).loc Cert.Kernel29Ideal.main_v0)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0) = v0 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v2) = v0 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)) →
    ∃ (v0 : (c : Dev Cert.Kernel30Ideal.nD) → Buf (Elt Ideal) ((c.tc : Thread Cert.Kernel30Ideal.nD Cert.Kernel30Ideal.τ).loc Cert.Kernel30Ideal.main_v0)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0) = v0 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v2) = v0 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)) →
    ∃ (v0 : (c : Dev Cert.Kernel31Ideal.nD) → Buf (Elt Ideal) ((c.tc : Thread Cert.Kernel31Ideal.nD Cert.Kernel31Ideal.τ).loc Cert.Kernel31Ideal.main_v0)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0) = v0 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v2) = v0 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)) →
    ∃ (v0 : (c : Dev Cert.Kernel32Ideal.nD) → Buf (Elt Ideal) ((c.tc : Thread Cert.Kernel32Ideal.nD Cert.Kernel32Ideal.τ).loc Cert.Kernel32Ideal.main_v0)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0) = v0 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v2) = v0 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)
      ∧ m' ((c.tc : Thread Cert.Reference33Ideal.nD Cert.Reference33Ideal.τ).loc Cert.Reference33Ideal.main_arg2) = m ((c.tc : Thread Cert.Kernel33Ideal.nD Cert.Kernel33Ideal.τ).loc Cert.Kernel33Ideal.main_arg2)) →
    ∃ (v0 : (c : Dev Cert.Kernel33Ideal.nD) → Buf (Elt Ideal) ((c.tc : Thread Cert.Kernel33Ideal.nD Cert.Kernel33Ideal.τ).loc Cert.Kernel33Ideal.main_v0)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v0) = v0 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
          ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v3) = v0 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1)
          ∧ r.2.mem ((c.tc : Thread Cert.Reference33Ideal.nD Cert.Reference33Ideal.τ).loc Cert.Reference33Ideal.main_arg2) = m' ((c.tc : Thread Cert.Reference33Ideal.nD Cert.Reference33Ideal.τ).loc Cert.Reference33Ideal.main_arg2))

def preserves_Kernel34_Kernel34Ideal : Prop :=
  True

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)
      ∧ m' ((c.tc : Thread Cert.Reference34Ideal.nD Cert.Reference34Ideal.τ).loc Cert.Reference34Ideal.main_arg2) = m ((c.tc : Thread Cert.Kernel34Ideal.nD Cert.Kernel34Ideal.τ).loc Cert.Kernel34Ideal.main_arg2)
      ∧ m' ((c.tc : Thread Cert.Reference34Ideal.nD Cert.Reference34Ideal.τ).loc Cert.Reference34Ideal.main_arg3) = m ((c.tc : Thread Cert.Kernel34Ideal.nD Cert.Kernel34Ideal.τ).loc Cert.Kernel34Ideal.main_arg3)) →
    ∃ (v0 : (c : Dev Cert.Kernel34Ideal.nD) → Buf (Elt Ideal) ((c.tc : Thread Cert.Kernel34Ideal.nD Cert.Kernel34Ideal.τ).loc Cert.Kernel34Ideal.main_v3_0)) (v1 : (c : Dev Cert.Kernel34Ideal.nD) → Buf (Elt Ideal) ((c.tc : Thread Cert.Kernel34Ideal.nD Cert.Kernel34Ideal.τ).loc Cert.Kernel34Ideal.main_v3_1)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v3_0) = v0 c
          ∧ r.2.mem ((c.tc : Thread Cert.Kernel34Ideal.nD Cert.Kernel34Ideal.τ).loc Cert.Kernel34Ideal.main_v3_1) = v1 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
          ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
          ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v21) = v0 c
          ∧ r.2.mem ((c.tc : Thread Cert.Reference34Ideal.nD Cert.Reference34Ideal.τ).loc Cert.Reference34Ideal.main_v22) = v1 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1)
          ∧ r.2.mem ((c.tc : Thread Cert.Reference34Ideal.nD Cert.Reference34Ideal.τ).loc Cert.Reference34Ideal.main_arg2) = m' ((c.tc : Thread Cert.Reference34Ideal.nD Cert.Reference34Ideal.τ).loc Cert.Reference34Ideal.main_arg2)
          ∧ r.2.mem ((c.tc : Thread Cert.Reference34Ideal.nD Cert.Reference34Ideal.τ).loc Cert.Reference34Ideal.main_arg3) = m' ((c.tc : Thread Cert.Reference34Ideal.nD Cert.Reference34Ideal.τ).loc Cert.Reference34Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hPre_mem_finite : Cert.Pre_mem_finite.Facts) (hPre_dact_finite : Cert.Pre_dact_finite.Facts) (hPre_gla_finite : Cert.Pre_gla_finite.Facts) (hPre_mla_finite : Cert.Pre_mla_finite.Facts),
    quiescent_Kernel (hKernel := hKernel)
    ∧ quiescent_KernelIdeal (hKernelIdeal := hKernelIdeal)
    ∧ quiescent_KernelIdeal_pre_mem_finite (hKernelIdeal := hKernelIdeal) (hPre_mem_finite := hPre_mem_finite)
    ∧ quiescent_ReferenceIdeal (hReferenceIdeal := hReferenceIdeal)
    ∧ quiescent_ReferenceIdeal_pre_mem_finite (hReferenceIdeal := hReferenceIdeal) (hPre_mem_finite := hPre_mem_finite)
    ∧ quiescent_Kernel2 (hKernel2 := hKernel2)
    ∧ quiescent_Kernel2Ideal (hKernel2Ideal := hKernel2Ideal)
    ∧ quiescent_Kernel2Ideal_pre_dact_finite (hKernel2Ideal := hKernel2Ideal) (hPre_dact_finite := hPre_dact_finite)
    ∧ quiescent_Reference2Ideal (hReference2Ideal := hReference2Ideal)
    ∧ quiescent_Reference2Ideal_pre_dact_finite (hReference2Ideal := hReference2Ideal) (hPre_dact_finite := hPre_dact_finite)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_gla_finite (hKernel4Ideal := hKernel4Ideal) (hPre_gla_finite := hPre_gla_finite)
    ∧ quiescent_Reference4Ideal (hReference4Ideal := hReference4Ideal)
    ∧ quiescent_Reference4Ideal_pre_gla_finite (hReference4Ideal := hReference4Ideal) (hPre_gla_finite := hPre_gla_finite)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Kernel23Ideal_pre_mla_finite (hKernel23Ideal := hKernel23Ideal) (hPre_mla_finite := hPre_mla_finite)
    ∧ quiescent_Reference23Ideal (hReference23Ideal := hReference23Ideal)
    ∧ quiescent_Reference23Ideal_pre_mla_finite (hReference23Ideal := hReference23Ideal) (hPre_mla_finite := hPre_mla_finite)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel34 (hKernel34 := hKernel34)
    ∧ quiescent_Kernel34Ideal (hKernel34Ideal := hKernel34Ideal)
    ∧ quiescent_Reference34Ideal (hReference34Ideal := hReference34Ideal)
    ∧ preserves_Kernel_KernelIdeal
    ∧ algebraic_KernelIdeal_ReferenceIdeal_pre_mem_finite (hKernelIdeal := hKernelIdeal) (hReferenceIdeal := hReferenceIdeal) (hPre_mem_finite := hPre_mem_finite)
    ∧ preserves_Kernel2_Kernel2Ideal
    ∧ algebraic_Kernel2Ideal_Reference2Ideal_pre_dact_finite (hKernel2Ideal := hKernel2Ideal) (hReference2Ideal := hReference2Ideal) (hPre_dact_finite := hPre_dact_finite)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_gla_finite (hKernel4Ideal := hKernel4Ideal) (hReference4Ideal := hReference4Ideal) (hPre_gla_finite := hPre_gla_finite)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal_pre_mla_finite (hKernel23Ideal := hKernel23Ideal) (hReference23Ideal := hReference23Ideal) (hPre_mla_finite := hPre_mla_finite)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
    ∧ preserves_Kernel34_Kernel34Ideal
    ∧ algebraic_Kernel34Ideal_Reference34Ideal (hKernel34Ideal := hKernel34Ideal) (hReference34Ideal := hReference34Ideal)
-- ==== Pre_dact_finite.lean ====
abbrev S2048x2048 : Shape := ⟨2, ![2048, 2048]⟩
abbrev S5632x2048 : Shape := ⟨2, ![5632, 2048]⟩
abbrev S2048x5632 : Shape := ⟨2, ![2048, 5632]⟩
abbrev S_ : Shape := ⟨0, ![]⟩

class Facts : Prop where
  bitsLt_bf16_f32 : FTy.bits .bf16 < FTy.bits .f32
  bcast_S_S2048x2048 : S_.BroadcastsInDim S2048x2048 (![] : Fin 0 → Fin S2048x2048.rank)
  reducesTo_S2048x2048_S_d0_1 : S2048x2048.ReducesTo [0, 1] S_
  h_S_ : 0 < S_.numel
  bcast_S_S5632x2048 : S_.BroadcastsInDim S5632x2048 (![] : Fin 0 → Fin S5632x2048.rank)
  reducesTo_S5632x2048_S_d0_1 : S5632x2048.ReducesTo [0, 1] S_
  bcast_S_S2048x5632 : S_.BroadcastsInDim S2048x5632 (![] : Fin 0 → Fin S2048x5632.rank)
  reducesTo_S2048x5632_S_d0_1 : S2048x5632.ReducesTo [0, 1] S_

variable [Facts]

def fn_part1 {F : FTy → Type} [FloatOps F] (main_v11 : IVec S_ 1) (main_v16 : IVec S_ 1) : IVec S_ 1 :=
  let main_v17 : IVec S_ 1 := andi main_v11 main_v16
  main_v17

def fn {F : FTy → Type} [FloatOps F] (main_arg0 : FVec F S2048x2048 .bf16) (main_arg1 : FVec F S5632x2048 .bf16) (main_arg2 : FVec F S2048x5632 .bf16) (main_arg3 : FVec F S2048x5632 .bf16) : IVec S_ 1 :=
  let main_v0 : FVec F S2048x2048 .f32 := (extf .f32 · bitsLt_bf16_f32) main_arg0
  let main_v1 : FVec F S2048x2048 .f32 := Host.absf main_v0
  let main_cst : FVec F S_ .f32 := constant S_ .f32 0x7F800000#32
  let main_v2 : FVec F S2048x2048 .f32 := broadcastInDim S2048x2048 ![] bcast_S_S2048x2048 main_cst
  let main_v3 : IVec S2048x2048 1 := cmpf .olt main_v1 main_v2
  let main_c : IVec S_ 1 := constantI S_ 1 1#1
  let main_v4 : IVec S_ 1 := (fun x v => Host.reduce IntOp.andi x v reducesTo_S2048x2048_S_d0_1 h_S_) main_v3 main_c
  let main_c_0 : IVec S_ 1 := constantI S_ 1 1#1
  let main_v5 : IVec S_ 1 := andi main_c_0 main_v4
  let main_v6 : FVec F S5632x2048 .f32 := (extf .f32 · bitsLt_bf16_f32) main_arg1
  let main_v7 : FVec F S5632x2048 .f32 := Host.absf main_v6
  let main_cst_1 : FVec F S_ .f32 := constant S_ .f32 0x7F800000#32
  let main_v8 : FVec F S5632x2048 .f32 := broadcastInDim S5632x2048 ![] bcast_S_S5632x2048 main_cst_1
  let main_v9 : IVec S5632x2048 1 := cmpf .olt main_v7 main_v8
  let main_c_2 : IVec S_ 1 := constantI S_ 1 1#1
  let main_v10 : IVec S_ 1 := (fun x v => Host.reduce IntOp.andi x v reducesTo_S5632x2048_S_d0_1 h_S_) main_v9 main_c_2
  let main_v11 : IVec S_ 1 := andi main_v5 main_v10
  let main_v12 : FVec F S2048x5632 .f32 := (extf .f32 · bitsLt_bf16_f32) main_arg3
  let main_v13 : FVec F S2048x5632 .f32 := Host.absf main_v12
  let main_cst_3 : FVec F S_ .f32 := constant S_ .f32 0x7F800000#32
  let main_v14 : FVec F S2048x5632 .f32 := broadcastInDim S2048x5632 ![] bcast_S_S2048x5632 main_cst_3
  let main_v15 : IVec S2048x5632 1 := cmpf .olt main_v13 main_v14
  let main_c_4 : IVec S_ 1 := constantI S_ 1 1#1
  let main_v16 : IVec S_ 1 := (fun x v => Host.reduce IntOp.andi x v reducesTo_S2048x5632_S_d0_1 h_S_) main_v15 main_c_4
  fn_part1 (F := F) main_v11 main_v16
-- ==== Pre_gla_finite.lean ====
abbrev S2048x512 : Shape := ⟨2, ![2048, 512]⟩
abbrev S2048x1024 : Shape := ⟨2, ![2048, 1024]⟩
abbrev S_ : Shape := ⟨0, ![]⟩

class Facts : Prop where
  bcast_S_S2048x512 : S_.BroadcastsInDim S2048x512 (![] : Fin 0 → Fin S2048x512.rank)
  reducesTo_S2048x512_S_d0_1 : S2048x512.ReducesTo [0, 1] S_
  h_S_ : 0 < S_.numel
  bcast_S_S2048x1024 : S_.BroadcastsInDim S2048x1024 (![] : Fin 0 → Fin S2048x1024.rank)
  reducesTo_S2048x1024_S_d0_1 : S2048x1024.ReducesTo [0, 1] S_

variable [Facts]

def fn_part1 {F : FTy → Type} [FloatOps F] (main_arg4 : FVec F S2048x1024 .f32) (main_v14 : IVec S_ 1) (main_v15 : FVec F S2048x512 .f32) (main_cst_5 : FVec F S_ .f32) : IVec S_ 1 :=
  let main_v16 : FVec F S2048x512 .f32 := broadcastInDim S2048x512 ![] bcast_S_S2048x512 main_cst_5
  let main_v17 : IVec S2048x512 1 := cmpf .olt main_v15 main_v16
  let main_c_6 : IVec S_ 1 := constantI S_ 1 1#1
  let main_v18 : IVec S_ 1 := (fun x v => Host.reduce IntOp.andi x v reducesTo_S2048x512_S_d0_1 h_S_) main_v17 main_c_6
  let main_v19 : IVec S_ 1 := andi main_v14 main_v18
  let main_v20 : FVec F S2048x1024 .f32 := Host.absf main_arg4
  let main_cst_7 : FVec F S_ .f32 := constant S_ .f32 0x7F800000#32
  let main_v21 : FVec F S2048x1024 .f32 := broadcastInDim S2048x1024 ![] bcast_S_S2048x1024 main_cst_7
  let main_v22 : IVec S2048x1024 1 := cmpf .olt main_v20 main_v21
  let main_c_8 : IVec S_ 1 := constantI S_ 1 1#1
  let main_v23 : IVec S_ 1 := (fun x v => Host.reduce IntOp.andi x v reducesTo_S2048x1024_S_d0_1 h_S_) main_v22 main_c_8
  let main_v24 : IVec S_ 1 := andi main_v19 main_v23
  main_v24

def fn {F : FTy → Type} [FloatOps F] (main_arg0 : FVec F S2048x512 .f32) (main_arg1 : FVec F S2048x512 .f32) (main_arg2 : FVec F S2048x1024 .f32) (main_arg3 : FVec F S2048x512 .f32) (main_arg4 : FVec F S2048x1024 .f32) : IVec S_ 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_c : IVec S_ 1 := constantI S_ 1 1#1
  let main_v3 : IVec S_ 1 := (fun x v => Host.reduce IntOp.andi x v reducesTo_S2048x512_S_d0_1 h_S_) main_v2 main_c
  let main_c_0 : IVec S_ 1 := constantI S_ 1 1#1
  let main_v4 : IVec S_ 1 := andi main_c_0 main_v3
  let main_v5 : FVec F S2048x512 .f32 := Host.absf main_arg1
  let main_cst_1 : FVec F S_ .f32 := constant S_ .f32 0x7F800000#32
  let main_v6 : FVec F S2048x512 .f32 := broadcastInDim S2048x512 ![] bcast_S_S2048x512 main_cst_1
  let main_v7 : IVec S2048x512 1 := cmpf .olt main_v5 main_v6
  let main_c_2 : IVec S_ 1 := constantI S_ 1 1#1
  let main_v8 : IVec S_ 1 := (fun x v => Host.reduce IntOp.andi x v reducesTo_S2048x512_S_d0_1 h_S_) main_v7 main_c_2
  let main_v9 : IVec S_ 1 := andi main_v4 main_v8
  let main_v10 : FVec F S2048x1024 .f32 := Host.absf main_arg2
  let main_cst_3 : FVec F S_ .f32 := constant S_ .f32 0x7F800000#32
  let main_v11 : FVec F S2048x1024 .f32 := broadcastInDim S2048x1024 ![] bcast_S_S2048x1024 main_cst_3
  let main_v12 : IVec S2048x1024 1 := cmpf .olt main_v10 main_v11
  let main_c_4 : IVec S_ 1 := constantI S_ 1 1#1
  let main_v13 : IVec S_ 1 := (fun x v => Host.reduce IntOp.andi x v reducesTo_S2048x1024_S_d0_1 h_S_) main_v12 main_c_4
  let main_v14 : IVec S_ 1 := andi main_v9 main_v13
  let main_v15 : FVec F S2048x512 .f32 := Host.absf main_arg3
  let main_cst_5 : FVec F S_ .f32 := constant S_ .f32 0x7F800000#32
  fn_part1 (F := F) main_arg4 main_v14 main_v15 main_cst_5
-- ==== Pre_mem_finite.lean ====
abbrev S2048x512 : Shape := ⟨2, ![2048, 512]⟩
abbrev S256x512 : Shape := ⟨2, ![256, 512]⟩
abbrev S_ : Shape := ⟨0, ![]⟩

class Facts : Prop where
  bitsLt_bf16_f32 : FTy.bits .bf16 < FTy.bits .f32
  bcast_S_S2048x512 : S_.BroadcastsInDim S2048x512 (![] : Fin 0 → Fin S2048x512.rank)
  reducesTo_S2048x512_S_d0_1 : S2048x512.ReducesTo [0, 1] S_
  h_S_ : 0 < S_.numel
  bcast_S_S256x512 : S_.BroadcastsInDim S256x512 (![] : Fin 0 → Fin S256x512.rank)
  reducesTo_S256x512_S_d0_1 : S256x512.ReducesTo [0, 1] S_

variable [Facts]

def fn_part1 {F : FTy → Type} [FloatOps F] (main_arg3 : FVec F S2048x512 .f32) (main_v16 : IVec S_ 1) : IVec S_ 1 :=
  let main_v17 : FVec F S2048x512 .f32 := Host.absf main_arg3
  let main_cst_5 : FVec F S_ .f32 := constant S_ .f32 0x7F800000#32
  let main_v18 : FVec F S2048x512 .f32 := broadcastInDim S2048x512 ![] bcast_S_S2048x512 main_cst_5
  let main_v19 : IVec S2048x512 1 := cmpf .olt main_v17 main_v18
  let main_c_6 : IVec S_ 1 := constantI S_ 1 1#1
  let main_v20 : IVec S_ 1 := (fun x v => Host.reduce IntOp.andi x v reducesTo_S2048x512_S_d0_1 h_S_) main_v19 main_c_6
  let main_v21 : IVec S_ 1 := andi main_v16 main_v20
  main_v21

def fn {F : FTy → Type} [FloatOps F] (main_arg0 : FVec F S2048x512 .bf16) (main_arg1 : FVec F S256x512 .bf16) (main_arg2 : FVec F S256x512 .f32) (main_arg3 : FVec F S2048x512 .f32) : IVec S_ 1 :=
  let main_v0 : FVec F S2048x512 .f32 := (extf .f32 · bitsLt_bf16_f32) main_arg0
  let main_v1 : FVec F S2048x512 .f32 := Host.absf main_v0
  let main_cst : FVec F S_ .f32 := constant S_ .f32 0x7F800000#32
  let main_v2 : FVec F S2048x512 .f32 := broadcastInDim S2048x512 ![] bcast_S_S2048x512 main_cst
  let main_v3 : IVec S2048x512 1 := cmpf .olt main_v1 main_v2
  let main_c : IVec S_ 1 := constantI S_ 1 1#1
  let main_v4 : IVec S_ 1 := (fun x v => Host.reduce IntOp.andi x v reducesTo_S2048x512_S_d0_1 h_S_) main_v3 main_c
  let main_c_0 : IVec S_ 1 := constantI S_ 1 1#1
  let main_v5 : IVec S_ 1 := andi main_c_0 main_v4
  let main_v6 : FVec F S256x512 .f32 := (extf .f32 · bitsLt_bf16_f32) main_arg1
  let main_v7 : FVec F S256x512 .f32 := Host.absf main_v6
  let main_cst_1 : FVec F S_ .f32 := constant S_ .f32 0x7F800000#32
  let main_v8 : FVec F S256x512 .f32 := broadcastInDim S256x512 ![] bcast_S_S256x512 main_cst_1
  let main_v9 : IVec S256x512 1 := cmpf .olt main_v7 main_v8
  let main_c_2 : IVec S_ 1 := constantI S_ 1 1#1
  let main_v10 : IVec S_ 1 := (fun x v => Host.reduce IntOp.andi x v reducesTo_S256x512_S_d0_1 h_S_) main_v9 main_c_2
  let main_v11 : IVec S_ 1 := andi main_v5 main_v10
  let main_v12 : FVec F S256x512 .f32 := Host.absf main_arg2
  let main_cst_3 : FVec F S_ .f32 := constant S_ .f32 0x7F800000#32
  let main_v13 : FVec F S256x512 .f32 := broadcastInDim S256x512 ![] bcast_S_S256x512 main_cst_3
  let main_v14 : IVec S256x512 1 := cmpf .olt main_v12 main_v13
  let main_c_4 : IVec S_ 1 := constantI S_ 1 1#1
  let main_v15 : IVec S_ 1 := (fun x v => Host.reduce IntOp.andi x v reducesTo_S256x512_S_d0_1 h_S_) main_v14 main_c_4
  let main_v16 : IVec S_ 1 := andi main_v11 main_v15
  fn_part1 (F := F) main_arg3 main_v16
-- ==== Pre_mla_finite.lean ====
abbrev S2048x1536 : Shape := ⟨2, ![2048, 1536]⟩
abbrev S2048x2048 : Shape := ⟨2, ![2048, 2048]⟩
abbrev S_ : Shape := ⟨0, ![]⟩

class Facts : Prop where
  bitsLt_bf16_f32 : FTy.bits .bf16 < FTy.bits .f32
  bcast_S_S2048x1536 : S_.BroadcastsInDim S2048x1536 (![] : Fin 0 → Fin S2048x1536.rank)
  reducesTo_S2048x1536_S_d0_1 : S2048x1536.ReducesTo [0, 1] S_
  h_S_ : 0 < S_.numel

variable [Facts]

def fn {F : FTy → Type} [FloatOps F] (main_arg0 : FVec F S2048x1536 .bf16) (main_arg1 : FVec F S2048x1536 .bf16) (main_arg2 : FVec F S2048x2048 .f32) : IVec S_ 1 :=
  let main_v0 : FVec F S2048x1536 .f32 := (extf .f32 · bitsLt_bf16_f32) main_arg0
  let main_v1 : FVec F S2048x1536 .f32 := Host.absf main_v0
  let main_cst : FVec F S_ .f32 := constant S_ .f32 0x7F800000#32
  let main_v2 : FVec F S2048x1536 .f32 := broadcastInDim S2048x1536 ![] bcast_S_S2048x1536 main_cst
  let main_v3 : IVec S2048x1536 1 := cmpf .olt main_v1 main_v2
  let main_c : IVec S_ 1 := constantI S_ 1 1#1
  let main_v4 : IVec S_ 1 := (fun x v => Host.reduce IntOp.andi x v reducesTo_S2048x1536_S_d0_1 h_S_) main_v3 main_c
  let main_c_0 : IVec S_ 1 := constantI S_ 1 1#1
  let main_v5 : IVec S_ 1 := andi main_c_0 main_v4
  let main_v6 : FVec F S2048x1536 .f32 := (extf .f32 · bitsLt_bf16_f32) main_arg1
  let main_v7 : FVec F S2048x1536 .f32 := Host.absf main_v6
  let main_cst_1 : FVec F S_ .f32 := constant S_ .f32 0x7F800000#32
  let main_v8 : FVec F S2048x1536 .f32 := broadcastInDim S2048x1536 ![] bcast_S_S2048x1536 main_cst_1
  let main_v9 : IVec S2048x1536 1 := cmpf .olt main_v7 main_v8
  let main_c_2 : IVec S_ 1 := constantI S_ 1 1#1
  let main_v10 : IVec S_ 1 := (fun x v => Host.reduce IntOp.andi x v reducesTo_S2048x1536_S_d0_1 h_S_) main_v9 main_c_2
  let main_v11 : IVec S_ 1 := andi main_v5 main_v10
  main_v11
-- ==== Kernel.lean ====
abbrev S2048x512 : Shape := ⟨2, ![2048, 512]⟩
abbrev S256x512 : Shape := ⟨2, ![256, 512]⟩
abbrev S1024x128 : Shape := ⟨2, ![1024, 128]⟩
abbrev S256x128 : Shape := ⟨2, ![256, 128]⟩
abbrev S1024x256 : Shape := ⟨2, ![1024, 256]⟩
abbrev S1024 : Shape := ⟨1, ![1024]⟩
abbrev S1024x1 : Shape := ⟨2, ![1024, 1]⟩

abbrev nBuf : Space → Nat
  | .hbm => 7
  | .vmem => 14
  | .smem => 0
  | _ => 0

abbrev bufTy : (tb : Table) → Fin (tcTables nBuf tb) → BufTy
  | .hbm, ⟨0, _⟩ => ⟨S2048x512, .bf16⟩
  | .hbm, ⟨1, _⟩ => ⟨S256x512, .bf16⟩
  | .hbm, ⟨2, _⟩ => ⟨S256x512, .f32⟩
  | .hbm, ⟨3, _⟩ => ⟨S2048x512, .f32⟩
  | .hbm, ⟨4, _⟩ => ⟨S2048x512, .f32⟩
  | .hbm, ⟨5, _⟩ => ⟨S256x512, .f32⟩
  | .hbm, ⟨6, _⟩ => ⟨S256x512, .f32⟩
  | .local _ .vmem, ⟨0, _⟩ => ⟨S1024x128, .bf16⟩
  | .local _ .vmem, ⟨1, _⟩ => ⟨S1024x128, .bf16⟩
  | .local _ .vmem, ⟨2, _⟩ => ⟨S256x128, .bf16⟩
  | .local _ .vmem, ⟨3, _⟩ => ⟨S256x128, .bf16⟩
  | .local _ .vmem, ⟨4, _⟩ => ⟨S256x128, .f32⟩
  | .local _ .vmem, ⟨5, _⟩ => ⟨S256x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.addi c0_i32 v0
  let c0_i32_0 : BitVec 32 := 0#32
  let c0_i32_1 : BitVec 32 := 0#32
  ![c0_i32_0.toNat, v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ReferenceIdeal.lean ====
abbrev S2048x512 : Shape := ⟨2, ![2048, 512]⟩
abbrev S256x512 : Shape := ⟨2, ![256, 512]⟩
abbrev S1x2048x4x128 : Shape := ⟨4, ![1, 2048, 4, 128]⟩
abbrev S1x256x4x128 : Shape := ⟨4, ![1, 256, 4, 128]⟩
abbrev S1x4x2048x256 : Shape := ⟨4, ![1, 4, 2048, 256]⟩
abbrev S_ : Shape := ⟨0, ![]⟩
abbrev S1x4x2048 : Shape := ⟨3, ![1, 4, 2048]⟩
abbrev S1x4x2048x1 : Shape := ⟨4, ![1, 4, 2048, 1]⟩
abbrev S1x4x128x2048 : Shape := ⟨4, ![1, 4, 128, 2048]⟩
abbrev S1x4x128x256 : Shape := ⟨4, ![1, 4, 128, 256]⟩
abbrev S4x2048 : Shape := ⟨2, ![4, 2048]⟩
abbrev S1x4x256x128 : Shape := ⟨4, ![1, 4, 256, 128]⟩
abbrev S1x4x2048x128 : Shape := ⟨4, ![1, 4, 2048, 128]⟩

abbrev nBuf : Space → Nat
  | .hbm => 83
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S256x512, .bf16⟩
  | .hbm, ⟨2, _⟩ => ⟨S256x512, .f32⟩
  | .hbm, ⟨3, _⟩ => ⟨S2048x512, .f32⟩
  | .hbm, ⟨4, _⟩ => ⟨S2048x512, .f32⟩
  | .hbm, ⟨5, _⟩ => ⟨S1x2048x4x128, .f32⟩
  | .hbm, ⟨6, _⟩ => ⟨S256x512, .f32⟩
  | .hbm, ⟨7, _⟩ => ⟨S1x256x4x128, .f32⟩
  | .hbm, ⟨8, _⟩ => ⟨S1x256x4x128, .f32⟩
  | .hbm, ⟨9, _⟩ => ⟨S1x2048x4x128, .f32⟩
  | .hbm, ⟨10, _⟩ => ⟨S1x4x2048x256, .f32⟩
  | .hbm, ⟨11, _⟩ => ⟨S_, .f32⟩
  | .hbm, ⟨12, _⟩ => ⟨S1x4x2048x256, .f32⟩
  | .hbm, ⟨13, _⟩ => ⟨S1x4x2048x256, .f32⟩
  | .hbm, ⟨14, _⟩ => ⟨S_, .f32⟩
  | .hbm, ⟨15, _⟩ => ⟨S1x4x2048, .f32⟩
  | .hbm, ⟨16, _⟩ => ⟨S1x4x2048x1, .f32⟩
  | .hbm, ⟨17, _⟩ => ⟨S1x4x2048x256, .f32⟩
  | .hbm, ⟨18, _⟩ => ⟨S1x4x2048x256, .i1⟩
  | .hbm, ⟨19, _⟩ => ⟨S1x4x2048x256, .f32⟩
  | .hbm, ⟨20, _⟩ => ⟨S_, .f32⟩
  | .hbm, ⟨21, _⟩ => ⟨S1x4x2048, .f32⟩
  | .hbm, ⟨22, _⟩ => ⟨S_, .f32⟩
  | .hbm, ⟨23, _⟩ => ⟨S1x4x2048, .f32⟩
  | .hbm, ⟨24, _⟩ => ⟨S1x4x2048, .f32⟩
  | .hbm, ⟨25, _⟩ => ⟨S_, .f32⟩
  | .hbm, ⟨26, _⟩ => ⟨S1x4x2048, .f32⟩
  | .hbm, ⟨27, _⟩ => ⟨S1x4x2048, .i1⟩
  | .hbm, ⟨28, _⟩ => ⟨S_, .f32⟩
  | .hbm, ⟨29, _⟩ => ⟨S1x4x2048, .f32⟩
  | .hbm, ⟨30, _⟩ => ⟨S1x4x2048, .i1⟩
  | .hbm, ⟨31, _⟩ => ⟨S_, .f32⟩
  | .hbm, ⟨32, _⟩ => ⟨S1x4x2048, .f32⟩
  | .hbm, ⟨33, _⟩ => ⟨S_, .f32⟩
  | .hbm, ⟨34, _⟩ => ⟨S1x4x2048, .f32⟩
  | .hbm, ⟨35, _⟩ => ⟨S_, .f32⟩
  | .hbm, ⟨36, _⟩ => ⟨S1x4x2048, .f32⟩
  | .hbm, ⟨37, _⟩ => ⟨S1x4x2048, .f32⟩
  | .hbm, ⟨38, _⟩ => ⟨S1x4x2048, .f32⟩
  | .hbm, ⟨39, _⟩ => ⟨S1x4x2048x1, .f32⟩
  | .hbm, ⟨40, _⟩ => ⟨S1x4x2048x256, .f32⟩
  | .hbm, ⟨41, _⟩ => ⟨S1x4x2048x256, .f32⟩
  | .hbm, ⟨42, _⟩ => ⟨S1x4x2048x256, .f32⟩
  | .hbm, ⟨43, _⟩ => ⟨S_, .f32⟩
  | .hbm, ⟨44, _⟩ => ⟨S1x4x2048, .f32⟩
  | .hbm, ⟨45, _⟩ => ⟨S1x4x2048x1, .f32⟩
  | .hbm, ⟨46, _⟩ => ⟨S1x4x2048x256, .f32⟩
  | .hbm, ⟨47, _⟩ => ⟨S1x4x2048x256, .f32⟩
  | .hbm, ⟨48, _⟩ => ⟨S1x4x2048x1, .f32⟩
  | .hbm, ⟨49, _⟩ => ⟨S_, .f32⟩
  | .hbm, ⟨50, _⟩ => ⟨S1x4x2048x1, .f32⟩
  | .hbm, ⟨51, _⟩ => ⟨S1x4x2048x1, .f32⟩
  | .hbm, ⟨52, _⟩ => ⟨S1x4x128x2048, .f32⟩
  | .hbm, ⟨53, _⟩ => ⟨S1x2048x4x128, .f32⟩
  | .hbm, ⟨54, _⟩ => ⟨S1x4x128x2048, .f32⟩
  | .hbm, ⟨55, _⟩ => ⟨S1x4x2048x256, .f32⟩
  | .hbm, ⟨56, _⟩ => ⟨S1x4x128x256, .f32⟩
  | .hbm, ⟨57, _⟩ => ⟨S1x256x4x128, .f32⟩
  | .hbm, ⟨58, _⟩ => ⟨S1x4x2048x256, .f32⟩
  | .hbm, ⟨59, _⟩ => ⟨S1x4x2048x256, .f32⟩
  | .hbm, ⟨60, _⟩ => ⟨S1x4x2048x256, .f32⟩
  | .hbm, ⟨61, _⟩ => ⟨S_, .f32⟩
  | .hbm, ⟨62, _⟩ => ⟨S1x4x2048, .f32⟩
  | .hbm, ⟨63, _⟩ => ⟨S1x4x2048x1, .f32⟩
  | .hbm, ⟨64, _⟩ => ⟨S1x4x2048x1, .f32⟩
  | .hbm, ⟨65, _⟩ => ⟨S1x4x2048x256, .f32⟩
  | .hbm, ⟨66, _⟩ => ⟨S1x4x2048x256, .f32⟩
  | .hbm, ⟨67, _⟩ => ⟨S_, .f32⟩
  | .hbm, ⟨68, _⟩ => ⟨S4x2048, .f32⟩
  | .hbm, ⟨69, _⟩ => ⟨S1x4x2048, .f32⟩
  | .hbm, ⟨70, _⟩ => ⟨S1x4x2048x256, .f32⟩
  | .hbm, ⟨71, _⟩ => ⟨S1x4x2048x256, .f32⟩
  | .hbm, ⟨72, _⟩ => ⟨S1x4x2048x256, .f32⟩
  | .hbm, ⟨73, _⟩ => ⟨S_, .f32⟩
  | .hbm, ⟨74, _⟩ => ⟨S1x4x2048x256, .f32⟩
  | .hbm, ⟨75, _⟩ => ⟨S1x4x2048x256, .f32⟩
  | .hbm, ⟨76, _⟩ => ⟨S1x4x256x128, .f32⟩
  | .hbm, ⟨77, _⟩ => ⟨S1x256x4x128, .f32⟩
  | .hbm, ⟨78, _⟩ => ⟨S1x4x2048x128, .f32⟩
  | .hbm, ⟨79, _⟩ => ⟨S1x2048x4x128, .f32⟩
  | .hbm, ⟨80, _⟩ => ⟨S2048x512, .f32⟩
  | .hbm, ⟨81, _⟩ => ⟨S256x512, .f32⟩
  | .hbm, ⟨82, _⟩ => ⟨S256x512, .f32⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_cst_6 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_8 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_9 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_10 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_11 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_12 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩

abbrev nD : Nat := 1
abbrev τ : Topo := Topo.v7x

variable {F : FTy → Type} [FloatOps F]
-- ==== Kernel2.lean ====
abbrev S2048x2048 : Shape := ⟨2, ![2048, 2048]⟩
abbrev S5632x2048 : Shape := ⟨2, ![5632, 2048]⟩
abbrev S2048x5632 : Shape := ⟨2, ![2048, 5632]⟩
abbrev S512x2048 : Shape := ⟨2, ![512, 2048]⟩
abbrev S1408x2048 : Shape := ⟨2, ![1408, 2048]⟩
abbrev S512x1408 : Shape := ⟨2, ![512, 1408]⟩

abbrev nBuf : Space → Nat
  | .hbm => 6
  | .vmem => 12
  | .smem => 0
  | _ => 0

abbrev bufTy : (tb : Table) → Fin (tcTables nBuf tb) → BufTy
  | .hbm, ⟨0, _⟩ => ⟨S2048x2048, .bf16⟩
  | .hbm, ⟨1, _⟩ => ⟨S5632x2048, .bf16⟩
  | .hbm, ⟨2, _⟩ => ⟨S2048x5632, .bf16⟩
  | .hbm, ⟨3, _⟩ => ⟨S2048x5632, .bf16⟩
  | .hbm, ⟨4, _⟩ => ⟨S2048x5632, .bf16⟩
  | .hbm, ⟨5, _⟩ => ⟨S2048x5632, .bf16⟩
  | .local _ .vmem, ⟨0, _⟩ => ⟨S512x2048, .bf16⟩
  | .local _ .vmem, ⟨1, _⟩ => ⟨S512x2048, .bf16⟩
  | .local _ .vmem, ⟨2, _⟩ => ⟨S1408x2048, .bf16⟩
  | .local _ .vmem, ⟨3, _⟩ => ⟨S1408x2048, .bf16⟩
  | .local _ .vmem, ⟨4, _⟩ => ⟨S512x1408, .bf16⟩
  | .local _ .vmem, ⟨5, _⟩ => ⟨S512x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S2048x2048 : Shape := ⟨2, ![2048, 2048]⟩
abbrev S5632x2048 : Shape := ⟨2, ![5632, 2048]⟩
abbrev S2048x5632 : Shape := ⟨2, ![2048, 5632]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S5632x2048, .bf16⟩
  | .hbm, ⟨2, _⟩ => ⟨S2048x5632, .bf16⟩
  | .hbm, ⟨3, _⟩ => ⟨S2048x5632, .bf16⟩
  | .hbm, ⟨4, _⟩ => ⟨S2048x2048, .f32⟩
  | .hbm, ⟨5, _⟩ => ⟨S5632x2048, .f32⟩
  | .hbm, ⟨6, _⟩ => ⟨S2048x5632, .f32⟩
  | .hbm, ⟨7, _⟩ => ⟨S2048x5632, .f32⟩
  | .hbm, ⟨8, _⟩ => ⟨S2048x5632, .f32⟩
  | .hbm, ⟨9, _⟩ => ⟨S2048x5632, .f32⟩
  | .hbm, ⟨10, _⟩ => ⟨S_, .f32⟩
  | .hbm, ⟨11, _⟩ => ⟨S2048x5632, .f32⟩
  | .hbm, ⟨12, _⟩ => ⟨S2048x5632, .f32⟩
  | .hbm, ⟨13, _⟩ => ⟨S_, .f32⟩
  | .hbm, ⟨14, _⟩ => ⟨S2048x5632, .f32⟩
  | .hbm, ⟨15, _⟩ => ⟨S2048x5632, .f32⟩
  | .hbm, ⟨16, _⟩ => ⟨S_, .f32⟩
  | .hbm, ⟨17, _⟩ => ⟨S2048x5632, .f32⟩
  | .hbm, ⟨18, _⟩ => ⟨S2048x5632, .f32⟩
  | .hbm, ⟨19, _⟩ => ⟨S2048x5632, .f32⟩
  | .hbm, ⟨20, _⟩ => ⟨S2048x5632, .f32⟩
  | .hbm, ⟨21, _⟩ => ⟨S2048x5632, .f32⟩
  | .hbm, ⟨22, _⟩ => ⟨S2048x2048, .f32⟩
  | .hbm, ⟨23, _⟩ => ⟨S_, .f32⟩
  | .hbm, ⟨24, _⟩ => ⟨S2048x2048, .f32⟩
  | .hbm, ⟨25, _⟩ => ⟨S2048x2048, .f32⟩
  | .hbm, ⟨26, _⟩ => ⟨S_, .f32⟩
  | .hbm, ⟨27, _⟩ => ⟨S2048x2048, .f32⟩
  | .hbm, ⟨28, _⟩ => ⟨S2048x2048, .f32⟩
  | .hbm, ⟨29, _⟩ => ⟨S2048x5632, .f32⟩
  | .hbm, ⟨30, _⟩ => ⟨S2048x5632, .f32⟩
  | .hbm, ⟨31, _⟩ => ⟨S2048x5632, .f32⟩
  | .hbm, ⟨32, _⟩ => ⟨S2048x5632, .f32⟩
  | .hbm, ⟨33, _⟩ => ⟨S2048x5632, .f32⟩
  | .hbm, ⟨34, _⟩ => ⟨S2048x5632, .f32⟩
  | .hbm, ⟨35, _⟩ => ⟨S2048x5632, .f32⟩
  | .hbm, ⟨36, _⟩ => ⟨S2048x5632, .bf16⟩
  | .hbm, ⟨37, _⟩ => ⟨S2048x5632, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_v4_2 : Ref sig .tc := ⟨.hbm, 15, rfl⟩
abbrev main_call0_cst_1 : Ref sig .tc := ⟨.hbm, 16, rfl⟩
abbrev main_call0_v6 : Ref sig .tc := ⟨.hbm, 17, rfl⟩
abbrev main_call0_v7 : Ref sig .tc := ⟨.hbm, 18, rfl⟩
abbrev main_v4_1 : Ref sig .tc := ⟨.hbm, 19, rfl⟩
abbrev main_v4_0 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_v8 : Ref sig .tc := ⟨.hbm, 25, rfl⟩
abbrev main_cst_0 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩

abbrev nD : Nat := 1
abbrev τ : Topo := Topo.v7x

variable {F : FTy → Type} [FloatOps F]
-- ==== Kernel3.lean ====
abbrev S2048x5632 : Shape := ⟨2, ![2048, 5632]⟩
abbrev S2048x2048 : Shape := ⟨2, ![2048, 2048]⟩
abbrev S5632x2048 : Shape := ⟨2, ![5632, 2048]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x5632, .bf16⟩
  | .hbm, ⟨1, _⟩ => ⟨S2048x2048, .bf16⟩
  | .hbm, ⟨2, _⟩ => ⟨S5632x2048, .f32⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .f32⟩
  | .local _ .vmem, ⟨5, _⟩ => ⟨S1408x1024, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S2048x5632 : Shape := ⟨2, ![2048, 5632]⟩
abbrev S2048x2048 : Shape := ⟨2, ![2048, 2048]⟩
abbrev S_ : Shape := ⟨0, ![]⟩
abbrev S5632x2048 : Shape := ⟨2, ![5632, 2048]⟩

abbrev nBuf : Space → Nat
  | .hbm => 15
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S2048x2048, .bf16⟩
  | .hbm, ⟨2, _⟩ => ⟨S2048x5632, .f32⟩
  | .hbm, ⟨3, _⟩ => ⟨S2048x2048, .f32⟩
  | .hbm, ⟨4, _⟩ => ⟨S_, .f32⟩
  | .hbm, ⟨5, _⟩ => ⟨S5632x2048, .f32⟩
  | .hbm, ⟨6, _⟩ => ⟨S2048x2048, .f32⟩
  | .hbm, ⟨7, _⟩ => ⟨S_, .f32⟩
  | .hbm, ⟨8, _⟩ => ⟨S2048x2048, .f32⟩
  | .hbm, ⟨9, _⟩ => ⟨S2048x2048, .f32⟩
  | .hbm, ⟨10, _⟩ => ⟨S_, .f32⟩
  | .hbm, ⟨11, _⟩ => ⟨S2048x2048, .f32⟩
  | .hbm, ⟨12, _⟩ => ⟨S2048x2048, .f32⟩
  | .hbm, ⟨13, _⟩ => ⟨S2048x5632, .f32⟩
  | .hbm, ⟨14, _⟩ => ⟨S5632x2048, .f32⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Kernel4.lean ====
abbrev S2048x512 : Shape := ⟨2, ![2048, 512]⟩
abbrev S2048x1024 : Shape := ⟨2, ![2048, 1024]⟩
abbrev S64x64 : Shape := ⟨2, ![64, 64]⟩
abbrev S_ : Shape := ⟨0, ![]⟩
abbrev S2048x1536 : Shape := ⟨2, ![2048, 1536]⟩
abbrev S2048x4096 : Shape := ⟨2, ![2048, 4096]⟩
abbrev S32x64x4x128 : Shape := ⟨4, ![32, 64, 4, 128]⟩
abbrev S32x1x4x128 : Shape := ⟨4, ![32, 1, 4, 128]⟩
abbrev S32x4x128 : Shape := ⟨3, ![32, 4, 128]⟩
abbrev S32x64x4x256 : Shape := ⟨4, ![32, 64, 4, 256]⟩
abbrev S32x4x128x256 : Shape := ⟨4, ![32, 4, 128, 256]⟩
abbrev S32 : Shape := ⟨1, ![32]⟩
abbrev S1x32 : Shape := ⟨2, ![1, 32]⟩
abbrev S32x1 : Shape := ⟨2, ![32, 1]⟩
abbrev S32x32 : Shape := ⟨2, ![32, 32]⟩
abbrev S32x32x1x1 : Shape := ⟨4, ![32, 32, 1, 1]⟩
abbrev S1x32x4x128 : Shape := ⟨4, ![1, 32, 4, 128]⟩
abbrev S32x32x4x128 : Shape := ⟨4, ![32, 32, 4, 128]⟩
abbrev S4x128x256x32 : Shape := ⟨4, ![4, 128, 256, 32]⟩
abbrev S4x32x256x128 : Shape := ⟨4, ![4, 32, 256, 128]⟩
abbrev S64x512 : Shape := ⟨2, ![64, 512]⟩
abbrev S64x1024 : Shape := ⟨2, ![64, 1024]⟩
abbrev S4x1x256x128 : Shape := ⟨4, ![4, 1, 256, 128]⟩
abbrev S4x256x128 : Shape := ⟨3, ![4, 256, 128]⟩
abbrev S64x128 : Shape := ⟨2, ![64, 128]⟩
abbrev S64x256 : Shape := ⟨2, ![64, 256]⟩
abbrev S128 : Shape := ⟨1, ![128]⟩
abbrev S1x128 : Shape := ⟨2, ![1, 128]⟩
abbrev S1x1x256x128 : Shape := ⟨4, ![1, 1, 256, 128]⟩
abbrev S256x128 : Shape := ⟨2, ![256, 128]⟩
abbrev S1x256x128 : Shape := ⟨3, ![1, 256, 128]⟩

abbrev nBuf : Space → Nat
  | .hbm => 54
  | .vmem => 25
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x1024, .f32⟩
  | .hbm, ⟨3, _⟩ => ⟨S2048x512, .f32⟩
  | .hbm, ⟨4, _⟩ => ⟨S2048x1024, .f32⟩
  | .hbm, ⟨5, _⟩ => ⟨S64x64, .f32⟩
  | .hbm, ⟨6, _⟩ => ⟨S_, .f32⟩
  | .hbm, ⟨7, _⟩ => ⟨S2048x1536, .f32⟩
  | .hbm, ⟨8, _⟩ => ⟨S_, .f32⟩
  | .hbm, ⟨9, _⟩ => ⟨S2048x512, .f32⟩
  | .hbm, ⟨10, _⟩ => ⟨S2048x4096, .f32⟩
  | .hbm, ⟨11, _⟩ => ⟨S32x64x4x128, .f32⟩
  | .hbm, ⟨12, _⟩ => ⟨S_, .f32⟩
  | .hbm, ⟨13, _⟩ => ⟨S_, .f32⟩
  | .hbm, ⟨14, _⟩ => ⟨S32x64x4x128, .f32⟩
  | .hbm, ⟨15, _⟩ => ⟨S32x1x4x128, .f32⟩
  | .hbm, ⟨16, _⟩ => ⟨S32x4x128, .f32⟩
  | .hbm, ⟨17, _⟩ => ⟨S32x64x4x128, .f32⟩
  | .hbm, ⟨18, _⟩ => ⟨S32x1x4x128, .f32⟩
  | .hbm, ⟨19, _⟩ => ⟨S32x64x4x128, .f32⟩
  | .hbm, ⟨20, _⟩ => ⟨S32x64x4x128, .f32⟩
  | .hbm, ⟨21, _⟩ => ⟨S32x64x4x128, .f32⟩
  | .hbm, ⟨22, _⟩ => ⟨S32x64x4x128, .f32⟩
  | .hbm, ⟨23, _⟩ => ⟨S32x64x4x256, .f32⟩
  | .hbm, ⟨24, _⟩ => ⟨S32x4x128x256, .f32⟩
  | .hbm, ⟨25, _⟩ => ⟨S_, .f32⟩
  | .hbm, ⟨26, _⟩ => ⟨S_, .f32⟩
  | .hbm, ⟨27, _⟩ => ⟨S32x4x128, .f32⟩
  | .hbm, ⟨28, _⟩ => ⟨S32, .i32⟩
  | .hbm, ⟨29, _⟩ => ⟨S1x32, .i32⟩
  | .hbm, ⟨30, _⟩ => ⟨S32x1, .i32⟩
  | .hbm, ⟨31, _⟩ => ⟨S32x32, .i32⟩
  | .hbm, ⟨32, _⟩ => ⟨S32x32, .i32⟩
  | .hbm, ⟨33, _⟩ => ⟨S32x32, .i1⟩
  | .hbm, ⟨34, _⟩ => ⟨S32x32x1x1, .i1⟩
  | .hbm, ⟨35, _⟩ => ⟨S32x1x4x128, .f32⟩
  | .hbm, ⟨36, _⟩ => ⟨S1x32x4x128, .f32⟩
  | .hbm, ⟨37, _⟩ => ⟨S32x32x4x128, .f32⟩
  | .hbm, ⟨38, _⟩ => ⟨S32x32x4x128, .f32⟩
  | .hbm, ⟨39, _⟩ => ⟨S32x32x4x128, .f32⟩
  | .hbm, ⟨40, _⟩ => ⟨S32x32x4x128, .f32⟩
  | .hbm, ⟨41, _⟩ => ⟨S_, .f32⟩
  | .hbm, ⟨42, _⟩ => ⟨S_, .f32⟩
  | .hbm, ⟨43, _⟩ => ⟨S32x32x4x128, .i1⟩
  | .hbm, ⟨44, _⟩ => ⟨S32x32x4x128, .f32⟩
  | .hbm, ⟨45, _⟩ => ⟨S32x32x4x128, .f32⟩
  | .hbm, ⟨46, _⟩ => ⟨S4x128x256x32, .f32⟩
  | .hbm, ⟨47, _⟩ => ⟨S32x4x128x256, .f32⟩
  | .hbm, ⟨48, _⟩ => ⟨S4x32x256x128, .f32⟩
  | .hbm, ⟨49, _⟩ => ⟨S64x64, .f32⟩
  | .hbm, ⟨50, _⟩ => ⟨S2048x512, .f32⟩
  | .hbm, ⟨51, _⟩ => ⟨S2048x512, .f32⟩
  | .hbm, ⟨52, _⟩ => ⟨S2048x1024, .f32⟩
  | .hbm, ⟨53, _⟩ => ⟨S2048x512, .f32⟩
  | .local _ .vmem, ⟨0, _⟩ => ⟨S64x512, .f32⟩
  | .local _ .vmem, ⟨1, _⟩ => ⟨S64x512, .f32⟩
  | .local _ .vmem, ⟨2, _⟩ => ⟨S64x512, .f32⟩
  | .local _ .vmem, ⟨3, _⟩ => ⟨S64x512, .f32⟩
  | .local _ .vmem, ⟨4, _⟩ => ⟨S64x1024, .f32⟩
  | .local _ .vmem, ⟨5, _⟩ => ⟨S64x1024, .f32⟩
  | .local _ .vmem, ⟨6, _⟩ => ⟨S64x512, .f32⟩
  | .local _ .vmem, ⟨7, _⟩ => ⟨S64x512, .f32⟩
  | .local _ .vmem, ⟨8, _⟩ => ⟨S64x64, .f32⟩
  | .local _ .vmem, ⟨9, _⟩ => ⟨S64x64, .f32⟩
  | .local _ .vmem, ⟨10, _⟩ => ⟨S4x1x256x128, .f32⟩
  | .local _ .vmem, ⟨11, _⟩ => ⟨S4x1x256x128, .f32⟩
  | .local _ .vmem, ⟨12, _⟩ => ⟨S4x1x256x128, .f32⟩
  | .local _ .vmem, ⟨13, _⟩ => ⟨S4x1x256x128, .f32⟩
  | .local _ .vmem, ⟨14, _⟩ => ⟨S64x1024, .f32⟩
  | .local _ .vmem, ⟨15, _⟩ => ⟨S64x1024, .f32⟩
  | .local _ .vmem, ⟨16, _⟩ => ⟨S64x512, .f32⟩
  | .local _ .vmem, ⟨17, _⟩ => ⟨S64x512, .f32⟩
  | .local _ .vmem, ⟨18, _⟩ => ⟨S64x512, .f32⟩
  | .local _ .vmem, ⟨19, _⟩ => ⟨S64x512, .f32⟩
  | .local _ .vmem, ⟨20, _⟩ => ⟨S64x1024, .f32⟩
  | .local _ .vmem, ⟨21, _⟩ => ⟨S64x1024, .f32⟩
  | .local _ .vmem, ⟨22, _⟩ => ⟨S64x512, .f32⟩
  | .local _ .vmem, ⟨23, _⟩ => ⟨S64x512, .f32⟩
  | .local _ .vmem, ⟨24, _⟩ => ⟨S4x256x128, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_v0 : Ref sig .tc := ⟨.hbm, 7, rfl⟩
abbrev main_cst_1 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_call0_cst : Ref sig .tc := ⟨.hbm, 12, rfl⟩
abbrev main_call0_call0_v0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_call1_call0_cst : Ref sig .tc := ⟨.hbm, 25, rfl⟩
abbrev main_call1_call0_v0 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_2 : Ref sig .tc := ⟨.hbm, 41, rfl⟩
abbrev main_call2_v0 : Ref sig .tc := ⟨.hbm, 42, rfl⟩
abbrev main_call2_v1 : Ref sig .tc := ⟨.hbm, 43, rfl⟩
abbrev main_call2_v2 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34_0 : Ref sig .tc := ⟨.hbm, 50, rfl⟩
abbrev main_v34_1 : Ref sig .tc := ⟨.hbm, 51, rfl⟩
abbrev main_v34_2 : Ref sig .tc := ⟨.hbm, 52, rfl⟩
abbrev main_v34_3 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c5_i32 : BitVec 32 := 5#32
  let c0_i32 : BitVec 32 := 0#32
  ![v0.toNat, c5_i32.toNat]

def cc0_transform_1 (i : grid0.Coords) : Fin 2 → Nat :=
  let arg0 : BitVec 32 := BitVec.ofNat 32 (i 0).val
  let c31_i32 : BitVec 32 := 31#32
  let v0 : BitVec 32 := Scalar.subi c31_i32 arg0
  let c6_i32 : BitVec 32 := 6#32
  let c0_i32 : BitVec 32 := 0#32
  ![v0.toNat, c6_i32.toNat]

def cc0_transform_2 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc0_transform_7 (i : grid0.Coords) : Fin 4 → Nat :=
  let arg0 : BitVec 32 := BitVec.ofNat 32 (i 0).val
  let c31_i32 : BitVec 32 := 31#32
  let v0 : BitVec 32 := Scalar.subi c31_i32 arg0
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  let c0_i32_3 : BitVec 32 := 0#32
  ![c0_i32_0.toNat, v2.toNat, c0_i32_1.toNat, c0_i32_2.toNat]

def cc0_transform_8 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

abbrev stage0_0 : Fin 2 → Memref sig .tc .vmem S64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4x1x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x1x256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S64x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S64x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S64x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S64x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference4Ideal.lean ====
abbrev S2048x512 : Shape := ⟨2, ![2048, 512]⟩
abbrev S2048x1024 : Shape := ⟨2, ![2048, 1024]⟩
abbrev S32x64x4x128 : Shape := ⟨4, ![32, 64, 4, 128]⟩
abbrev S_ : Shape := ⟨0, ![]⟩
abbrev S32x1x4x128 : Shape := ⟨4, ![32, 1, 4, 128]⟩
abbrev S32x4x128 : Shape := ⟨3, ![32, 4, 128]⟩
abbrev S32x64x4x256 : Shape := ⟨4, ![32, 64, 4, 256]⟩
abbrev S32x4x128x256 : Shape := ⟨4, ![32, 4, 128, 256]⟩
abbrev S32 : Shape := ⟨1, ![32]⟩
abbrev S1x32 : Shape := ⟨2, ![1, 32]⟩
abbrev S32x1 : Shape := ⟨2, ![32, 1]⟩
abbrev S32x32 : Shape := ⟨2, ![32, 32]⟩
abbrev S32x32x1x1 : Shape := ⟨4, ![32, 32, 1, 1]⟩
abbrev S1x32x4x128 : Shape := ⟨4, ![1, 32, 4, 128]⟩
abbrev S32x32x4x128 : Shape := ⟨4, ![32, 32, 4, 128]⟩
abbrev S4x128x256x32 : Shape := ⟨4, ![4, 128, 256, 32]⟩
abbrev S32x4x256x64 : Shape := ⟨4, ![32, 4, 256, 64]⟩
abbrev S32x4x64x128 : Shape := ⟨4, ![32, 4, 64, 128]⟩
abbrev S32x4x256x128 : Shape := ⟨4, ![32, 4, 256, 128]⟩
abbrev S4x128x32x32 : Shape := ⟨4, ![4, 128, 32, 32]⟩
abbrev S32x4x128x64 : Shape := ⟨4, ![32, 4, 128, 64]⟩

abbrev nBuf : Space → Nat
  | .hbm => 109
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x1024, .f32⟩
  | .hbm, ⟨3, _⟩ => ⟨S2048x512, .f32⟩
  | .hbm, ⟨4, _⟩ => ⟨S2048x1024, .f32⟩
  | .hbm, ⟨5, _⟩ => ⟨S32x64x4x128, .f32⟩
  | .hbm, ⟨6, _⟩ => ⟨S_, .f32⟩
  | .hbm, ⟨7, _⟩ => ⟨S32x64x4x128, .f32⟩
  | .hbm, ⟨8, _⟩ => ⟨S32x64x4x128, .f32⟩
  | .hbm, ⟨9, _⟩ => ⟨S32x64x4x128, .f32⟩
  | .hbm, ⟨10, _⟩ => ⟨S_, .f32⟩
  | .hbm, ⟨11, _⟩ => ⟨S_, .f32⟩
  | .hbm, ⟨12, _⟩ => ⟨S32x64x4x128, .f32⟩
  | .hbm, ⟨13, _⟩ => ⟨S32x1x4x128, .f32⟩
  | .hbm, ⟨14, _⟩ => ⟨S32x4x128, .f32⟩
  | .hbm, ⟨15, _⟩ => ⟨S32x64x4x128, .f32⟩
  | .hbm, ⟨16, _⟩ => ⟨S32x1x4x128, .f32⟩
  | .hbm, ⟨17, _⟩ => ⟨S32x64x4x128, .f32⟩
  | .hbm, ⟨18, _⟩ => ⟨S32x64x4x128, .f32⟩
  | .hbm, ⟨19, _⟩ => ⟨S32x64x4x128, .f32⟩
  | .hbm, ⟨20, _⟩ => ⟨S32x64x4x128, .f32⟩
  | .hbm, ⟨21, _⟩ => ⟨S32x64x4x256, .f32⟩
  | .hbm, ⟨22, _⟩ => ⟨S32x4x128x256, .f32⟩
  | .hbm, ⟨23, _⟩ => ⟨S_, .f32⟩
  | .hbm, ⟨24, _⟩ => ⟨S_, .f32⟩
  | .hbm, ⟨25, _⟩ => ⟨S32x4x128, .f32⟩
  | .hbm, ⟨26, _⟩ => ⟨S32, .i32⟩
  | .hbm, ⟨27, _⟩ => ⟨S1x32, .i32⟩
  | .hbm, ⟨28, _⟩ => ⟨S32x1, .i32⟩
  | .hbm, ⟨29, _⟩ => ⟨S32x32, .i32⟩
  | .hbm, ⟨30, _⟩ => ⟨S32x32, .i32⟩
  | .hbm, ⟨31, _⟩ => ⟨S32x32, .i1⟩
  | .hbm, ⟨32, _⟩ => ⟨S32x32x1x1, .i1⟩
  | .hbm, ⟨33, _⟩ => ⟨S32x1x4x128, .f32⟩
  | .hbm, ⟨34, _⟩ => ⟨S1x32x4x128, .f32⟩
  | .hbm, ⟨35, _⟩ => ⟨S32x32x4x128, .f32⟩
  | .hbm, ⟨36, _⟩ => ⟨S32x32x4x128, .f32⟩
  | .hbm, ⟨37, _⟩ => ⟨S32x32x4x128, .f32⟩
  | .hbm, ⟨38, _⟩ => ⟨S32x32x4x128, .f32⟩
  | .hbm, ⟨39, _⟩ => ⟨S_, .f32⟩
  | .hbm, ⟨40, _⟩ => ⟨S_, .f32⟩
  | .hbm, ⟨41, _⟩ => ⟨S32x32x4x128, .i1⟩
  | .hbm, ⟨42, _⟩ => ⟨S32x32x4x128, .f32⟩
  | .hbm, ⟨43, _⟩ => ⟨S32x32x4x128, .f32⟩
  | .hbm, ⟨44, _⟩ => ⟨S_, .f32⟩
  | .hbm, ⟨45, _⟩ => ⟨S32x32x4x128, .f32⟩
  | .hbm, ⟨46, _⟩ => ⟨S4x128x256x32, .f32⟩
  | .hbm, ⟨47, _⟩ => ⟨S32x4x128x256, .f32⟩
  | .hbm, ⟨48, _⟩ => ⟨S32x4x256x64, .f32⟩
  | .hbm, ⟨49, _⟩ => ⟨S32x64x4x256, .f32⟩
  | .hbm, ⟨50, _⟩ => ⟨S2048x1024, .f32⟩
  | .hbm, ⟨51, _⟩ => ⟨S32x64x4x256, .f32⟩
  | .hbm, ⟨52, _⟩ => ⟨S32x4x256x64, .f32⟩
  | .hbm, ⟨53, _⟩ => ⟨S32x4x64x128, .f32⟩
  | .hbm, ⟨54, _⟩ => ⟨S32x64x4x128, .f32⟩
  | .hbm, ⟨55, _⟩ => ⟨S32x4x256x128, .f32⟩
  | .hbm, ⟨56, _⟩ => ⟨S32x4x128x256, .f32⟩
  | .hbm, ⟨57, _⟩ => ⟨S4x128x256x32, .f32⟩
  | .hbm, ⟨58, _⟩ => ⟨S4x128x32x32, .f32⟩
  | .hbm, ⟨59, _⟩ => ⟨S32x32x4x128, .f32⟩
  | .hbm, ⟨60, _⟩ => ⟨S4x128x256x32, .f32⟩
  | .hbm, ⟨61, _⟩ => ⟨S32x4x128x256, .f32⟩
  | .hbm, ⟨62, _⟩ => ⟨S_, .f32⟩
  | .hbm, ⟨63, _⟩ => ⟨S32x32x4x128, .f32⟩
  | .hbm, ⟨64, _⟩ => ⟨S32x32x4x128, .f32⟩
  | .hbm, ⟨65, _⟩ => ⟨S32x32x4x128, .f32⟩
  | .hbm, ⟨66, _⟩ => ⟨S_, .f32⟩
  | .hbm, ⟨67, _⟩ => ⟨S32x4x128, .f32⟩
  | .hbm, ⟨68, _⟩ => ⟨S32x1x4x128, .f32⟩
  | .hbm, ⟨69, _⟩ => ⟨S32x32x4x128, .f32⟩
  | .hbm, ⟨70, _⟩ => ⟨S_, .f32⟩
  | .hbm, ⟨71, _⟩ => ⟨S32x4x128, .f32⟩
  | .hbm, ⟨72, _⟩ => ⟨S1x32x4x128, .f32⟩
  | .hbm, ⟨73, _⟩ => ⟨S_, .f32⟩
  | .hbm, ⟨74, _⟩ => ⟨S32x4x128, .f32⟩
  | .hbm, ⟨75, _⟩ => ⟨S_, .f32⟩
  | .hbm, ⟨76, _⟩ => ⟨S32x4x128, .f32⟩
  | .hbm, ⟨77, _⟩ => ⟨S32x4x128, .f32⟩
  | .hbm, ⟨78, _⟩ => ⟨S_, .f32⟩
  | .hbm, ⟨79, _⟩ => ⟨S_, .f32⟩
  | .hbm, ⟨80, _⟩ => ⟨S32x4x128, .f32⟩
  | .hbm, ⟨81, _⟩ => ⟨S32x4x256x64, .f32⟩
  | .hbm, ⟨82, _⟩ => ⟨S32x64x4x256, .f32⟩
  | .hbm, ⟨83, _⟩ => ⟨S32x4x128x64, .f32⟩
  | .hbm, ⟨84, _⟩ => ⟨S32x64x4x128, .f32⟩
  | .hbm, ⟨85, _⟩ => ⟨S2048x1024, .f32⟩
  | .hbm, ⟨86, _⟩ => ⟨S32x64x4x128, .f32⟩
  | .hbm, ⟨87, _⟩ => ⟨S32x64x4x128, .f32⟩
  | .hbm, ⟨88, _⟩ => ⟨S32x64x4x128, .f32⟩
  | .hbm, ⟨89, _⟩ => ⟨S_, .f32⟩
  | .hbm, ⟨90, _⟩ => ⟨S32x4x128, .f32⟩
  | .hbm, ⟨91, _⟩ => ⟨S32x1x4x128, .f32⟩
  | .hbm, ⟨92, _⟩ => ⟨S32x64x4x128, .f32⟩
  | .hbm, ⟨93, _⟩ => ⟨S_, .f32⟩
  | .hbm, ⟨94, _⟩ => ⟨S32x4x128, .f32⟩
  | .hbm, ⟨95, _⟩ => ⟨S32x4x128, .f32⟩
  | .hbm, ⟨96, _⟩ => ⟨S2048x512, .f32⟩
  | .hbm, ⟨97, _⟩ => ⟨S32x1x4x128, .f32⟩
  | .hbm, ⟨98, _⟩ => ⟨S_, .f32⟩
  | .hbm, ⟨99, _⟩ => ⟨S32x64x4x128, .f32⟩
  | .hbm, ⟨100, _⟩ => ⟨S32x64x4x128, .f32⟩
  | .hbm, ⟨101, _⟩ => ⟨S_, .f32⟩
  | .hbm, ⟨102, _⟩ => ⟨S_, .f32⟩
  | .hbm, ⟨103, _⟩ => ⟨S32x64x4x128, .f32⟩
  | .hbm, ⟨104, _⟩ => ⟨S2048x512, .f32⟩
  | .hbm, ⟨105, _⟩ => ⟨S_, .f32⟩
  | .hbm, ⟨106, _⟩ => ⟨S32x64x4x128, .f32⟩
  | .hbm, ⟨107, _⟩ => ⟨S32x64x4x128, .f32⟩
  | .hbm, ⟨108, _⟩ => ⟨S2048x512, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_call0_cst : Ref sig .tc := ⟨.hbm, 10, rfl⟩
abbrev main_call0_call0_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call1_call0_cst : Ref sig .tc := ⟨.hbm, 23, rfl⟩
abbrev main_call1_call0_v0 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_0 : Ref sig .tc := ⟨.hbm, 39, rfl⟩
abbrev main_call2_v0 : Ref sig .tc := ⟨.hbm, 40, rfl⟩
abbrev main_v29_1 : Ref sig .tc := ⟨.hbm, 41, rfl⟩
abbrev main_call2_v2 : Ref sig .tc := ⟨.hbm, 42, rfl⟩
abbrev main_v29_0 : Ref sig .tc := ⟨.hbm, 43, rfl⟩
abbrev main_call2_cst : Ref sig .tc := ⟨.hbm, 44, rfl⟩
abbrev main_v29_2 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_call3_cst : Ref sig .tc := ⟨.hbm, 62, rfl⟩
abbrev main_call3_v0 : Ref sig .tc := ⟨.hbm, 63, rfl⟩
abbrev main_v46 : Ref sig .tc := ⟨.hbm, 64, rfl⟩
abbrev main_v47 : Ref sig .tc := ⟨.hbm, 65, rfl⟩
abbrev main_cst_1 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_2 : Ref sig .tc := ⟨.hbm, 70, rfl⟩
abbrev main_v51 : Ref sig .tc := ⟨.hbm, 71, rfl⟩
abbrev main_v52 : Ref sig .tc := ⟨.hbm, 72, rfl⟩
abbrev main_cst_3 : Ref sig .tc := ⟨.hbm, 73, rfl⟩
abbrev main_v53 : Ref sig .tc := ⟨.hbm, 74, rfl⟩
abbrev main_cst_4 : Ref sig .tc := ⟨.hbm, 75, rfl⟩
abbrev main_v54 : Ref sig .tc := ⟨.hbm, 76, rfl⟩
abbrev main_v55 : Ref sig .tc := ⟨.hbm, 77, rfl⟩
abbrev main_call4_call0_cst : Ref sig .tc := ⟨.hbm, 78, rfl⟩
abbrev main_call4_call0_v0 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_5 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_cst_6 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_cst_7 : Ref sig .tc := ⟨.hbm, 98, rfl⟩
abbrev main_v72 : Ref sig .tc := ⟨.hbm, 99, rfl⟩
abbrev main_v73 : Ref sig .tc := ⟨.hbm, 100, rfl⟩
abbrev main_call5_call0_cst : Ref sig .tc := ⟨.hbm, 101, rfl⟩
abbrev main_call5_call0_v0 : Ref sig .tc := ⟨.hbm, 102, rfl⟩
abbrev main_v74 : Ref sig .tc := ⟨.hbm, 103, rfl⟩
abbrev main_v75 : Ref sig .tc := ⟨.hbm, 104, rfl⟩
abbrev main_cst_8 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩

abbrev nD : Nat := 1
abbrev τ : Topo := Topo.v7x

variable {F : FTy → Type} [FloatOps F]
-- ==== Kernel5.lean ====
abbrev S2048x2048 : Shape := ⟨2, ![2048, 2048]⟩
abbrev S2048x5632 : Shape := ⟨2, ![2048, 5632]⟩
abbrev S4x2048x1408 : Shape := ⟨3, ![4, 2048, 1408]⟩
abbrev S2048x1024 : Shape := ⟨2, ![2048, 1024]⟩
abbrev S2048x1408 : Shape := ⟨2, ![2048, 1408]⟩
abbrev S1x1024x1408 : Shape := ⟨3, ![1, 1024, 1408]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x5632, .bf16⟩
  | .hbm, ⟨2, _⟩ => ⟨S4x2048x1408, .f32⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1x1024x1408, .f32⟩
  | .local _ .vmem, ⟨5, _⟩ => ⟨S1x1024x1408, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S2048x2048 : Shape := ⟨2, ![2048, 2048]⟩
abbrev S2048x5632 : Shape := ⟨2, ![2048, 5632]⟩
abbrev S_ : Shape := ⟨0, ![]⟩
abbrev S4x2048x1408 : Shape := ⟨3, ![4, 2048, 1408]⟩
abbrev S2048x4x1408 : Shape := ⟨3, ![2048, 4, 1408]⟩
abbrev S5632x2048 : Shape := ⟨2, ![5632, 2048]⟩

abbrev nBuf : Space → Nat
  | .hbm => 13
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x5632, .bf16⟩
  | .hbm, ⟨2, _⟩ => ⟨S2048x2048, .f32⟩
  | .hbm, ⟨3, _⟩ => ⟨S2048x5632, .f32⟩
  | .hbm, ⟨4, _⟩ => ⟨S_, .f32⟩
  | .hbm, ⟨5, _⟩ => ⟨S4x2048x1408, .f32⟩
  | .hbm, ⟨6, _⟩ => ⟨S2048x4x1408, .f32⟩
  | .hbm, ⟨7, _⟩ => ⟨S2048x5632, .f32⟩
  | .hbm, ⟨8, _⟩ => ⟨S2048x5632, .f32⟩
  | .hbm, ⟨9, _⟩ => ⟨S5632x2048, .f32⟩
  | .hbm, ⟨10, _⟩ => ⟨S2048x5632, .f32⟩
  | .hbm, ⟨11, _⟩ => ⟨S2048x4x1408, .f32⟩
  | .hbm, ⟨12, _⟩ => ⟨S4x2048x1408, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel6.lean ====
abbrev S2048x5632 : Shape := ⟨2, ![2048, 5632]⟩
abbrev S2048x4x1408 : Shape := ⟨3, ![2048, 4, 1408]⟩
abbrev S4x2048x1408 : Shape := ⟨3, ![4, 2048, 1408]⟩
abbrev S2048x2048 : Shape := ⟨2, ![2048, 2048]⟩
abbrev S1024x1408 : Shape := ⟨2, ![1024, 1408]⟩
abbrev S1x1024x1408 : Shape := ⟨3, ![1, 1024, 1408]⟩
abbrev S1024x1024 : Shape := ⟨2, ![1024, 1024]⟩

abbrev nBuf : Space → Nat
  | .hbm => 9
  | .vmem => 11
  | .smem => 0
  | _ => 0

abbrev bufTy : (tb : Table) → Fin (tcTables nBuf tb) → BufTy
  | .hbm, ⟨0, _⟩ => ⟨S2048x5632, .bf16⟩
  | .hbm, ⟨1, _⟩ => ⟨S2048x5632, .bf16⟩
  | .hbm, ⟨2, _⟩ => ⟨S2048x5632, .bf16⟩
  | .hbm, ⟨3, _⟩ => ⟨S2048x5632, .bf16⟩
  | .hbm, ⟨4, _⟩ => ⟨S2048x4x1408, .bf16⟩
  | .hbm, ⟨5, _⟩ => ⟨S4x2048x1408, .bf16⟩
  | .hbm, ⟨6, _⟩ => ⟨S2048x4x1408, .bf16⟩
  | .hbm, ⟨7, _⟩ => ⟨S4x2048x1408, .bf16⟩
  | .hbm, ⟨8, _⟩ => ⟨S2048x2048, .f32⟩
  | .local _ .vmem, ⟨0, _⟩ => ⟨S1024x1408, .bf16⟩
  | .local _ .vmem, ⟨1, _⟩ => ⟨S1024x1408, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1x1024x1408, .bf16⟩
  | .local _ .vmem, ⟨7, _⟩ => ⟨S1x1024x1408, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 2, 4], ![false, false, false]⟩

def k0_cond2 (i : grid0.Coords) : BitVec 1 :=
  let arg2 : BitVec 32 := BitVec.ofNat 32 (i 2).val
  let c3_i32 : BitVec 32 := 3#32
  let v17 : BitVec 1 := Scalar.cmpi .eq arg2 c3_i32
  let v18 : BitVec 32 := Scalar.extui v17
  let c0_i32_15 : BitVec 32 := 0#32
  let v19 : BitVec 1 := Scalar.cmpi .ne v18 c0_i32_15
  v19

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference6Ideal.lean ====
abbrev S2048x5632 : Shape := ⟨2, ![2048, 5632]⟩
abbrev S_ : Shape := ⟨0, ![]⟩
abbrev S2048x2048 : Shape := ⟨2, ![2048, 2048]⟩

abbrev nBuf : Space → Nat
  | .hbm => 15
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S2048x5632, .bf16⟩
  | .hbm, ⟨2, _⟩ => ⟨S2048x5632, .bf16⟩
  | .hbm, ⟨3, _⟩ => ⟨S2048x5632, .bf16⟩
  | .hbm, ⟨4, _⟩ => ⟨S2048x5632, .f32⟩
  | .hbm, ⟨5, _⟩ => ⟨S2048x5632, .f32⟩
  | .hbm, ⟨6, _⟩ => ⟨S2048x5632, .f32⟩
  | .hbm, ⟨7, _⟩ => ⟨S2048x5632, .f32⟩
  | .hbm, ⟨8, _⟩ => ⟨S_, .f32⟩
  | .hbm, ⟨9, _⟩ => ⟨S2048x2048, .f32⟩
  | .hbm, ⟨10, _⟩ => ⟨S2048x5632, .f32⟩
  | .hbm, ⟨11, _⟩ => ⟨S2048x5632, .f32⟩
  | .hbm, ⟨12, _⟩ => ⟨S2048x2048, .f32⟩
  | .hbm, ⟨13, _⟩ => ⟨S2048x2048, .f32⟩
  | .hbm, ⟨14, _⟩ => ⟨S2048x2048, .f32⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Kernel7.lean ====
abbrev S2048x2048 : Shape := ⟨2, ![2048, 2048]⟩
abbrev S2048x5632 : Shape := ⟨2, ![2048, 5632]⟩
abbrev S2048x4x1408 : Shape := ⟨3, ![2048, 4, 1408]⟩
abbrev S4x2048x1408 : Shape := ⟨3, ![4, 2048, 1408]⟩
abbrev S512x2048 : Shape := ⟨2, ![512, 2048]⟩
abbrev S1x2048x1408 : Shape := ⟨3, ![1, 2048, 1408]⟩
abbrev S512x1408 : Shape := ⟨2, ![512, 1408]⟩
abbrev S2048x1408 : Shape := ⟨2, ![2048, 1408]⟩

abbrev nBuf : Space → Nat
  | .hbm => 10
  | .vmem => 12
  | .smem => 0
  | _ => 0

abbrev bufTy : (tb : Table) → Fin (tcTables nBuf tb) → BufTy
  | .hbm, ⟨0, _⟩ => ⟨S2048x2048, .bf16⟩
  | .hbm, ⟨1, _⟩ => ⟨S2048x5632, .bf16⟩
  | .hbm, ⟨2, _⟩ => ⟨S2048x5632, .bf16⟩
  | .hbm, ⟨3, _⟩ => ⟨S2048x4x1408, .bf16⟩
  | .hbm, ⟨4, _⟩ => ⟨S4x2048x1408, .bf16⟩
  | .hbm, ⟨5, _⟩ => ⟨S2048x4x1408, .bf16⟩
  | .hbm, ⟨6, _⟩ => ⟨S4x2048x1408, .bf16⟩
  | .hbm, ⟨7, _⟩ => ⟨S2048x5632, .bf16⟩
  | .hbm, ⟨8, _⟩ => ⟨S2048x5632, .bf16⟩
  | .hbm, ⟨9, _⟩ => ⟨S2048x5632, .bf16⟩
  | .local _ .vmem, ⟨0, _⟩ => ⟨S512x2048, .bf16⟩
  | .local _ .vmem, ⟨1, _⟩ => ⟨S512x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x2048x1408, .bf16⟩
  | .local _ .vmem, ⟨5, _⟩ => ⟨S1x2048x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference7Ideal.lean ====
abbrev S2048x2048 : Shape := ⟨2, ![2048, 2048]⟩
abbrev S2048x5632 : Shape := ⟨2, ![2048, 5632]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x5632, .bf16⟩
  | .hbm, ⟨2, _⟩ => ⟨S2048x5632, .bf16⟩
  | .hbm, ⟨3, _⟩ => ⟨S2048x2048, .f32⟩
  | .hbm, ⟨4, _⟩ => ⟨S2048x5632, .f32⟩
  | .hbm, ⟨5, _⟩ => ⟨S2048x5632, .f32⟩
  | .hbm, ⟨6, _⟩ => ⟨S2048x5632, .f32⟩
  | .hbm, ⟨7, _⟩ => ⟨S2048x5632, .f32⟩
  | .hbm, ⟨8, _⟩ => ⟨S2048x5632, .bf16⟩
  | .hbm, ⟨9, _⟩ => ⟨S2048x5632, .bf16⟩
  | .hbm, ⟨10, _⟩ => ⟨S2048x5632, .f32⟩
  | .hbm, ⟨11, _⟩ => ⟨S2048x5632, .f32⟩
  | .hbm, ⟨12, _⟩ => ⟨S_, .f32⟩
  | .hbm, ⟨13, _⟩ => ⟨S2048x5632, .f32⟩
  | .hbm, ⟨14, _⟩ => ⟨S2048x5632, .f32⟩
  | .hbm, ⟨15, _⟩ => ⟨S_, .f32⟩
  | .hbm, ⟨16, _⟩ => ⟨S2048x5632, .f32⟩
  | .hbm, ⟨17, _⟩ => ⟨S2048x5632, .f32⟩
  | .hbm, ⟨18, _⟩ => ⟨S2048x5632, .f32⟩
  | .hbm, ⟨19, _⟩ => ⟨S2048x5632, .f32⟩
  | .hbm, ⟨20, _⟩ => ⟨S2048x5632, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩

abbrev nD : Nat := 1
abbrev τ : Topo := Topo.v7x

variable {F : FTy → Type} [FloatOps F]
-- ==== Kernel8.lean ====
abbrev S2048x5632 : Shape := ⟨2, ![2048, 5632]⟩
abbrev S5632x2048 : Shape := ⟨2, ![5632, 2048]⟩
abbrev S2048x2048 : Shape := ⟨2, ![2048, 2048]⟩
abbrev S1024x2816 : Shape := ⟨2, ![1024, 2816]⟩
abbrev S2816x1024 : Shape := ⟨2, ![2816, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S2048x5632, .bf16⟩
  | .hbm, ⟨1, _⟩ => ⟨S5632x2048, .bf16⟩
  | .hbm, ⟨2, _⟩ => ⟨S2048x2048, .f32⟩
  | .hbm, ⟨3, _⟩ => ⟨S2048x2048, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference8Ideal.lean ====
abbrev S2048x5632 : Shape := ⟨2, ![2048, 5632]⟩
abbrev S5632x2048 : Shape := ⟨2, ![5632, 2048]⟩
abbrev S2048x2048 : Shape := ⟨2, ![2048, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S5632x2048, .bf16⟩
  | .hbm, ⟨2, _⟩ => ⟨S2048x2048, .f32⟩
  | .hbm, ⟨3, _⟩ => ⟨S2048x5632, .f32⟩
  | .hbm, ⟨4, _⟩ => ⟨S5632x2048, .f32⟩
  | .hbm, ⟨5, _⟩ => ⟨S2048x2048, .f32⟩
  | .hbm, ⟨6, _⟩ => ⟨S_, .f32⟩
  | .hbm, ⟨7, _⟩ => ⟨S2048x2048, .f32⟩
  | .hbm, ⟨8, _⟩ => ⟨S2048x2048, .f32⟩
  | .hbm, ⟨9, _⟩ => ⟨S2048x2048, .f32⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel9.lean ====
abbrev S2048x2048 : Shape := ⟨2, ![2048, 2048]⟩
abbrev S2048x4096 : Shape := ⟨2, ![2048, 4096]⟩
abbrev S4x2048x1024 : Shape := ⟨3, ![4, 2048, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x4096, .bf16⟩
  | .hbm, ⟨2, _⟩ => ⟨S4x2048x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .f32⟩
  | .local _ .vmem, ⟨5, _⟩ => ⟨S1x1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S2048x2048 : Shape := ⟨2, ![2048, 2048]⟩
abbrev S2048x4096 : Shape := ⟨2, ![2048, 4096]⟩
abbrev S_ : Shape := ⟨0, ![]⟩
abbrev S4x2048x1024 : Shape := ⟨3, ![4, 2048, 1024]⟩
abbrev S2048x4x1024 : Shape := ⟨3, ![2048, 4, 1024]⟩
abbrev S4096x2048 : Shape := ⟨2, ![4096, 2048]⟩

abbrev nBuf : Space → Nat
  | .hbm => 13
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x4096, .bf16⟩
  | .hbm, ⟨2, _⟩ => ⟨S2048x2048, .f32⟩
  | .hbm, ⟨3, _⟩ => ⟨S2048x4096, .f32⟩
  | .hbm, ⟨4, _⟩ => ⟨S_, .f32⟩
  | .hbm, ⟨5, _⟩ => ⟨S4x2048x1024, .f32⟩
  | .hbm, ⟨6, _⟩ => ⟨S2048x4x1024, .f32⟩
  | .hbm, ⟨7, _⟩ => ⟨S2048x4096, .f32⟩
  | .hbm, ⟨8, _⟩ => ⟨S2048x4096, .f32⟩
  | .hbm, ⟨9, _⟩ => ⟨S4096x2048, .f32⟩
  | .hbm, ⟨10, _⟩ => ⟨S2048x4096, .f32⟩
  | .hbm, ⟨11, _⟩ => ⟨S2048x4x1024, .f32⟩
  | .hbm, ⟨12, _⟩ => ⟨S4x2048x1024, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel10.lean ====
abbrev S2048x4096 : Shape := ⟨2, ![2048, 4096]⟩
abbrev S2048x4x1024 : Shape := ⟨3, ![2048, 4, 1024]⟩
abbrev S4x2048x1024 : Shape := ⟨3, ![4, 2048, 1024]⟩
abbrev S2048x2048 : Shape := ⟨2, ![2048, 2048]⟩
abbrev S1024x1024 : Shape := ⟨2, ![1024, 1024]⟩
abbrev S1x1024x1024 : Shape := ⟨3, ![1, 1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S2048x4096, .bf16⟩
  | .hbm, ⟨1, _⟩ => ⟨S2048x4096, .bf16⟩
  | .hbm, ⟨2, _⟩ => ⟨S2048x4x1024, .bf16⟩
  | .hbm, ⟨3, _⟩ => ⟨S4x2048x1024, .bf16⟩
  | .hbm, ⟨4, _⟩ => ⟨S2048x2048, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S2048x4096 : Shape := ⟨2, ![2048, 4096]⟩
abbrev S_ : Shape := ⟨0, ![]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S2048x4096, .bf16⟩
  | .hbm, ⟨2, _⟩ => ⟨S2048x4096, .f32⟩
  | .hbm, ⟨3, _⟩ => ⟨S2048x4096, .f32⟩
  | .hbm, ⟨4, _⟩ => ⟨S_, .f32⟩
  | .hbm, ⟨5, _⟩ => ⟨S2048x2048, .f32⟩
  | .hbm, ⟨6, _⟩ => ⟨S2048x4096, .f32⟩
  | .hbm, ⟨7, _⟩ => ⟨S2048x2048, .f32⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel11.lean ====
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x2048, .bf16⟩
  | .hbm, ⟨2, _⟩ => ⟨S2048x2048, .f32⟩
  | .local _ .vmem, ⟨0, _⟩ => ⟨S1024x2048, .f32⟩
  | .local _ .vmem, ⟨1, _⟩ => ⟨S1024x2048, .f32⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S2048x2048 : Shape := ⟨2, ![2048, 2048]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .bf16⟩
  | .hbm, ⟨2, _⟩ => ⟨S2048x2048, .f32⟩
  | .hbm, ⟨3, _⟩ => ⟨S_, .f32⟩
  | .hbm, ⟨4, _⟩ => ⟨S2048x2048, .f32⟩
  | .hbm, ⟨5, _⟩ => ⟨S2048x2048, .f32⟩
  | .hbm, ⟨6, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel12.lean ====
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .f32⟩
  | .hbm, ⟨2, _⟩ => ⟨S2048x2048, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .f32⟩
  | .local _ .vmem, ⟨5, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .f32⟩
  | .hbm, ⟨2, _⟩ => ⟨S2048x2048, .f32⟩
  | .hbm, ⟨3, _⟩ => ⟨S_, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel13.lean ====
abbrev S2048x2048 : Shape := ⟨2, ![2048, 2048]⟩
abbrev S2048x4096 : Shape := ⟨2, ![2048, 4096]⟩
abbrev S2048x4x1024 : Shape := ⟨3, ![2048, 4, 1024]⟩
abbrev S4x2048x1024 : Shape := ⟨3, ![4, 2048, 1024]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 5
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x4096, .bf16⟩
  | .hbm, ⟨2, _⟩ => ⟨S2048x4x1024, .bf16⟩
  | .hbm, ⟨3, _⟩ => ⟨S4x2048x1024, .bf16⟩
  | .hbm, ⟨4, _⟩ => ⟨S2048x4096, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .f32⟩
  | .local _ .vmem, ⟨5, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S2048x2048 : Shape := ⟨2, ![2048, 2048]⟩
abbrev S2048x4096 : Shape := ⟨2, ![2048, 4096]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x4096, .bf16⟩
  | .hbm, ⟨2, _⟩ => ⟨S2048x2048, .f32⟩
  | .hbm, ⟨3, _⟩ => ⟨S2048x4096, .f32⟩
  | .hbm, ⟨4, _⟩ => ⟨S2048x4096, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel14.lean ====
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference14Ideal.lean ====
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel15.lean ====
abbrev S2048x2048 : Shape := ⟨2, ![2048, 2048]⟩
abbrev S512x2048 : Shape := ⟨2, ![512, 2048]⟩
abbrev S2048x512 : Shape := ⟨2, ![2048, 512]⟩
abbrev S1024x2048 : Shape := ⟨2, ![1024, 2048]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S512x2048, .bf16⟩
  | .hbm, ⟨2, _⟩ => ⟨S2048x512, .f32⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S1024x512, .f32⟩
  | .local _ .vmem, ⟨4, _⟩ => ⟨S1024x512, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S2048x2048 : Shape := ⟨2, ![2048, 2048]⟩
abbrev S512x2048 : Shape := ⟨2, ![512, 2048]⟩
abbrev S_ : Shape := ⟨0, ![]⟩
abbrev S2048x512 : Shape := ⟨2, ![2048, 512]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S512x2048, .bf16⟩
  | .hbm, ⟨2, _⟩ => ⟨S2048x2048, .f32⟩
  | .hbm, ⟨3, _⟩ => ⟨S512x2048, .f32⟩
  | .hbm, ⟨4, _⟩ => ⟨S_, .f32⟩
  | .hbm, ⟨5, _⟩ => ⟨S2048x512, .f32⟩
  | .hbm, ⟨6, _⟩ => ⟨S2048x2048, .f32⟩
  | .hbm, ⟨7, _⟩ => ⟨S2048x512, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel16.lean ====
abbrev S2048x512 : Shape := ⟨2, ![2048, 512]⟩
abbrev S2048x2048 : Shape := ⟨2, ![2048, 2048]⟩
abbrev S512x2048 : Shape := ⟨2, ![512, 2048]⟩
abbrev S2048x1024 : Shape := ⟨2, ![2048, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x512, .bf16⟩
  | .hbm, ⟨1, _⟩ => ⟨S2048x2048, .bf16⟩
  | .hbm, ⟨2, _⟩ => ⟨S512x2048, .f32⟩
  | .local _ .vmem, ⟨0, _⟩ => ⟨S2048x512, .bf16⟩
  | .local _ .vmem, ⟨1, _⟩ => ⟨S2048x1024, .bf16⟩
  | .local _ .vmem, ⟨2, _⟩ => ⟨S2048x1024, .bf16⟩
  | .local _ .vmem, ⟨3, _⟩ => ⟨S512x1024, .f32⟩
  | .local _ .vmem, ⟨4, _⟩ => ⟨S512x1024, .f32⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S2048x512 : Shape := ⟨2, ![2048, 512]⟩
abbrev S2048x2048 : Shape := ⟨2, ![2048, 2048]⟩
abbrev S_ : Shape := ⟨0, ![]⟩
abbrev S512x2048 : Shape := ⟨2, ![512, 2048]⟩

abbrev nBuf : Space → Nat
  | .hbm => 9
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S2048x2048, .bf16⟩
  | .hbm, ⟨2, _⟩ => ⟨S2048x512, .f32⟩
  | .hbm, ⟨3, _⟩ => ⟨S2048x2048, .f32⟩
  | .hbm, ⟨4, _⟩ => ⟨S_, .f32⟩
  | .hbm, ⟨5, _⟩ => ⟨S512x2048, .f32⟩
  | .hbm, ⟨6, _⟩ => ⟨S2048x2048, .f32⟩
  | .hbm, ⟨7, _⟩ => ⟨S2048x512, .f32⟩
  | .hbm, ⟨8, _⟩ => ⟨S512x2048, .f32⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel17.lean ====
abbrev S2048x2048 : Shape := ⟨2, ![2048, 2048]⟩
abbrev S256x2048 : Shape := ⟨2, ![256, 2048]⟩
abbrev S2048x256 : Shape := ⟨2, ![2048, 256]⟩
abbrev S1024x2048 : Shape := ⟨2, ![1024, 2048]⟩
abbrev S1024x256 : Shape := ⟨2, ![1024, 256]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S256x2048, .bf16⟩
  | .hbm, ⟨2, _⟩ => ⟨S2048x256, .f32⟩
  | .local _ .vmem, ⟨0, _⟩ => ⟨S1024x2048, .bf16⟩
  | .local _ .vmem, ⟨1, _⟩ => ⟨S1024x2048, .bf16⟩
  | .local _ .vmem, ⟨2, _⟩ => ⟨S256x2048, .bf16⟩
  | .local _ .vmem, ⟨3, _⟩ => ⟨S1024x256, .f32⟩
  | .local _ .vmem, ⟨4, _⟩ => ⟨S1024x256, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S2048x2048 : Shape := ⟨2, ![2048, 2048]⟩
abbrev S256x2048 : Shape := ⟨2, ![256, 2048]⟩
abbrev S_ : Shape := ⟨0, ![]⟩
abbrev S2048x256 : Shape := ⟨2, ![2048, 256]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S256x2048, .bf16⟩
  | .hbm, ⟨2, _⟩ => ⟨S2048x2048, .f32⟩
  | .hbm, ⟨3, _⟩ => ⟨S256x2048, .f32⟩
  | .hbm, ⟨4, _⟩ => ⟨S_, .f32⟩
  | .hbm, ⟨5, _⟩ => ⟨S2048x256, .f32⟩
  | .hbm, ⟨6, _⟩ => ⟨S2048x2048, .f32⟩
  | .hbm, ⟨7, _⟩ => ⟨S2048x256, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel18.lean ====
abbrev S2048x256 : Shape := ⟨2, ![2048, 256]⟩
abbrev S2048x2048 : Shape := ⟨2, ![2048, 2048]⟩
abbrev S256x2048 : Shape := ⟨2, ![256, 2048]⟩
abbrev S2048x1024 : Shape := ⟨2, ![2048, 1024]⟩
abbrev S256x1024 : Shape := ⟨2, ![256, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x256, .bf16⟩
  | .hbm, ⟨1, _⟩ => ⟨S2048x2048, .bf16⟩
  | .hbm, ⟨2, _⟩ => ⟨S256x2048, .f32⟩
  | .local _ .vmem, ⟨0, _⟩ => ⟨S2048x256, .bf16⟩
  | .local _ .vmem, ⟨1, _⟩ => ⟨S2048x1024, .bf16⟩
  | .local _ .vmem, ⟨2, _⟩ => ⟨S2048x1024, .bf16⟩
  | .local _ .vmem, ⟨3, _⟩ => ⟨S256x1024, .f32⟩
  | .local _ .vmem, ⟨4, _⟩ => ⟨S256x1024, .f32⟩
  | _, _ => ⟨S2048x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S2048x256 : Shape := ⟨2, ![2048, 256]⟩
abbrev S2048x2048 : Shape := ⟨2, ![2048, 2048]⟩
abbrev S_ : Shape := ⟨0, ![]⟩
abbrev S256x2048 : Shape := ⟨2, ![256, 2048]⟩

abbrev nBuf : Space → Nat
  | .hbm => 9
  | .vmem => 0
  | .smem => 0
  | _ => 0

abbrev bufTy : (tb : Table) → Fin (tcTables nBuf tb) → BufTy
  | .hbm, ⟨0, _⟩ => ⟨S2048x256, .bf16⟩
  | .hbm, ⟨1, _⟩ => ⟨S2048x2048, .bf16⟩
  | .hbm, ⟨2, _⟩ => ⟨S2048x256, .f32⟩
  | .hbm, ⟨3, _⟩ => ⟨S2048x2048, .f32⟩
  | .hbm, ⟨4, _⟩ => ⟨S_, .f32⟩
  | .hbm, ⟨5, _⟩ => ⟨S256x2048, .f32⟩
  | .hbm, ⟨6, _⟩ => ⟨S2048x2048, .f32⟩
  | .hbm, ⟨7, _⟩ => ⟨S2048x256, .f32⟩
  | .hbm, ⟨8, _⟩ => ⟨S256x2048, .f32⟩
  | _, _ => ⟨S2048x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel19.lean ====
abbrev S2048x2048 : Shape := ⟨2, ![2048, 2048]⟩
abbrev S512x2048 : Shape := ⟨2, ![512, 2048]⟩
abbrev S2048x512 : Shape := ⟨2, ![2048, 512]⟩
abbrev S1024x2048 : Shape := ⟨2, ![1024, 2048]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .f32⟩
  | .hbm, ⟨1, _⟩ => ⟨S512x2048, .bf16⟩
  | .hbm, ⟨2, _⟩ => ⟨S2048x512, .f32⟩
  | .local _ .vmem, ⟨0, _⟩ => ⟨S1024x2048, .f32⟩
  | .local _ .vmem, ⟨1, _⟩ => ⟨S1024x2048, .f32⟩
  | .local _ .vmem, ⟨2, _⟩ => ⟨S512x2048, .bf16⟩
  | .local _ .vmem, ⟨3, _⟩ => ⟨S1024x512, .f32⟩
  | .local _ .vmem, ⟨4, _⟩ => ⟨S1024x512, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S2048x2048 : Shape := ⟨2, ![2048, 2048]⟩
abbrev S512x2048 : Shape := ⟨2, ![512, 2048]⟩
abbrev S_ : Shape := ⟨0, ![]⟩
abbrev S2048x512 : Shape := ⟨2, ![2048, 512]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S512x2048, .bf16⟩
  | .hbm, ⟨2, _⟩ => ⟨S512x2048, .f32⟩
  | .hbm, ⟨3, _⟩ => ⟨S_, .f32⟩
  | .hbm, ⟨4, _⟩ => ⟨S2048x512, .f32⟩
  | .hbm, ⟨5, _⟩ => ⟨S2048x2048, .f32⟩
  | .hbm, ⟨6, _⟩ => ⟨S2048x512, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel20.lean ====
abbrev S2048x512 : Shape := ⟨2, ![2048, 512]⟩
abbrev S2048x2048 : Shape := ⟨2, ![2048, 2048]⟩
abbrev S512x2048 : Shape := ⟨2, ![512, 2048]⟩
abbrev S2048x1024 : Shape := ⟨2, ![2048, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x512, .bf16⟩
  | .hbm, ⟨1, _⟩ => ⟨S2048x2048, .f32⟩
  | .hbm, ⟨2, _⟩ => ⟨S512x2048, .f32⟩
  | .local _ .vmem, ⟨0, _⟩ => ⟨S2048x512, .bf16⟩
  | .local _ .vmem, ⟨1, _⟩ => ⟨S2048x1024, .f32⟩
  | .local _ .vmem, ⟨2, _⟩ => ⟨S2048x1024, .f32⟩
  | .local _ .vmem, ⟨3, _⟩ => ⟨S512x1024, .f32⟩
  | .local _ .vmem, ⟨4, _⟩ => ⟨S512x1024, .f32⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference20Ideal.lean ====
abbrev S2048x512 : Shape := ⟨2, ![2048, 512]⟩
abbrev S2048x2048 : Shape := ⟨2, ![2048, 2048]⟩
abbrev S_ : Shape := ⟨0, ![]⟩
abbrev S512x2048 : Shape := ⟨2, ![512, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S2048x2048, .f32⟩
  | .hbm, ⟨2, _⟩ => ⟨S2048x512, .f32⟩
  | .hbm, ⟨3, _⟩ => ⟨S_, .f32⟩
  | .hbm, ⟨4, _⟩ => ⟨S512x2048, .f32⟩
  | .hbm, ⟨5, _⟩ => ⟨S2048x2048, .f32⟩
  | .hbm, ⟨6, _⟩ => ⟨S2048x512, .f32⟩
  | .hbm, ⟨7, _⟩ => ⟨S512x2048, .f32⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel21.lean ====
abbrev S2048x512 : Shape := ⟨2, ![2048, 512]⟩
abbrev S2048x2048 : Shape := ⟨2, ![2048, 2048]⟩
abbrev S1024x512 : Shape := ⟨2, ![1024, 512]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x512, .bf16⟩
  | .hbm, ⟨1, _⟩ => ⟨S2048x512, .bf16⟩
  | .hbm, ⟨2, _⟩ => ⟨S2048x2048, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x1024, .f32⟩
  | .local _ .vmem, ⟨5, _⟩ => ⟨S1024x1024, .f32⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference21Ideal.lean ====
abbrev S2048x512 : Shape := ⟨2, ![2048, 512]⟩
abbrev S_ : Shape := ⟨0, ![]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S2048x512, .bf16⟩
  | .hbm, ⟨2, _⟩ => ⟨S2048x512, .f32⟩
  | .hbm, ⟨3, _⟩ => ⟨S2048x512, .f32⟩
  | .hbm, ⟨4, _⟩ => ⟨S_, .f32⟩
  | .hbm, ⟨5, _⟩ => ⟨S2048x2048, .f32⟩
  | .hbm, ⟨6, _⟩ => ⟨S2048x512, .f32⟩
  | .hbm, ⟨7, _⟩ => ⟨S2048x2048, .f32⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel22.lean ====
abbrev S2048x2048 : Shape := ⟨2, ![2048, 2048]⟩
abbrev S2048x512 : Shape := ⟨2, ![2048, 512]⟩
abbrev S2048x1024 : Shape := ⟨2, ![2048, 1024]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S2048x512, .bf16⟩
  | .hbm, ⟨2, _⟩ => ⟨S2048x512, .f32⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S1024x512, .f32⟩
  | .local _ .vmem, ⟨4, _⟩ => ⟨S1024x512, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference22Ideal.lean ====
abbrev S2048x2048 : Shape := ⟨2, ![2048, 2048]⟩
abbrev S2048x512 : Shape := ⟨2, ![2048, 512]⟩
abbrev S_ : Shape := ⟨0, ![]⟩
abbrev S512x2048 : Shape := ⟨2, ![512, 2048]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x512, .bf16⟩
  | .hbm, ⟨2, _⟩ => ⟨S2048x2048, .f32⟩
  | .hbm, ⟨3, _⟩ => ⟨S2048x512, .f32⟩
  | .hbm, ⟨4, _⟩ => ⟨S_, .f32⟩
  | .hbm, ⟨5, _⟩ => ⟨S2048x512, .f32⟩
  | .hbm, ⟨6, _⟩ => ⟨S2048x512, .f32⟩
  | .hbm, ⟨7, _⟩ => ⟨S512x2048, .f32⟩
  | .hbm, ⟨8, _⟩ => ⟨S2048x512, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel23.lean ====
abbrev S2048x1536 : Shape := ⟨2, ![2048, 1536]⟩
abbrev S2048x2048 : Shape := ⟨2, ![2048, 2048]⟩
abbrev S2048x8x192 : Shape := ⟨3, ![2048, 8, 192]⟩
abbrev S_ : Shape := ⟨0, ![]⟩
abbrev S2048x8x256 : Shape := ⟨3, ![2048, 8, 256]⟩
abbrev S2048x1024 : Shape := ⟨2, ![2048, 1024]⟩
abbrev S512x256 : Shape := ⟨2, ![512, 256]⟩
abbrev S2048x256 : Shape := ⟨2, ![2048, 256]⟩
abbrev S2048x128 : Shape := ⟨2, ![2048, 128]⟩
abbrev S512x128 : Shape := ⟨2, ![512, 128]⟩
abbrev S512x512 : Shape := ⟨2, ![512, 512]⟩
abbrev S512 : Shape := ⟨1, ![512]⟩
abbrev S512x1 : Shape := ⟨2, ![512, 1]⟩
abbrev S1024x256 : Shape := ⟨2, ![1024, 256]⟩
abbrev S512x1024 : Shape := ⟨2, ![512, 1024]⟩
abbrev S1024x128 : Shape := ⟨2, ![1024, 128]⟩
abbrev S1536x256 : Shape := ⟨2, ![1536, 256]⟩
abbrev S512x1536 : Shape := ⟨2, ![512, 1536]⟩
abbrev S1536x128 : Shape := ⟨2, ![1536, 128]⟩
abbrev S512x2048 : Shape := ⟨2, ![512, 2048]⟩

abbrev nBuf : Space → Nat
  | .hbm => 14
  | .vmem => 8
  | .smem => 0
  | _ => 0

abbrev bufTy : (tb : Table) → Fin (tcTables nBuf tb) → BufTy
  | .hbm, ⟨0, _⟩ => ⟨S2048x1536, .bf16⟩
  | .hbm, ⟨1, _⟩ => ⟨S2048x1536, .bf16⟩
  | .hbm, ⟨2, _⟩ => ⟨S2048x2048, .f32⟩
  | .hbm, ⟨3, _⟩ => ⟨S2048x8x192, .bf16⟩
  | .hbm, ⟨4, _⟩ => ⟨S_, .i32⟩
  | .hbm, ⟨5, _⟩ => ⟨S_, .bf16⟩
  | .hbm, ⟨6, _⟩ => ⟨S2048x8x256, .bf16⟩
  | .hbm, ⟨7, _⟩ => ⟨S2048x2048, .bf16⟩
  | .hbm, ⟨8, _⟩ => ⟨S2048x8x192, .bf16⟩
  | .hbm, ⟨9, _⟩ => ⟨S_, .i32⟩
  | .hbm, ⟨10, _⟩ => ⟨S_, .bf16⟩
  | .hbm, ⟨11, _⟩ => ⟨S2048x8x256, .bf16⟩
  | .hbm, ⟨12, _⟩ => ⟨S2048x2048, .bf16⟩
  | .hbm, ⟨13, _⟩ => ⟨S2048x1024, .bf16⟩
  | .local _ .vmem, ⟨0, _⟩ => ⟨S512x256, .bf16⟩
  | .local _ .vmem, ⟨1, _⟩ => ⟨S512x256, .bf16⟩
  | .local _ .vmem, ⟨2, _⟩ => ⟨S2048x256, .bf16⟩
  | .local _ .vmem, ⟨3, _⟩ => ⟨S2048x256, .bf16⟩
  | .local _ .vmem, ⟨4, _⟩ => ⟨S2048x128, .f32⟩
  | .local _ .vmem, ⟨5, _⟩ => ⟨S2048x128, .f32⟩
  | .local _ .vmem, ⟨6, _⟩ => ⟨S512x128, .bf16⟩
  | .local _ .vmem, ⟨7, _⟩ => ⟨S512x128, .bf16⟩
  | _, _ => ⟨S2048x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_call1_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c1_i32 : BitVec 32 := 1#32
  let v3 : BitVec 1 := Scalar.cmpi .eq arg1 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c2_i32 : BitVec 32 := 2#32
  let v6 : BitVec 1 := Scalar.cmpi .eq arg1 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg1 : BitVec 32 := BitVec.ofNat 32 (i 1).val
  let c3_i32 : BitVec 32 := 3#32
  let v9 : BitVec 1 := Scalar.cmpi .eq arg1 c3_i32
  let v10 : BitVec 32 := Scalar.extui v9
  let c0_i32_3 : BitVec 32 := 0#32
  let v11 : BitVec 1 := Scalar.cmpi .ne v10 c0_i32_3
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c1_i32 : BitVec 32 := 1#32
  let v1 : BitVec 32 := Scalar.addi c1_i32 v0
  let c0_i32 : BitVec 32 := 0#32
  let c0_i32_0 : BitVec 32 := 0#32
  ![c0_i32.toNat, v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Kernel23Ideal.lean ====
variable {F : FTy → Type} [FloatOps F] [Named F]
def κ : String → Option EReal := fun
  | "mask" => some ⊥
  | _ => none
-- ==== Reference23Ideal.lean ====
abbrev S2048x1536 : Shape := ⟨2, ![2048, 1536]⟩
abbrev S2048x2048 : Shape := ⟨2, ![2048, 2048]⟩
abbrev S1x2048x8x192 : Shape := ⟨4, ![1, 2048, 8, 192]⟩
abbrev S1x2048x8x256 : Shape := ⟨4, ![1, 2048, 8, 256]⟩
abbrev S1x2048x8x128 : Shape := ⟨4, ![1, 2048, 8, 128]⟩
abbrev S2048 : Shape := ⟨1, ![2048]⟩
abbrev S_ : Shape := ⟨0, ![]⟩
abbrev S1x8x2048x2048 : Shape := ⟨4, ![1, 8, 2048, 2048]⟩
abbrev S1x2048 : Shape := ⟨2, ![1, 2048]⟩
abbrev S2048x1 : Shape := ⟨2, ![2048, 1]⟩
abbrev S1x8x2048 : Shape := ⟨3, ![1, 8, 2048]⟩
abbrev S1x8x2048x1 : Shape := ⟨4, ![1, 8, 2048, 1]⟩
abbrev S1x8x128x2048 : Shape := ⟨4, ![1, 8, 128, 2048]⟩
abbrev S2048x1024 : Shape := ⟨2, ![2048, 1024]⟩

abbrev nBuf : Space → Nat
  | .hbm => 60
  | .vmem => 0
  | .smem => 0
  | _ => 0

abbrev bufTy : (tb : Table) → Fin (tcTables nBuf tb) → BufTy
  | .hbm, ⟨0, _⟩ => ⟨S2048x1536, .bf16⟩
  | .hbm, ⟨1, _⟩ => ⟨S2048x1536, .bf16⟩
  | .hbm, ⟨2, _⟩ => ⟨S2048x2048, .f32⟩
  | .hbm, ⟨3, _⟩ => ⟨S2048x1536, .f32⟩
  | .hbm, ⟨4, _⟩ => ⟨S1x2048x8x192, .f32⟩
  | .hbm, ⟨5, _⟩ => ⟨S2048x1536, .f32⟩
  | .hbm, ⟨6, _⟩ => ⟨S1x2048x8x192, .f32⟩
  | .hbm, ⟨7, _⟩ => ⟨S1x2048x8x256, .f32⟩
  | .hbm, ⟨8, _⟩ => ⟨S1x2048x8x128, .f32⟩
  | .hbm, ⟨9, _⟩ => ⟨S2048, .i32⟩
  | .hbm, ⟨10, _⟩ => ⟨S_, .i32⟩
  | .hbm, ⟨11, _⟩ => ⟨S_, .i32⟩
  | .hbm, ⟨12, _⟩ => ⟨S2048, .i32⟩
  | .hbm, ⟨13, _⟩ => ⟨S2048, .i32⟩
  | .hbm, ⟨14, _⟩ => ⟨S2048, .i32⟩
  | .hbm, ⟨15, _⟩ => ⟨S_, .i32⟩
  | .hbm, ⟨16, _⟩ => ⟨S2048, .i32⟩
  | .hbm, ⟨17, _⟩ => ⟨S2048, .i1⟩
  | .hbm, ⟨18, _⟩ => ⟨S2048, .i32⟩
  | .hbm, ⟨19, _⟩ => ⟨S2048, .i32⟩
  | .hbm, ⟨20, _⟩ => ⟨S_, .i32⟩
  | .hbm, ⟨21, _⟩ => ⟨S2048, .i32⟩
  | .hbm, ⟨22, _⟩ => ⟨S2048, .i1⟩
  | .hbm, ⟨23, _⟩ => ⟨S2048, .i1⟩
  | .hbm, ⟨24, _⟩ => ⟨S_, .i32⟩
  | .hbm, ⟨25, _⟩ => ⟨S2048, .i32⟩
  | .hbm, ⟨26, _⟩ => ⟨S2048, .i32⟩
  | .hbm, ⟨27, _⟩ => ⟨S2048, .i32⟩
  | .hbm, ⟨28, _⟩ => ⟨S1x8x2048x2048, .f32⟩
  | .hbm, ⟨29, _⟩ => ⟨S_, .f32⟩
  | .hbm, ⟨30, _⟩ => ⟨S1x8x2048x2048, .f32⟩
  | .hbm, ⟨31, _⟩ => ⟨S1x8x2048x2048, .f32⟩
  | .hbm, ⟨32, _⟩ => ⟨S1x2048, .i32⟩
  | .hbm, ⟨33, _⟩ => ⟨S2048x1, .i32⟩
  | .hbm, ⟨34, _⟩ => ⟨S2048x2048, .i32⟩
  | .hbm, ⟨35, _⟩ => ⟨S2048x2048, .i32⟩
  | .hbm, ⟨36, _⟩ => ⟨S2048x2048, .i1⟩
  | .hbm, ⟨37, _⟩ => ⟨S_, .f32⟩
  | .hbm, ⟨38, _⟩ => ⟨S_, .f32⟩
  | .hbm, ⟨39, _⟩ => ⟨S1x8x2048x2048, .i1⟩
  | .hbm, ⟨40, _⟩ => ⟨S1x8x2048x2048, .f32⟩
  | .hbm, ⟨41, _⟩ => ⟨S1x8x2048x2048, .f32⟩
  | .hbm, ⟨42, _⟩ => ⟨S_, .f32⟩
  | .hbm, ⟨43, _⟩ => ⟨S1x8x2048, .f32⟩
  | .hbm, ⟨44, _⟩ => ⟨S_, .f32⟩
  | .hbm, ⟨45, _⟩ => ⟨S1x8x2048, .f32⟩
  | .hbm, ⟨46, _⟩ => ⟨S1x8x2048, .f32⟩
  | .hbm, ⟨47, _⟩ => ⟨S1x8x2048x1, .f32⟩
  | .hbm, ⟨48, _⟩ => ⟨S1x8x2048x2048, .f32⟩
  | .hbm, ⟨49, _⟩ => ⟨S1x8x2048x2048, .f32⟩
  | .hbm, ⟨50, _⟩ => ⟨S1x8x2048x2048, .f32⟩
  | .hbm, ⟨51, _⟩ => ⟨S_, .f32⟩
  | .hbm, ⟨52, _⟩ => ⟨S1x8x2048, .f32⟩
  | .hbm, ⟨53, _⟩ => ⟨S1x8x2048x1, .f32⟩
  | .hbm, ⟨54, _⟩ => ⟨S1x8x2048x2048, .f32⟩
  | .hbm, ⟨55, _⟩ => ⟨S1x8x2048x2048, .f32⟩
  | .hbm, ⟨56, _⟩ => ⟨S1x8x128x2048, .f32⟩
  | .hbm, ⟨57, _⟩ => ⟨S1x2048x8x128, .f32⟩
  | .hbm, ⟨58, _⟩ => ⟨S2048x1024, .f32⟩
  | .hbm, ⟨59, _⟩ => ⟨S2048x1024, .bf16⟩
  | _, _ => ⟨S2048x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v7 : Ref sig .tc := ⟨.hbm, 27, rfl⟩
abbrev main_v8 : Ref sig .tc := ⟨.hbm, 28, rfl⟩
abbrev main_cst : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_cst_0 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v16 : Ref sig .tc := ⟨.hbm, 41, rfl⟩
abbrev main_cst_1 : Ref sig .tc := ⟨.hbm, 42, rfl⟩
abbrev main_v17 : Ref sig .tc := ⟨.hbm, 43, rfl⟩
abbrev main_cst_2 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_cst_3 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩

abbrev nD : Nat := 1
abbrev τ : Topo := Topo.v7x

variable {F : FTy → Type} [FloatOps F]
-- ==== Kernel24.lean ====
abbrev S2048x512 : Shape := ⟨2, ![2048, 512]⟩
abbrev S256x512 : Shape := ⟨2, ![256, 512]⟩
abbrev S1024x128 : Shape := ⟨2, ![1024, 128]⟩
abbrev S256x128 : Shape := ⟨2, ![256, 128]⟩
abbrev S1024x256 : Shape := ⟨2, ![1024, 256]⟩
abbrev S1024 : Shape := ⟨1, ![1024]⟩
abbrev S1024x1 : Shape := ⟨2, ![1024, 1]⟩

abbrev nBuf : Space → Nat
  | .hbm => 4
  | .vmem => 8
  | .smem => 0
  | _ => 0

abbrev bufTy : (tb : Table) → Fin (tcTables nBuf tb) → BufTy
  | .hbm, ⟨0, _⟩ => ⟨S2048x512, .bf16⟩
  | .hbm, ⟨1, _⟩ => ⟨S256x512, .bf16⟩
  | .hbm, ⟨2, _⟩ => ⟨S256x512, .f32⟩
  | .hbm, ⟨3, _⟩ => ⟨S2048x512, .bf16⟩
  | .local _ .vmem, ⟨0, _⟩ => ⟨S1024x128, .bf16⟩
  | .local _ .vmem, ⟨1, _⟩ => ⟨S1024x128, .bf16⟩
  | .local _ .vmem, ⟨2, _⟩ => ⟨S256x128, .bf16⟩
  | .local _ .vmem, ⟨3, _⟩ => ⟨S256x128, .bf16⟩
  | .local _ .vmem, ⟨4, _⟩ => ⟨S256x128, .f32⟩
  | .local _ .vmem, ⟨5, _⟩ => ⟨S256x128, .f32⟩
  | .local _ .vmem, ⟨6, _⟩ => ⟨S1024x128, .bf16⟩
  | .local _ .vmem, ⟨7, _⟩ => ⟨S1024x128, .bf16⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.addi c0_i32 v0
  let c0_i32_0 : BitVec 32 := 0#32
  let c0_i32_1 : BitVec 32 := 0#32
  ![c0_i32_0.toNat, v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference24Ideal.lean ====
abbrev S2048x512 : Shape := ⟨2, ![2048, 512]⟩
abbrev S256x512 : Shape := ⟨2, ![256, 512]⟩
abbrev S1x2048x4x128 : Shape := ⟨4, ![1, 2048, 4, 128]⟩
abbrev S1x256x4x128 : Shape := ⟨4, ![1, 256, 4, 128]⟩
abbrev S1x4x2048x256 : Shape := ⟨4, ![1, 4, 2048, 256]⟩
abbrev S_ : Shape := ⟨0, ![]⟩
abbrev S1x4x2048 : Shape := ⟨3, ![1, 4, 2048]⟩
abbrev S1x4x2048x1 : Shape := ⟨4, ![1, 4, 2048, 1]⟩
abbrev S1x4x128x2048 : Shape := ⟨4, ![1, 4, 128, 2048]⟩

abbrev nBuf : Space → Nat
  | .hbm => 30
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S256x512, .bf16⟩
  | .hbm, ⟨2, _⟩ => ⟨S256x512, .f32⟩
  | .hbm, ⟨3, _⟩ => ⟨S2048x512, .f32⟩
  | .hbm, ⟨4, _⟩ => ⟨S1x2048x4x128, .f32⟩
  | .hbm, ⟨5, _⟩ => ⟨S256x512, .f32⟩
  | .hbm, ⟨6, _⟩ => ⟨S1x256x4x128, .f32⟩
  | .hbm, ⟨7, _⟩ => ⟨S1x256x4x128, .f32⟩
  | .hbm, ⟨8, _⟩ => ⟨S1x4x2048x256, .f32⟩
  | .hbm, ⟨9, _⟩ => ⟨S_, .f32⟩
  | .hbm, ⟨10, _⟩ => ⟨S1x4x2048x256, .f32⟩
  | .hbm, ⟨11, _⟩ => ⟨S1x4x2048x256, .f32⟩
  | .hbm, ⟨12, _⟩ => ⟨S_, .f32⟩
  | .hbm, ⟨13, _⟩ => ⟨S1x4x2048, .f32⟩
  | .hbm, ⟨14, _⟩ => ⟨S_, .f32⟩
  | .hbm, ⟨15, _⟩ => ⟨S1x4x2048, .f32⟩
  | .hbm, ⟨16, _⟩ => ⟨S1x4x2048, .f32⟩
  | .hbm, ⟨17, _⟩ => ⟨S1x4x2048x1, .f32⟩
  | .hbm, ⟨18, _⟩ => ⟨S1x4x2048x256, .f32⟩
  | .hbm, ⟨19, _⟩ => ⟨S1x4x2048x256, .f32⟩
  | .hbm, ⟨20, _⟩ => ⟨S1x4x2048x256, .f32⟩
  | .hbm, ⟨21, _⟩ => ⟨S_, .f32⟩
  | .hbm, ⟨22, _⟩ => ⟨S1x4x2048, .f32⟩
  | .hbm, ⟨23, _⟩ => ⟨S1x4x2048x1, .f32⟩
  | .hbm, ⟨24, _⟩ => ⟨S1x4x2048x256, .f32⟩
  | .hbm, ⟨25, _⟩ => ⟨S1x4x2048x256, .f32⟩
  | .hbm, ⟨26, _⟩ => ⟨S1x4x128x2048, .f32⟩
  | .hbm, ⟨27, _⟩ => ⟨S1x2048x4x128, .f32⟩
  | .hbm, ⟨28, _⟩ => ⟨S2048x512, .f32⟩
  | .hbm, ⟨29, _⟩ => ⟨S2048x512, .bf16⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]
-- ==== Kernel25.lean ====
abbrev S2048x2048 : Shape := ⟨2, ![2048, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 8
  | .vmem => 12
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S2048x2048, .f32⟩
  | .hbm, ⟨3, _⟩ => ⟨S2048x2048, .f32⟩
  | .hbm, ⟨4, _⟩ => ⟨S1x2048, .f32⟩
  | .hbm, ⟨5, _⟩ => ⟨S2048x2048, .f32⟩
  | .hbm, ⟨6, _⟩ => ⟨S2048x2048, .bf16⟩
  | .hbm, ⟨7, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v42 : BitVec 1 := Scalar.cmpi .eq arg0 c0_i32
  let v43 : BitVec 32 := Scalar.extui v42
  let c0_i32_18 : BitVec 32 := 0#32
  let v44 : BitVec 1 := Scalar.cmpi .ne v43 c0_i32_18
  v44

def k0_cond2 (i : grid0.Coords) : BitVec 1 :=
  let arg0 : BitVec 32 := BitVec.ofNat 32 (i 0).val
  let c0_i32_19 : BitVec 32 := 0#32
  let v45 : BitVec 1 := Scalar.cmpi .sgt arg0 c0_i32_19
  let v46 : BitVec 32 := Scalar.extui v45
  let c0_i32_20 : BitVec 32 := 0#32
  let v47 : BitVec 1 := Scalar.cmpi .ne v46 c0_i32_20
  v47

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference25Ideal.lean ====
abbrev S2048x2048 : Shape := ⟨2, ![2048, 2048]⟩
abbrev S2048 : Shape := ⟨1, ![2048]⟩
abbrev S_ : Shape := ⟨0, ![]⟩
abbrev S2048x1 : Shape := ⟨2, ![2048, 1]⟩
abbrev S1x2048 : Shape := ⟨2, ![1, 2048]⟩

abbrev nBuf : Space → Nat
  | .hbm => 52
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x2048, .f32⟩
  | .hbm, ⟨20, _⟩ => ⟨S2048x2048, .f32⟩
  | .hbm, ⟨21, _⟩ => ⟨S1x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048, .f32⟩
  | .hbm, ⟨32, _⟩ => ⟨S2048x2048, .f32⟩
  | .hbm, ⟨33, _⟩ => ⟨S_, .f32⟩
  | .hbm, ⟨34, _⟩ => ⟨S2048, .f32⟩
  | .hbm, ⟨35, _⟩ => ⟨S2048x1, .f32⟩
  | .hbm, ⟨36, _⟩ => ⟨S2048x2048, .f32⟩
  | .hbm, ⟨37, _⟩ => ⟨S2048x2048, .f32⟩
  | .hbm, ⟨38, _⟩ => ⟨S2048x2048, .f32⟩
  | .hbm, ⟨39, _⟩ => ⟨S2048x1, .f32⟩
  | .hbm, ⟨40, _⟩ => ⟨S_, .f32⟩
  | .hbm, ⟨41, _⟩ => ⟨S2048x1, .f32⟩
  | .hbm, ⟨42, _⟩ => ⟨S2048x1, .f32⟩
  | .hbm, ⟨43, _⟩ => ⟨S_, .f32⟩
  | .hbm, ⟨44, _⟩ => ⟨S2048, .f32⟩
  | .hbm, ⟨45, _⟩ => ⟨S2048x2048, .f32⟩
  | .hbm, ⟨46, _⟩ => ⟨S2048x2048, .f32⟩
  | .hbm, ⟨47, _⟩ => ⟨S2048x2048, .f32⟩
  | .hbm, ⟨48, _⟩ => ⟨S2048x2048, .f32⟩
  | .hbm, ⟨49, _⟩ => ⟨S2048x2048, .f32⟩
  | .hbm, ⟨50, _⟩ => ⟨S2048x2048, .bf16⟩
  | .hbm, ⟨51, _⟩ => ⟨S1x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Kernel26.lean ====
abbrev S256x512 : Shape := ⟨2, ![256, 512]⟩
abbrev S2048x512 : Shape := ⟨2, ![2048, 512]⟩
abbrev S256x2048 : Shape := ⟨2, ![256, 2048]⟩
abbrev S1024x512 : Shape := ⟨2, ![1024, 512]⟩
abbrev S256x1024 : Shape := ⟨2, ![256, 1024]⟩

abbrev nBuf : Space → Nat
  | .hbm => 5
  | .vmem => 8
  | .smem => 0
  | _ => 0

abbrev bufTy : (tb : Table) → Fin (tcTables nBuf tb) → BufTy
  | .hbm, ⟨0, _⟩ => ⟨S256x512, .bf16⟩
  | .hbm, ⟨1, _⟩ => ⟨S256x512, .f32⟩
  | .hbm, ⟨2, _⟩ => ⟨S2048x512, .bf16⟩
  | .hbm, ⟨3, _⟩ => ⟨S2048x512, .bf16⟩
  | .hbm, ⟨4, _⟩ => ⟨S256x2048, .f32⟩
  | .local _ .vmem, ⟨0, _⟩ => ⟨S256x512, .bf16⟩
  | .local _ .vmem, ⟨1, _⟩ => ⟨S1024x512, .bf16⟩
  | .local _ .vmem, ⟨2, _⟩ => ⟨S1024x512, .bf16⟩
  | .local _ .vmem, ⟨3, _⟩ => ⟨S256x512, .f32⟩
  | .local _ .vmem, ⟨4, _⟩ => ⟨S1024x512, .bf16⟩
  | .local _ .vmem, ⟨5, _⟩ => ⟨S1024x512, .bf16⟩
  | .local _ .vmem, ⟨6, _⟩ => ⟨S256x1024, .f32⟩
  | .local _ .vmem, ⟨7, _⟩ => ⟨S256x1024, .f32⟩
  | _, _ => ⟨S256x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference26Ideal.lean ====
abbrev S256x512 : Shape := ⟨2, ![256, 512]⟩
abbrev S2048x512 : Shape := ⟨2, ![2048, 512]⟩
abbrev S_ : Shape := ⟨0, ![]⟩
abbrev S256x2048 : Shape := ⟨2, ![256, 2048]⟩

abbrev nBuf : Space → Nat
  | .hbm => 14
  | .vmem => 0
  | .smem => 0
  | _ => 0

abbrev bufTy : (tb : Table) → Fin (tcTables nBuf tb) → BufTy
  | .hbm, ⟨0, _⟩ => ⟨S256x512, .bf16⟩
  | .hbm, ⟨1, _⟩ => ⟨S256x512, .f32⟩
  | .hbm, ⟨2, _⟩ => ⟨S2048x512, .bf16⟩
  | .hbm, ⟨3, _⟩ => ⟨S2048x512, .bf16⟩
  | .hbm, ⟨4, _⟩ => ⟨S256x512, .f32⟩
  | .hbm, ⟨5, _⟩ => ⟨S2048x512, .f32⟩
  | .hbm, ⟨6, _⟩ => ⟨S2048x512, .f32⟩
  | .hbm, ⟨7, _⟩ => ⟨S_, .f32⟩
  | .hbm, ⟨8, _⟩ => ⟨S256x2048, .f32⟩
  | .hbm, ⟨9, _⟩ => ⟨S256x512, .f32⟩
  | .hbm, ⟨10, _⟩ => ⟨S256x512, .f32⟩
  | .hbm, ⟨11, _⟩ => ⟨S256x2048, .f32⟩
  | .hbm, ⟨12, _⟩ => ⟨S256x2048, .f32⟩
  | .hbm, ⟨13, _⟩ => ⟨S256x2048, .f32⟩
  | _, _ => ⟨S256x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Kernel27.lean ====
abbrev S256x2048 : Shape := ⟨2, ![256, 2048]⟩
abbrev S256x512 : Shape := ⟨2, ![256, 512]⟩
abbrev S2048x512 : Shape := ⟨2, ![2048, 512]⟩
abbrev S256x1024 : Shape := ⟨2, ![256, 1024]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S256x2048, .bf16⟩
  | .hbm, ⟨1, _⟩ => ⟨S256x512, .bf16⟩
  | .hbm, ⟨2, _⟩ => ⟨S2048x512, .f32⟩
  | .local _ .vmem, ⟨0, _⟩ => ⟨S256x1024, .bf16⟩
  | .local _ .vmem, ⟨1, _⟩ => ⟨S256x1024, .bf16⟩
  | .local _ .vmem, ⟨2, _⟩ => ⟨S256x512, .bf16⟩
  | .local _ .vmem, ⟨3, _⟩ => ⟨S1024x512, .f32⟩
  | .local _ .vmem, ⟨4, _⟩ => ⟨S1024x512, .f32⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference27Ideal.lean ====
abbrev S256x2048 : Shape := ⟨2, ![256, 2048]⟩
abbrev S256x512 : Shape := ⟨2, ![256, 512]⟩
abbrev S_ : Shape := ⟨0, ![]⟩
abbrev S2048x512 : Shape := ⟨2, ![2048, 512]⟩
abbrev S512x2048 : Shape := ⟨2, ![512, 2048]⟩

abbrev nBuf : Space → Nat
  | .hbm => 9
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S256x512, .bf16⟩
  | .hbm, ⟨2, _⟩ => ⟨S256x2048, .f32⟩
  | .hbm, ⟨3, _⟩ => ⟨S256x512, .f32⟩
  | .hbm, ⟨4, _⟩ => ⟨S_, .f32⟩
  | .hbm, ⟨5, _⟩ => ⟨S2048x512, .f32⟩
  | .hbm, ⟨6, _⟩ => ⟨S256x512, .f32⟩
  | .hbm, ⟨7, _⟩ => ⟨S512x2048, .f32⟩
  | .hbm, ⟨8, _⟩ => ⟨S2048x512, .f32⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel28.lean ====
abbrev S256x2048 : Shape := ⟨2, ![256, 2048]⟩
abbrev S256x512 : Shape := ⟨2, ![256, 512]⟩
abbrev S2048x512 : Shape := ⟨2, ![2048, 512]⟩
abbrev S256x1024 : Shape := ⟨2, ![256, 1024]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S256x2048, .bf16⟩
  | .hbm, ⟨1, _⟩ => ⟨S256x512, .f32⟩
  | .hbm, ⟨2, _⟩ => ⟨S2048x512, .f32⟩
  | .local _ .vmem, ⟨0, _⟩ => ⟨S256x1024, .bf16⟩
  | .local _ .vmem, ⟨1, _⟩ => ⟨S256x1024, .bf16⟩
  | .local _ .vmem, ⟨2, _⟩ => ⟨S256x512, .f32⟩
  | .local _ .vmem, ⟨3, _⟩ => ⟨S1024x512, .f32⟩
  | .local _ .vmem, ⟨4, _⟩ => ⟨S1024x512, .f32⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference28Ideal.lean ====
abbrev S256x2048 : Shape := ⟨2, ![256, 2048]⟩
abbrev S256x512 : Shape := ⟨2, ![256, 512]⟩
abbrev S_ : Shape := ⟨0, ![]⟩
abbrev S2048x512 : Shape := ⟨2, ![2048, 512]⟩
abbrev S512x2048 : Shape := ⟨2, ![512, 2048]⟩

abbrev nBuf : Space → Nat
  | .hbm => 8
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S256x512, .f32⟩
  | .hbm, ⟨2, _⟩ => ⟨S256x2048, .f32⟩
  | .hbm, ⟨3, _⟩ => ⟨S_, .f32⟩
  | .hbm, ⟨4, _⟩ => ⟨S2048x512, .f32⟩
  | .hbm, ⟨5, _⟩ => ⟨S256x512, .f32⟩
  | .hbm, ⟨6, _⟩ => ⟨S512x2048, .f32⟩
  | .hbm, ⟨7, _⟩ => ⟨S2048x512, .f32⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel29.lean ====
abbrev S2048x512 : Shape := ⟨2, ![2048, 512]⟩
abbrev S512x2048 : Shape := ⟨2, ![512, 2048]⟩
abbrev S2048x2048 : Shape := ⟨2, ![2048, 2048]⟩
abbrev S1024x512 : Shape := ⟨2, ![1024, 512]⟩
abbrev S512x1024 : Shape := ⟨2, ![512, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x512, .bf16⟩
  | .hbm, ⟨1, _⟩ => ⟨S512x2048, .bf16⟩
  | .hbm, ⟨2, _⟩ => ⟨S2048x2048, .f32⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .f32⟩
  | .local _ .vmem, ⟨5, _⟩ => ⟨S1024x1024, .f32⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference29Ideal.lean ====
abbrev S2048x512 : Shape := ⟨2, ![2048, 512]⟩
abbrev S512x2048 : Shape := ⟨2, ![512, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S512x2048, .bf16⟩
  | .hbm, ⟨2, _⟩ => ⟨S2048x512, .f32⟩
  | .hbm, ⟨3, _⟩ => ⟨S512x2048, .f32⟩
  | .hbm, ⟨4, _⟩ => ⟨S2048x2048, .f32⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel30.lean ====
abbrev S2048x256 : Shape := ⟨2, ![2048, 256]⟩
abbrev S256x2048 : Shape := ⟨2, ![256, 2048]⟩
abbrev S2048x2048 : Shape := ⟨2, ![2048, 2048]⟩
abbrev S1024x256 : Shape := ⟨2, ![1024, 256]⟩
abbrev S256x1024 : Shape := ⟨2, ![256, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x256, .bf16⟩
  | .hbm, ⟨1, _⟩ => ⟨S256x2048, .bf16⟩
  | .hbm, ⟨2, _⟩ => ⟨S2048x2048, .f32⟩
  | .local _ .vmem, ⟨0, _⟩ => ⟨S1024x256, .bf16⟩
  | .local _ .vmem, ⟨1, _⟩ => ⟨S1024x256, .bf16⟩
  | .local _ .vmem, ⟨2, _⟩ => ⟨S256x1024, .bf16⟩
  | .local _ .vmem, ⟨3, _⟩ => ⟨S256x1024, .bf16⟩
  | .local _ .vmem, ⟨4, _⟩ => ⟨S1024x1024, .f32⟩
  | .local _ .vmem, ⟨5, _⟩ => ⟨S1024x1024, .f32⟩
  | _, _ => ⟨S2048x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference30Ideal.lean ====
abbrev S2048x256 : Shape := ⟨2, ![2048, 256]⟩
abbrev S256x2048 : Shape := ⟨2, ![256, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x256, .bf16⟩
  | .hbm, ⟨1, _⟩ => ⟨S256x2048, .bf16⟩
  | .hbm, ⟨2, _⟩ => ⟨S2048x256, .f32⟩
  | .hbm, ⟨3, _⟩ => ⟨S256x2048, .f32⟩
  | .hbm, ⟨4, _⟩ => ⟨S2048x2048, .f32⟩
  | _, _ => ⟨S2048x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel31.lean ====
abbrev S2048x2048 : Shape := ⟨2, ![2048, 2048]⟩
abbrev S2048x512 : Shape := ⟨2, ![2048, 512]⟩
abbrev S1024x2048 : Shape := ⟨2, ![1024, 2048]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S2048x512, .bf16⟩
  | .hbm, ⟨2, _⟩ => ⟨S2048x512, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S1024x512, .f32⟩
  | .local _ .vmem, ⟨4, _⟩ => ⟨S1024x512, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference31Ideal.lean ====
abbrev S2048x2048 : Shape := ⟨2, ![2048, 2048]⟩
abbrev S2048x512 : Shape := ⟨2, ![2048, 512]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x512, .bf16⟩
  | .hbm, ⟨2, _⟩ => ⟨S2048x2048, .f32⟩
  | .hbm, ⟨3, _⟩ => ⟨S2048x512, .f32⟩
  | .hbm, ⟨4, _⟩ => ⟨S2048x512, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel32.lean ====
abbrev S256x2048 : Shape := ⟨2, ![256, 2048]⟩
abbrev S2048x512 : Shape := ⟨2, ![2048, 512]⟩
abbrev S256x512 : Shape := ⟨2, ![256, 512]⟩

abbrev nBuf : Space → Nat
  | .hbm => 3
  | .vmem => 3
  | .smem => 0
  | _ => 0

abbrev bufTy : (tb : Table) → Fin (tcTables nBuf tb) → BufTy
  | .hbm, ⟨0, _⟩ => ⟨S256x2048, .bf16⟩
  | .hbm, ⟨1, _⟩ => ⟨S2048x512, .bf16⟩
  | .hbm, ⟨2, _⟩ => ⟨S256x512, .f32⟩
  | .local _ .vmem, ⟨0, _⟩ => ⟨S256x2048, .bf16⟩
  | .local _ .vmem, ⟨1, _⟩ => ⟨S2048x512, .bf16⟩
  | .local _ .vmem, ⟨2, _⟩ => ⟨S256x512, .f32⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference32Ideal.lean ====
abbrev S256x2048 : Shape := ⟨2, ![256, 2048]⟩
abbrev S2048x512 : Shape := ⟨2, ![2048, 512]⟩
abbrev S256x512 : Shape := ⟨2, ![256, 512]⟩

abbrev nBuf : Space → Nat
  | .hbm => 5
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S2048x512, .bf16⟩
  | .hbm, ⟨2, _⟩ => ⟨S256x2048, .f32⟩
  | .hbm, ⟨3, _⟩ => ⟨S2048x512, .f32⟩
  | .hbm, ⟨4, _⟩ => ⟨S256x512, .f32⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel33.lean ====
abbrev S2048x512 : Shape := ⟨2, ![2048, 512]⟩
abbrev S512x2048 : Shape := ⟨2, ![512, 2048]⟩
abbrev S2048x2048 : Shape := ⟨2, ![2048, 2048]⟩
abbrev S1024x512 : Shape := ⟨2, ![1024, 512]⟩
abbrev S512x1024 : Shape := ⟨2, ![512, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S2048x512, .bf16⟩
  | .hbm, ⟨1, _⟩ => ⟨S512x2048, .bf16⟩
  | .hbm, ⟨2, _⟩ => ⟨S2048x2048, .f32⟩
  | .hbm, ⟨3, _⟩ => ⟨S2048x2048, .f32⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference33Ideal.lean ====
abbrev S2048x512 : Shape := ⟨2, ![2048, 512]⟩
abbrev S512x2048 : Shape := ⟨2, ![512, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S512x2048, .bf16⟩
  | .hbm, ⟨2, _⟩ => ⟨S2048x2048, .f32⟩
  | .hbm, ⟨3, _⟩ => ⟨S2048x512, .f32⟩
  | .hbm, ⟨4, _⟩ => ⟨S512x2048, .f32⟩
  | .hbm, ⟨5, _⟩ => ⟨S2048x2048, .f32⟩
  | .hbm, ⟨6, _⟩ => ⟨S2048x2048, .f32⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel34.lean ====
abbrev S2048x512 : Shape := ⟨2, ![2048, 512]⟩
abbrev S2048x1024 : Shape := ⟨2, ![2048, 1024]⟩
abbrev S64x64 : Shape := ⟨2, ![64, 64]⟩
abbrev S_ : Shape := ⟨0, ![]⟩
abbrev S2048x1536 : Shape := ⟨2, ![2048, 1536]⟩
abbrev S2048x4096 : Shape := ⟨2, ![2048, 4096]⟩
abbrev S4x32x256x128 : Shape := ⟨4, ![4, 32, 256, 128]⟩
abbrev S64x512 : Shape := ⟨2, ![64, 512]⟩
abbrev S64x1024 : Shape := ⟨2, ![64, 1024]⟩
abbrev S4x1x256x128 : Shape := ⟨4, ![4, 1, 256, 128]⟩
abbrev S4x256x128 : Shape := ⟨3, ![4, 256, 128]⟩
abbrev S64x128 : Shape := ⟨2, ![64, 128]⟩
abbrev S64x256 : Shape := ⟨2, ![64, 256]⟩
abbrev S128 : Shape := ⟨1, ![128]⟩
abbrev S1x128 : Shape := ⟨2, ![1, 128]⟩
abbrev S256x128 : Shape := ⟨2, ![256, 128]⟩
abbrev S1x256x128 : Shape := ⟨3, ![1, 256, 128]⟩
abbrev S1x1x256x128 : Shape := ⟨4, ![1, 1, 256, 128]⟩

abbrev nBuf : Space → Nat
  | .hbm => 12
  | .vmem => 14
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x1024, .f32⟩
  | .hbm, ⟨3, _⟩ => ⟨S2048x512, .f32⟩
  | .hbm, ⟨4, _⟩ => ⟨S64x64, .f32⟩
  | .hbm, ⟨5, _⟩ => ⟨S_, .f32⟩
  | .hbm, ⟨6, _⟩ => ⟨S2048x1536, .f32⟩
  | .hbm, ⟨7, _⟩ => ⟨S_, .f32⟩
  | .hbm, ⟨8, _⟩ => ⟨S2048x512, .f32⟩
  | .hbm, ⟨9, _⟩ => ⟨S2048x4096, .f32⟩
  | .hbm, ⟨10, _⟩ => ⟨S2048x1024, .f32⟩
  | .hbm, ⟨11, _⟩ => ⟨S4x32x256x128, .f32⟩
  | .local _ .vmem, ⟨0, _⟩ => ⟨S64x512, .f32⟩
  | .local _ .vmem, ⟨1, _⟩ => ⟨S64x512, .f32⟩
  | .local _ .vmem, ⟨2, _⟩ => ⟨S64x512, .f32⟩
  | .local _ .vmem, ⟨3, _⟩ => ⟨S64x512, .f32⟩
  | .local _ .vmem, ⟨4, _⟩ => ⟨S64x1024, .f32⟩
  | .local _ .vmem, ⟨5, _⟩ => ⟨S64x1024, .f32⟩
  | .local _ .vmem, ⟨6, _⟩ => ⟨S64x512, .f32⟩
  | .local _ .vmem, ⟨7, _⟩ => ⟨S64x512, .f32⟩
  | .local _ .vmem, ⟨8, _⟩ => ⟨S64x64, .f32⟩
  | .local _ .vmem, ⟨9, _⟩ => ⟨S64x1024, .f32⟩
  | .local _ .vmem, ⟨10, _⟩ => ⟨S64x1024, .f32⟩
  | .local _ .vmem, ⟨11, _⟩ => ⟨S4x1x256x128, .f32⟩
  | .local _ .vmem, ⟨12, _⟩ => ⟨S4x1x256x128, .f32⟩
  | .local _ .vmem, ⟨13, _⟩ => ⟨S4x256x128, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_v0 : Ref sig .tc := ⟨.hbm, 6, rfl⟩
abbrev main_cst_1 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_1 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x1x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference34Ideal.lean ====
abbrev S2048x512 : Shape := ⟨2, ![2048, 512]⟩
abbrev S2048x1024 : Shape := ⟨2, ![2048, 1024]⟩
abbrev S32x64x4x128 : Shape := ⟨4, ![32, 64, 4, 128]⟩
abbrev S_ : Shape := ⟨0, ![]⟩
abbrev S32x1x4x128 : Shape := ⟨4, ![32, 1, 4, 128]⟩
abbrev S32x4x128 : Shape := ⟨3, ![32, 4, 128]⟩
abbrev S32x64x4x256 : Shape := ⟨4, ![32, 64, 4, 256]⟩
abbrev S32x4x128x256 : Shape := ⟨4, ![32, 4, 128, 256]⟩
abbrev S4x128x256 : Shape := ⟨3, ![4, 128, 256]⟩
abbrev S1x4x128 : Shape := ⟨3, ![1, 4, 128]⟩
abbrev S4x128 : Shape := ⟨2, ![4, 128]⟩
abbrev S1x4x128x256 : Shape := ⟨4, ![1, 4, 128, 256]⟩
abbrev S4x128x1 : Shape := ⟨3, ![4, 128, 1]⟩
abbrev S32x4x256x64 : Shape := ⟨4, ![32, 4, 256, 64]⟩
abbrev S4x32x256x128 : Shape := ⟨4, ![4, 32, 256, 128]⟩

abbrev nBuf : Space → Nat
  | .hbm => 59
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x1024, .f32⟩
  | .hbm, ⟨3, _⟩ => ⟨S2048x512, .f32⟩
  | .hbm, ⟨4, _⟩ => ⟨S32x64x4x128, .f32⟩
  | .hbm, ⟨5, _⟩ => ⟨S_, .f32⟩
  | .hbm, ⟨6, _⟩ => ⟨S_, .f32⟩
  | .hbm, ⟨7, _⟩ => ⟨S32x64x4x128, .f32⟩
  | .hbm, ⟨8, _⟩ => ⟨S32x1x4x128, .f32⟩
  | .hbm, ⟨9, _⟩ => ⟨S32x4x128, .f32⟩
  | .hbm, ⟨10, _⟩ => ⟨S32x64x4x128, .f32⟩
  | .hbm, ⟨11, _⟩ => ⟨S32x1x4x128, .f32⟩
  | .hbm, ⟨12, _⟩ => ⟨S32x64x4x128, .f32⟩
  | .hbm, ⟨13, _⟩ => ⟨S32x64x4x128, .f32⟩
  | .hbm, ⟨14, _⟩ => ⟨S32x64x4x128, .f32⟩
  | .hbm, ⟨15, _⟩ => ⟨S32x64x4x128, .f32⟩
  | .hbm, ⟨16, _⟩ => ⟨S32x64x4x256, .f32⟩
  | .hbm, ⟨17, _⟩ => ⟨S32x4x128x256, .f32⟩
  | .hbm, ⟨18, _⟩ => ⟨S_, .f32⟩
  | .hbm, ⟨19, _⟩ => ⟨S4x128x256, .f32⟩
  | .hbm, ⟨20, _⟩ => ⟨S32x4x128, .f32⟩
  | .hbm, ⟨21, _⟩ => ⟨S_, .f32⟩
  | .hbm, ⟨22, _⟩ => ⟨S32x4x128x256, .f32⟩
  | .hbm, ⟨23, _⟩ => ⟨S_, .i32⟩
  | .hbm, ⟨24, _⟩ => ⟨S32x4x128, .f32⟩
  | .hbm, ⟨25, _⟩ => ⟨S32x4x128x256, .f32⟩
  | .hbm, ⟨26, _⟩ => ⟨S_, .i32⟩
  | .hbm, ⟨27, _⟩ => ⟨S4x128x256, .f32⟩
  | .hbm, ⟨28, _⟩ => ⟨S32x4x128x256, .f32⟩
  | .hbm, ⟨29, _⟩ => ⟨S_, .i32⟩
  | .hbm, ⟨30, _⟩ => ⟨S_, .i1⟩
  | .hbm, ⟨31, _⟩ => ⟨S_, .i32⟩
  | .hbm, ⟨32, _⟩ => ⟨S_, .i32⟩
  | .hbm, ⟨33, _⟩ => ⟨S1x4x128, .f32⟩
  | .hbm, ⟨34, _⟩ => ⟨S4x128, .f32⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S1x4x128x256, .f32⟩
  | .hbm, ⟨39, _⟩ => ⟨S4x128x256, .f32⟩
  | .hbm, ⟨40, _⟩ => ⟨S4x128x1, .f32⟩
  | .hbm, ⟨41, _⟩ => ⟨S4x128x256, .f32⟩
  | .hbm, ⟨42, _⟩ => ⟨S4x128x256, .f32⟩
  | .hbm, ⟨43, _⟩ => ⟨S4x128x256, .f32⟩
  | .hbm, ⟨44, _⟩ => ⟨S1x4x128x256, .f32⟩
  | .hbm, ⟨45, _⟩ => ⟨S_, .i32⟩
  | .hbm, ⟨46, _⟩ => ⟨S_, .i32⟩
  | .hbm, ⟨47, _⟩ => ⟨S_, .i32⟩
  | .hbm, ⟨48, _⟩ => ⟨S32x4x128x256, .f32⟩
  | .hbm, ⟨49, _⟩ => ⟨S_, .i32⟩
  | .hbm, ⟨50, _⟩ => ⟨S_, .i32⟩
  | .hbm, ⟨51, _⟩ => ⟨S32x64x4x128, .f32⟩
  | .hbm, ⟨52, _⟩ => ⟨S_, .f32⟩
  | .hbm, ⟨53, _⟩ => ⟨S32x64x4x128, .f32⟩
  | .hbm, ⟨54, _⟩ => ⟨S32x64x4x128, .f32⟩
  | .hbm, ⟨55, _⟩ => ⟨S32x4x256x64, .f32⟩
  | .hbm, ⟨56, _⟩ => ⟨S32x64x4x256, .f32⟩
  | .hbm, ⟨57, _⟩ => ⟨S2048x1024, .f32⟩
  | .hbm, ⟨58, _⟩ => ⟨S4x32x256x128, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_call0_cst : Ref sig .tc := ⟨.hbm, 5, rfl⟩
abbrev main_call0_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_c : Ref sig .tc := ⟨.hbm, 23, rfl⟩
abbrev main_v15_0 : Ref sig .tc := ⟨.hbm, 24, rfl⟩
abbrev main_v15_1 : Ref sig .tc := ⟨.hbm, 25, rfl⟩
abbrev main_v15_2 : Ref sig .tc := ⟨.hbm, 26, rfl⟩
abbrev main_v15_3 : Ref sig .tc := ⟨.hbm, 27, rfl⟩
abbrev main_v15_4 : Ref sig .tc := ⟨.hbm, 28, rfl⟩
abbrev main_while0c_c_6 : Ref sig .tc := ⟨.hbm, 29, rfl⟩
abbrev main_while0c_v23 : Ref sig .tc := ⟨.hbm, 30, rfl⟩
abbrev main_while0b_call1_c : Ref sig .tc := ⟨.hbm, 31, rfl⟩
abbrev main_while0b_call1_c_0 : Ref sig .tc := ⟨.hbm, 32, rfl⟩
abbrev main_while0b_call1_v0 : Ref sig .tc := ⟨.hbm, 33, rfl⟩
abbrev main_while0b_v23 : Ref sig .tc := ⟨.hbm, 34, rfl⟩
abbrev main_while0b_call2_c : Ref sig .tc := ⟨.hbm, 35, rfl⟩
abbrev main_while0b_call2_c_0 : Ref sig .tc := ⟨.hbm, 36, rfl⟩
abbrev main_while0b_call2_c_1 : Ref sig .tc := ⟨.hbm, 37, rfl⟩
abbrev main_while0b_call2_v0 : Ref sig .tc := ⟨.hbm, 38, rfl⟩
abbrev main_while0b_v24 : Ref sig .tc := ⟨.hbm, 39, rfl⟩
abbrev main_while0b_v25 : Ref sig .tc := ⟨.hbm, 40, rfl⟩
abbrev main_while0b_v26 : Ref sig .tc := ⟨.hbm, 41, rfl⟩
abbrev main_while0b_v27 : Ref sig .tc := ⟨.hbm, 42, rfl⟩
abbrev main_while0b_v28 : Ref sig .tc := ⟨.hbm, 43, rfl⟩
abbrev main_while0b_call3_v0 : Ref sig .tc := ⟨.hbm, 44, rfl⟩
abbrev main_while0b_call3_c : Ref sig .tc := ⟨.hbm, 45, rfl⟩
abbrev main_while0b_call3_c_0 : Ref sig .tc := ⟨.hbm, 46, rfl⟩
abbrev main_while0b_call3_c_1 : Ref sig .tc := ⟨.hbm, 47, rfl⟩
abbrev main_while0b_v29 : Ref sig .tc := ⟨.hbm, 48, rfl⟩
abbrev main_while0b_c_6 : Ref sig .tc := ⟨.hbm, 49, rfl⟩
abbrev main_while0b_v30 : Ref sig .tc := ⟨.hbm, 50, rfl⟩
abbrev main_v16 : Ref sig .tc := ⟨.hbm, 51, rfl⟩
abbrev main_cst_1 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩

abbrev nD : Nat := 1
abbrev τ : Topo := Topo.v7x

variable {F : FTy → Type} [FloatOps F]

abbrev main_while0_count : Scf.Loop 32 := ⟨0#32, 32#32, 1#32⟩
-- ==== Proof.Ext.lean ====
module

public import Idealize.ShloMosaic.Lib.Pointwise
public import Idealize.ShloMosaic.PureOps.Ideal
public import Idealize.ShloMosaic.Lib.ReduceAll

@[expose] public section

set_option maxRecDepth 16384

noncomputable section

open Idealize.ShloMosaic
open scoped BigOperators

/-! Extended reals: values that are real numbers, and sums of them. -/

namespace Cert.Ext

/-- A value that is a real number. -/
def IsReal (x : EReal) : Prop := ∃ r : ℝ, x = (r : EReal)

theorem coe_sum {n : ℕ} (f : Fin n → ℝ) : ((∑ k, f k : ℝ) : EReal) = ∑ k, (f k : EReal) :=
  map_sum (⟨⟨Real.toEReal, EReal.coe_zero⟩, EReal.coe_add⟩ : ℝ →+ EReal) f Finset.univ

theorem IsReal.sum {n : ℕ} {f : Fin n → EReal} (h : ∀ k, IsReal (f k)) : IsReal (∑ k, f k) := by
  choose g hg using h
  exact ⟨∑ k, g k, by rw [coe_sum]; exact Finset.sum_congr rfl fun k _ => hg k⟩

theorem IsReal.mul {x y : EReal} (hx : IsReal x) (hy : IsReal y) : IsReal (x * y) := by
  obtain ⟨a, rfl⟩ := hx; obtain ⟨b, rfl⟩ := hy
  exact ⟨a * b, (EReal.coe_mul a b).symm⟩

theorem IsReal.sub {x y : EReal} (hx : IsReal x) (hy : IsReal y) : IsReal (x - y) := by
  obtain ⟨a, rfl⟩ := hx; obtain ⟨b, rfl⟩ := hy
  exact ⟨a - b, (EReal.coe_sub a b).symm⟩

theorem IsReal.add {x y : EReal} (hx : IsReal x) (hy : IsReal y) : IsReal (x + y) := by
  obtain ⟨a, rfl⟩ := hx; obtain ⟨b, rfl⟩ := hy
  exact ⟨a + b, (EReal.coe_add a b).symm⟩

/-- The constant `0.5`. -/
theorem half_eq : Ideal.ofBits FTy.f32 1056964608#32 = (((1 / 2 : ℝ)) : EReal) := by
  simp [Ideal.ofBits, Ideal.ieee]
  rw [← EReal.coe_mul]
  norm_num

/-- The constant `-∞`. -/
theorem negInf_eq : Ideal.ofBits FTy.f32 4286578688#32 = ⊥ := by
  simp [Ideal.ofBits, Ideal.ieee]

/-- A nonnegative real factor passes through a finite sum of extended reals. -/
theorem mul_sum_of_nonneg {n : ℕ} {r : ℝ} (hr : 0 ≤ r) (f : Fin n → EReal) :
    (r : EReal) * ∑ k, f k = ∑ k, (r : EReal) * f k := by
  induction n with
  | zero => simp
  | succ n ih =>
    rw [Fin.sum_univ_castSucc, Fin.sum_univ_castSucc,
      EReal.left_distrib_of_nonneg_of_ne_top (by exact_mod_cast hr) (EReal.coe_ne_top r), ih]

theorem mul_swap (h a b : EReal) : h * (a * b) = h * b * a := by
  rw [mul_comm a b, mul_assoc]

/-- The greatest of finitely many reals, over a nonempty index, is a real. -/
theorem IsReal.fold_max {n : ℕ} {f : Fin (n + 1) → EReal} (h : ∀ k, IsReal (f k)) :
    IsReal (Finset.univ.fold max ⊥ f) := by
  choose g hg using h
  change IsReal (Finset.univ.sup f)
  rw [← Finset.sup'_eq_sup Finset.univ_nonempty]
  obtain ⟨k, -, hk⟩ := Finset.exists_mem_eq_sup' (Finset.univ_nonempty (α := Fin (n + 1))) f
  exact ⟨g k, hk.trans (hg k)⟩

/-- Both of two bits that are one together are one. -/
theorem andi_left {s : Shape} {x y : IVec s 1} (h : andi x y = fun _ => 1#1) : x = fun _ => 1#1 :=
  funext fun i => (IntOp.andi_eq_one.1 (congrFun h i)).1

theorem andi_right {s : Shape} {x y : IVec s 1} (h : andi x y = fun _ => 1#1) : y = fun _ => 1#1 :=
  funext fun i => (IntOp.andi_eq_one.1 (congrFun h i)).2

/-- An extended real of absolute value below `+∞` is a real number. -/
theorem isReal_of_abs_lt {x : EReal} (h : Ideal.cmp .olt (max x (-x)) (Ideal.ofBits FTy.f32 0x7F800000#32) = 1#1) : IsReal x := by
  have ht : Ideal.ofBits FTy.f32 0x7F800000#32 = (⊤ : EReal) := by simp [Ideal.ofBits, Ideal.ieee]
  rw [ht] at h
  induction x with
  | bot => simp [Ideal.cmp] at h
  | coe r => exact ⟨r, rfl⟩
  | top => simp [Ideal.cmp] at h

/-- An array all of whose elements' absolute values are below `+∞` holds real numbers. -/
theorem all_real {s : Shape} {axes : List (Fin s.rank)} (v : FVec Ideal s .f32)
    (b : (⟨0, ![]⟩ : Shape).BroadcastsInDim s (![] : Fin 0 → Fin s.rank)) (h : s.ReducesTo axes ⟨0, ![]⟩) (hu : 0 < (⟨0, ![]⟩ : Shape).numel)
    (e : Host.reduce IntOp.andi (cmpf .olt (Host.absf v) (broadcastInDim s (![] : Fin 0 → Fin s.rank) b (constant (F := Ideal) ⟨0, ![]⟩ .f32 0x7F800000#32)))
      (constantI ⟨0, ![]⟩ 1 1#1) h hu = fun _ => 1#1) (i : s.Idx) : IsReal (v i) :=
  isReal_of_abs_lt (Host.reduce_andi_all _ _ h hu default (congrFun e _) i)

end Cert.Ext

end
-- ==== Proof.MemMath.lean ====
module

public import proofs.«01_k».proof.Proof.Ext

@[expose] public section

set_option maxRecDepth 16384

noncomputable section

open Idealize.ShloMosaic
open scoped BigOperators

namespace Cert.MemMath

open Cert.Ext

/-- The scale `128^(-1/2)`, as the constant both programs carry. -/
abbrev scale : EReal := Ideal.ofBits FTy.f32 1035273459#32

theorem real_scale : IsReal scale := by
  refine ⟨11863283 / 134217728, ?_⟩
  simp [Ideal.ofBits, Ideal.ieee]
  rw [← EReal.coe_mul]
  norm_num

/-- The row gradient of a softmax, the two ways of writing it: weights `e`, their sum normalising. -/
theorem softmax_grad {n : ℕ} {e dp : Fin n → EReal} (he : ∀ k, ∃ r : ℝ, 0 < r ∧ e k = (r : EReal))
    (hd : ∀ k, IsReal (dp k)) (j : Fin n) :
    Ideal.div (e j) (∑ k, e k) * (dp j - ∑ k, Ideal.div (e k) (∑ l, e l) * dp k)
      = (Ideal.div (dp j) (∑ k, e k) + -(∑ k, dp k * Ideal.div 1 ((∑ l, e l) * ∑ l, e l) * e k)) * e j := by
  choose a ha0 ha using he
  choose b hb using hd
  have hs : (∑ k, e k) = ((∑ k, a k : ℝ) : EReal) := by
    rw [coe_sum]; exact Finset.sum_congr rfl fun k _ => ha k
  have hpos : 0 < ∑ k, a k := Finset.sum_pos (fun k _ => ha0 k) ⟨j, Finset.mem_univ _⟩
  rw [hs]
  generalize hL : (∑ k, a k : ℝ) = L at hpos ⊢
  have h2 : L * L ≠ 0 := (mul_pos hpos hpos).ne'
  have hone : (1 : EReal) = ((1 : ℝ) : EReal) := rfl
  simp only [ha, hb, ← EReal.coe_mul, Ideal.div_coe hpos.ne', Ideal.div_coe h2, one_mul]
  rw [← coe_sum, ← coe_sum, ← EReal.coe_sub, ← EReal.coe_mul, ← EReal.coe_neg, ← EReal.coe_add,
    ← EReal.coe_mul]
  congr 1
  have e1 : (∑ k, a k * (1 / L) * b k) = (1 / L) * ∑ k, a k * b k := by
    rw [Finset.mul_sum]; exact Finset.sum_congr rfl fun k _ => by ring
  have e2 : (∑ k, b k * (1 / (L * L)) * a k) = (1 / (L * L)) * ∑ k, a k * b k := by
    rw [Finset.mul_sum]; exact Finset.sum_congr rfl fun k _ => by ring
  rw [e1, e2]
  field_simp
  ring

/-- One row of scores: the query row against every key row, scaled. -/
def sc (q : Fin 128 → EReal) (k : Fin 256 → Fin 128 → EReal) (j : Fin 256) : EReal := (∑ d, q d * k j d) * scale

/-- The exponentials of a row of scores less the row's greatest. -/
def ex (q : Fin 128 → EReal) (k : Fin 256 → Fin 128 → EReal) (j : Fin 256) : EReal :=
  Ideal.exp (sc q k j - Finset.univ.fold max ⊥ (sc q k))

/-- The softmax of a row of scores. -/
def pr (q : Fin 128 → EReal) (k : Fin 256 → Fin 128 → EReal) (j : Fin 256) : EReal :=
  Ideal.div (ex q k j) (∑ l, ex q k l)

/-- The cotangent of a row of the softmax: the output's cotangent row against every value row. -/
def dpr (g : Fin 128 → EReal) (v : Fin 256 → Fin 128 → EReal) (j : Fin 256) : EReal := ∑ d, g d * v j d

/-- The cotangent of a row of the unscaled scores. -/
def dsr (q : Fin 128 → EReal) (k v : Fin 256 → Fin 128 → EReal) (g : Fin 128 → EReal) (j : Fin 256) : EReal :=
  pr q k j * (dpr g v j - ∑ l, pr q k l * dpr g v l) * scale

theorem ex_pos {q : Fin 128 → EReal} {k : Fin 256 → Fin 128 → EReal} (hq : ∀ d, IsReal (q d))
    (hk : ∀ j d, IsReal (k j d)) (j : Fin 256) : ∃ r : ℝ, 0 < r ∧ ex q k j = (r : EReal) := by
  have hs : ∀ j, IsReal (sc q k j) := fun j => (IsReal.sum fun d => (hq d).mul (hk j d)).mul real_scale
  obtain ⟨a, ha⟩ := (hs j).sub (IsReal.fold_max hs)
  refine ⟨Real.exp a, Real.exp_pos a, ?_⟩
  rw [ex, ha]
  rfl

/-- The cotangent of the scores, as the derivative of a quotient states it. -/
theorem dsr_eq {q g : Fin 128 → EReal} {k v : Fin 256 → Fin 128 → EReal} (hq : ∀ d, IsReal (q d))
    (hk : ∀ j d, IsReal (k j d)) (hg : ∀ d, IsReal (g d)) (hv : ∀ j d, IsReal (v j d)) (j : Fin 256) :
    (Ideal.div (dpr g v j) (∑ l, ex q k l)
      + -(∑ l, dpr g v l * Ideal.div 1 ((∑ l, ex q k l) * ∑ l, ex q k l) * ex q k l)) * ex q k j * scale
      = dsr q k v g j := by
  exact congrArg (· * scale)
    (softmax_grad (fun j => ex_pos hq hk j) (dp := dpr g v) (fun j => IsReal.sum fun d => (hg d).mul (hv j d)) j).symm

/-- Row `i` of an array of rows of four heads, at head `h`. -/
def row {n : ℕ} (a : (⟨2, ![n, 512]⟩ : Shape).Idx → EReal) (h : Fin 4) (i : Fin n) (d : Fin 128) : EReal :=
  a (ix2 i ⟨h.val * 128 + d.val, by have := h.isLt; have := d.isLt; show _ < 512; omega⟩)

/-- The head a column of a row of four heads lies in. -/
def hd (c : Fin 512) : Fin 4 := ⟨c.val / 128, by have := c.isLt; omega⟩

/-- The gradient of the queries. -/
def OQ (q : (⟨2, ![2048, 512]⟩ : Shape).Idx → EReal) (k v : (⟨2, ![256, 512]⟩ : Shape).Idx → EReal)
    (g : (⟨2, ![2048, 512]⟩ : Shape).Idx → EReal) (i : Fin 2048) (c : Fin 512) : EReal :=
  ∑ j : Fin 256, dsr (row q (hd c) i) (row k (hd c)) (row v (hd c)) (row g (hd c) i) j * k (ix2 j c)

/-- The gradient of the keys. -/
def OK (q : (⟨2, ![2048, 512]⟩ : Shape).Idx → EReal) (k v : (⟨2, ![256, 512]⟩ : Shape).Idx → EReal)
    (g : (⟨2, ![2048, 512]⟩ : Shape).Idx → EReal) (j : Fin 256) (c : Fin 512) : EReal :=
  ∑ i : Fin 2048, dsr (row q (hd c) i) (row k (hd c)) (row v (hd c)) (row g (hd c) i) j * q (ix2 i c)

/-- The gradient of the values. -/
def OV (q : (⟨2, ![2048, 512]⟩ : Shape).Idx → EReal) (k : (⟨2, ![256, 512]⟩ : Shape).Idx → EReal)
    (g : (⟨2, ![2048, 512]⟩ : Shape).Idx → EReal) (j : Fin 256) (c : Fin 512) : EReal :=
  ∑ i : Fin 2048, pr (row q (hd c) i) (row k (hd c)) j * g (ix2 i c)

end Cert.MemMath

end
-- ==== Proof.MemKernel.lean ====
module

public import proofs.«01_k».proof.Proof.Gen.KernelIdeal.Frame
public import proofs.«01_k».proof.Proof.Gen.KernelIdeal.Value
public import Idealize.ShloMosaic.Lib.Pipeline.ValueKit
public import Idealize.ShloMosaic.Lib.Pointwise
public import proofs.«01_k».proof.Proof.MemMath

@[expose] public section

set_option maxRecDepth 16384

noncomputable section

open Idealize.ShloMosaic Idealize.ShloMosaic.TcCoe Idealize.SL.Sem
open Idealize.ShloMosaic.Pipeline (Dat)
open scoped BigOperators

namespace Cert.KernelIdeal.Mem

open Cert.KernelIdeal Cert.KernelIdeal.Gen Cert.MemMath

theorem pay5_eq (x0 : FVec Ideal S1024x128 .bf16) (x1 : FVec Ideal S256x128 .bf16) (j : S1024x256.Idx) :
    k0_pay5 (F := Ideal) x0 x1 j = pr (fun d => x0 (ix2 (j 0) d)) (fun l d => x1 (ix2 l d)) (j 1) := by
  pointwise [k0_pay5]
  rw [Cert.Ext.negInf_eq]
  rfl

theorem pay7_eq (x0 : FVec Ideal S1024x128 .bf16) (x1 : FVec Ideal S256x128 .bf16) (x3 : FVec Ideal S1024x128 .f32)
    (x2 : FVec Ideal S256x128 .f32) (j : S1024x256.Idx) :
    k0_pay7 (F := Ideal) x0 x1 x3 x2 j = dsr (fun d => x0 (ix2 (j 0) d)) (fun l d => x1 (ix2 l d)) (fun l d => x2 (ix2 l d))
      (fun d => x3 (ix2 (j 0) d)) (j 1) := by
  pointwise [k0_pay7, k0_pay6, pay5_eq]
  rfl

theorem pay8_eq (x0 : FVec Ideal S1024x128 .bf16) (x1 : FVec Ideal S256x128 .bf16) (x3 : FVec Ideal S1024x128 .f32)
    (x2 : FVec Ideal S256x128 .f32) (j : S1024x128.Idx) :
    k0_pay8 (F := Ideal) x0 x1 x3 x2 x1 j
      = ∑ l : Fin 256, dsr (fun d => x0 (ix2 (j 0) d)) (fun l d => x1 (ix2 l d)) (fun l d => x2 (ix2 l d))
          (fun d => x3 (ix2 (j 0) d)) l * x1 (ix2 l (j 1)) := by
  pointwise [k0_pay8, pay7_eq]

theorem pay1_eq (x0 : FVec Ideal S1024x128 .bf16) (x1 : FVec Ideal S256x128 .bf16) (x3 : FVec Ideal S1024x128 .f32)
    (x2 : FVec Ideal S256x128 .f32) (acc : FVec Ideal S256x128 .f32) (j : S256x128.Idx) :
    k0_pay1 (F := Ideal) (k0_pay7 x0 x1 x3 x2) acc x0 j
      = acc j + ∑ r : Fin 1024, dsr (fun d => x0 (ix2 r d)) (fun l d => x1 (ix2 l d)) (fun l d => x2 (ix2 l d))
          (fun d => x3 (ix2 r d)) (j 0) * x0 (ix2 r (j 1)) := by
  pointwise [k0_pay1, pay7_eq]

theorem pay2_eq (x0 : FVec Ideal S1024x128 .bf16) (x1 : FVec Ideal S256x128 .bf16) (x3 : FVec Ideal S1024x128 .f32)
    (acc : FVec Ideal S256x128 .f32) (j : S256x128.Idx) :
    k0_pay2 (F := Ideal) (k0_pay5 x0 x1) (k0_pay6 x3) acc j
      = acc j + ∑ r : Fin 1024, pr (fun d => x0 (ix2 r d)) (fun l d => x1 (ix2 l d)) (j 0) * x3 (ix2 r (j 1)) := by
  pointwise [k0_pay2, k0_pay6, pay5_eq]

theorem pay3_eq (j : S256x128.Idx) : k0_pay3 (F := Ideal) j = 0 := by
  pointwise [k0_pay3]

theorem pay4_eq (j : S256x128.Idx) : k0_pay4 (F := Ideal) j = 0 := by
  pointwise [k0_pay4]

variable (m : (ℓ : Loc nD τ sig) → Buf (Elt Ideal) ℓ)

/-- Every window's block index at every grid point. -/
theorem idx : ∀ t : Fin cfg0.N, win0_0.index t = ![t.val % 2, t.val / 2]
    ∧ win0_1.index t = ![0, t.val / 2]
    ∧ win0_2.index t = ![0, t.val / 2]
    ∧ win0_3.index t = ![t.val % 2, t.val / 2]
    ∧ win0_4.index t = ![t.val % 2, t.val / 2]
    ∧ win0_5.index t = ![0, t.val / 2]
    ∧ win0_6.index t = ![0, t.val / 2] :=
  (by decide +kernel : ∀ t : Fin grid0.N, _)

theorem lt8 (t : Fin cfg0.N) : t.val < 8 := t.isLt

/-- The head of a grid point, and a row of its row block. -/
def hh (t : Fin cfg0.N) : Fin 4 := ⟨t.val / 2, by have := lt8 t; omega⟩
def ri (t : Fin cfg0.N) (r : Fin 1024) : Fin 2048 := ⟨t.val % 2 * 1024 + r.val, by have := r.isLt; omega⟩

theorem ib0 (c : Dev nD) (t : Fin cfg0.N) (r : Fin 1024) (d : Fin 128) :
    iblk m c 0 t (ix2 r d) = row (m ((c : Thread nD τ).loc main_arg0)) (hh t) (ri t r) d := by
  simp only [row, hh, ri]
  blk_point [iblk, V, idx t]

theorem ib1 (c : Dev nD) (t : Fin cfg0.N) (r : Fin 256) (d : Fin 128) :
    iblk m c 1 t (ix2 r d) = row (m ((c : Thread nD τ).loc main_arg1)) (hh t) r d := by
  simp only [row, hh, ri]
  blk_point [iblk, V, idx t]

theorem ib2 (c : Dev nD) (t : Fin cfg0.N) (r : Fin 256) (d : Fin 128) :
    iblk m c 2 t (ix2 r d) = row (m ((c : Thread nD τ).loc main_arg2)) (hh t) r d := by
  simp only [row, hh, ri]
  blk_point [iblk, V, idx t]

theorem ib3 (c : Dev nD) (t : Fin cfg0.N) (r : Fin 1024) (d : Fin 128) :
    iblk m c 3 t (ix2 r d) = row (m ((c : Thread nD τ).loc main_arg3)) (hh t) (ri t r) d := by
  simp only [row, hh, ri]
  blk_point [iblk, V, idx t]

end Cert.KernelIdeal.Mem

end
-- ==== Proof.MemFinal.lean ====
module

public import proofs.«01_k».proof.Proof.Gen.KernelIdeal.Frame
public import proofs.«01_k».proof.Proof.Gen.KernelIdeal.Value
public import Idealize.ShloMosaic.Lib.Pipeline.ValueKit
public import Idealize.ShloMosaic.Lib.Pointwise
public import proofs.«01_k».proof.Proof.MemKernel

@[expose] public section

set_option maxRecDepth 16384

noncomputable section

open Idealize.ShloMosaic Idealize.ShloMosaic.TcCoe Idealize.SL.Sem
open Idealize.ShloMosaic.Pipeline (Dat)
open scoped BigOperators

namespace Cert.KernelIdeal.Mem

open Cert.KernelIdeal Cert.KernelIdeal.Gen Cert.MemMath

variable (m : (ℓ : Loc nD τ sig) → Buf (Elt Ideal) ℓ)

/-- A column of a head's columns. -/
def col (t : Fin cfg0.N) (d : Fin 128) : Fin 512 := ⟨t.val / 2 * 128 + d.val, by have := lt8 t; have := d.isLt; omega⟩

theorem hd_col (t : Fin cfg0.N) (d : Fin 128) : hd (col t d) = hh t := by
  apply Fin.ext; have := d.isLt; simp only [hd, col, hh]; omega

theorem emb4 (t : Fin cfg0.N) (y : S1024x128.Idx) (F : S2048x512.Idx → EReal) :
    F (((cfg0.win 4).blk t).view.emb y) = F (ix2 (ri t (y 0)) (col t (y 1))) := by
  simp only [ri, col]
  blk_point [idx t]

theorem emb5 (t : Fin cfg0.N) (y : S256x128.Idx) (F : S256x512.Idx → EReal) :
    F (((cfg0.win 5).blk t).view.emb y) = F (ix2 (y 0) (col t (y 1))) := by
  simp only [col]
  blk_point [idx t]

theorem emb6 (t : Fin cfg0.N) (y : S256x128.Idx) (F : S256x512.Idx → EReal) :
    F (((cfg0.win 6).blk t).view.emb y) = F (ix2 (y 0) (col t (y 1))) := by
  simp only [col]
  blk_point [idx t]

/-- A row's term of the gradient of the scores, at a grid point and over the whole arrays. -/
theorem ds_term (c : Dev nD) (t : Fin cfg0.N) (r : Fin 1024) (j : Fin 256) :
    dsr (fun d => iblk m c 0 t (ix2 r d)) (fun l d => iblk m c 1 t (ix2 l d)) (fun l d => iblk m c 2 t (ix2 l d))
        (fun d => iblk m c 3 t (ix2 r d)) j
      = dsr (row (m ((c : Thread nD τ).loc main_arg0)) (hh t) (ri t r)) (row (m ((c : Thread nD τ).loc main_arg1)) (hh t))
          (row (m ((c : Thread nD τ).loc main_arg2)) (hh t)) (row (m ((c : Thread nD τ).loc main_arg3)) (hh t) (ri t r)) j := by
  simp only [ib0 m c t, ib1 m c t, ib2 m c t, ib3 m c t]

theorem pr_term (c : Dev nD) (t : Fin cfg0.N) (r : Fin 1024) (j : Fin 256) :
    pr (fun d => iblk m c 0 t (ix2 r d)) (fun l d => iblk m c 1 t (ix2 l d)) j
      = pr (row (m ((c : Thread nD τ).loc main_arg0)) (hh t) (ri t r)) (row (m ((c : Thread nD τ).loc main_arg1)) (hh t)) j := by
  simp only [ib0 m c t, ib1 m c t]

theorem dq_sum (c : Dev nD) (t : Fin cfg0.N) (r : Fin 1024) (d : Fin 128) :
    (∑ l : Fin 256, dsr (fun d => iblk m c 0 t (ix2 r d)) (fun l d => iblk m c 1 t (ix2 l d)) (fun l d => iblk m c 2 t (ix2 l d))
        (fun d => iblk m c 3 t (ix2 r d)) l * iblk m c 1 t (ix2 l d))
      = OQ (m ((c : Thread nD τ).loc main_arg0)) (m ((c : Thread nD τ).loc main_arg1)) (m ((c : Thread nD τ).loc main_arg2)) (m ((c : Thread nD τ).loc main_arg3)) (ri t r) (col t d) := by
  rw [OQ, hd_col]
  exact Finset.sum_congr rfl fun l _ => congr (congrArg _ (ds_term m c t r l)) (ib1 m c t l d)

/-- The block of the gradient of the queries at a grid point. -/
theorem dq_point (c : Dev nD) (t : Fin cfg0.N) (y : S1024x128.Idx) :
    k0_pay8 (F := Ideal) (iblk m c 0 t) (iblk m c 1 t) (iblk m c 3 t) (iblk m c 2 t) (iblk m c 1 t) y
      = OQ (m ((c : Thread nD τ).loc main_arg0)) (m ((c : Thread nD τ).loc main_arg1)) (m ((c : Thread nD τ).loc main_arg2)) (m ((c : Thread nD τ).loc main_arg3)) (ri t (y 0)) (col t (y 1)) :=
  (pay8_eq (iblk m c 0 t) (iblk m c 1 t) (iblk m c 3 t) (iblk m c 2 t) y).trans (dq_sum m c t (y 0) (y 1))

/-- A row's term of the gradient of the keys at grid point `t'` of the run of `t`'s head. -/
theorem dk_term (c : Dev nD) (t t' : Fin cfg0.N) (s : Fin 2) (ht : t'.val = 2 * (t.val / 2) + s.val) (r : Fin 1024) (j : Fin 256)
    (d : Fin 128) (i : Fin 2048) (hi : i.val = s.val * 1024 + r.val) :
    dsr (fun d => iblk m c 0 t' (ix2 r d)) (fun l d => iblk m c 1 t' (ix2 l d)) (fun l d => iblk m c 2 t' (ix2 l d))
        (fun d => iblk m c 3 t' (ix2 r d)) j * iblk m c 0 t' (ix2 r d)
      = dsr (row (m ((c : Thread nD τ).loc main_arg0)) (hh t) i) (row (m ((c : Thread nD τ).loc main_arg1)) (hh t))
          (row (m ((c : Thread nD τ).loc main_arg2)) (hh t)) (row (m ((c : Thread nD τ).loc main_arg3)) (hh t) i) j
          * m ((c : Thread nD τ).loc main_arg0) (ix2 i (col t d)) := by
  have hs := s.isLt
  have h1 : hh t' = hh t := Fin.ext (by simp only [hh, ht]; omega)
  have h2 : ri t' r = i := Fin.ext (by simp only [ri, ht, hi]; omega)
  have e := ds_term m c t' r j
  have e' := ib0 m c t' r d
  rw [h1, h2] at e e'
  exact congr (congrArg _ e) e'

theorem dv_term (c : Dev nD) (t t' : Fin cfg0.N) (s : Fin 2) (ht : t'.val = 2 * (t.val / 2) + s.val) (r : Fin 1024) (j : Fin 256)
    (d : Fin 128) (i : Fin 2048) (hi : i.val = s.val * 1024 + r.val) :
    pr (fun d => iblk m c 0 t' (ix2 r d)) (fun l d => iblk m c 1 t' (ix2 l d)) j * iblk m c 3 t' (ix2 r d)
      = pr (row (m ((c : Thread nD τ).loc main_arg0)) (hh t) i) (row (m ((c : Thread nD τ).loc main_arg1)) (hh t)) j
          * m ((c : Thread nD τ).loc main_arg3) (ix2 i (col t d)) := by
  have hs := s.isLt
  have h1 : hh t' = hh t := Fin.ext (by simp only [hh, ht]; omega)
  have h2 : ri t' r = i := Fin.ext (by simp only [ri, ht, hi]; omega)
  have e := pr_term m c t' r j
  have e' := ib3 m c t' r d
  rw [h1, h2] at e e'
  exact congr (congrArg _ e) e'

theorem final4 (c : Dev nD) : (dats m 0 c).arrAt 4 (cfgs 0).N
    = fun j => OQ (m ((c : Thread nD τ).loc main_arg0)) (m ((c : Thread nD τ).loc main_arg1)) (m ((c : Thread nD τ).loc main_arg2))
          (m ((c : Thread nD τ).loc main_arg3)) (j 0) (j 1) := by
  refine (dats m 0 c).arrAt_eq_of_covers 4 _ (by decide +kernel) fun t hf y => ?_
  blk_simp; rw [after0_4]
  refine Eq.trans ?_ ((dq_point m c t y).trans (emb4 t y fun j => OQ (m ((c : Thread nD τ).loc main_arg0)) (m ((c : Thread nD τ).loc main_arg1)) (m ((c : Thread nD τ).loc main_arg2))
          (m ((c : Thread nD τ).loc main_arg3)) (j 0) (j 1)).symm)
  by_cases h : t.val % 2 = 0
  · rw [outsAt0_A m c t h]; frame_out
  · rw [outsAt0_B m c t h]; frame_out

theorem final5 (c : Dev nD) : (dats m 0 c).arrAt 5 (cfgs 0).N
    = fun j => OK (m ((c : Thread nD τ).loc main_arg0)) (m ((c : Thread nD τ).loc main_arg1)) (m ((c : Thread nD τ).loc main_arg2))
          (m ((c : Thread nD τ).loc main_arg3)) (j 0) (j 1) := by
  refine (dats m 0 c).arrAt_eq_of_covers 5 _ (by decide +kernel) fun t hf y => ?_
  blk_simp
  rw [after0_5, Pipeline.eq_sum_fin_of_reset_step_apply_of_flush (fun n h => (outsAt0 m c n h).2.1) 2 (fun _ => 0)
      (fun t y => ∑ r : Fin 1024, dsr (fun d => iblk m c 0 t (ix2 r d)) (fun l d => iblk m c 1 t (ix2 l d)) (fun l d => iblk m c 2 t (ix2 l d))
          (fun d => iblk m c 3 t (ix2 r d)) (y 0) * iblk m c 0 t (ix2 r (y 1)))
      (fun t h j => by rw [outsAt0_A m c t h]; frame_out; exact (pay1_eq _ _ _ _ _ j).trans (by rw [pay3_eq]))
      (fun t h j => by rw [outsAt0_B m c t h]; frame_out; exact pay1_eq _ _ _ _ _ j)
      t ((flush0_5 t).mp hf) _, zero_add]
  refine Eq.trans ?_ (emb5 t y fun j => OK (m ((c : Thread nD τ).loc main_arg0)) (m ((c : Thread nD τ).loc main_arg1)) (m ((c : Thread nD τ).loc main_arg2)) (m ((c : Thread nD τ).loc main_arg3)) (j 0) (j 1)).symm
  refine Eq.trans ?_ (congrArg (fun h => ∑ i : Fin 2048, dsr (row (m ((c : Thread nD τ).loc main_arg0)) h i) (row (m ((c : Thread nD τ).loc main_arg1)) h)
          (row (m ((c : Thread nD τ).loc main_arg2)) h) (row (m ((c : Thread nD τ).loc main_arg3)) h i) (y 0)
          * m ((c : Thread nD τ).loc main_arg0) (ix2 i (col t (y 1)))) (hd_col t (y 1)).symm)
  refine Fin.sum_mul_add_congr fun s k hl => ?_
  exact dk_term m c t _ s rfl k (y 0) (y 1) _ rfl

theorem final6 (c : Dev nD) : (dats m 0 c).arrAt 6 (cfgs 0).N
    = fun j => OV (m ((c : Thread nD τ).loc main_arg0)) (m ((c : Thread nD τ).loc main_arg1)) (m ((c : Thread nD τ).loc main_arg3)) (j 0) (j 1) := by
  refine (dats m 0 c).arrAt_eq_of_covers 6 _ (by decide +kernel) fun t hf y => ?_
  blk_simp
  rw [after0_6, Pipeline.eq_sum_fin_of_reset_step_apply_of_flush (fun n h => (outsAt0 m c n h).2.2) 2 (fun _ => 0)
      (fun t y => ∑ r : Fin 1024, pr (fun d => iblk m c 0 t (ix2 r d)) (fun l d => iblk m c 1 t (ix2 l d)) (y 0) * iblk m c 3 t (ix2 r (y 1)))
      (fun t h j => by rw [outsAt0_A m c t h]; frame_out; exact (pay2_eq _ _ _ _ j).trans (by rw [pay4_eq]))
      (fun t h j => by rw [outsAt0_B m c t h]; frame_out; exact pay2_eq _ _ _ _ j)
      t ((flush0_6 t).mp hf) _, zero_add]
  refine Eq.trans ?_ (emb6 t y fun j => OV (m ((c : Thread nD τ).loc main_arg0)) (m ((c : Thread nD τ).loc main_arg1)) (m ((c : Thread nD τ).loc main_arg3)) (j 0) (j 1)).symm
  refine Eq.trans ?_ (congrArg (fun h => ∑ i : Fin 2048, pr (row (m ((c : Thread nD τ).loc main_arg0)) h i) (row (m ((c : Thread nD τ).loc main_arg1)) h) (y 0)
          * m ((c : Thread nD τ).loc main_arg3) (ix2 i (col t (y 1)))) (hd_col t (y 1)).symm)
  refine Fin.sum_mul_add_congr fun s k hl => ?_
  exact dv_term m c t _ s rfl k (y 0) (y 1) _ rfl

end Cert.KernelIdeal.Mem

end
-- ==== Proof.MemRefDef.lean ====
module

public import proofs.«01_k».proof.Proof.Gen.ReferenceIdeal.Run
public import Idealize.ShloMosaic.Lib.Pointwise
public import proofs.«01_k».proof.Proof.MemMath

@[expose] public section

set_option maxRecDepth 16384

noncomputable section

open Idealize.ShloMosaic Idealize.ShloMosaic.TcCoe Idealize.SL.Sem
open Idealize.ShloMosaic.Pipeline (Dat)
open scoped BigOperators

namespace Cert.ReferenceIdeal.Mem

open Cert.ReferenceIdeal Cert.ReferenceIdeal.Gen Cert.MemMath

/-- The four arrays' types. -/
abbrev TQ := FVec Ideal S2048x512 .bf16
abbrev TK := FVec Ideal S256x512 .bf16
abbrev TV := FVec Ideal S256x512 .f32
abbrev TG := FVec Ideal S2048x512 .f32

/-- The scaled scores. -/
def RS (a0 : TQ) (a1 : TK) : FVec Ideal S1x4x2048x256 .f32 :=
  mulf (Host.dotGeneral (F := Ideal) dot_S1x2048x4x128_S1x256x4x128_S1x4x2048x256_3_3_1_1_02_02 none (shapeCast _ (extf .f32 a0 bitsLt_bf16_f32) shapeCasts_S2048x512_S1x2048x4x128) (shapeCast _ (extf .f32 a1 bitsLt_bf16_f32) shapeCasts_S256x512_S1x256x4x128)) (broadcastInDim S1x4x2048x256 ![] bcast_S_S1x4x2048x256 (constant (F := Ideal) S_ .f32 0x3DB504F3#32))

/-- The exponentials of the scores less the row's greatest. -/
def RE (s : FVec Ideal S1x4x2048x256 .f32) : FVec Ideal S1x4x2048x256 .f32 :=
  Host.exp (subf s (broadcastInDim S1x4x2048x256 ![0, 1, 2, 3] bcast_S1x4x2048x1_S1x4x2048x256_0_1_2_3 (broadcastInDim S1x4x2048x1 ![0, 1, 2] bcast_S1x4x2048_S1x4x2048x1_0_1_2 (maximumf (broadcastInDim S1x4x2048 ![] bcast_S_S1x4x2048 (constant (F := Ideal) S_ .f32 0xFF800000#32)) (Host.reduce FloatOps.maximumf s (constant (F := Ideal) S_ .f32 0xFF800000#32) reducesTo_S1x4x2048x256_S1x4x2048_d3 h_S_)))))

/-- The rows' sums of exponentials. -/
def RL (e : FVec Ideal S1x4x2048x256 .f32) : FVec Ideal S1x4x2048x1 .f32 :=
  broadcastInDim S1x4x2048x1 ![0, 1, 2] bcast_S1x4x2048_S1x4x2048x1_0_1_2 (Host.reduceAdd e (constant (F := Ideal) S_ .f32 0x00000000#32) reducesTo_S1x4x2048x256_S1x4x2048_d3 h_S_)

/-- The cotangent of the softmax. -/
def RDP (a2 : TV) (a3 : TG) : FVec Ideal S1x4x2048x256 .f32 :=
  Host.dotGeneral (F := Ideal) dot_S1x4x128x2048_S1x256x4x128_S1x4x2048x256_2_3_3_1_01_02 none (transpose S1x4x128x2048 [0, 2, 3, 1] (shapeCast _ a3 shapeCasts_S2048x512_S1x2048x4x128) transposes_S1x2048x4x128_S1x4x128x2048_0_2_3_1) (shapeCast _ a2 shapeCasts_S256x512_S1x256x4x128)

/-- Less the rows' sums of the cotangent times the softmax's numerator over the squared row sums. -/
def RR (e dp : FVec Ideal S1x4x2048x256 .f32) (l : FVec Ideal S1x4x2048x1 .f32) : FVec Ideal S1x4x2048x1 .f32 :=
  Host.negf (shapeCast _ (Host.reduceAdd (mulf (mulf dp (broadcastInDim S1x4x2048x256 ![0, 1, 2, 3] bcast_S1x4x2048x1_S1x4x2048x256_0_1_2_3 (Host.divf (broadcastInDim S1x4x2048x1 ![] bcast_S_S1x4x2048x1 (constant (F := Ideal) S_ .f32 0x3F800000#32)) (mulf l l)))) e) (constant (F := Ideal) S_ .f32 0x00000000#32) reducesTo_S1x4x2048x256_S1x4x2048_d3 h_S_) shapeCasts_S1x4x2048_S1x4x2048x1)

/-- The sum over two axes of size one. -/
def RN (r : FVec Ideal S1x4x2048x1 .f32) : FVec Ideal S4x2048 .f32 :=
  Host.reduceAdd r (constant (F := Ideal) S_ .f32 0x00000000#32) reducesTo_S1x4x2048x1_S4x2048_d0_3 h_S_

/-- The cotangent of the unscaled scores. -/
def RDS (e dp : FVec Ideal S1x4x2048x256 .f32) (l : FVec Ideal S1x4x2048x1 .f32) (n : FVec Ideal S4x2048 .f32) : FVec Ideal S1x4x2048x256 .f32 :=
  mulf (mulf (addf (Host.divf dp (broadcastInDim S1x4x2048x256 ![0, 1, 2, 3] bcast_S1x4x2048x1_S1x4x2048x256_0_1_2_3 l)) (broadcastInDim S1x4x2048x256 ![0, 1, 2] bcast_S1x4x2048_S1x4x2048x256_0_1_2 (broadcastInDim S1x4x2048 ![1, 2] bcast_S4x2048_S1x4x2048_1_2 n))) e) (broadcastInDim S1x4x2048x256 ![] bcast_S_S1x4x2048x256 (constant (F := Ideal) S_ .f32 0x3DB504F3#32))

/-- The three results. -/
def RQ (ds : FVec Ideal S1x4x2048x256 .f32) (a1 : TK) : FVec Ideal S2048x512 .f32 :=
  shapeCast _ (transpose S1x2048x4x128 [0, 2, 1, 3] (Host.dotGeneral (F := Ideal) dot_S1x4x2048x256_S1x256x4x128_S1x4x2048x128_3_1_2_3_01_02 none ds (shapeCast _ (extf .f32 a1 bitsLt_bf16_f32) shapeCasts_S256x512_S1x256x4x128)) transposes_S1x4x2048x128_S1x2048x4x128_0_2_1_3) shapeCasts_S1x2048x4x128_S2048x512

def RK (ds : FVec Ideal S1x4x2048x256 .f32) (a0 : TQ) : FVec Ideal S256x512 .f32 :=
  shapeCast _ (transpose S1x256x4x128 [0, 2, 1, 3] (Host.dotGeneral (F := Ideal) dot_S1x4x2048x256_S1x2048x4x128_S1x4x256x128_2_1_3_3_01_02 none ds (shapeCast _ (extf .f32 a0 bitsLt_bf16_f32) shapeCasts_S2048x512_S1x2048x4x128)) transposes_S1x4x256x128_S1x256x4x128_0_2_1_3) shapeCasts_S1x256x4x128_S256x512

def RV (e : FVec Ideal S1x4x2048x256 .f32) (l : FVec Ideal S1x4x2048x1 .f32) (a3 : TG) : FVec Ideal S256x512 .f32 :=
  shapeCast _ (transpose S1x256x4x128 [0, 3, 1, 2] (Host.dotGeneral (F := Ideal) dot_S1x4x128x2048_S1x4x2048x256_S1x4x128x256_3_2_2_3_01_01 none (transpose S1x4x128x2048 [0, 2, 3, 1] (shapeCast _ a3 shapeCasts_S2048x512_S1x2048x4x128) transposes_S1x2048x4x128_S1x4x128x2048_0_2_3_1) (Host.divf e (broadcastInDim S1x4x2048x256 ![0, 1, 2, 3] bcast_S1x4x2048x1_S1x4x2048x256_0_1_2_3 l))) transposes_S1x4x128x256_S1x256x4x128_0_3_1_2) shapeCasts_S1x256x4x128_S256x512

end Cert.ReferenceIdeal.Mem

end
-- ==== Proof.MemRef.lean ====
module

public import proofs.«01_k».proof.Proof.MemRefDef
public import Idealize.ShloMosaic.Lib.Pointwise
public import proofs.«01_k».proof.Proof.MemMath

@[expose] public section

set_option maxRecDepth 16384

noncomputable section

open Idealize.ShloMosaic Idealize.ShloMosaic.TcCoe Idealize.SL.Sem
open Idealize.ShloMosaic.Pipeline (Dat)
open scoped BigOperators

namespace Cert.ReferenceIdeal.Mem

open Cert.ReferenceIdeal Cert.ReferenceIdeal.Gen Cert.MemMath

theorem RS_eq (a0 : TQ) (a1 : TK) (j : S1x4x2048x256.Idx) :
    RS a0 a1 j = sc (row a0 (j 1) (j 2)) (row a1 (j 1)) (j 3) := by
  pointwise [RS]
  rfl

theorem RM_eq (s : FVec Ideal S1x4x2048x256 .f32) (j : S1x4x2048.Idx) :
    Host.reduce (FloatOps.maximumf (F := Ideal)) s (constant (F := Ideal) S_ .f32 0xFF800000#32) reducesTo_S1x4x2048x256_S1x4x2048_d3 h_S_ j
      = Finset.univ.fold max (Ideal.ofBits FTy.f32 4286578688#32) fun k : Fin 256 => s (ix4 0 (j 1) (j 2) k) := by
  pointwise

theorem RX_eq (s : FVec Ideal S1x4x2048x256 .f32) (m : FVec Ideal S1x4x2048 .f32) (j : S1x4x2048x256.Idx) :
    Host.exp (subf s (broadcastInDim S1x4x2048x256 ![0, 1, 2, 3] bcast_S1x4x2048x1_S1x4x2048x256_0_1_2_3 (broadcastInDim S1x4x2048x1 ![0, 1, 2] bcast_S1x4x2048_S1x4x2048x1_0_1_2 (maximumf (broadcastInDim S1x4x2048 ![] bcast_S_S1x4x2048 (constant (F := Ideal) S_ .f32 0xFF800000#32)) m)))) j
      = Ideal.exp (s j - max (Ideal.ofBits FTy.f32 4286578688#32) (m (ix3 0 (j 1) (j 2)))) := by
  pointwise

theorem RE_eq (s : FVec Ideal S1x4x2048x256 .f32) (j : S1x4x2048x256.Idx) :
    RE s j = Ideal.exp (s j - Finset.univ.fold max ⊥ fun k : Fin 256 => s (ix4 0 (j 1) (j 2) k)) := by
  refine (RX_eq s _ j).trans ?_
  rw [RM_eq, Cert.Ext.negInf_eq, max_eq_right bot_le]
  rfl

theorem RL_eq (e : FVec Ideal S1x4x2048x256 .f32) (j : S1x4x2048x1.Idx) :
    RL e j = ∑ k : Fin 256, e (ix4 0 (j 1) (j 2) k) := by
  pointwise [RL]

theorem RDP_eq (a2 : TV) (a3 : TG) (j : S1x4x2048x256.Idx) :
    RDP a2 a3 j = dpr (row a3 (j 1) (j 2)) (row a2 (j 1)) (j 3) := by
  pointwise [RDP]
  rfl

theorem RR_eq (e dp : FVec Ideal S1x4x2048x256 .f32) (l : FVec Ideal S1x4x2048x1 .f32) (j : S1x4x2048x1.Idx) :
    RR e dp l j = -(∑ k : Fin 256, dp (ix4 0 (j 1) (j 2) k) * Ideal.div 1 (l (ix4 0 (j 1) (j 2) 0) * l (ix4 0 (j 1) (j 2) 0)) * e (ix4 0 (j 1) (j 2) k)) := by
  pointwise [RR]

theorem drop_eq (j : S4x2048.Idx) :
    Finset.univ.filter (fun i => reducesTo_S1x4x2048x1_S4x2048_d0_3.drop i = j) = {(ix4 0 (j 0) (j 1) 0 : S1x4x2048x1.Idx)} := by
  ext i
  simp only [Finset.mem_filter, Finset.mem_univ, true_and, Finset.mem_singleton]
  constructor
  · rintro rfl
    funext a; apply Fin.ext
    match a with
    | ⟨0, _⟩ => exact congrArg Fin.val (Subsingleton.elim (α := Fin 1) (i 0) 0)
    | ⟨1, _⟩ => rfl
    | ⟨2, _⟩ => rfl
    | ⟨3, _⟩ => exact congrArg Fin.val (Subsingleton.elim (α := Fin 1) (i 3) 0)
  · rintro rfl
    funext b; apply Fin.ext
    match b with
    | ⟨0, _⟩ => rfl
    | ⟨1, _⟩ => rfl

theorem RN_eq (r : FVec Ideal S1x4x2048x1 .f32) (j : S4x2048.Idx) : RN r j = r (ix4 0 (j 0) (j 1) 0) := by
  have h : RN r j = Ideal.ofBits FTy.f32 0#32 + ∑ i ∈ Finset.univ.filter (fun i => reducesTo_S1x4x2048x1_S4x2048_d0_3.drop i = j), r i := rfl
  rw [h, drop_eq, Finset.sum_singleton, Ideal.ofBits_zero_f32, zero_add]

theorem RDS_eq (e dp : FVec Ideal S1x4x2048x256 .f32) (l : FVec Ideal S1x4x2048x1 .f32) (n : FVec Ideal S4x2048 .f32) (j : S1x4x2048x256.Idx) :
    RDS e dp l n j = (Ideal.div (dp j) (l (ix4 0 (j 1) (j 2) 0)) + n (ix2 (j 1) (j 2))) * e j * scale := by
  pointwise [RDS]

end Cert.ReferenceIdeal.Mem

end
-- ==== Proof.MemRefOut.lean ====
module

public import proofs.«01_k».proof.Proof.MemRef
public import Idealize.ShloMosaic.Lib.Pointwise
public import proofs.«01_k».proof.Proof.MemMath

@[expose] public section

set_option maxRecDepth 16384

noncomputable section

open Idealize.ShloMosaic Idealize.ShloMosaic.TcCoe Idealize.SL.Sem
open Idealize.ShloMosaic.Pipeline (Dat)
open scoped BigOperators

namespace Cert.ReferenceIdeal.Mem

open Cert.ReferenceIdeal Cert.ReferenceIdeal.Gen Cert.MemMath Cert.Ext

theorem RQ_eq (ds : FVec Ideal S1x4x2048x256 .f32) (a1 : TK) (j : S2048x512.Idx) :
    RQ ds a1 j = ∑ k : Fin 256, ds (ix4 0 (hd (j 1)) (j 0) k) * a1 (ix2 k (j 1)) := by
  pointwise [RQ]
  rfl

theorem RK_eq (ds : FVec Ideal S1x4x2048x256 .f32) (a0 : TQ) (j : S256x512.Idx) :
    RK ds a0 j = ∑ i : Fin 2048, ds (ix4 0 (hd (j 1)) i (j 0)) * a0 (ix2 i (j 1)) := by
  pointwise [RK]
  rfl

theorem RV_eq (e : FVec Ideal S1x4x2048x256 .f32) (l : FVec Ideal S1x4x2048x1 .f32) (a3 : TG) (j : S256x512.Idx) :
    RV e l a3 j = ∑ i : Fin 2048, a3 (ix2 i (j 1)) * Ideal.div (e (ix4 0 (hd (j 1)) i (j 0))) (l (ix4 0 (hd (j 1)) i 0)) := by
  pointwise [RV]
  rfl

section
variable (a0 : TQ) (a1 : TK) (a2 : TV) (a3 : TG)

theorem e_eq (h : Fin 4) (i : Fin 2048) (k : Fin 256) :
    RE (RS a0 a1) (ix4 0 h i k : S1x4x2048x256.Idx) = ex (row a0 h i) (row a1 h) k := by
  rw [RE_eq, ex]
  simp only [RS_eq]
  rfl

theorem l_eq (h : Fin 4) (i : Fin 2048) :
    RL (RE (RS a0 a1)) (ix4 0 h i 0 : S1x4x2048x1.Idx) = ∑ k, ex (row a0 h i) (row a1 h) k := by
  rw [RL_eq]
  exact Finset.sum_congr rfl fun k _ => e_eq a0 a1 h i k

theorem ds_eq (h0 : ∀ j, IsReal (a0 j)) (h1 : ∀ j, IsReal (a1 j)) (h2 : ∀ j, IsReal (a2 j)) (h3 : ∀ j, IsReal (a3 j))
    (h : Fin 4) (i : Fin 2048) (k : Fin 256) :
    RDS (RE (RS a0 a1)) (RDP a2 a3) (RL (RE (RS a0 a1))) (RN (RR (RE (RS a0 a1)) (RDP a2 a3) (RL (RE (RS a0 a1)))))
        (ix4 0 h i k : S1x4x2048x256.Idx)
      = dsr (row a0 h i) (row a1 h) (row a2 h) (row a3 h i) k := by
  rw [← dsr_eq (q := row a0 h i) (k := row a1 h) (v := row a2 h) (g := row a3 h i) (fun d => h0 _) (fun j d => h1 _)
    (fun d => h3 _) (fun j d => h2 _) k, RDS_eq, RN_eq, RR_eq]
  have hd : ∀ k, RDP a2 a3 (ix4 0 h i k : S1x4x2048x256.Idx) = dpr (row a3 h i) (row a2 h) k := fun k => RDP_eq a2 a3 _
  have he := e_eq a0 a1 h i
  have hl := l_eq a0 a1 h i
  refine congrArg (· * scale) (congr (congrArg _ (congr (congrArg _ ?_) (congrArg _ (Finset.sum_congr rfl fun l _ => ?_)))) ?_)
  · exact congr (congrArg _ (hd k)) hl
  · exact congr (congrArg _ (congr (congrArg _ (hd l)) (congrArg _ (congr (congrArg _ hl) hl)))) (he l)
  · exact he k

theorem out0 (h0 : ∀ j, IsReal (a0 j)) (h1 : ∀ j, IsReal (a1 j)) (h2 : ∀ j, IsReal (a2 j)) (h3 : ∀ j, IsReal (a3 j))
    (j : S2048x512.Idx) :
    RQ (RDS (RE (RS a0 a1)) (RDP a2 a3) (RL (RE (RS a0 a1))) (RN (RR (RE (RS a0 a1)) (RDP a2 a3) (RL (RE (RS a0 a1)))))) a1 j
      = OQ a0 a1 a2 a3 (j 0) (j 1) := by
  exact (RQ_eq _ a1 j).trans <| Finset.sum_congr rfl fun k _ => congrArg (· * _) (ds_eq a0 a1 a2 a3 h0 h1 h2 h3 (hd (j 1)) (j 0) k)

theorem out1 (h0 : ∀ j, IsReal (a0 j)) (h1 : ∀ j, IsReal (a1 j)) (h2 : ∀ j, IsReal (a2 j)) (h3 : ∀ j, IsReal (a3 j))
    (j : S256x512.Idx) :
    RK (RDS (RE (RS a0 a1)) (RDP a2 a3) (RL (RE (RS a0 a1))) (RN (RR (RE (RS a0 a1)) (RDP a2 a3) (RL (RE (RS a0 a1)))))) a0 j
      = OK a0 a1 a2 a3 (j 0) (j 1) := by
  exact (RK_eq _ a0 j).trans <| Finset.sum_congr rfl fun i _ => congrArg (· * _) (ds_eq a0 a1 a2 a3 h0 h1 h2 h3 (hd (j 1)) i (j 0))

theorem out2 (j : S256x512.Idx) :
    RV (RE (RS a0 a1)) (RL (RE (RS a0 a1))) a3 j = OV a0 a1 a3 (j 0) (j 1) := by
  refine (RV_eq _ _ a3 j).trans <| Finset.sum_congr rfl fun i _ => (mul_comm _ _).trans (congrArg (· * _) ?_)
  exact congr (congrArg _ (e_eq a0 a1 (hd (j 1)) i (j 0))) (l_eq a0 a1 (hd (j 1)) i)

end

end Cert.ReferenceIdeal.Mem

end
-- ==== Proof.Pre.lean ====
module

public import proofs.«01_k».proof.Proof.Gen.Pre_mem_finite
public import proofs.«01_k».proof.Proof.Gen.Pre_dact_finite
public import proofs.«01_k».proof.Proof.Gen.Pre_gla_finite
public import proofs.«01_k».proof.Proof.Gen.Pre_mla_finite
public import proofs.«01_k».proof.Proof.Ext

@[expose] public section

set_option maxRecDepth 16384

noncomputable section

open Idealize.ShloMosaic
open scoped BigOperators

namespace Cert.PreRead

open Cert.Ext

/-- The precondition of the attention gradient: every element of the four arrays is a real number. -/
theorem mem (a0 : FVec Ideal Cert.Pre_mem_finite.S2048x512 .bf16) (a1 : FVec Ideal Cert.Pre_mem_finite.S256x512 .bf16)
    (a2 : FVec Ideal Cert.Pre_mem_finite.S256x512 .f32) (a3 : FVec Ideal Cert.Pre_mem_finite.S2048x512 .f32)
    (h : Cert.Pre_mem_finite.fn (F := Ideal) a0 a1 a2 a3 = fun _ => 1#1) :
    (∀ i, IsReal (a0 i)) ∧ (∀ i, IsReal (a1 i)) ∧ (∀ i, IsReal (a2 i)) ∧ (∀ i, IsReal (a3 i)) := by
  have h3 := andi_right h
  have h' := andi_left h
  have h2 := andi_right h'
  have h'' := andi_left h'
  have h1 := andi_right h''
  have h0 := andi_right (andi_left h'')
  exact ⟨all_real _ _ _ _ h0, all_real _ _ _ _ h1, all_real _ _ _ _ h2, all_real _ _ _ _ h3⟩

/-- The precondition of the feed-forward activation gradient: the incoming cotangent, the weights and the
    up projection are real numbers. -/
theorem dact (a0 : FVec Ideal Cert.Pre_dact_finite.S2048x2048 .bf16) (a1 : FVec Ideal Cert.Pre_dact_finite.S5632x2048 .bf16)
    (a2 a3 : FVec Ideal Cert.Pre_dact_finite.S2048x5632 .bf16)
    (h : Cert.Pre_dact_finite.fn (F := Ideal) a0 a1 a2 a3 = fun _ => 1#1) :
    (∀ i, IsReal (a0 i)) ∧ (∀ i, IsReal (a1 i)) ∧ (∀ i, IsReal (a3 i)) := by
  have h3 := andi_right h
  have h' := andi_left h
  have h1 := andi_right h'
  have h0 := andi_right (andi_left h')
  exact ⟨all_real _ _ _ _ h0, all_real _ _ _ _ h1, all_real _ _ _ _ h3⟩

/-- The precondition of the gated linear attention's gradient: every element of the five arrays is a real number. -/
theorem gla (a0 a1 : FVec Ideal Cert.Pre_gla_finite.S2048x512 .f32) (a2 : FVec Ideal Cert.Pre_gla_finite.S2048x1024 .f32)
    (a3 : FVec Ideal Cert.Pre_gla_finite.S2048x512 .f32) (a4 : FVec Ideal Cert.Pre_gla_finite.S2048x1024 .f32)
    (h : Cert.Pre_gla_finite.fn (F := Ideal) a0 a1 a2 a3 a4 = fun _ => 1#1) :
    (∀ i, IsReal (a0 i)) ∧ (∀ i, IsReal (a1 i)) ∧ (∀ i, IsReal (a2 i)) ∧ (∀ i, IsReal (a3 i)) ∧ (∀ i, IsReal (a4 i)) := by
  have h4 := andi_right h
  have g3 := andi_left h
  have h3 := andi_right g3
  have g2 := andi_left g3
  have h2 := andi_right g2
  have g1 := andi_left g2
  have h1 := andi_right g1
  have h0 := andi_right (andi_left g1)
  exact ⟨all_real _ _ _ _ h0, all_real _ _ _ _ h1, all_real _ _ _ _ h2, all_real _ _ _ _ h3, all_real _ _ _ _ h4⟩

/-- The precondition of the latent attention: every element of the queries and keys is a real number. -/
theorem mla (a0 a1 : FVec Ideal Cert.Pre_mla_finite.S2048x1536 .bf16) (a2 : FVec Ideal Cert.Pre_mla_finite.S2048x2048 .f32)
    (h : Cert.Pre_mla_finite.fn (F := Ideal) a0 a1 a2 = fun _ => 1#1) : (∀ i, IsReal (a0 i)) ∧ (∀ i, IsReal (a1 i)) :=
  ⟨all_real _ _ _ _ (andi_right (andi_left h)), all_real _ _ _ _ (andi_right h)⟩

end Cert.PreRead

end
-- ==== Proof.PairMem.lean ====
module

public import proofs.«01_k».proof.Defs
public import proofs.«01_k».proof.Proof.Gen.Kernel.Frame
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Pre_mem_finite
public import proofs.«01_k».proof.Proof.MemFinal
public import proofs.«01_k».proof.Proof.MemRefOut
public import proofs.«01_k».proof.Proof.Pre
public import Idealize.ShloMosaic.Lib.Claim
public import Idealize.ShloMosaic.Adequacy
public import Idealize.ShloMosaic.Init

@[expose] public section

set_option maxRecDepth 16384

noncomputable section

namespace Cert.PairMem

open Idealize.ShloMosaic Idealize.SL.Sem

theorem frame_kernel : Cert.quiescent_Kernel := fun m ρ _ => Cert.Kernel.Gen.frame m ρ

theorem frame_ideal : Cert.quiescent_KernelIdeal := fun m ρ _ => Cert.KernelIdeal.Gen.frame m ρ

theorem frame_reference : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

theorem frame_ideal_pre : Cert.quiescent_KernelIdeal_pre_mem_finite := fun m ρ _ => Cert.KernelIdeal.Gen.frame m ρ

theorem frame_reference_pre : Cert.quiescent_ReferenceIdeal_pre_mem_finite := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

theorem algebraic : Cert.algebraic_KernelIdeal_ReferenceIdeal_pre_mem_finite := by
  pair_intro
  · run_from Cert.KernelIdeal.Value.run_blocks m g
  · run_from Cert.ReferenceIdeal.Value.run m' g'
    all_goals obtain ⟨h0, h1, h2, h3⟩ := Cert.PreRead.mem _ _ _ _ (hpre c)
    · rw [Cert.KernelIdeal.Mem.final4 m c]
      funext j
      refine Eq.trans ?_ (Cert.ReferenceIdeal.Mem.out0 _ _ _ _ h0 h1 h2 h3 j)
      unfold Cert.ReferenceIdeal.Value.res_main_v62
      simp only [hagree c]
      rfl
    · rw [Cert.KernelIdeal.Mem.final5 m c]
      funext j
      refine Eq.trans ?_ (Cert.ReferenceIdeal.Mem.out1 _ _ _ _ h0 h1 h2 h3 j)
      unfold Cert.ReferenceIdeal.Value.res_main_v63
      simp only [hagree c]
      rfl
    · rw [Cert.KernelIdeal.Mem.final6 m c]
      funext j
      exact Cert.ReferenceIdeal.Mem.out2 _ _ _ j

end Cert.PairMem

end
-- ==== Proof.DactRef.lean ====
module

public import proofs.«01_k».proof.Proof.Gen.Reference2Ideal.Run
public import Idealize.ShloMosaic.Lib.Pointwise
public import proofs.«01_k».proof.Proof.Ext

@[expose] public section

set_option maxRecDepth 16384

noncomputable section

open Idealize.ShloMosaic
open scoped BigOperators

namespace Cert.Reference2Ideal.Dact

open Cert.Reference2Ideal Cert.Reference2Ideal.Gen Cert.Ext

/-- The gradient of the gate as one term over the arguments. -/
abbrev REF0 (a0 : FVec Ideal S2048x2048 .bf16) (a1 : FVec Ideal S5632x2048 .bf16) (a2 a3 : FVec Ideal S2048x5632 .bf16) :
    FVec Ideal S2048x5632 .bf16 :=
  truncf .bf16 (addf (mulf (mulf (Host.dotGeneral (F := Ideal) dot_S2048x2048_S5632x2048_S2048x5632_1_1_0_0_n_n none (mulf (broadcastInDim S2048x2048 ![] bcast_S_S2048x2048 (constant (F := Ideal) S_ .f32 0x3F000000#32)) (extf .f32 a0 bitsLt_bf16_f32)) (extf .f32 a1 bitsLt_bf16_f32)) (extf .f32 a3 bitsLt_bf16_f32)) (Host.divf (broadcastInDim S2048x5632 ![] bcast_S_S2048x5632 (constant (F := Ideal) S_ .f32 0x3F800000#32)) (addf (broadcastInDim S2048x5632 ![] bcast_S_S2048x5632 (constant (F := Ideal) S_ .f32 0x3F800000#32)) (Host.exp (Host.negf (extf .f32 a2 bitsLt_bf16_f32)))))) (mulf (mulf (extf .f32 a2 bitsLt_bf16_f32) (mulf (Host.dotGeneral (F := Ideal) dot_S2048x2048_S5632x2048_S2048x5632_1_1_0_0_n_n none (mulf (broadcastInDim S2048x2048 ![] bcast_S_S2048x2048 (constant (F := Ideal) S_ .f32 0x3F000000#32)) (extf .f32 a0 bitsLt_bf16_f32)) (extf .f32 a1 bitsLt_bf16_f32)) (extf .f32 a3 bitsLt_bf16_f32))) (mulf (Host.divf (broadcastInDim S2048x5632 ![] bcast_S_S2048x5632 (constant (F := Ideal) S_ .f32 0x3F800000#32)) (addf (broadcastInDim S2048x5632 ![] bcast_S_S2048x5632 (constant (F := Ideal) S_ .f32 0x3F800000#32)) (Host.exp (Host.negf (extf .f32 a2 bitsLt_bf16_f32))))) (subf (broadcastInDim S2048x5632 ![] bcast_S_S2048x5632 (constant (F := Ideal) S_ .f32 0x3F800000#32)) (Host.divf (broadcastInDim S2048x5632 ![] bcast_S_S2048x5632 (constant (F := Ideal) S_ .f32 0x3F800000#32)) (addf (broadcastInDim S2048x5632 ![] bcast_S_S2048x5632 (constant (F := Ideal) S_ .f32 0x3F800000#32)) (Host.exp (Host.negf (extf .f32 a2 bitsLt_bf16_f32))))))))) bitsLt_bf16_f32

/-- The gradient of the up projection as one term over the arguments. -/
abbrev REF1 (a0 : FVec Ideal S2048x2048 .bf16) (a1 : FVec Ideal S5632x2048 .bf16) (a2 : FVec Ideal S2048x5632 .bf16) :
    FVec Ideal S2048x5632 .bf16 :=
  truncf .bf16 (mulf (mulf (extf .f32 a2 bitsLt_bf16_f32) (Host.divf (broadcastInDim S2048x5632 ![] bcast_S_S2048x5632 (constant (F := Ideal) S_ .f32 0x3F800000#32)) (addf (broadcastInDim S2048x5632 ![] bcast_S_S2048x5632 (constant (F := Ideal) S_ .f32 0x3F800000#32)) (Host.exp (Host.negf (extf .f32 a2 bitsLt_bf16_f32)))))) (Host.dotGeneral (F := Ideal) dot_S2048x2048_S5632x2048_S2048x5632_1_1_0_0_n_n none (mulf (broadcastInDim S2048x2048 ![] bcast_S_S2048x2048 (constant (F := Ideal) S_ .f32 0x3F000000#32)) (extf .f32 a0 bitsLt_bf16_f32)) (extf .f32 a1 bitsLt_bf16_f32))) bitsLt_bf16_f32

/-- The logistic function. -/
def sg (g : EReal) : EReal := Ideal.div 1 (1 + Ideal.exp (-g))

theorem sg_real (x : ℝ) : ∃ s : ℝ, sg (x : EReal) = (s : EReal) := by
  have hp : (1 + Real.exp (-x)) ≠ 0 := by positivity
  refine ⟨1 / (1 + Real.exp (-x)), ?_⟩
  have h : (1 : EReal) + Ideal.exp (-(x : EReal)) = ((1 + Real.exp (-x) : ℝ) : EReal) := rfl
  rw [sg, h, Ideal.div_coe hp, one_mul]

theorem sg_top : sg ⊤ = 1 := by
  have h : Ideal.exp (-(⊤ : EReal)) = 0 := rfl
  rw [sg, h, add_zero]
  simpa using Ideal.div_coe (y := 1) one_ne_zero (1 : EReal)

theorem sg_bot : sg ⊥ = 0 := by
  have h : Ideal.exp (-(⊥ : EReal)) = ⊤ := rfl
  rw [sg, h]
  have h2 : (1 : EReal) + ⊤ = ⊤ := rfl
  rw [h2, Ideal.div, if_neg (by simp)]
  simp

/-- The two ways of writing the gradient of `g · sg g`, times a real number. -/
theorem silu_grad (d : ℝ) (g : EReal) :
    (d : EReal) * (sg g * (1 + g * (1 - sg g))) = d * sg g + g * d * (sg g * (1 - sg g)) := by
  have h0 : (1 : EReal) - 1 = 0 := (EReal.coe_sub 1 1).symm.trans (by simp)
  induction g with
  | bot => rw [sg_bot]; simp
  | coe x =>
    obtain ⟨s, hs⟩ := sg_real x
    have h1 : (1 : EReal) = ((1 : ℝ) : EReal) := rfl
    rw [hs, h1, ← EReal.coe_sub, ← EReal.coe_mul, ← EReal.coe_add, ← EReal.coe_mul, ← EReal.coe_mul, ← EReal.coe_mul,
      ← EReal.coe_mul, ← EReal.coe_mul, ← EReal.coe_mul, ← EReal.coe_add]
    congr 1
    ring
  | top => rw [sg_top, h0]; simp

end Cert.Reference2Ideal.Dact

end
-- ==== Proof.Dact.lean ====
module

public import proofs.«01_k».proof.Proof.Gen.Kernel2Ideal.Frame
public import proofs.«01_k».proof.Proof.Gen.Kernel2Ideal.Value
public import proofs.«01_k».proof.Proof.DactRef
public import Idealize.ShloMosaic.Lib.Pipeline.ValueKit
public import Idealize.ShloMosaic.Lib.Pointwise
public import proofs.«01_k».proof.Proof.Ext

@[expose] public section

set_option maxRecDepth 16384

noncomputable section

open Idealize.ShloMosaic Idealize.ShloMosaic.TcCoe Idealize.SL.Sem
open Idealize.ShloMosaic.Pipeline (Dat)
open scoped BigOperators

namespace Cert.Kernel2Ideal.Dact

open Cert.Kernel2Ideal Cert.Kernel2Ideal.Gen Cert.Ext Cert.Reference2Ideal.Dact

variable (m : (ℓ : Loc nD τ sig) → Buf (Elt Ideal) ℓ)

/-- Every window's block index at every grid point. -/
theorem idx : ∀ t : Fin cfg0.N, win0_0.index t = ![t.val % 4, 0]
    ∧ win0_1.index t = ![t.val / 4, 0]
    ∧ win0_2.index t = ![t.val % 4, t.val / 4]
    ∧ win0_3.index t = ![t.val % 4, t.val / 4]
    ∧ win0_4.index t = ![t.val % 4, t.val / 4]
    ∧ win0_5.index t = ![t.val % 4, t.val / 4] :=
  (by decide +kernel : ∀ t : Fin grid0.N, _)

/-- The cotangent of the product of the gate's activation and the up projection. -/
def da {p q : ℕ} (x0 : (⟨2, ![p, 2048]⟩ : Shape).Idx → EReal) (x1 : (⟨2, ![q, 2048]⟩ : Shape).Idx → EReal) (i : Fin p) (j : Fin q) : EReal :=
  ∑ k : Fin 2048, (((1 / 2 : ℝ)) : EReal) * x0 (ix2 i k) * x1 (ix2 j k)

theorem pay1_eq (x0 : FVec Ideal S512x2048 .bf16) (x1 : FVec Ideal S1408x2048 .bf16) (y : S512x1408.Idx) :
    k0_pay1 (F := Ideal) x0 x1 y = da x0 x1 (y 0) (y 1) := by
  pointwise [k0_pay1]
  rw [half_eq, mul_comm, mul_sum_of_nonneg (by norm_num)]
  exact Finset.sum_congr rfl fun k _ => (mul_assoc _ _ _).symm

theorem pay3_eq (x2 : FVec Ideal S512x1408 .bf16) (y : S512x1408.Idx) : k0_pay3 (F := Ideal) x2 y = sg (x2 y) := by
  pointwise [k0_pay3, k0_pay2]
  rw [sg, zero_sub]

theorem pay4_eq (x0 : FVec Ideal S512x2048 .bf16) (x1 : FVec Ideal S1408x2048 .bf16) (x2 : FVec Ideal S512x1408 .bf16) (y : S512x1408.Idx) :
    k0_pay4 (F := Ideal) x0 x1 x2 y = da x0 x1 (y 0) (y 1) * (x2 y * sg (x2 y)) := by
  pointwise [k0_pay4, k0_pay2, pay1_eq, pay3_eq]

theorem pay5_eq (x0 : FVec Ideal S512x2048 .bf16) (x1 : FVec Ideal S1408x2048 .bf16) (x2 x3 : FVec Ideal S512x1408 .bf16) (y : S512x1408.Idx) :
    k0_pay5 (F := Ideal) x0 x1 x2 x3 y = da x0 x1 (y 0) (y 1) * x3 y * (sg (x2 y) * (1 + x2 y * (1 - sg (x2 y)))) := by
  pointwise [k0_pay5, k0_pay2, pay1_eq, pay3_eq]

theorem ref0_eq (a0 : FVec Ideal S2048x2048 .bf16) (a1 : FVec Ideal S5632x2048 .bf16) (a2 a3 : FVec Ideal S2048x5632 .bf16) (y : S2048x5632.Idx) :
    REF0 a0 a1 a2 a3 y = da a0 a1 (y 0) (y 1) * a3 y * sg (a2 y)
      + a2 y * (da a0 a1 (y 0) (y 1) * a3 y) * (sg (a2 y) * (1 - sg (a2 y))) := by
  pointwise [REF0]
  simp only [half_eq]
  rfl

theorem ref1_eq (a0 : FVec Ideal S2048x2048 .bf16) (a1 : FVec Ideal S5632x2048 .bf16) (a2 : FVec Ideal S2048x5632 .bf16) (y : S2048x5632.Idx) :
    REF1 a0 a1 a2 y = a2 y * sg (a2 y) * da a0 a1 (y 0) (y 1) := by
  pointwise [REF1]
  simp only [half_eq]
  rfl

theorem da_real {p q : ℕ} {x0 : (⟨2, ![p, 2048]⟩ : Shape).Idx → EReal} {x1 : (⟨2, ![q, 2048]⟩ : Shape).Idx → EReal}
    (h0 : ∀ i, IsReal (x0 i)) (h1 : ∀ i, IsReal (x1 i)) (i : Fin p) (j : Fin q) : IsReal (da x0 x1 i j) :=
  IsReal.sum fun k => (IsReal.mul ⟨1 / 2, rfl⟩ (h0 _)).mul (h1 _)

theorem da4 (c : Dev nD) (t : Fin cfg0.N) (y : S512x1408.Idx) :
    da (iblk m c 0 t) (iblk m c 1 t) (y 0) (y 1)
      = da (m ((c : Thread nD τ).loc main_arg0)) (m ((c : Thread nD τ).loc main_arg1)) (((cfg0.win 4).blk t).view.emb y 0) (((cfg0.win 4).blk t).view.emb y 1) := by
  refine Finset.sum_congr rfl fun k _ => ?_
  blk_point [iblk, V, idx t]

theorem da5 (c : Dev nD) (t : Fin cfg0.N) (y : S512x1408.Idx) :
    da (iblk m c 0 t) (iblk m c 1 t) (y 0) (y 1)
      = da (m ((c : Thread nD τ).loc main_arg0)) (m ((c : Thread nD τ).loc main_arg1)) (((cfg0.win 5).blk t).view.emb y 0) (((cfg0.win 5).blk t).view.emb y 1) := by
  refine Finset.sum_congr rfl fun k _ => ?_
  blk_point [iblk, V, idx t]

theorem g4 (c : Dev nD) (t : Fin cfg0.N) (y : S512x1408.Idx) : iblk m c 2 t y = (m ((c : Thread nD τ).loc main_arg2)) (((cfg0.win 4).blk t).view.emb y) := by
  blk_point [iblk, V, idx t]

theorem u4 (c : Dev nD) (t : Fin cfg0.N) (y : S512x1408.Idx) : iblk m c 3 t y = (m ((c : Thread nD τ).loc main_arg3)) (((cfg0.win 4).blk t).view.emb y) := by
  blk_point [iblk, V, idx t]

theorem g5 (c : Dev nD) (t : Fin cfg0.N) (y : S512x1408.Idx) : iblk m c 2 t y = (m ((c : Thread nD τ).loc main_arg2)) (((cfg0.win 5).blk t).view.emb y) := by
  blk_point [iblk, V, idx t]

theorem point4 (c : Dev nD) (h0 : ∀ i, IsReal ((m ((c : Thread nD τ).loc main_arg0)) i)) (h1 : ∀ i, IsReal ((m ((c : Thread nD τ).loc main_arg1)) i)) (h3 : ∀ i, IsReal ((m ((c : Thread nD τ).loc main_arg3)) i))
    (t : Fin cfg0.N) (y : S512x1408.Idx) :
    k0_pay5 (F := Ideal) (iblk m c 0 t) (iblk m c 1 t) (iblk m c 2 t) (iblk m c 3 t) y
      = REF0 (m ((c : Thread nD τ).loc main_arg0)) (m ((c : Thread nD τ).loc main_arg1)) (m ((c : Thread nD τ).loc main_arg2)) (m ((c : Thread nD τ).loc main_arg3)) (((cfg0.win 4).blk t).view.emb y) := by
  refine (pay5_eq _ _ _ _ y).trans ((Eq.trans ?_ (ref0_eq _ _ _ _ _).symm))
  rw [da4 m c t y, g4 m c t y, u4 m c t y]
  obtain ⟨d, hd⟩ := (da_real h0 h1 (((cfg0.win 4).blk t).view.emb y 0) (((cfg0.win 4).blk t).view.emb y 1)).mul
    (h3 (((cfg0.win 4).blk t).view.emb y))
  exact hd ▸ silu_grad d _

theorem point5 (c : Dev nD) (t : Fin cfg0.N) (y : S512x1408.Idx) :
    k0_pay4 (F := Ideal) (iblk m c 0 t) (iblk m c 1 t) (iblk m c 2 t) y
      = REF1 (m ((c : Thread nD τ).loc main_arg0)) (m ((c : Thread nD τ).loc main_arg1)) (m ((c : Thread nD τ).loc main_arg2)) (((cfg0.win 5).blk t).view.emb y) := by
  refine (pay4_eq _ _ _ y).trans ((Eq.trans ?_ (ref1_eq _ _ _ _).symm))
  rw [da5 m c t y, g5 m c t y]
  exact mul_comm _ _

theorem final4 (c : Dev nD) (h0 : ∀ i, IsReal ((m ((c : Thread nD τ).loc main_arg0)) i)) (h1 : ∀ i, IsReal ((m ((c : Thread nD τ).loc main_arg1)) i)) (h3 : ∀ i, IsReal ((m ((c : Thread nD τ).loc main_arg3)) i)) :
    (dats m 0 c).arrAt 4 (cfgs 0).N = REF0 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp; rw [after0_4]; frame_out
  exact point4 m c h0 h1 h3 t y

theorem final5 (c : Dev nD) : (dats m 0 c).arrAt 5 (cfgs 0).N = REF1 (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp; rw [after0_5]; frame_out
  exact point5 m c t y

end Cert.Kernel2Ideal.Dact

end
-- ==== Proof.PairDact.lean ====
module

public import proofs.«01_k».proof.Defs
public import proofs.«01_k».proof.Proof.Gen.Kernel2.Frame
public import proofs.«01_k».proof.Proof.Gen.Kernel2Ideal.Frame
public import proofs.«01_k».proof.Proof.Gen.Reference2Ideal
public import proofs.«01_k».proof.Proof.Gen.Kernel2Ideal.Value
public import proofs.«01_k».proof.Proof.Gen.Reference2Ideal.Run
public import proofs.«01_k».proof.Proof.Gen.Pre_dact_finite
public import proofs.«01_k».proof.Proof.Dact
public import proofs.«01_k».proof.Proof.Pre
public import Idealize.ShloMosaic.Lib.Claim
public import Idealize.ShloMosaic.Adequacy
public import Idealize.ShloMosaic.Init

@[expose] public section

set_option maxRecDepth 16384

noncomputable section

namespace Cert.PairDact

open Idealize.ShloMosaic Idealize.SL.Sem

theorem frame_kernel : Cert.quiescent_Kernel2 := fun m ρ _ => Cert.Kernel2.Gen.frame m ρ

theorem frame_ideal : Cert.quiescent_Kernel2Ideal := fun m ρ _ => Cert.Kernel2Ideal.Gen.frame m ρ

theorem frame_reference : Cert.quiescent_Reference2Ideal := fun m ρ _ =>
  (θ_run Cert.Reference2Ideal.defs _ _).mono (fun r h => ⟨fun c => (h c).2.2, sem_eq_zero_of_no_sems (by decide) r.2⟩)
    (Cert.Reference2Ideal.Value.run (F := Ideal) m ρ)

theorem frame_ideal_pre : Cert.quiescent_Kernel2Ideal_pre_dact_finite := fun m ρ _ => Cert.Kernel2Ideal.Gen.frame m ρ

theorem frame_reference_pre : Cert.quiescent_Reference2Ideal_pre_dact_finite := fun m ρ _ =>
  (θ_run Cert.Reference2Ideal.defs _ _).mono (fun r h => ⟨fun c => (h c).2.2, sem_eq_zero_of_no_sems (by decide) r.2⟩)
    (Cert.Reference2Ideal.Value.run (F := Ideal) m ρ)

theorem algebraic : Cert.algebraic_Kernel2Ideal_Reference2Ideal_pre_dact_finite := by
  pair_intro
  · run_from Cert.Kernel2Ideal.Value.run_blocks m g
  · run_from Cert.Reference2Ideal.Value.run m' g'
    all_goals obtain ⟨h0, h1, h3⟩ := Cert.PreRead.dact _ _ _ _ (hpre c)
    · rw [Cert.Kernel2Ideal.Dact.final4 m c h0 h1 h3]
    · rw [Cert.Kernel2Ideal.Dact.final5 m c]

end Cert.PairDact

end
-- ==== Proof.Dwd.lean ====
module

public import proofs.«01_k».proof.Proof.Gen.Kernel3Ideal.Frame
public import proofs.«01_k».proof.Proof.Gen.Kernel3Ideal.Value
public import proofs.«01_k».proof.Proof.Gen.Reference3Ideal.Run
public import Idealize.ShloMosaic.Lib.Pipeline.ValueKit
public import Idealize.ShloMosaic.Lib.Pointwise
public import proofs.«01_k».proof.Proof.Ext

@[expose] public section

set_option maxRecDepth 16384

noncomputable section

open Idealize.ShloMosaic Idealize.ShloMosaic.TcCoe Idealize.SL.Sem
open Idealize.ShloMosaic.Pipeline (Dat)
open scoped BigOperators

namespace Cert.Kernel3Ideal.Dwd

open Cert.Kernel3Ideal Cert.Kernel3Ideal.Gen

variable (m : (ℓ : Loc nD τ sig) → Buf (Elt Ideal) ℓ)

/-- The reference's result as one term over the two arguments. -/
abbrev REF (a0 : FVec Ideal S2048x5632 .bf16) (a1 : FVec Ideal S2048x2048 .bf16) : FVec Ideal S5632x2048 .f32 :=
  transpose Cert.Reference3Ideal.S5632x2048 [1, 0] (Host.dotGeneral (F := Ideal) Cert.Reference3Ideal.dot_S2048x2048_S2048x5632_S2048x5632_0_0_1_1_n_n none (mulf (broadcastInDim Cert.Reference3Ideal.S2048x2048 ![] Cert.Reference3Ideal.Gen.bcast_S_S2048x2048 (constant (F := Ideal) Cert.Reference3Ideal.S_ .f32 0x3F000000#32)) (extf .f32 a1 Cert.Reference3Ideal.Gen.bitsLt_bf16_f32)) (extf .f32 a0 Cert.Reference3Ideal.Gen.bitsLt_bf16_f32)) Cert.Reference3Ideal.Gen.transposes_S2048x5632_S5632x2048_1_0

/-- Every window's block index at every grid point. -/
theorem idx : ∀ t : Fin cfg0.N, win0_0.index t = ![0, t.val / 2]
    ∧ win0_1.index t = ![0, t.val % 2]
    ∧ win0_2.index t = ![t.val / 2, t.val % 2] :=
  (by decide +kernel : ∀ t : Fin grid0.N, _)

theorem point (c : Dev nD) (t : Fin cfg0.N) (y) :
    k0_pay1 (iblk m c 0 t) (iblk m c 1 t) y
      = REF (m ((c : Thread nD τ).loc main_arg0)) (m ((c : Thread nD τ).loc main_arg1)) (((cfg0.win 2).blk t).view.emb y) := by
  pointwise [k0_pay1, REF]
  rw [Cert.Ext.half_eq, mul_comm, Cert.Ext.mul_sum_of_nonneg (by norm_num)]
  refine Fin.sum_fin_congr fun k => ?_
  refine (Cert.Ext.mul_swap _ _ _).trans ?_
  blk_point [iblk, V, idx t]

/-- The result array after the run is the reference's term over the arguments. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp; rw [after0_2]; frame_out
  exact point m c t y

end Cert.Kernel3Ideal.Dwd

end
-- ==== Proof.PairDwd.lean ====
module

public import proofs.«01_k».proof.Defs
public import proofs.«01_k».proof.Proof.Gen.Kernel3.Frame
public import proofs.«01_k».proof.Proof.Gen.Kernel3Ideal.Frame
public import proofs.«01_k».proof.Proof.Gen.Reference3Ideal
public import proofs.«01_k».proof.Proof.Gen.Kernel3Ideal.Value
public import proofs.«01_k».proof.Proof.Gen.Reference3Ideal.Run
public import proofs.«01_k».proof.Proof.Dwd
public import Idealize.ShloMosaic.Lib.Claim
public import Idealize.ShloMosaic.Adequacy
public import Idealize.ShloMosaic.Init

@[expose] public section

set_option maxRecDepth 16384

noncomputable section

namespace Cert.PairDwd

open Idealize.ShloMosaic Idealize.SL.Sem

theorem frame_kernel : Cert.quiescent_Kernel3 := fun m ρ _ => Cert.Kernel3.Gen.frame m ρ

theorem frame_ideal : Cert.quiescent_Kernel3Ideal := fun m ρ _ => Cert.Kernel3Ideal.Gen.frame m ρ

theorem frame_reference : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem algebraic : Cert.algebraic_Kernel3Ideal_Reference3Ideal := by
  pair_intro
  · run_from (Cert.Kernel3Ideal.Value.run_blocks m g)
  · run_from Cert.Reference3Ideal.Value.run m' g'
    rw [Cert.Kernel3Ideal.Dwd.final m c]

end Cert.PairDwd

end
-- ==== Proof.GlaKer.lean ====
module

public import proofs.«01_k».proof.Proof.Gen.Kernel4Ideal.Value
public import Idealize.ShloMosaic.Lib.Pipeline.ValueKit
public import Idealize.ShloMosaic.Lib.Pipeline.ReadBack

@[expose] public section

set_option maxRecDepth 16384
set_option pp.deepTerms false

noncomputable section

namespace Cert.Kernel4Ideal.Hand

open Cert.Kernel4Ideal Cert.Kernel4Ideal.Gen Idealize.ShloMosaic Idealize.ShloMosaic.TcCoe
open Idealize.ShloMosaic.Pipeline (Dat)

/-- The state's cotangent with the point's own part. -/
def Kd (x0 : FVec Ideal S64x512 .f32) (x8 : FVec Ideal S64x1024 .f32) (s : FVec Ideal S4x256x128 .f32) (h : Fin 4) (w : Fin 256) (k : Fin 128) : EReal :=
  s (ix3 h w k) + ∑ i : Fin 64, x8 (ix2 i ⟨h.val * 256 + w.val, by omega⟩) * (x0 (ix2 i ⟨h.val * 128 + k.val, by omega⟩) * Ideal.ofBits .f32 0x3DB504F3#32)

/-- What the scratch holds after a point. -/
def Ks (x0 : FVec Ideal S64x512 .f32) (x3 : FVec Ideal S64x512 .f32) (x8 : FVec Ideal S64x1024 .f32) (s : FVec Ideal S4x256x128 .f32) (h : Fin 4) (w : Fin 256) (k : Fin 128) : EReal :=
  Kd x0 x8 s h w k * Ideal.exp (∑ j : Fin 64, x3 (ix2 j ⟨h.val * 128 + k.val, by omega⟩))

theorem ps3 (x0 x3 : FVec Ideal S64x512 .f32) (x8 : FVec Ideal S64x1024 .f32) (s : FVec Ideal S4x256x128 .f32) (y : S4x256x128.Idx) (x : S1x256x128.Idx)
    (h0 : (y 0 : ℕ) = 3 + (x 0 : ℕ)) (h1 : (y 1 : ℕ) = (x 1 : ℕ)) (h2 : (y 2 : ℕ) = (x 2 : ℕ)) :
    k0_pay70 (F := Ideal) (k0_pay65 (View.ld (Val := Elt Ideal) (e' := .f32) x3 (Rect.unit ![0, 384] ![64, 128] inb_S64x512_S64x128_0_384)))
      (k0_pay66 (View.ld (Val := Elt Ideal) (e' := .f32) x8 (Rect.unit ![0, 768] ![64, 256] inb_S64x1024_S64x256_0_768)))
      (k0_pay67 (View.ld (Val := Elt Ideal) (e' := .f32) x0 (Rect.unit ![0, 384] ![64, 128] inb_S64x512_S64x128_0_384)))
      (View.ld (Val := Elt Ideal) (S := S4x256x128) (e' := .f32) s (Rect.unit ![3, 0, 0] ![1, 256, 128] inb_S4x256x128_S1x256x128_3_0_0)) x
      = Ks x0 x3 x8 s (y 0) (y 1) (y 2) := by
  have x0_lt : (x 0 : ℕ) < 1 := (x 0).isLt
  have x1_lt : (x 1 : ℕ) < 256 := (x 1).isLt
  have x2_lt : (x 2 : ℕ) < 128 := (x 2).isLt
  pointwise [k0_pay70, k0_pay69, k0_pay65, k0_pay62, k0_pay66, k0_pay67]
  unfold Ks Kd
  blk_point []

theorem ps2 (x0 x3 : FVec Ideal S64x512 .f32) (x8 : FVec Ideal S64x1024 .f32) (s : FVec Ideal S4x256x128 .f32) (y : S4x256x128.Idx) (x : S1x256x128.Idx)
    (h0 : (y 0 : ℕ) = 2 + (x 0 : ℕ)) (h1 : (y 1 : ℕ) = (x 1 : ℕ)) (h2 : (y 2 : ℕ) = (x 2 : ℕ)) :
    k0_pay51 (F := Ideal) (k0_pay46 (View.ld (Val := Elt Ideal) (e' := .f32) x3 (Rect.unit ![0, 256] ![64, 128] inb_S64x512_S64x128_0_256)))
      (k0_pay47 (View.ld (Val := Elt Ideal) (e' := .f32) x8 (Rect.unit ![0, 512] ![64, 256] inb_S64x1024_S64x256_0_512)))
      (k0_pay48 (View.ld (Val := Elt Ideal) (e' := .f32) x0 (Rect.unit ![0, 256] ![64, 128] inb_S64x512_S64x128_0_256)))
      (View.ld (Val := Elt Ideal) (S := S4x256x128) (e' := .f32) s (Rect.unit ![2, 0, 0] ![1, 256, 128] inb_S4x256x128_S1x256x128_2_0_0)) x
      = Ks x0 x3 x8 s (y 0) (y 1) (y 2) := by
  have x0_lt : (x 0 : ℕ) < 1 := (x 0).isLt
  have x1_lt : (x 1 : ℕ) < 256 := (x 1).isLt
  have x2_lt : (x 2 : ℕ) < 128 := (x 2).isLt
  pointwise [k0_pay51, k0_pay50, k0_pay46, k0_pay43, k0_pay47, k0_pay48]
  unfold Ks Kd
  blk_point []

theorem ps1 (x0 x3 : FVec Ideal S64x512 .f32) (x8 : FVec Ideal S64x1024 .f32) (s : FVec Ideal S4x256x128 .f32) (y : S4x256x128.Idx) (x : S1x256x128.Idx)
    (h0 : (y 0 : ℕ) = 1 + (x 0 : ℕ)) (h1 : (y 1 : ℕ) = (x 1 : ℕ)) (h2 : (y 2 : ℕ) = (x 2 : ℕ)) :
    k0_pay32 (F := Ideal) (k0_pay27 (View.ld (Val := Elt Ideal) (e' := .f32) x3 (Rect.unit ![0, 128] ![64, 128] inb_S64x512_S64x128_0_128)))
      (k0_pay28 (View.ld (Val := Elt Ideal) (e' := .f32) x8 (Rect.unit ![0, 256] ![64, 256] inb_S64x1024_S64x256_0_256)))
      (k0_pay29 (View.ld (Val := Elt Ideal) (e' := .f32) x0 (Rect.unit ![0, 128] ![64, 128] inb_S64x512_S64x128_0_128)))
      (View.ld (Val := Elt Ideal) (S := S4x256x128) (e' := .f32) s (Rect.unit ![1, 0, 0] ![1, 256, 128] inb_S4x256x128_S1x256x128_1_0_0)) x
      = Ks x0 x3 x8 s (y 0) (y 1) (y 2) := by
  have x0_lt : (x 0 : ℕ) < 1 := (x 0).isLt
  have x1_lt : (x 1 : ℕ) < 256 := (x 1).isLt
  have x2_lt : (x 2 : ℕ) < 128 := (x 2).isLt
  pointwise [k0_pay32, k0_pay31, k0_pay27, k0_pay24, k0_pay28, k0_pay29]
  unfold Ks Kd
  blk_point []

theorem ps0 (x0 x3 : FVec Ideal S64x512 .f32) (x8 : FVec Ideal S64x1024 .f32) (s : FVec Ideal S4x256x128 .f32) (y : S4x256x128.Idx) (x : S1x256x128.Idx)
    (h0 : (y 0 : ℕ) = 0 + (x 0 : ℕ)) (h1 : (y 1 : ℕ) = (x 1 : ℕ)) (h2 : (y 2 : ℕ) = (x 2 : ℕ)) :
    k0_pay13 (F := Ideal) (k0_pay8 (View.ld (Val := Elt Ideal) (e' := .f32) x3 (Rect.unit ![0, 0] ![64, 128] inb_S64x512_S64x128_0_0)))
      (k0_pay9 (View.ld (Val := Elt Ideal) (e' := .f32) x8 (Rect.unit ![0, 0] ![64, 256] inb_S64x1024_S64x256_0_0)))
      (k0_pay10 (View.ld (Val := Elt Ideal) (e' := .f32) x0 (Rect.unit ![0, 0] ![64, 128] inb_S64x512_S64x128_0_0)))
      (View.ld (Val := Elt Ideal) (S := S4x256x128) (e' := .f32) s (Rect.unit ![0, 0, 0] ![1, 256, 128] inb_S4x256x128_S1x256x128_0_0_0)) x
      = Ks x0 x3 x8 s (y 0) (y 1) (y 2) := by
  have x0_lt : (x 0 : ℕ) < 1 := (x 0).isLt
  have x1_lt : (x 1 : ℕ) < 256 := (x 1).isLt
  have x2_lt : (x 2 : ℕ) < 128 := (x 2).isLt
  pointwise [k0_pay13, k0_pay12, k0_pay8, k0_pay5, k0_pay9, k0_pay10]
  unfold Ks Kd
  blk_point []

variable (m : (ℓ : Loc nD τ sig) → Buf (Elt Ideal) ℓ)

theorem sB (c : Dev nD) (t : Fin cfg0.N) (ht : ¬t.val % 32 = 0) (y : S4x256x128.Idx) :
    (outsAt0 m c t.val t.isLt).2.2.2.2 y = Ks (iblk m c 0 t) (iblk m c 3 t) (iblk m c 8 t) (outsAt0 m c (t.val - 1) (Nat.lt_of_le_of_lt (Nat.sub_le _ _) t.isLt)).2.2.2.2
      (y 0) (y 1) (y 2) := by
  rw [outsAt0_B m c t ht]
  frame_out
  rw [read_unread_whole]
  canon_tiles x h
  · exact ps3 _ _ _ _ y x h0 h1 h2
  · exact ps2 _ _ _ _ y x h0 h1 h2
  · exact ps1 _ _ _ _ y x h0 h1 h2
  · exact ps0 _ _ _ _ y x (by omega) h1 h2

theorem sA (c : Dev nD) (t : Fin cfg0.N) (ht : t.val % 32 = 0) (y : S4x256x128.Idx) :
    (outsAt0 m c t.val t.isLt).2.2.2.2 y = Ks (iblk m c 0 t) (iblk m c 3 t) (iblk m c 8 t) (fun _ => 0) (y 0) (y 1) (y 2) := by
  generalize hz : Ks (iblk m c 0 t) (iblk m c 3 t) (iblk m c 8 t) (fun _ => 0) (y 0) (y 1) (y 2) = z
  rw [outsAt0_A m c t ht]
  frame_out
  simp (disch := decide) only [↓ View.readCov_skip, ↓ View.readCov_cons_toLoadRect, ↓ View.readCov_fill]
  subst hz
  rw [show (k0_pay2 (F := Ideal)) = fun _ => 0 from funext fun j => by pointwise [k0_pay2]]
  refine View.canon_append_of_piecesOf (Val := Elt Ideal) (e := .f32) (fun y : S4x256x128.Idx => Ks (iblk m c 0 t) (iblk m c 3 t) (iblk m c 8 t) (fun _ => 0) (y 0) (y 1) (y 2))
    [_] [_, _, _, _] ⟨fun (x : S1x256x128.Idx) => ?_, fun (x : S1x256x128.Idx) => ?_, fun (x : S1x256x128.Idx) => ?_, fun (x : S1x256x128.Idx) => ?_, trivial⟩ y ?_
  · refine ps3 _ _ _ _ _ x ?_ ?_ ?_
    · show 3 + 1 * (x 0 : ℕ) = _
      omega
    · show 0 + 1 * (x 1 : ℕ) = _
      omega
    · show 0 + 1 * (x 2 : ℕ) = _
      omega
  · refine ps2 _ _ _ _ _ x ?_ ?_ ?_
    · show 2 + 1 * (x 0 : ℕ) = _
      omega
    · show 0 + 1 * (x 1 : ℕ) = _
      omega
    · show 0 + 1 * (x 2 : ℕ) = _
      omega
  · refine ps1 _ _ _ _ _ x ?_ ?_ ?_
    · show 1 + 1 * (x 0 : ℕ) = _
      omega
    · show 0 + 1 * (x 1 : ℕ) = _
      omega
    · show 0 + 1 * (x 2 : ℕ) = _
      omega
  · refine ps0 _ _ _ _ _ x ?_ ?_ ?_
    · show 0 + 1 * (x 0 : ℕ) = _
      omega
    · show 0 + 1 * (x 1 : ℕ) = _
      omega
    · show 0 + 1 * (x 2 : ℕ) = _
      omega
  · simp only [List.mem_cons, List.not_mem_nil, or_false, exists_eq_or_imp, exists_eq_left]
    rw [Rect.mem_set_unit, Rect.mem_set_unit, Rect.mem_set_unit, Rect.mem_set_unit]
    have b0 : (y 0 : ℕ) < 4 := (y 0).isLt
    have b1 : (y 1 : ℕ) < 256 := (y 1).isLt
    have b2 : (y 2 : ℕ) < 128 := (y 2).isLt
    have key : ∀ n : ℕ, (y 0 : ℕ) = n → ∀ a : Fin 3, (![n, 0, 0] : Fin 3 → ℕ) a ≤ (y a : ℕ) ∧ (y a : ℕ) < (![n, 0, 0] : Fin 3 → ℕ) a + (![1, 256, 128] : Fin 3 → ℕ) a := by
      intro n hn a
      fin_cases a
      · show n ≤ (y 0 : ℕ) ∧ (y 0 : ℕ) < n + 1
        omega
      · show 0 ≤ (y 1 : ℕ) ∧ (y 1 : ℕ) < 0 + 256
        omega
      · show 0 ≤ (y 2 : ℕ) ∧ (y 2 : ℕ) < 0 + 128
        omega
    obtain h | h | h | h : (y 0 : ℕ) = 3 ∨ (y 0 : ℕ) = 2 ∨ (y 0 : ℕ) = 1 ∨ (y 0 : ℕ) = 0 := by omega
    · exact .inl (key 3 h)
    · exact .inr (.inl (key 2 h))
    · exact .inr (.inr (.inl (key 1 h)))
    · exact .inr (.inr (.inr (key 0 h)))

end Cert.Kernel4Ideal.Hand

end
-- ==== Proof.GlaMath.lean ====
module

public import Idealize.ShloMosaic.Lib.Pointwise
public import Idealize.ShloMosaic.PureOps.Ideal
public import proofs.«01_k».proof.Proof.Ext

@[expose] public section

set_option maxRecDepth 16384

noncomputable section

open Idealize.ShloMosaic
open scoped BigOperators

/-! The gradient of the gated linear attention over the reals, one column of one head's keys at a time: chunks
`c`, the log decay of a chunk `T c`, and the sums that the backward recurrence over the chunks computes. -/

namespace Cert.GlaMath

variable {N V : ℕ}

/-- The sum of the log decays up to a chunk. -/
def acc (T : Fin N → ℝ) (c : Fin N) : ℝ := ∑ n, if n ≤ c then T n else 0

/-- The decay from the end of chunk `n` to the end of chunk `m`. -/
def dd (T : Fin N → ℝ) (m n : Fin N) : ℝ := if n ≤ m then Real.exp (acc T m - acc T n) else 0

/-- The state after a chunk: the decayed updates of it and of those before. -/
def st (T : Fin N → ℝ) (U : Fin N → ℝ) (m : Fin N) : ℝ := ∑ n, U n * dd T m n

/-- The cotangent of a chunk's update: the decayed cotangents of its state and of those after. -/
def du (T : Fin N → ℝ) (G : Fin N → ℝ) (n : Fin N) : ℝ := ∑ m, G m * dd T m n

theorem acc_succ (T : Fin N → ℝ) (c : Fin N) (h : c.val + 1 < N) : acc T ⟨c.val + 1, h⟩ = acc T c + T ⟨c.val + 1, h⟩ := by
  unfold acc
  have e : ∀ n : Fin N, (if n ≤ (⟨c.val + 1, h⟩ : Fin N) then T n else 0)
      = (if n ≤ c then T n else 0) + (if n = ⟨c.val + 1, h⟩ then T n else 0) := fun n => by
    by_cases h1 : n ≤ c
    · have h1' : n.val ≤ c.val := h1
      have h2 : n ≤ (⟨c.val + 1, h⟩ : Fin N) := by show n.val ≤ c.val + 1; omega
      have h3 : n ≠ ⟨c.val + 1, h⟩ := fun he => by have := congrArg Fin.val he; simp at this; omega
      rw [if_pos h1, if_pos h2, if_neg h3, add_zero]
    · have h1' : ¬ n.val ≤ c.val := h1
      by_cases h2 : n = ⟨c.val + 1, h⟩
      · rw [if_neg h1, if_pos h2, if_pos (le_of_eq h2), zero_add]
      · have h3 : ¬ n ≤ (⟨c.val + 1, h⟩ : Fin N) := fun hle => by
          have hle' : n.val ≤ c.val + 1 := hle
          exact h2 (Fin.ext (by show n.val = c.val + 1; omega))
        rw [if_neg h1, if_neg h2, if_neg h3, add_zero]
  rw [Finset.sum_congr rfl fun n _ => e n, Finset.sum_add_distrib, Finset.sum_ite_eq' Finset.univ, if_pos (Finset.mem_univ _)]

theorem dd_self (T : Fin N → ℝ) (c : Fin N) : dd T c c = 1 := by
  unfold dd
  rw [if_pos le_rfl, sub_self, Real.exp_zero]

theorem dd_succ (T : Fin N → ℝ) (m c : Fin N) (h : c.val + 1 < N) (hm : m ≠ c) :
    dd T m c = dd T m ⟨c.val + 1, h⟩ * Real.exp (T ⟨c.val + 1, h⟩) := by
  unfold dd
  have hv : m.val ≠ c.val := fun he => hm (Fin.ext he)
  by_cases h1 : c ≤ m
  · have h1' : c.val ≤ m.val := h1
    have h2 : (⟨c.val + 1, h⟩ : Fin N) ≤ m := by show c.val + 1 ≤ m.val; omega
    rw [if_pos h1, if_pos h2, ← Real.exp_add, acc_succ T c h]
    congr 1
    ring
  · have h1' : ¬ c.val ≤ m.val := h1
    have h2 : ¬ (⟨c.val + 1, h⟩ : Fin N) ≤ m := fun hle => by
      have hle' : c.val + 1 ≤ m.val := hle
      omega
    rw [if_neg h1, if_neg h2, zero_mul]

/-- The last chunk's update has the cotangent of its own state alone. -/
theorem du_last (T G : Fin N → ℝ) (c : Fin N) (h : c.val + 1 = N) : du T G c = G c := by
  unfold du
  rw [Finset.sum_eq_single c]
  · rw [dd_self, mul_one]
  · intro m _ hm
    have hv : m.val ≠ c.val := fun he => hm (Fin.ext he)
    have hml := m.isLt
    have : ¬ c ≤ m := fun hle => by
      have hle' : c.val ≤ m.val := hle
      omega
    rw [dd, if_neg this, mul_zero]
  · intro hn
    exact absurd (Finset.mem_univ _) hn

/-- The recurrence from a chunk to the one before it. -/
theorem du_step (T G : Fin N → ℝ) (c : Fin N) (h : c.val + 1 < N) :
    du T G c = du T G ⟨c.val + 1, h⟩ * Real.exp (T ⟨c.val + 1, h⟩) + G c := by
  unfold du
  have e : ∀ m : Fin N, G m * dd T m c
      = G m * dd T m ⟨c.val + 1, h⟩ * Real.exp (T ⟨c.val + 1, h⟩) + (if m = c then G m else 0) := fun m => by
    by_cases hm : m = c
    · subst hm
      have : ¬ (⟨m.val + 1, h⟩ : Fin N) ≤ m := fun hle => by
        have hle' : m.val + 1 ≤ m.val := hle
        omega
      rw [dd_self, if_pos rfl, dd, if_neg this, mul_zero, zero_mul, mul_one, zero_add]
    · rw [if_neg hm, add_zero, dd_succ T m c h hm, mul_assoc]
  rw [Finset.sum_congr rfl fun m _ => e m, Finset.sum_add_distrib, ← Finset.sum_mul, Finset.sum_ite_eq' Finset.univ,
    if_pos (Finset.mem_univ _)]

/-- The state before a chunk, zero before the first. -/
def prev (T : Fin N → ℝ) (U : Fin N → ℝ) (c : Fin N) : ℝ :=
  if h : c.val = 0 then 0 else st T U ⟨c.val - 1, by omega⟩

/-- The decay across a chunk boundary splits at the boundary. -/
theorem dd_split (T : Fin N → ℝ) (m n c : Fin N) (hc : c.val ≠ 0) :
    dd T m c * dd T ⟨c.val - 1, by omega⟩ n * Real.exp (T c)
      = if c ≤ m ∧ n < c then Real.exp (acc T m - acc T n) else 0 := by
  unfold dd
  have hcl := c.isLt
  have ha : acc T c = acc T ⟨c.val - 1, by omega⟩ + T c := by
    have h1 := acc_succ T ⟨c.val - 1, by omega⟩ (by show c.val - 1 + 1 < N; omega)
    have h2 : (⟨(⟨c.val - 1, by omega⟩ : Fin N).val + 1, by show c.val - 1 + 1 < N; omega⟩ : Fin N) = c :=
      Fin.ext (by show c.val - 1 + 1 = c.val; omega)
    rwa [h2] at h1
  by_cases h1 : c ≤ m
  · by_cases h2 : n < c
    · have h2' : n.val < c.val := h2
      have h3 : n ≤ (⟨c.val - 1, by omega⟩ : Fin N) := by show n.val ≤ c.val - 1; omega
      rw [if_pos h1, if_pos h3, if_pos ⟨h1, h2⟩, ← Real.exp_add, ← Real.exp_add, ha]
      congr 1
      ring
    · have h3 : ¬ n ≤ (⟨c.val - 1, by omega⟩ : Fin N) := fun hle => h2 (by
        have hle' : n.val ≤ c.val - 1 := hle
        show n.val < c.val
        omega)
      rw [if_neg h3, mul_zero, zero_mul, if_neg fun h => h2 h.2]
  · rw [if_neg h1, zero_mul, zero_mul, if_neg fun h => h1 h.1]

/-- The cotangent of a pair of chunks' log decay. -/
def xx (T : Fin N → ℝ) (G U : Fin N → Fin V → ℝ) (m n : Fin N) : ℝ :=
  (if n ≤ m then ∑ v, G m v * U n v else 0) * Real.exp (acc T m - acc T n)

/-- The cotangent of a chunk's log decay: what all pairs of chunks give, and the closed form through the state
    before the chunk and the cotangent of the chunk's update. -/
theorem dT_eq (T : Fin N → ℝ) (G U : Fin N → Fin V → ℝ) (c : Fin N) :
    (∑ c', if c ≤ c' then (∑ m, -xx T G U m c') + ∑ n, xx T G U c' n else 0)
      = (∑ v, du T (fun m => G m v) c * prev T (fun n => U n v) c) * Real.exp (T c) := by
  have hl : (∑ c', if c ≤ c' then (∑ m, -xx T G U m c') + ∑ n, xx T G U c' n else 0)
      = ∑ m, ∑ n, if c ≤ m ∧ n < c then (∑ v, G m v * U n v) * Real.exp (acc T m - acc T n) else 0 := by
    have e1 : ∀ c' : Fin N, (if c ≤ c' then (∑ m, -xx T G U m c') + ∑ n, xx T G U c' n else 0)
        = (∑ m, if c ≤ c' then -xx T G U m c' else 0) + ∑ n, if c ≤ c' then xx T G U c' n else 0 := fun c' => by
      split
      · rfl
      · simp
    rw [Finset.sum_congr rfl fun c' _ => e1 c', Finset.sum_add_distrib, Finset.sum_comm, ← Finset.sum_add_distrib]
    refine Finset.sum_congr rfl fun m _ => ?_
    rw [← Finset.sum_add_distrib]
    refine Finset.sum_congr rfl fun n _ => ?_
    unfold xx
    by_cases hnm : n ≤ m
    · have hnm' : n.val ≤ m.val := hnm
      rw [if_pos hnm]
      by_cases hcm : c ≤ m
      · by_cases hcn : c ≤ n
        · rw [if_pos hcn, if_pos hcm, if_neg fun h => absurd h.2 (not_lt.2 hcn), neg_add_cancel]
        · rw [if_neg hcn, if_pos hcm, if_pos ⟨hcm, not_le.1 hcn⟩, zero_add]
      · have hcn : ¬ c ≤ n := fun h => hcm (le_trans h hnm)
        rw [if_neg hcn, if_neg hcm, if_neg fun h => hcm h.1, add_zero]
    · rw [if_neg hnm, zero_mul, neg_zero, ite_self, ite_self, add_zero, if_neg]
      intro h
      exact hnm (le_of_lt (lt_of_lt_of_le h.2 h.1))
  rw [hl]
  by_cases hc : c.val = 0
  · have e : ∀ v, prev T (fun n => U n v) c = 0 := fun v => by rw [prev, dif_pos hc]
    simp only [e, mul_zero, Finset.sum_const_zero, zero_mul]
    refine Finset.sum_eq_zero fun m _ => ?_
    refine Finset.sum_eq_zero fun n _ => ?_
    refine if_neg fun h => ?_
    have h2 : n.val < c.val := h.2
    omega
  · have e : ∀ v, prev T (fun n => U n v) c = st T (fun n => U n v) ⟨c.val - 1, by omega⟩ := fun v => by rw [prev, dif_neg hc]
    simp only [e]
    rw [Finset.sum_mul]
    have e2 : ∀ v : Fin V, du T (fun m => G m v) c * st T (fun n => U n v) ⟨c.val - 1, by omega⟩ * Real.exp (T c)
        = ∑ m, ∑ n, G m v * U n v * (if c ≤ m ∧ n < c then Real.exp (acc T m - acc T n) else 0) := fun v => by
      rw [du, st, Finset.sum_mul, Finset.sum_mul]
      refine Finset.sum_congr rfl fun m _ => ?_
      rw [Finset.mul_sum, Finset.sum_mul]
      refine Finset.sum_congr rfl fun n _ => ?_
      rw [← dd_split T m n c hc]
      ring
    rw [Finset.sum_congr rfl fun v _ => e2 v]
    refine Eq.symm (Eq.trans Finset.sum_comm ?_)
    refine Finset.sum_congr rfl fun m _ => ?_
    refine Eq.trans Finset.sum_comm ?_
    refine Finset.sum_congr rfl fun n _ => ?_
    rw [← Finset.sum_mul]
    split
    · rfl
    · rw [mul_zero]

/-- The gradient at the log decays within a chunk: the reversed running sum of the reference, and the sum less
    the running sum of the kernel. -/
theorem dla_eq {W : ℕ} (w : Fin W → ℝ) (B : ℝ) (i l : Fin W) (hl : l.val + 1 = W) :
    (∑ i', if i ≤ i' then -w i' + (if i' = l then B + ∑ j, w j else 0) else 0)
      = ((∑ j, w j) + B) - ∑ i', (if i ≤ i' then 1 else 0) * w i' := by
  have hil : i ≤ l := by
    have := i.isLt
    show i.val ≤ l.val
    omega
  have e : ∀ i' : Fin W, (if i ≤ i' then -w i' + (if i' = l then B + ∑ j, w j else 0) else 0)
      = (if i' = l then B + ∑ j, w j else 0) - (if i ≤ i' then 1 else 0) * w i' := fun i' => by
    by_cases h : i ≤ i'
    · rw [if_pos h, if_pos h]
      ring
    · have : i' ≠ l := fun he => h (he ▸ hil)
      rw [if_neg h, if_neg h, if_neg this, zero_mul, sub_zero]
  rw [Finset.sum_congr rfl fun i' _ => e i', Finset.sum_sub_distrib, Finset.sum_ite_eq' Finset.univ, if_pos (Finset.mem_univ _),
    add_comm B]

end Cert.GlaMath

end
-- ==== Proof.GlaRefDef.lean ====
module

public import proofs.«01_k».proof.Proof.Gen.Reference4Ideal.Run
public import Idealize.ShloMosaic.Lib.Pointwise
public import proofs.«01_k».proof.Proof.GlaMath

@[expose] public section

set_option maxRecDepth 16384

noncomputable section

open Idealize.ShloMosaic Idealize.ShloMosaic.TcCoe Idealize.SL.Sem
open scoped BigOperators

namespace Cert.Reference4Ideal.Gla

open Cert.Reference4Ideal Cert.Reference4Ideal.Gen

/-! The stages of the gradient of the gated linear attention, as the reference computes them. -/

/-- An array of the keys, cut into chunks and heads. -/
def Rk (a : FVec Ideal S2048x512 .f32) : FVec Ideal S32x64x4x128 .f32 :=
  shapeCast _ a shapeCasts_S2048x512_S32x64x4x128

/-- An array of the values, cut into chunks and heads. -/
def Rv (a : FVec Ideal S2048x1024 .f32) : FVec Ideal S32x64x4x256 .f32 :=
  shapeCast _ a shapeCasts_S2048x1024_S32x64x4x256

/-- The running sum of the log decays within each chunk. -/
def Rb (g : FVec Ideal S32x64x4x128 .f32) : FVec Ideal S32x64x4x128 .f32 :=
  Host.reduceWindowAdd ![1, 64, 1, 1] ![1, 1, 1, 1] ![0, 63, 0, 0] ![0, 0, 0, 0] g (broadcastInDim S_ ![] bcast_S_S_ (constant (F := Ideal) S_ .f32 0x00000000#32)) reduceWindows_S32x64x4x128_S32x64x4x128_w1s1p0_0_w64s1p63_0_w1s1p0_0_w1s1p0_0 h_S_

/-- Its last row, the chunk's log decay. -/
def Rbe (b : FVec Ideal S32x64x4x128 .f32) : FVec Ideal S32x4x128 .f32 :=
  shapeCast _ (extractStridedSlice S32x1x4x128 ![0, 63, 0, 0] b slices_S32x64x4x128_S32x1x4x128_0_63_0_0) shapeCasts_S32x1x4x128_S32x4x128

/-- The decay from a row to the end of its chunk. -/
def Re (b : FVec Ideal S32x64x4x128 .f32) (t : FVec Ideal S32x4x128 .f32) : FVec Ideal S32x64x4x128 .f32 :=
  Host.exp (subf (broadcastInDim S32x64x4x128 ![0, 1, 2, 3] bcast_S32x1x4x128_S32x64x4x128_0_1_2_3 (broadcastInDim S32x1x4x128 ![0, 2, 3] bcast_S32x4x128_S32x1x4x128_0_2_3 t)) b)

/-- The running sum of the chunks' log decays. -/
def Rt (t : FVec Ideal S32x4x128 .f32) : FVec Ideal S32x4x128 .f32 :=
  Host.reduceWindowAdd ![32, 1, 1] ![1, 1, 1] ![31, 0, 0] ![0, 0, 0] t (broadcastInDim S_ ![] bcast_S_S_ (constant (F := Ideal) S_ .f32 0x00000000#32)) reduceWindows_S32x4x128_S32x4x128_w32s1p31_0_w1s1p0_0_w1s1p0_0 h_S_

/-- The exponential of the difference of two chunks' running sums. -/
def Rx (l : FVec Ideal S32x4x128 .f32) : FVec Ideal S32x32x4x128 .f32 :=
  Host.exp (subf (broadcastInDim S32x32x4x128 ![0, 1, 2, 3] bcast_S32x1x4x128_S32x32x4x128_0_1_2_3 (broadcastInDim S32x1x4x128 ![0, 2, 3] bcast_S32x4x128_S32x1x4x128_0_2_3 l)) (broadcastInDim S32x32x4x128 ![0, 1, 2, 3] bcast_S1x32x4x128_S32x32x4x128_0_1_2_3 (broadcastInDim S1x32x4x128 ![1, 2, 3] bcast_S32x4x128_S1x32x4x128_1_2_3 l)))

/-- The mask of the chunks not after a chunk. -/
def Rm : IVec S32x32x4x128 1 :=
  broadcastInDim S32x32x4x128 ![0, 1, 2, 3] bcast_S32x32x1x1_S32x32x4x128_0_1_2_3 (broadcastInDim S32x32x1x1 ![0, 1] bcast_S32x32_S32x32x1x1_0_1 (cmpi .sle (broadcastInDim S32x32 ![0, 1] bcast_S1x32_S32x32_0_1 (broadcastInDim S1x32 ![1] bcast_S32_S1x32_1 (iotaInDim S32 32 0))) (broadcastInDim S32x32 ![0, 1] bcast_S32x1_S32x32_0_1 (broadcastInDim S32x1 ![0] bcast_S32_S32x1_0 (iotaInDim S32 32 0)))))

/-- The decay from a chunk to a later one. -/
def Rd (x : FVec Ideal S32x32x4x128 .f32) : FVec Ideal S32x32x4x128 .f32 :=
  select Rm x (broadcastInDim S32x32x4x128 ![] bcast_S_S32x32x4x128 (id (constant (F := Ideal) S_ .f32 0x00000000#32)))

/-- The decayed keys. -/
def Rkd (k : FVec Ideal S32x64x4x128 .f32) (e : FVec Ideal S32x64x4x128 .f32) : FVec Ideal S32x64x4x128 .f32 :=
  mulf k e

/-- The chunks' updates of the state. -/
def Ru (kd : FVec Ideal S32x64x4x128 .f32) (v : FVec Ideal S32x64x4x256 .f32) : FVec Ideal S32x4x128x256 .f32 :=
  Host.dotGeneral (F := Ideal) dot_S32x64x4x128_S32x64x4x256_S32x4x128x256_1_1_3_3_02_02 none kd v

/-- The cotangents of the states. -/
def Rg (q : FVec Ideal S32x64x4x128 .f32) (o : FVec Ideal S32x64x4x256 .f32) : FVec Ideal S4x128x256x32 .f32 :=
  transpose S4x128x256x32 [1, 2, 3, 0] (transpose S32x4x128x256 [0, 1, 3, 2] (Host.dotGeneral (F := Ideal) dot_S32x4x256x64_S32x64x4x128_S32x4x256x128_3_1_2_3_01_02 none (transpose S32x4x256x64 [0, 2, 3, 1] o transposes_S32x64x4x256_S32x4x256x64_0_2_3_1) (mulf q (broadcastInDim S32x64x4x128 ![] bcast_S_S32x64x4x128 (constant (F := Ideal) S_ .f32 0x3DB504F3#32)))) transposes_S32x4x256x128_S32x4x128x256_0_1_3_2) transposes_S32x4x128x256_S4x128x256x32_1_2_3_0

/-- The cotangents of the updates. -/
def Rdu (g : FVec Ideal S4x128x256x32 .f32) (d : FVec Ideal S32x32x4x128 .f32) : FVec Ideal S32x4x128x256 .f32 :=
  transpose S32x4x128x256 [3, 0, 1, 2] (Host.dotGeneral (F := Ideal) dot_S4x128x256x32_S32x32x4x128_S4x128x256x32_3_0_2_1_01_23 none g d) transposes_S4x128x256x32_S32x4x128x256_3_0_1_2

/-- The states. -/
def Rs (u : FVec Ideal S32x4x128x256 .f32) (d : FVec Ideal S32x32x4x128 .f32) : FVec Ideal S32x4x128x256 .f32 :=
  transpose S32x4x128x256 [3, 0, 1, 2] (Host.dotGeneral (F := Ideal) dot_S32x4x128x256_S32x32x4x128_S4x128x256x32_0_1_3_0_12_23 none u d) transposes_S4x128x256x32_S32x4x128x256_3_0_1_2

/-- The cotangents of the decayed keys. -/
def Rdk (du : FVec Ideal S32x4x128x256 .f32) (v : FVec Ideal S32x64x4x256 .f32) : FVec Ideal S32x64x4x128 .f32 :=
  transpose S32x64x4x128 [0, 3, 1, 2] (Host.dotGeneral (F := Ideal) dot_S32x4x128x256_S32x64x4x256_S32x4x128x64_3_3_2_1_01_02 none du v) transposes_S32x4x128x64_S32x64x4x128_0_3_1_2

/-- The cotangents of the rows' log decays. -/
def Rw (k : FVec Ideal S32x64x4x128 .f32) (dk : FVec Ideal S32x64x4x128 .f32) (e : FVec Ideal S32x64x4x128 .f32) : FVec Ideal S32x64x4x128 .f32 :=
  mulf (mulf k dk) e

/-- The cotangents of the differences of the running sums. -/
def Rxx (g : FVec Ideal S4x128x256x32 .f32) (u : FVec Ideal S32x4x128x256 .f32) (x : FVec Ideal S32x32x4x128 .f32) : FVec Ideal S32x32x4x128 .f32 :=
  mulf (select Rm (transpose S32x32x4x128 [2, 3, 0, 1] (Host.dotGeneral (F := Ideal) dot_S4x128x256x32_S32x4x128x256_S4x128x32x32_2_3_3_0_01_12 none g u) transposes_S4x128x32x32_S32x32x4x128_2_3_0_1) (broadcastInDim S32x32x4x128 ![] bcast_S_S32x32x4x128 (constant (F := Ideal) S_ .f32 0x00000000#32))) x

/-- The cotangents of the running sums. -/
def RdT (x : FVec Ideal S32x32x4x128 .f32) : FVec Ideal S32x4x128 .f32 :=
  addf (Host.reduceAdd (shapeCast _ (Host.reduceAdd (Host.negf x) (constant (F := Ideal) S_ .f32 0x00000000#32) reducesTo_S32x32x4x128_S32x4x128_d0 h_S_) shapeCasts_S32x4x128_S1x32x4x128) (constant (F := Ideal) S_ .f32 0x00000000#32) reducesTo_S1x32x4x128_S32x4x128_d0 h_S_) (Host.reduceAdd (shapeCast _ (Host.reduceAdd x (constant (F := Ideal) S_ .f32 0x00000000#32) reducesTo_S32x32x4x128_S32x4x128_d1 h_S_) shapeCasts_S32x4x128_S32x1x4x128) (constant (F := Ideal) S_ .f32 0x00000000#32) reducesTo_S32x1x4x128_S32x4x128_d1 h_S_)

/-- The cotangents of the chunks' log decays. -/
def RB (t : FVec Ideal S32x4x128 .f32) (w : FVec Ideal S32x64x4x128 .f32) : FVec Ideal S32x4x128 .f32 :=
  addf (Host.reduceWindowAdd ![32, 1, 1] ![1, 1, 1] ![0, 0, 0] ![31, 0, 0] t (broadcastInDim S_ ![] bcast_S_S_ (constant (F := Ideal) S_ .f32 0x00000000#32)) reduceWindows_S32x4x128_S32x4x128_w32s1p0_31_w1s1p0_0_w1s1p0_0 h_S_) (Host.reduceAdd (shapeCast _ (Host.reduceAdd w (constant (F := Ideal) S_ .f32 0x00000000#32) reducesTo_S32x64x4x128_S32x4x128_d1 h_S_) shapeCasts_S32x4x128_S32x1x4x128) (constant (F := Ideal) S_ .f32 0x00000000#32) reducesTo_S32x1x4x128_S32x4x128_d1 h_S_)

/-- The cotangents of the running sums within the chunks. -/
def Rp (w : FVec Ideal S32x64x4x128 .f32) (b : FVec Ideal S32x4x128 .f32) : FVec Ideal S32x64x4x128 .f32 :=
  addf (Host.negf w) (pad S32x64x4x128 ![0, 63, 0, 0] ![0, 0, 0, 0] ![0, 0, 0, 0] (broadcastInDim S32x1x4x128 ![0, 2, 3] bcast_S32x4x128_S32x1x4x128_0_2_3 b) (constant (F := Ideal) S_ .f32 0x00000000#32) pads_S32x1x4x128_S32x64x4x128_000_6300_000_000 h_S_)

/-- The gradient at the queries. -/
def Rq (o : FVec Ideal S32x64x4x256 .f32) (s : FVec Ideal S32x4x128x256 .f32) : FVec Ideal S2048x512 .f32 :=
  shapeCast _ (mulf (transpose S32x64x4x128 [0, 2, 1, 3] (Host.dotGeneral (F := Ideal) dot_S32x4x256x64_S32x4x128x256_S32x4x64x128_2_3_3_2_01_01 none (transpose S32x4x256x64 [0, 2, 3, 1] o transposes_S32x64x4x256_S32x4x256x64_0_2_3_1) s) transposes_S32x4x64x128_S32x64x4x128_0_2_1_3) (broadcastInDim S32x64x4x128 ![] bcast_S_S32x64x4x128 (constant (F := Ideal) S_ .f32 0x3DB504F3#32))) shapeCasts_S32x64x4x128_S2048x512

/-- The gradient at the keys. -/
def Rkk (dk : FVec Ideal S32x64x4x128 .f32) (e : FVec Ideal S32x64x4x128 .f32) : FVec Ideal S2048x512 .f32 :=
  shapeCast _ (mulf dk e) shapeCasts_S32x64x4x128_S2048x512

/-- The gradient at the values. -/
def Rvv (du : FVec Ideal S32x4x128x256 .f32) (kd : FVec Ideal S32x64x4x128 .f32) : FVec Ideal S2048x1024 .f32 :=
  shapeCast _ (transpose S32x64x4x256 [0, 3, 1, 2] (Host.dotGeneral (F := Ideal) dot_S32x4x128x256_S32x64x4x128_S32x4x256x64_2_3_3_1_01_02 none du kd) transposes_S32x4x256x64_S32x64x4x256_0_3_1_2) shapeCasts_S32x64x4x256_S2048x1024

/-- The gradient at the log decays. -/
def Rla (p : FVec Ideal S32x64x4x128 .f32) : FVec Ideal S2048x512 .f32 :=
  shapeCast _ (Host.reduceWindowAdd ![1, 64, 1, 1] ![1, 1, 1, 1] ![0, 0, 0, 0] ![0, 63, 0, 0] p (broadcastInDim S_ ![] bcast_S_S_ (constant (F := Ideal) S_ .f32 0x00000000#32)) reduceWindows_S32x64x4x128_S32x64x4x128_w1s1p0_0_w64s1p0_63_w1s1p0_0_w1s1p0_0 h_S_) shapeCasts_S32x64x4x128_S2048x512

end Cert.Reference4Ideal.Gla

end
-- ==== Proof.GlaEntry.lean ====
module

public import proofs.«01_k».proof.Proof.GlaKer
public import proofs.«01_k».proof.Proof.GlaRefDef

@[expose] public section

set_option maxRecDepth 16384

noncomputable section

namespace Cert.Kernel4Ideal.Hand

open Cert.Kernel4Ideal Cert.Kernel4Ideal.Gen Idealize.ShloMosaic Idealize.ShloMosaic.TcCoe
open Idealize.ShloMosaic.Pipeline (Dat)
open Cert.Reference4Ideal.Gla

variable (m : (ℓ : Loc nD τ sig) → Buf (Elt Ideal) ℓ)

/-- The array the queries, keys and values are read from. -/
theorem V_z (c : Dev nD) : V m c main_v2
    = concatenate S2048x4096 1 [⟨S2048x1024, (m ((c.tc : Thread nD τ).loc main_arg2))⟩, ⟨S2048x1536, fun _ => Ideal.ofBits .f32 0x00000000#32⟩,
        ⟨S2048x512, (m ((c.tc : Thread nD τ).loc main_arg0))⟩, ⟨S2048x512, (m ((c.tc : Thread nD τ).loc main_arg1))⟩, ⟨S2048x512, fun _ => Ideal.ofBits .f32 0x00000000#32⟩] concatenates_S2048x1024_S2048x1536_S2048x512_S2048x512_S2048x512_S2048x4096_d1 := by
  unfold V
  simp only [hostOps0, hostOps0_1, hostOps0_2, hostOps0_3, hostOps0_4, hostOps0_5, hostOps0_6, List.flatten_cons, List.flatten_nil, List.append_nil, List.cons_append, List.nil_append]
  after_results
  rfl

theorem V_trit (c : Dev nD) : V m c main_v33 = transpose S64x64 [1, 0] (fun i => Ideal.ofBits .f32 (lit0 (S64x64.rowMajor i))) transposes_S64x64_S64x64_1_0 := by
  unfold V
  simp only [hostOps0, hostOps0_1, hostOps0_2, hostOps0_3, hostOps0_4, hostOps0_5, hostOps0_6, List.flatten_cons, List.flatten_nil, List.append_nil, List.cons_append, List.nil_append]
  after_results
  rfl

theorem V_tri (c : Dev nD) : V m c main_cst = fun i => Ideal.ofBits .f32 (lit0 (S64x64.rowMajor i)) := by
  unfold V
  simp only [hostOps0, hostOps0_1, hostOps0_2, hostOps0_3, hostOps0_4, hostOps0_5, hostOps0_6, List.flatten_cons, List.flatten_nil, List.append_nil, List.cons_append, List.nil_append]
  after_results
  rfl

/-- The saved states. -/
theorem V_st (c : Dev nD) : V m c main_v32
    = transpose S4x32x256x128 [1, 0, 3, 2] (Rs (Ru (Rkd (Rk (m ((c.tc : Thread nD τ).loc main_arg1))) (Re (Rb (Rk (m ((c.tc : Thread nD τ).loc main_arg3)))) (Rbe (Rb (Rk (m ((c.tc : Thread nD τ).loc main_arg3))))))) (Rv (m ((c.tc : Thread nD τ).loc main_arg2)))) (Rd (Rx (Rt (Rbe (Rb (Rk (m ((c.tc : Thread nD τ).loc main_arg3))))))))) transposes_S32x4x128x256_S4x32x256x128_1_0_3_2 := by
  unfold V
  simp only [hostOps0, hostOps0_1, hostOps0_2, hostOps0_3, hostOps0_4, hostOps0_5, hostOps0_6, List.flatten_cons, List.flatten_nil, List.append_nil, List.cons_append, List.nil_append]
  after_results
  rfl

end Cert.Kernel4Ideal.Hand

end
-- ==== Proof.GlaBlk.lean ====
module

public import proofs.«01_k».proof.Proof.GlaEntry
public import proofs.«01_k».proof.Proof.Ext

@[expose] public section

set_option maxRecDepth 16384

noncomputable section

namespace Cert.Kernel4Ideal.Hand

open Cert.Kernel4Ideal Cert.Kernel4Ideal.Gen Idealize.ShloMosaic Idealize.ShloMosaic.TcCoe
open Idealize.ShloMosaic.Pipeline (Dat)
open Cert.Reference4Ideal.Gla

/-! The blocks a point reads, as entries of the arguments: point `t` works on chunk `31 - t`. -/

theorem idx : ∀ t : Fin cfg0.N, win0_0.index t = ![31 - t.val, 5] ∧ win0_1.index t = ![31 - t.val, 6] ∧ win0_2.index t = ![31 - t.val, 0]
    ∧ win0_3.index t = ![31 - t.val, 0] ∧ win0_4.index t = ![0, 0] ∧ win0_5.index t = ![0, 0] ∧ win0_6.index t = ![0, 31 - t.val, 0, 0]
    ∧ win0_7.index t = ![0, 31 - t.val - 1, 0, 0] ∧ win0_8.index t = ![31 - t.val, 0] ∧ win0_9.index t = ![31 - t.val, 0]
    ∧ win0_10.index t = ![31 - t.val, 0] ∧ win0_11.index t = ![31 - t.val, 0] ∧ win0_12.index t = ![31 - t.val, 0] :=
  (by decide +kernel : ∀ t : Fin grid0.N, _)

theorem gt_iff : ∀ t : Fin cfg0.N, Scalar.cmpi .sgt (Scalar.subi (31#32) (BitVec.ofNat 32 (grid0.coords t 0).val)) 0#32 = if t.val < 31 then 1#1 else 0#1 :=
  (by decide +kernel : ∀ t : Fin grid0.N, Scalar.cmpi .sgt (Scalar.subi (31#32) (BitVec.ofNat 32 (grid0.coords t 0).val)) 0#32 = if t.val < 31 then 1#1 else 0#1)

theorem lit_eq : ∀ n : Fin 4096, lit0 n = if n.val % 64 ≤ n.val / 64 then 0x3F800000#32 else 0x00000000#32 := by
  decide +kernel

theorem one_eq : Ideal.ofBits FTy.f32 0x3F800000#32 = 1 := by
  rw [show (1 : EReal) = ((1 : ℝ) : EReal) by norm_cast]
  simp [Ideal.ofBits, Ideal.ieee, -EReal.coe_mul]; norm_num

variable (m : (ℓ : Loc nD τ sig) → Buf (Elt Ideal) ℓ)

theorem b0 (c : Dev nD) (t : Fin cfg0.N) (n : Fin 32) (hn : n.val = 31 - t.val) (i : Fin 64) (k : Fin 512) :
    iblk m c 0 t (ix2 i k) = m ((c.tc : Thread nD τ).loc main_arg0) (ix2 ⟨n.val * 64 + i.val, by omega⟩ k) := by
  blk_simp [iblk, idx t]
  rw [V_z]
  pointwise
  have h0 : (((View.whole main_v2).slice (win0_0.rect t)).emb (ix2 i k) 0 : ℕ) = n.val * 64 + i.val := by
    show win0_0.index t 0 * 64 + 1 * i.val = _
    rw [(idx t).1, hn]; show (31 - t.val) * 64 + 1 * i.val = _; omega
  have h1 : (((View.whole main_v2).slice (win0_0.rect t)).emb (ix2 i k) 1 : ℕ) = 2560 + k.val := by
    show win0_0.index t 1 * 512 + 1 * k.val = _
    rw [(idx t).1]; show 5 * 512 + 1 * k.val = _; omega
  have hk := k.isLt
  split_ifs <;> first | (exfalso; omega) | exact congrArg _ (congrArg₂ ix2 (Fin.ext h0) (Fin.ext (by first | exact h1 | (simp only [h1]; omega))))

theorem b1 (c : Dev nD) (t : Fin cfg0.N) (n : Fin 32) (hn : n.val = 31 - t.val) (i : Fin 64) (k : Fin 512) :
    iblk m c 1 t (ix2 i k) = m ((c.tc : Thread nD τ).loc main_arg1) (ix2 ⟨n.val * 64 + i.val, by omega⟩ k) := by
  blk_simp [iblk, idx t]
  rw [V_z]
  pointwise
  have h0 : (((View.whole main_v2).slice (win0_1.rect t)).emb (ix2 i k) 0 : ℕ) = n.val * 64 + i.val := by
    show win0_1.index t 0 * 64 + 1 * i.val = _
    rw [(idx t).2.1, hn]; show (31 - t.val) * 64 + 1 * i.val = _; omega
  have h1 : (((View.whole main_v2).slice (win0_1.rect t)).emb (ix2 i k) 1 : ℕ) = 3072 + k.val := by
    show win0_1.index t 1 * 512 + 1 * k.val = _
    rw [(idx t).2.1]; show 6 * 512 + 1 * k.val = _; omega
  have hk := k.isLt
  split_ifs <;> first | (exfalso; omega) | exact congrArg _ (congrArg₂ ix2 (Fin.ext h0) (Fin.ext (by first | exact h1 | (simp only [h1]; omega))))

theorem b2 (c : Dev nD) (t : Fin cfg0.N) (n : Fin 32) (hn : n.val = 31 - t.val) (i : Fin 64) (k : Fin 1024) :
    iblk m c 2 t (ix2 i k) = m ((c.tc : Thread nD τ).loc main_arg2) (ix2 ⟨n.val * 64 + i.val, by omega⟩ k) := by
  blk_simp [iblk, idx t]
  rw [V_z]
  pointwise
  have h0 : (((View.whole main_v2).slice (win0_2.rect t)).emb (ix2 i k) 0 : ℕ) = n.val * 64 + i.val := by
    show win0_2.index t 0 * 64 + 1 * i.val = _
    rw [(idx t).2.2.1, hn]; show (31 - t.val) * 64 + 1 * i.val = _; omega
  have h1 : (((View.whole main_v2).slice (win0_2.rect t)).emb (ix2 i k) 1 : ℕ) = k.val := by
    show win0_2.index t 1 * 1024 + 1 * k.val = _
    rw [(idx t).2.2.1]; show 0 * 1024 + 1 * k.val = _; omega
  have hk := k.isLt
  split_ifs <;> first | (exfalso; omega) | exact congrArg _ (congrArg₂ ix2 (Fin.ext h0) (Fin.ext (by first | exact h1 | (simp only [h1]; omega))))

theorem b3 (c : Dev nD) (t : Fin cfg0.N) (n : Fin 32) (hn : n.val = 31 - t.val) (i : Fin 64) (k : Fin 512) :
    iblk m c 3 t (ix2 i k) = m ((c.tc : Thread nD τ).loc main_arg3) (ix2 ⟨n.val * 64 + i.val, by omega⟩ k) := by
  blk_simp [iblk, idx t]
  rw [V_main_arg3]
  refine congrArg _ (funext fun a => Fin.ext ?_)
  match a with
  | ⟨0, _⟩ =>
    show win0_3.index t 0 * 64 + 1 * i.val = n.val * 64 + i.val
    rw [(idx t).2.2.2.1, hn]; show (31 - t.val) * 64 + 1 * i.val = _; omega
  | ⟨1, _⟩ =>
    show win0_3.index t 1 * 512 + 1 * k.val = _
    rw [(idx t).2.2.2.1]; show 0 * 512 + 1 * k.val = k.val; omega

theorem b8 (c : Dev nD) (t : Fin cfg0.N) (n : Fin 32) (hn : n.val = 31 - t.val) (i : Fin 64) (k : Fin 1024) :
    iblk m c 8 t (ix2 i k) = m ((c.tc : Thread nD τ).loc main_arg4) (ix2 ⟨n.val * 64 + i.val, by omega⟩ k) := by
  blk_simp [iblk, idx t]
  rw [V_main_arg4]
  refine congrArg _ (funext fun a => Fin.ext ?_)
  match a with
  | ⟨0, _⟩ =>
    show win0_8.index t 0 * 64 + 1 * i.val = n.val * 64 + i.val
    rw [(idx t).2.2.2.2.2.2.2.2.1, hn]; show (31 - t.val) * 64 + 1 * i.val = _; omega
  | ⟨1, _⟩ =>
    show win0_8.index t 1 * 1024 + 1 * k.val = _
    rw [(idx t).2.2.2.2.2.2.2.2.1]; show 0 * 1024 + 1 * k.val = k.val; omega

theorem b6 (c : Dev nD) (t : Fin cfg0.N) (n : Fin 32) (hn : n.val = 31 - t.val) (h : Fin 4) (w : Fin 256) (k : Fin 128) :
    iblk m c 6 t (ix4 h 0 w k) = (Rs (Ru (Rkd (Rk (m ((c.tc : Thread nD τ).loc main_arg1))) (Re (Rb (Rk (m ((c.tc : Thread nD τ).loc main_arg3)))) (Rbe (Rb (Rk (m ((c.tc : Thread nD τ).loc main_arg3))))))) (Rv (m ((c.tc : Thread nD τ).loc main_arg2)))) (Rd (Rx (Rt (Rbe (Rb (Rk (m ((c.tc : Thread nD τ).loc main_arg3))))))))) (ix4 n h k w) := by
  blk_simp [iblk, idx t]
  rw [V_st]
  pointwise
  have h0 : ((View.whole main_v32).slice (win0_6.rect t)).emb (ix4 h 0 w k) 0 = h := Fin.ext (by
    show win0_6.index t 0 * 4 + 1 * h.val = _
    rw [(idx t).2.2.2.2.2.2.1]; show 0 * 4 + 1 * h.val = _; omega)
  have h1 : ((View.whole main_v32).slice (win0_6.rect t)).emb (ix4 h 0 w k) 1 = n := Fin.ext (by
    show win0_6.index t 1 * 1 + 1 * 0 = _
    rw [(idx t).2.2.2.2.2.2.1, hn]; show (31 - t.val) * 1 + 1 * 0 = _; omega)
  have h2 : ((View.whole main_v32).slice (win0_6.rect t)).emb (ix4 h 0 w k) 2 = w := Fin.ext (by
    show win0_6.index t 2 * 256 + 1 * w.val = _
    rw [(idx t).2.2.2.2.2.2.1]; show 0 * 256 + 1 * w.val = _; omega)
  have h3 : ((View.whole main_v32).slice (win0_6.rect t)).emb (ix4 h 0 w k) 3 = k := Fin.ext (by
    show win0_6.index t 3 * 128 + 1 * k.val = _
    rw [(idx t).2.2.2.2.2.2.1]; show 0 * 128 + 1 * k.val = _; omega)
  exact congrArg _ (by rw [h0, h1, h2, h3])

theorem b7 (c : Dev nD) (t : Fin cfg0.N) (n : Fin 32) (hn : n.val = 31 - t.val - 1) (h : Fin 4) (w : Fin 256) (k : Fin 128) :
    iblk m c 7 t (ix4 h 0 w k) = (Rs (Ru (Rkd (Rk (m ((c.tc : Thread nD τ).loc main_arg1))) (Re (Rb (Rk (m ((c.tc : Thread nD τ).loc main_arg3)))) (Rbe (Rb (Rk (m ((c.tc : Thread nD τ).loc main_arg3))))))) (Rv (m ((c.tc : Thread nD τ).loc main_arg2)))) (Rd (Rx (Rt (Rbe (Rb (Rk (m ((c.tc : Thread nD τ).loc main_arg3))))))))) (ix4 n h k w) := by
  blk_simp [iblk, idx t]
  rw [V_st]
  pointwise
  have h0 : ((View.whole main_v32).slice (win0_7.rect t)).emb (ix4 h 0 w k) 0 = h := Fin.ext (by
    show win0_7.index t 0 * 4 + 1 * h.val = _
    rw [(idx t).2.2.2.2.2.2.2.1]; show 0 * 4 + 1 * h.val = _; omega)
  have h1 : ((View.whole main_v32).slice (win0_7.rect t)).emb (ix4 h 0 w k) 1 = n := Fin.ext (by
    show win0_7.index t 1 * 1 + 1 * 0 = _
    rw [(idx t).2.2.2.2.2.2.2.1, hn]; show (31 - t.val - 1) * 1 + 1 * 0 = _; omega)
  have h2 : ((View.whole main_v32).slice (win0_7.rect t)).emb (ix4 h 0 w k) 2 = w := Fin.ext (by
    show win0_7.index t 2 * 256 + 1 * w.val = _
    rw [(idx t).2.2.2.2.2.2.2.1]; show 0 * 256 + 1 * w.val = _; omega)
  have h3 : ((View.whole main_v32).slice (win0_7.rect t)).emb (ix4 h 0 w k) 3 = k := Fin.ext (by
    show win0_7.index t 3 * 128 + 1 * k.val = _
    rw [(idx t).2.2.2.2.2.2.2.1]; show 0 * 128 + 1 * k.val = _; omega)
  exact congrArg _ (by rw [h0, h1, h2, h3])

/-- The lower triangle of ones. -/
theorem lit_tri (i j : Fin 64) : Ideal.ofBits FTy.f32 (lit0 (S64x64.rowMajor (ix2 i j))) = if j ≤ i then (1 : EReal) else 0 := by
  have hv : (S64x64.rowMajor (ix2 i j) : ℕ) = i.val * 64 + j.val := by
    exact Shape.rowMajor_val_two _
  refine (congrArg (Ideal.ofBits FTy.f32) (lit_eq _)).trans ?_
  rw [hv, show (i.val * 64 + j.val) % 64 = j.val by omega, show (i.val * 64 + j.val) / 64 = i.val by omega]
  by_cases h : j ≤ i
  · rw [if_pos h, if_pos (show j.val ≤ i.val from h), one_eq]
  · rw [if_neg h, if_neg (show ¬ j.val ≤ i.val from h)]
    exact Ideal.ofBits_zero _

theorem b4 (c : Dev nD) (t : Fin cfg0.N) (i j : Fin 64) : iblk m c 4 t (ix2 i j) = (if j ≤ i then (1 : EReal) else 0) := by
  blk_simp [iblk, idx t]
  rw [V_tri]
  refine Eq.trans ?_ (lit_tri i j)
  refine congrArg (fun z => Ideal.ofBits FTy.f32 (lit0 (S64x64.rowMajor z))) (funext fun a => Fin.ext ?_)
  match a with
  | ⟨0, _⟩ =>
    show win0_4.index t 0 * 64 + 1 * i.val = _
    rw [(idx t).2.2.2.2.1]; show 0 * 64 + 1 * i.val = i.val; omega
  | ⟨1, _⟩ =>
    show win0_4.index t 1 * 64 + 1 * j.val = _
    rw [(idx t).2.2.2.2.1]; show 0 * 64 + 1 * j.val = j.val; omega

theorem b5 (c : Dev nD) (t : Fin cfg0.N) (i j : Fin 64) : iblk m c 5 t (ix2 i j) = (if i ≤ j then (1 : EReal) else 0) := by
  blk_simp [iblk, idx t]
  rw [V_trit]
  refine Eq.trans ?_ (lit_tri j i)
  pointwise
  refine congrArg (fun z => Ideal.ofBits FTy.f32 (lit0 (S64x64.rowMajor z))) (funext fun a => Fin.ext ?_)
  match a with
  | ⟨0, _⟩ =>
    show win0_5.index t 1 * 64 + 1 * j.val = _
    rw [(idx t).2.2.2.2.2.1]; show 0 * 64 + 1 * j.val = j.val; omega
  | ⟨1, _⟩ =>
    show win0_5.index t 0 * 64 + 1 * i.val = _
    rw [(idx t).2.2.2.2.2.1]; show 0 * 64 + 1 * i.val = i.val; omega

end Cert.Kernel4Ideal.Hand

end
-- ==== Proof.GlaOut.lean ====
module

public import proofs.«01_k».proof.Proof.GlaKer

@[expose] public section

set_option maxRecDepth 16384

noncomputable section

namespace Cert.Kernel4Ideal.Hand

open Cert.Kernel4Ideal Cert.Kernel4Ideal.Gen Idealize.ShloMosaic Idealize.ShloMosaic.TcCoe
open Idealize.ShloMosaic.Pipeline (Dat)

/-- A row's decay to the end of its chunk. -/
def Ke (x3 : FVec Ideal S64x512 .f32) (x4 : FVec Ideal S64x64 .f32) (i : Fin 64) (h : Fin 4) (k : Fin 128) : EReal :=
  Ideal.exp ((∑ j : Fin 64, x3 (ix2 j ⟨h.val * 128 + k.val, by omega⟩)) - ∑ j : Fin 64, x4 (ix2 i j) * x3 (ix2 j ⟨h.val * 128 + k.val, by omega⟩))

/-- The cotangent of a decayed key. -/
def Kk (x0 : FVec Ideal S64x512 .f32) (x2 x8 : FVec Ideal S64x1024 .f32) (s : FVec Ideal S4x256x128 .f32) (i : Fin 64) (h : Fin 4) (k : Fin 128) : EReal :=
  ∑ w : Fin 256, x2 (ix2 i ⟨h.val * 256 + w.val, by omega⟩) * Kd x0 x8 s h w k

/-- The block of the queries' gradient. -/
def K9 (x6 : FVec Ideal S4x1x256x128 .f32) (x8 : FVec Ideal S64x1024 .f32) (i : Fin 64) (h : Fin 4) (k : Fin 128) : EReal :=
  (∑ w : Fin 256, x8 (ix2 i ⟨h.val * 256 + w.val, by omega⟩) * x6 (ix4 h 0 w k)) * Ideal.ofBits .f32 0x3DB504F3#32

/-- The block of the keys' gradient. -/
def K10 (x0 x3 : FVec Ideal S64x512 .f32) (x2 x8 : FVec Ideal S64x1024 .f32) (x4 : FVec Ideal S64x64 .f32) (s : FVec Ideal S4x256x128 .f32)
    (i : Fin 64) (h : Fin 4) (k : Fin 128) : EReal :=
  Kk x0 x2 x8 s i h k * Ke x3 x4 i h k

/-- The block of the values' gradient. -/
def K11 (x0 x1 x3 : FVec Ideal S64x512 .f32) (x8 : FVec Ideal S64x1024 .f32) (x4 : FVec Ideal S64x64 .f32) (s : FVec Ideal S4x256x128 .f32)
    (i : Fin 64) (h : Fin 4) (w : Fin 256) : EReal :=
  ∑ k : Fin 128, (x1 (ix2 i ⟨h.val * 128 + k.val, by omega⟩) * Ke x3 x4 i h k) * Kd x0 x8 s h w k

/-- The cotangent of a row's log decay, within the chunk. -/
def Kw (x0 x1 x3 : FVec Ideal S64x512 .f32) (x2 x8 : FVec Ideal S64x1024 .f32) (x4 : FVec Ideal S64x64 .f32) (s : FVec Ideal S4x256x128 .f32)
    (i : Fin 64) (h : Fin 4) (k : Fin 128) : EReal :=
  Kk x0 x2 x8 s i h k * x1 (ix2 i ⟨h.val * 128 + k.val, by omega⟩) * Ke x3 x4 i h k

/-- The block of the log decays' gradient. -/
def K12 (v : BitVec 32) (x0 x1 x3 : FVec Ideal S64x512 .f32) (x2 x8 : FVec Ideal S64x1024 .f32) (x4 x5 : FVec Ideal S64x64 .f32) (x7 : FVec Ideal S4x1x256x128 .f32)
    (s : FVec Ideal S4x256x128 .f32) (i : Fin 64) (h : Fin 4) (k : Fin 128) : EReal :=
  ((∑ j : Fin 64, Kw x0 x1 x3 x2 x8 x4 s j h k)
    + (∑ w : Fin 256, (Scalar.select (Scalar.cmpi .sgt v 0#32) (Kd x0 x8 s h w k * x7 (ix4 h 0 w k)) 0 : EReal))
      * Ideal.exp (∑ j : Fin 64, x3 (ix2 j ⟨h.val * 128 + k.val, by omega⟩)))
    - ∑ j : Fin 64, x5 (ix2 i j) * Kw x0 x1 x3 x2 x8 x4 s j h k

variable (m : (ℓ : Loc nD τ sig) → Buf (Elt Ideal) ℓ)

end Cert.Kernel4Ideal.Hand

end
-- ==== Proof.GlaSum.lean ====
module

public import Idealize.ShloMosaic.Lib.Pointwise
public import Idealize.ShloMosaic.PureOps.Ideal

@[expose] public section

set_option maxRecDepth 16384

noncomputable section

open Idealize.ShloMosaic
open scoped BigOperators

/-! Running sums, as the host writes them with windows, read as sums over the indices before or after. -/

namespace Cert.GlaSum

theorem foldl_add {ι : Type} (l : List ι) (f : ι → EReal) (v : EReal) :
    l.foldl (fun r n => r + f n) v = v + (l.map f).sum := by
  induction l generalizing v with
  | nil => simp
  | cons a l ih => rw [List.foldl_cons, ih, List.map_cons, List.sum_cons, add_assoc]

/-- A window sum is the sum over the window's positions. -/
theorem window_sum {s t : Shape} (window strides lo hi : Fin s.rank → Nat) (x : s.Idx → EReal)
    (h : s.ReduceWindows window strides lo hi t) (j : t.Idx) :
    Ideal.hostReduceWindowAdd window strides lo hi h x 0 j
      = ∑ w : (⟨s.rank, window⟩ : Shape).Idx,
          (if hin : ∀ a, lo a ≤ (j (a.cast h.1.symm)).val * strides a + (w a).val
              ∧ (j (a.cast h.1.symm)).val * strides a + (w a).val - lo a < s.size a
            then x (fun a => ⟨(j (a.cast h.1.symm)).val * strides a + (w a).val - lo a, (hin a).2⟩) else 0) := by
  unfold Ideal.hostReduceWindowAdd Host.reduceWindow
  rw [← Equiv.sum_comp (⟨s.rank, window⟩ : Shape).rowMajor.symm]
  refine (foldl_add _ _ _).trans ?_
  refine (zero_add (_ : EReal)).trans ?_
  refine Eq.trans ?_ (Fin.sum_univ_def (M := EReal) _).symm
  refine congrArg List.sum (List.map_congr_left fun n _ => ?_)
  dsimp only
  congr 1

/-- The sum over a window's positions at or below, re-indexed by the element read. -/
theorem prefix_sum {N : ℕ} (j : Fin N) (f : Fin N → EReal) :
    (∑ k : Fin N, if h : N - 1 ≤ j.val + k.val then f ⟨j.val + k.val - (N - 1), by omega⟩ else 0)
      = ∑ i : Fin N, if i ≤ j then f i else 0 := by
  have hj := j.isLt
  have e : ∀ k : Fin N, (if h : N - 1 ≤ j.val + k.val then f ⟨j.val + k.val - (N - 1), by omega⟩ else 0)
      = if N - 1 ≤ j.val + k.val then f ⟨j.val + k.val - (N - 1), by omega⟩ else 0 := fun k => by split <;> rfl
  rw [Finset.sum_congr rfl fun k _ => e k, ← Finset.sum_filter, ← Finset.sum_filter]
  refine Finset.sum_bij' (fun k _ => ⟨j.val + k.val - (N - 1), by omega⟩)
    (fun i hi => ⟨i.val + (N - 1) - j.val, by have := (Finset.mem_filter.1 hi).2; have : i.val ≤ j.val := this; omega⟩) ?_ ?_ ?_ ?_ ?_
  · intro k hk
    have := (Finset.mem_filter.1 hk).2
    refine Finset.mem_filter.2 ⟨Finset.mem_univ _, ?_⟩
    show j.val + k.val - (N - 1) ≤ j.val
    have := k.isLt
    omega
  · intro i hi
    have h : i.val ≤ j.val := (Finset.mem_filter.1 hi).2
    refine Finset.mem_filter.2 ⟨Finset.mem_univ _, ?_⟩
    show N - 1 ≤ j.val + (i.val + (N - 1) - j.val)
    omega
  · intro k hk
    have := (Finset.mem_filter.1 hk).2
    apply Fin.ext
    show j.val + k.val - (N - 1) + (N - 1) - j.val = k.val
    omega
  · intro i hi
    have h : i.val ≤ j.val := (Finset.mem_filter.1 hi).2
    apply Fin.ext
    show j.val + (i.val + (N - 1) - j.val) - (N - 1) = i.val
    omega
  · intro k hk
    rfl

/-- The sum over a window's positions at or above, re-indexed by the element read. -/
theorem suffix_sum {N : ℕ} (j : Fin N) (f : Fin N → EReal) :
    (∑ k : Fin N, if h : j.val + k.val < N then f ⟨j.val + k.val, h⟩ else 0)
      = ∑ i : Fin N, if j ≤ i then f i else 0 := by
  have hj := j.isLt
  have hN : 0 < N := by omega
  have e : ∀ k : Fin N, (if h : j.val + k.val < N then f ⟨j.val + k.val, h⟩ else 0)
      = if j.val + k.val < N then f ⟨(j.val + k.val) % N, Nat.mod_lt _ hN⟩ else 0 := fun k => by
    split
    · next h => exact congrArg f (Fin.ext (Nat.mod_eq_of_lt h).symm)
    · rfl
  rw [Finset.sum_congr rfl fun k _ => e k, ← Finset.sum_filter, ← Finset.sum_filter]
  refine Finset.sum_bij' (fun k _ => ⟨(j.val + k.val) % N, Nat.mod_lt _ hN⟩)
    (fun i hi => ⟨i.val - j.val, by omega⟩) ?_ ?_ ?_ ?_ ?_
  · intro k hk
    have h : j.val + k.val < N := (Finset.mem_filter.1 hk).2
    refine Finset.mem_filter.2 ⟨Finset.mem_univ _, ?_⟩
    show j.val ≤ (j.val + k.val) % N
    rw [Nat.mod_eq_of_lt h]
    omega
  · intro i hi
    have h : j.val ≤ i.val := (Finset.mem_filter.1 hi).2
    refine Finset.mem_filter.2 ⟨Finset.mem_univ _, ?_⟩
    show j.val + (i.val - j.val) < N
    omega
  · intro k hk
    have h : j.val + k.val < N := (Finset.mem_filter.1 hk).2
    apply Fin.ext
    show (j.val + k.val) % N - j.val = k.val
    rw [Nat.mod_eq_of_lt h]
    omega
  · intro i hi
    have h : j.val ≤ i.val := (Finset.mem_filter.1 hi).2
    apply Fin.ext
    show (j.val + (i.val - j.val)) % N = i.val
    rw [Nat.mod_eq_of_lt (by omega)]
    omega
  · intro k hk
    rfl

/-- The positions of a window of one axis: of the second of four. -/
theorem sum_win4 {N : ℕ} (f : (⟨4, ![1, N, 1, 1]⟩ : Shape).Idx → EReal) :
    ∑ w, f w = ∑ k : Fin N, f (ix4 0 k 0 0) := by
  refine (Fintype.sum_equiv ⟨fun k : Fin N => (ix4 0 k 0 0 : (⟨4, ![1, N, 1, 1]⟩ : Shape).Idx), fun w => w 1, fun k => rfl, fun w => ?_⟩ _ _ fun k => rfl).symm
  funext a
  match a with
  | ⟨0, _⟩ => exact Subsingleton.elim (α := Fin 1) _ _
  | ⟨1, _⟩ => rfl
  | ⟨2, _⟩ => exact Subsingleton.elim (α := Fin 1) _ _
  | ⟨3, _⟩ => exact Subsingleton.elim (α := Fin 1) _ _

theorem sum_win3 {N : ℕ} (f : (⟨3, ![N, 1, 1]⟩ : Shape).Idx → EReal) :
    ∑ w, f w = ∑ k : Fin N, f (ix3 k 0 0) := by
  refine (Fintype.sum_equiv ⟨fun k : Fin N => (ix3 k 0 0 : (⟨3, ![N, 1, 1]⟩ : Shape).Idx), fun w => w 0, fun k => rfl, fun w => ?_⟩ _ _ fun k => rfl).symm
  funext a
  match a with
  | ⟨0, _⟩ => rfl
  | ⟨1, _⟩ => exact Subsingleton.elim (α := Fin 1) _ _
  | ⟨2, _⟩ => exact Subsingleton.elim (α := Fin 1) _ _

/-- The array of shape `[A, N, B, C]` summed along its second axis up to each index. -/
theorem cum4 {A N B C : ℕ} (x : (⟨4, ![A, N, B, C]⟩ : Shape).Idx → EReal)
    (h : (⟨4, ![A, N, B, C]⟩ : Shape).ReduceWindows ![1, N, 1, 1] ![1, 1, 1, 1] ![0, N - 1, 0, 0] ![0, 0, 0, 0] ⟨4, ![A, N, B, C]⟩)
    (a : Fin A) (j : Fin N) (b : Fin B) (c : Fin C) :
    Ideal.hostReduceWindowAdd ![1, N, 1, 1] ![1, 1, 1, 1] ![0, N - 1, 0, 0] ![0, 0, 0, 0] h x 0 (ix4 a j b c)
      = ∑ i : Fin N, if i ≤ j then x (ix4 a i b c) else 0 := by
  rw [window_sum]
  refine (sum_win4 _).trans ?_
  refine Eq.trans ?_ (prefix_sum j fun i => x (ix4 a i b c))
  refine Finset.sum_congr rfl fun k _ => ?_
  have hj := j.isLt
  have hk := k.isLt
  have ha := a.isLt
  have hb := b.isLt
  have hc := c.isLt
  by_cases hh : N - 1 ≤ j.val + k.val
  · rw [dif_pos hh, dif_pos]
    · refine congrArg x ?_
      funext r
      apply Fin.ext
      match r with
      | ⟨0, _⟩ => show a.val * 1 + 0 - 0 = a.val; omega
      | ⟨1, _⟩ => show j.val * 1 + k.val - (N - 1) = j.val + k.val - (N - 1); omega
      | ⟨2, _⟩ => show b.val * 1 + 0 - 0 = b.val; omega
      | ⟨3, _⟩ => show c.val * 1 + 0 - 0 = c.val; omega
    · intro r
      match r with
      | ⟨0, _⟩ => show 0 ≤ a.val * 1 + 0 ∧ a.val * 1 + 0 - 0 < A; omega
      | ⟨1, _⟩ => show N - 1 ≤ j.val * 1 + k.val ∧ j.val * 1 + k.val - (N - 1) < N; omega
      | ⟨2, _⟩ => show 0 ≤ b.val * 1 + 0 ∧ b.val * 1 + 0 - 0 < B; omega
      | ⟨3, _⟩ => show 0 ≤ c.val * 1 + 0 ∧ c.val * 1 + 0 - 0 < C; omega
  · rw [dif_neg hh, dif_neg]
    intro hin
    have h1 : N - 1 ≤ j.val * 1 + k.val ∧ j.val * 1 + k.val - (N - 1) < N := hin (1 : Fin 4)
    omega

/-- The array of shape `[A, N, B, C]` summed along its second axis from each index on. -/
theorem rev4 {A N B C M : ℕ} (x : (⟨4, ![A, N, B, C]⟩ : Shape).Idx → EReal)
    (h : (⟨4, ![A, N, B, C]⟩ : Shape).ReduceWindows ![1, N, 1, 1] ![1, 1, 1, 1] ![0, 0, 0, 0] ![0, M, 0, 0] ⟨4, ![A, N, B, C]⟩)
    (a : Fin A) (j : Fin N) (b : Fin B) (c : Fin C) :
    Ideal.hostReduceWindowAdd ![1, N, 1, 1] ![1, 1, 1, 1] ![0, 0, 0, 0] ![0, M, 0, 0] h x 0 (ix4 a j b c)
      = ∑ i : Fin N, if j ≤ i then x (ix4 a i b c) else 0 := by
  rw [window_sum]
  refine (sum_win4 _).trans ?_
  refine Eq.trans ?_ (suffix_sum j fun i => x (ix4 a i b c))
  refine Finset.sum_congr rfl fun k _ => ?_
  have ha := a.isLt
  have hb := b.isLt
  have hc := c.isLt
  by_cases hh : j.val + k.val < N
  · rw [dif_pos hh, dif_pos]
    · refine congrArg x ?_
      funext r
      apply Fin.ext
      match r with
      | ⟨0, _⟩ => show a.val * 1 + 0 - 0 = a.val; omega
      | ⟨1, _⟩ => show j.val * 1 + k.val - 0 = j.val + k.val; omega
      | ⟨2, _⟩ => show b.val * 1 + 0 - 0 = b.val; omega
      | ⟨3, _⟩ => show c.val * 1 + 0 - 0 = c.val; omega
    · intro r
      match r with
      | ⟨0, _⟩ => show 0 ≤ a.val * 1 + 0 ∧ a.val * 1 + 0 - 0 < A; omega
      | ⟨1, _⟩ => show 0 ≤ j.val * 1 + k.val ∧ j.val * 1 + k.val - 0 < N; omega
      | ⟨2, _⟩ => show 0 ≤ b.val * 1 + 0 ∧ b.val * 1 + 0 - 0 < B; omega
      | ⟨3, _⟩ => show 0 ≤ c.val * 1 + 0 ∧ c.val * 1 + 0 - 0 < C; omega
  · rw [dif_neg hh, dif_neg]
    intro hin
    have h1 : 0 ≤ j.val * 1 + k.val ∧ j.val * 1 + k.val - 0 < N := hin (1 : Fin 4)
    omega

/-- The array of shape `[N, B, C]` summed along its first axis up to each index. -/
theorem cum3 {N B C : ℕ} (x : (⟨3, ![N, B, C]⟩ : Shape).Idx → EReal)
    (h : (⟨3, ![N, B, C]⟩ : Shape).ReduceWindows ![N, 1, 1] ![1, 1, 1] ![N - 1, 0, 0] ![0, 0, 0] ⟨3, ![N, B, C]⟩)
    (j : Fin N) (b : Fin B) (c : Fin C) :
    Ideal.hostReduceWindowAdd ![N, 1, 1] ![1, 1, 1] ![N - 1, 0, 0] ![0, 0, 0] h x 0 (ix3 j b c)
      = ∑ i : Fin N, if i ≤ j then x (ix3 i b c) else 0 := by
  rw [window_sum]
  refine (sum_win3 _).trans ?_
  refine Eq.trans ?_ (prefix_sum j fun i => x (ix3 i b c))
  refine Finset.sum_congr rfl fun k _ => ?_
  have hj := j.isLt
  have hk := k.isLt
  have hb := b.isLt
  have hc := c.isLt
  by_cases hh : N - 1 ≤ j.val + k.val
  · rw [dif_pos hh, dif_pos]
    · refine congrArg x ?_
      funext r
      apply Fin.ext
      match r with
      | ⟨0, _⟩ => show j.val * 1 + k.val - (N - 1) = j.val + k.val - (N - 1); omega
      | ⟨1, _⟩ => show b.val * 1 + 0 - 0 = b.val; omega
      | ⟨2, _⟩ => show c.val * 1 + 0 - 0 = c.val; omega
    · intro r
      match r with
      | ⟨0, _⟩ => show N - 1 ≤ j.val * 1 + k.val ∧ j.val * 1 + k.val - (N - 1) < N; omega
      | ⟨1, _⟩ => show 0 ≤ b.val * 1 + 0 ∧ b.val * 1 + 0 - 0 < B; omega
      | ⟨2, _⟩ => show 0 ≤ c.val * 1 + 0 ∧ c.val * 1 + 0 - 0 < C; omega
  · rw [dif_neg hh, dif_neg]
    intro hin
    have h1 : N - 1 ≤ j.val * 1 + k.val ∧ j.val * 1 + k.val - (N - 1) < N := hin (0 : Fin 3)
    omega

/-- The array of shape `[N, B, C]` summed along its first axis from each index on. -/
theorem rev3 {N B C M : ℕ} (x : (⟨3, ![N, B, C]⟩ : Shape).Idx → EReal)
    (h : (⟨3, ![N, B, C]⟩ : Shape).ReduceWindows ![N, 1, 1] ![1, 1, 1] ![0, 0, 0] ![M, 0, 0] ⟨3, ![N, B, C]⟩)
    (j : Fin N) (b : Fin B) (c : Fin C) :
    Ideal.hostReduceWindowAdd ![N, 1, 1] ![1, 1, 1] ![0, 0, 0] ![M, 0, 0] h x 0 (ix3 j b c)
      = ∑ i : Fin N, if j ≤ i then x (ix3 i b c) else 0 := by
  rw [window_sum]
  refine (sum_win3 _).trans ?_
  refine Eq.trans ?_ (suffix_sum j fun i => x (ix3 i b c))
  refine Finset.sum_congr rfl fun k _ => ?_
  have hb := b.isLt
  have hc := c.isLt
  by_cases hh : j.val + k.val < N
  · rw [dif_pos hh, dif_pos]
    · refine congrArg x ?_
      funext r
      apply Fin.ext
      match r with
      | ⟨0, _⟩ => show j.val * 1 + k.val - 0 = j.val + k.val; omega
      | ⟨1, _⟩ => show b.val * 1 + 0 - 0 = b.val; omega
      | ⟨2, _⟩ => show c.val * 1 + 0 - 0 = c.val; omega
    · intro r
      match r with
      | ⟨0, _⟩ => show 0 ≤ j.val * 1 + k.val ∧ j.val * 1 + k.val - 0 < N; omega
      | ⟨1, _⟩ => show 0 ≤ b.val * 1 + 0 ∧ b.val * 1 + 0 - 0 < B; omega
      | ⟨2, _⟩ => show 0 ≤ c.val * 1 + 0 ∧ c.val * 1 + 0 - 0 < C; omega
  · rw [dif_neg hh, dif_neg]
    intro hin
    have h1 : 0 ≤ j.val * 1 + k.val ∧ j.val * 1 + k.val - 0 < N := hin (0 : Fin 3)
    omega

end Cert.GlaSum

end
-- ==== Proof.GlaRef.lean ====
module

public import proofs.«01_k».proof.Proof.GlaRefDef
public import Idealize.ShloMosaic.Lib.Pointwise
public import proofs.«01_k».proof.Proof.GlaMath
public import proofs.«01_k».proof.Proof.GlaSum

@[expose] public section

set_option maxRecDepth 16384

noncomputable section

open Idealize.ShloMosaic Idealize.ShloMosaic.TcCoe Idealize.SL.Sem
open scoped BigOperators

namespace Cert.Reference4Ideal.Gla

open Cert.Reference4Ideal Cert.Reference4Ideal.Gen

/-! What each stage holds at an index. -/

theorem Rk_at (a : FVec Ideal S2048x512 .f32) (c : Fin 32) (i : Fin 64) (h : Fin 4) (k : Fin 128) :
    Rk a (ix4 c i h k) = a (ix2 ⟨c.val * 64 + i.val, by omega⟩ ⟨h.val * 128 + k.val, by omega⟩) := by
  pointwise [Rk]

theorem Rv_at (a : FVec Ideal S2048x1024 .f32) (c : Fin 32) (i : Fin 64) (h : Fin 4) (k : Fin 256) :
    Rv a (ix4 c i h k) = a (ix2 ⟨c.val * 64 + i.val, by omega⟩ ⟨h.val * 256 + k.val, by omega⟩) := by
  pointwise [Rv]

theorem zero_at : (broadcastInDim S_ ![] bcast_S_S_ (constant (F := Ideal) S_ .f32 0x00000000#32)) (Shape.Idx.first h_S_) = 0 :=
  Ideal.ofBits_zero_f32

theorem Rb_at (g : FVec Ideal S32x64x4x128 .f32) (c : Fin 32) (i : Fin 64) (h : Fin 4) (k : Fin 128) :
    Rb g (ix4 c i h k) = ∑ j : Fin 64, if j ≤ i then g (ix4 c j h k) else 0 := by
  refine Eq.trans ?_ (Cert.GlaSum.cum4 (A := 32) (N := 64) (B := 4) (C := 128) g reduceWindows_S32x64x4x128_S32x64x4x128_w1s1p0_0_w64s1p63_0_w1s1p0_0_w1s1p0_0 c i h k)
  exact congrArg (fun z => Ideal.hostReduceWindowAdd _ _ _ _ _ g z _) zero_at

theorem Rt_at (t : FVec Ideal S32x4x128 .f32) (c : Fin 32) (h : Fin 4) (k : Fin 128) :
    Rt t (ix3 c h k) = ∑ n : Fin 32, if n ≤ c then t (ix3 n h k) else 0 := by
  refine Eq.trans ?_ (Cert.GlaSum.cum3 (N := 32) (B := 4) (C := 128) t reduceWindows_S32x4x128_S32x4x128_w32s1p31_0_w1s1p0_0_w1s1p0_0 c h k)
  exact congrArg (fun z => Ideal.hostReduceWindowAdd _ _ _ _ _ t z _) zero_at

theorem Rbe_at (b : FVec Ideal S32x64x4x128 .f32) (c : Fin 32) (h : Fin 4) (k : Fin 128) :
    Rbe b (ix3 c h k) = b (ix4 c 63 h k) := by
  pointwise [Rbe]

theorem Re_at (b : FVec Ideal S32x64x4x128 .f32) (t : FVec Ideal S32x4x128 .f32) (c : Fin 32) (i : Fin 64) (h : Fin 4) (k : Fin 128) :
    Re b t (ix4 c i h k) = Ideal.exp (t (ix3 c h k) - b (ix4 c i h k)) := by
  pointwise [Re]

theorem Rx_at (l : FVec Ideal S32x4x128 .f32) (m n : Fin 32) (h : Fin 4) (k : Fin 128) :
    Rx l (ix4 m n h k) = Ideal.exp (l (ix3 m h k) - l (ix3 n h k)) := by
  pointwise [Rx]

theorem Rm_at (m n : Fin 32) (h : Fin 4) (k : Fin 128) :
    Rm (ix4 m n h k) = if n ≤ m then 1#1 else 0#1 := by
  pointwise [Rm]
  revert m n
  decide +kernel

theorem Rd_at (x : FVec Ideal S32x32x4x128 .f32) (m n : Fin 32) (h : Fin 4) (k : Fin 128) :
    Rd x (ix4 m n h k) = if n ≤ m then x (ix4 m n h k) else 0 := by
  have hr : Rd x (ix4 m n h k) = if Rm (ix4 m n h k) = 1#1 then x (ix4 m n h k) else 0 := by
    pointwise [Rd]
    refine Eq.trans ?_ (if_congr Iff.rfl rfl Ideal.ofBits_zero_f32)
    rfl
  rw [hr, Rm_at]
  by_cases hh : n ≤ m
  · rw [if_pos hh, if_pos hh, if_pos rfl]
  · rw [if_neg hh, if_neg hh, if_neg (by decide)]

theorem Rkd_at (k e : FVec Ideal S32x64x4x128 .f32) (j : S32x64x4x128.Idx) : Rkd k e j = k j * e j := rfl

theorem Ru_at (kd : FVec Ideal S32x64x4x128 .f32) (v : FVec Ideal S32x64x4x256 .f32) (c : Fin 32) (h : Fin 4) (k : Fin 128) (w : Fin 256) :
    Ru kd v (ix4 c h k w) = ∑ i : Fin 64, kd (ix4 c i h k) * v (ix4 c i h w) := by
  pointwise [Ru]

/-- The scale of the queries. -/
def scale : EReal := Ideal.ofBits FTy.f32 0x3DB504F3#32

theorem Rg_at (q : FVec Ideal S32x64x4x128 .f32) (o : FVec Ideal S32x64x4x256 .f32) (h : Fin 4) (k : Fin 128) (w : Fin 256) (c : Fin 32) :
    Rg q o (ix4 h k w c) = ∑ i : Fin 64, o (ix4 c i h w) * (q (ix4 c i h k) * scale) := by
  pointwise [Rg]
  rfl

theorem Rdu_at (g : FVec Ideal S4x128x256x32 .f32) (d : FVec Ideal S32x32x4x128 .f32) (c : Fin 32) (h : Fin 4) (k : Fin 128) (w : Fin 256) :
    Rdu g d (ix4 c h k w) = ∑ m : Fin 32, g (ix4 h k w m) * d (ix4 m c h k) := by
  pointwise [Rdu]

theorem Rs_at (u : FVec Ideal S32x4x128x256 .f32) (d : FVec Ideal S32x32x4x128 .f32) (c : Fin 32) (h : Fin 4) (k : Fin 128) (w : Fin 256) :
    Rs u d (ix4 c h k w) = ∑ n : Fin 32, u (ix4 n h k w) * d (ix4 c n h k) := by
  pointwise [Rs]

theorem Rdk_at (du : FVec Ideal S32x4x128x256 .f32) (v : FVec Ideal S32x64x4x256 .f32) (c : Fin 32) (i : Fin 64) (h : Fin 4) (k : Fin 128) :
    Rdk du v (ix4 c i h k) = ∑ w : Fin 256, du (ix4 c h k w) * v (ix4 c i h w) := by
  pointwise [Rdk]

theorem Rw_at (k dk e : FVec Ideal S32x64x4x128 .f32) (j : S32x64x4x128.Idx) : Rw k dk e j = k j * dk j * e j := rfl

theorem Rxx_at (g : FVec Ideal S4x128x256x32 .f32) (u : FVec Ideal S32x4x128x256 .f32) (x : FVec Ideal S32x32x4x128 .f32)
    (m n : Fin 32) (h : Fin 4) (k : Fin 128) :
    Rxx g u x (ix4 m n h k) = (if n ≤ m then ∑ w : Fin 256, g (ix4 h k w m) * u (ix4 n h k w) else 0) * x (ix4 m n h k) := by
  have hr : Rxx g u x (ix4 m n h k)
      = if Rm (ix4 m n h k) = 1#1 then (∑ w : Fin 256, g (ix4 h k w m) * u (ix4 n h k w)) * x (ix4 m n h k) else 0 := by
    pointwise [Rxx]
    rfl
  rw [hr, Rm_at]
  by_cases hh : n ≤ m
  · rw [if_pos hh, if_pos hh, if_pos rfl]
  · rw [if_neg hh, if_neg hh, if_neg (by decide), zero_mul]

theorem RdT_at (x : FVec Ideal S32x32x4x128 .f32) (c : Fin 32) (h : Fin 4) (k : Fin 128) :
    RdT x (ix3 c h k) = (∑ m : Fin 32, -x (ix4 m c h k)) + ∑ n : Fin 32, x (ix4 c n h k) := by
  pointwise [RdT]
  rw [Fin.sum_univ_one, Fin.sum_univ_one]

theorem RB_at (t : FVec Ideal S32x4x128 .f32) (w : FVec Ideal S32x64x4x128 .f32) (c : Fin 32) (h : Fin 4) (k : Fin 128) :
    RB t w (ix3 c h k) = (∑ n : Fin 32, if c ≤ n then t (ix3 n h k) else 0) + ∑ i : Fin 64, w (ix4 c i h k) := by
  have e1 : Host.reduceWindowAdd ![32, 1, 1] ![1, 1, 1] ![0, 0, 0] ![31, 0, 0] t (broadcastInDim S_ ![] bcast_S_S_ (constant (F := Ideal) S_ .f32 0x00000000#32)) reduceWindows_S32x4x128_S32x4x128_w32s1p0_31_w1s1p0_0_w1s1p0_0 h_S_ (ix3 c h k)
      = ∑ n : Fin 32, if c ≤ n then t (ix3 n h k) else 0 := by
    refine Eq.trans ?_ (Cert.GlaSum.rev3 (N := 32) (B := 4) (C := 128) (M := 31) t reduceWindows_S32x4x128_S32x4x128_w32s1p0_31_w1s1p0_0_w1s1p0_0 c h k)
    exact congrArg (fun z => Ideal.hostReduceWindowAdd _ _ _ _ _ t z _) zero_at
  rw [← e1]
  pointwise [RB]
  rw [Fin.sum_univ_one]

theorem Rp_at (w : FVec Ideal S32x64x4x128 .f32) (b : FVec Ideal S32x4x128 .f32) (c : Fin 32) (i : Fin 64) (h : Fin 4) (k : Fin 128) :
    Rp w b (ix4 c i h k) = -w (ix4 c i h k) + if i = 63 then b (ix3 c h k) else 0 := by
  pointwise [Rp]
  refine congrArg (fun z => -w (ix4 c i h k) + z) ?_
  by_cases hi : i = 63
  · rw [if_pos hi, dif_pos (by subst hi; decide)]
  · have hv : i.val ≠ 63 := fun h => hi (Fin.ext h)
    have := i.isLt
    rw [if_neg hi, dif_neg (by omega)]

theorem Rla_at (p : FVec Ideal S32x64x4x128 .f32) (j : S2048x512.Idx) :
    Rla p j = ∑ i : Fin 64, if (⟨(j 0).val % 64, Nat.mod_lt _ (by decide)⟩ : Fin 64) ≤ i
      then p (ix4 ⟨(j 0).val / 64, by have h : (j 0).val < 2048 := (j 0).isLt; omega⟩ i
        ⟨(j 1).val / 128, by have h : (j 1).val < 512 := (j 1).isLt; omega⟩ ⟨(j 1).val % 128, Nat.mod_lt _ (by decide)⟩) else 0 := by
  refine Eq.trans ?_ (Cert.GlaSum.rev4 (A := 32) (N := 64) (B := 4) (C := 128) (M := 63) p reduceWindows_S32x64x4x128_S32x64x4x128_w1s1p0_0_w64s1p0_63_w1s1p0_0_w1s1p0_0 _ _ _ _)
  refine Eq.trans (b := Host.reduceWindowAdd ![1, 64, 1, 1] ![1, 1, 1, 1] ![0, 0, 0, 0] ![0, 63, 0, 0] p (broadcastInDim S_ ![] bcast_S_S_ (constant (F := Ideal) S_ .f32 0x00000000#32)) reduceWindows_S32x64x4x128_S32x64x4x128_w1s1p0_0_w64s1p0_63_w1s1p0_0_w1s1p0_0 h_S_ (ix4 ⟨(j 0).val / 64, by have h : (j 0).val < 2048 := (j 0).isLt; omega⟩ ⟨(j 0).val % 64, Nat.mod_lt _ (by decide)⟩ ⟨(j 1).val / 128, by have h : (j 1).val < 512 := (j 1).isLt; omega⟩ ⟨(j 1).val % 128, Nat.mod_lt _ (by decide)⟩)) ?_
    (congrArg (fun z => Ideal.hostReduceWindowAdd _ _ _ _ _ p z _) zero_at)
  pointwise [Rla]

theorem Rq_at (o : FVec Ideal S32x64x4x256 .f32) (s : FVec Ideal S32x4x128x256 .f32) (c : Fin 32) (i : Fin 64) (h : Fin 4) (k : Fin 128) :
    Rq o s (ix2 ⟨c.val * 64 + i.val, by omega⟩ ⟨h.val * 128 + k.val, by omega⟩)
      = (∑ w : Fin 256, o (ix4 c i h w) * s (ix4 c h k w)) * scale := by
  pointwise [Rq]
  rfl

theorem Rkk_at (dk e : FVec Ideal S32x64x4x128 .f32) (c : Fin 32) (i : Fin 64) (h : Fin 4) (k : Fin 128) :
    Rkk dk e (ix2 ⟨c.val * 64 + i.val, by omega⟩ ⟨h.val * 128 + k.val, by omega⟩) = dk (ix4 c i h k) * e (ix4 c i h k) := by
  pointwise [Rkk]

theorem Rvv_at (du : FVec Ideal S32x4x128x256 .f32) (kd : FVec Ideal S32x64x4x128 .f32) (c : Fin 32) (i : Fin 64) (h : Fin 4) (w : Fin 256) :
    Rvv du kd (ix2 ⟨c.val * 64 + i.val, by omega⟩ ⟨h.val * 256 + w.val, by omega⟩)
      = ∑ k : Fin 128, du (ix4 c h k w) * kd (ix4 c i h k) := by
  pointwise [Rvv]

end Cert.Reference4Ideal.Gla

end
-- ==== Proof.GlaReal.lean ====
module

public import proofs.«01_k».proof.Proof.GlaRef
public import proofs.«01_k».proof.Proof.GlaMath
public import proofs.«01_k».proof.Proof.MemMath
public import proofs.«01_k».proof.Proof.Ext

@[expose] public section

set_option maxRecDepth 16384

noncomputable section

open Idealize.ShloMosaic
open scoped BigOperators

/-! The gradient of the gated linear attention where every argument is a real number. -/

namespace Cert.GlaReal

open Cert.GlaMath Cert.Ext

/-- An element of an array of 2048 rows, by its chunk, its row in the chunk, its head and its column in the head. -/
def at4 {d : ℕ} (A : (⟨2, ![2048, 4 * d]⟩ : Shape).Idx → ℝ) (c : Fin 32) (i : Fin 64) (h : Fin 4) (k : Fin d) : ℝ :=
  A (ix2 ⟨c.val * 64 + i.val, by omega⟩ ⟨h.val * d + k.val, by
    have hh : h.val ≤ 3 := by omega
    have := Nat.mul_le_mul_right d hh
    omega⟩)

theorem coe_ite (p : Prop) [Decidable p] (r : ℝ) : ((if p then r else 0 : ℝ) : EReal) = if p then (r : EReal) else 0 := by
  split
  · rfl
  · exact EReal.coe_zero

/-- The scale as a real number. -/
def sc : ℝ := Classical.choose Cert.MemMath.real_scale

theorem sc_eq : Ideal.ofBits FTy.f32 0x3DB504F3#32 = (sc : EReal) := Classical.choose_spec Cert.MemMath.real_scale

section
variable (Q K G : (⟨2, ![2048, 4 * 128]⟩ : Shape).Idx → ℝ) (V O : (⟨2, ![2048, 4 * 256]⟩ : Shape).Idx → ℝ)

/-- The log decay of a chunk. -/
def T (h : Fin 4) (k : Fin 128) (c : Fin 32) : ℝ := ∑ j, at4 G c j h k

/-- The running sum within a chunk. -/
def cum (h : Fin 4) (k : Fin 128) (c : Fin 32) (i : Fin 64) : ℝ := ∑ j, if j ≤ i then at4 G c j h k else 0

/-- The decay from a row to the end of its chunk. -/
def ee (h : Fin 4) (k : Fin 128) (c : Fin 32) (i : Fin 64) : ℝ := Real.exp (T G h k c - cum G h k c i)

/-- The decayed keys. -/
def kd (h : Fin 4) (k : Fin 128) (c : Fin 32) (i : Fin 64) : ℝ := at4 K c i h k * ee G h k c i

/-- The chunks' updates. -/
def up (h : Fin 4) (k : Fin 128) (w : Fin 256) (c : Fin 32) : ℝ := ∑ i, kd K G h k c i * at4 V c i h w

/-- The cotangents of the states. -/
def ct (h : Fin 4) (k : Fin 128) (w : Fin 256) (c : Fin 32) : ℝ := ∑ i, at4 O c i h w * (at4 Q c i h k * sc)

/-- The cotangents of the updates. -/
def dU (h : Fin 4) (k : Fin 128) (w : Fin 256) (c : Fin 32) : ℝ := du (T G h k) (ct Q O h k w) c

/-- The states. -/
def S (h : Fin 4) (k : Fin 128) (w : Fin 256) (c : Fin 32) : ℝ := st (T G h k) (up K G V h k w) c

/-- The cotangents of the decayed keys. -/
def dK (h : Fin 4) (k : Fin 128) (c : Fin 32) (i : Fin 64) : ℝ := ∑ w, dU Q G O h k w c * at4 V c i h w

/-- The cotangents of the rows' log decays. -/
def ww (h : Fin 4) (k : Fin 128) (c : Fin 32) (i : Fin 64) : ℝ := at4 K c i h k * dK Q G V O h k c i * ee G h k c i

/-- The cotangent of a chunk's log decay through the state. -/
def bb (h : Fin 4) (k : Fin 128) (c : Fin 32) : ℝ :=
  (∑ w, dU Q G O h k w c * prev (T G h k) (up K G V h k w) c) * Real.exp (T G h k c)

/-- The gradient at the queries. -/
def oq (h : Fin 4) (k : Fin 128) (c : Fin 32) (i : Fin 64) : ℝ := (∑ w, at4 O c i h w * S K G V h k w c) * sc

/-- The gradient at the keys. -/
def ok (h : Fin 4) (k : Fin 128) (c : Fin 32) (i : Fin 64) : ℝ := dK Q G V O h k c i * ee G h k c i

/-- The gradient at the values. -/
def ov (h : Fin 4) (w : Fin 256) (c : Fin 32) (i : Fin 64) : ℝ := ∑ k, dU Q G O h k w c * kd K G h k c i

/-- The gradient at the log decays. -/
def og (h : Fin 4) (k : Fin 128) (c : Fin 32) (i : Fin 64) : ℝ :=
  ((∑ j, ww Q K G V O h k c j) + bb Q K G V O h k c) - ∑ i', (if i ≤ i' then 1 else 0) * ww Q K G V O h k c i'

end

end Cert.GlaReal

namespace Cert.Reference4Ideal.Gla

open Cert.Reference4Ideal Cert.Reference4Ideal.Gen Cert.GlaReal Cert.GlaMath Cert.Ext

section
variable {a0 a1 a3 : FVec Ideal S2048x512 .f32} {a2 a4 : FVec Ideal S2048x1024 .f32}
variable {Q K G : (⟨2, ![2048, 4 * 128]⟩ : Shape).Idx → ℝ} {V O : (⟨2, ![2048, 4 * 256]⟩ : Shape).Idx → ℝ}

theorem k4 {a : FVec Ideal S2048x512 .f32} {A : (⟨2, ![2048, 4 * 128]⟩ : Shape).Idx → ℝ} (h : ∀ j, a j = (A j : EReal))
    (c : Fin 32) (i : Fin 64) (p : Fin 4) (k : Fin 128) : Rk a (ix4 c i p k) = (at4 A c i p k : EReal) :=
  (Rk_at a c i p k).trans (h _)

theorem v4 {a : FVec Ideal S2048x1024 .f32} {A : (⟨2, ![2048, 4 * 256]⟩ : Shape).Idx → ℝ} (h : ∀ j, a j = (A j : EReal))
    (c : Fin 32) (i : Fin 64) (p : Fin 4) (k : Fin 256) : Rv a (ix4 c i p k) = (at4 A c i p k : EReal) :=
  (Rv_at a c i p k).trans (h _)

theorem b_eq (h3 : ∀ j, a3 j = (G j : EReal)) (c : Fin 32) (i : Fin 64) (h : Fin 4) (k : Fin 128) :
    Rb (Rk a3) (ix4 c i h k) = (cum G h k c i : EReal) := by
  rw [Rb_at, cum, coe_sum]
  exact Finset.sum_congr rfl fun j _ => by rw [k4 h3, coe_ite]

theorem be_eq (h3 : ∀ j, a3 j = (G j : EReal)) (c : Fin 32) (h : Fin 4) (k : Fin 128) :
    Rbe (Rb (Rk a3)) (ix3 c h k) = (GlaReal.T G h k c : EReal) := by
  rw [Rbe_at, b_eq h3, cum, GlaReal.T]
  refine congrArg _ (Finset.sum_congr rfl fun j _ => if_pos ?_)
  have := j.isLt
  show j.val ≤ 63
  omega

theorem e_eq (h3 : ∀ j, a3 j = (G j : EReal)) (c : Fin 32) (i : Fin 64) (h : Fin 4) (k : Fin 128) :
    Re (Rb (Rk a3)) (Rbe (Rb (Rk a3))) (ix4 c i h k) = (ee G h k c i : EReal) := by
  rw [Re_at, b_eq h3, be_eq h3, ← EReal.coe_sub]
  rfl

theorem l_eq (h3 : ∀ j, a3 j = (G j : EReal)) (c : Fin 32) (h : Fin 4) (k : Fin 128) :
    Rt (Rbe (Rb (Rk a3))) (ix3 c h k) = (acc (GlaReal.T G h k) c : EReal) := by
  rw [Rt_at, acc, coe_sum]
  exact Finset.sum_congr rfl fun j _ => by rw [be_eq h3, coe_ite]

theorem x_eq (h3 : ∀ j, a3 j = (G j : EReal)) (m n : Fin 32) (h : Fin 4) (k : Fin 128) :
    Rx (Rt (Rbe (Rb (Rk a3)))) (ix4 m n h k) = (Real.exp (acc (GlaReal.T G h k) m - acc (GlaReal.T G h k) n) : EReal) := by
  rw [Rx_at, l_eq h3, l_eq h3, ← EReal.coe_sub]
  rfl

theorem d_eq (h3 : ∀ j, a3 j = (G j : EReal)) (m n : Fin 32) (h : Fin 4) (k : Fin 128) :
    Rd (Rx (Rt (Rbe (Rb (Rk a3))))) (ix4 m n h k) = (dd (GlaReal.T G h k) m n : EReal) := by
  rw [Rd_at, x_eq h3, dd, coe_ite]

theorem kd_eq (h1 : ∀ j, a1 j = (K j : EReal)) (h3 : ∀ j, a3 j = (G j : EReal)) (c : Fin 32) (i : Fin 64) (h : Fin 4) (k : Fin 128) :
    Rkd (Rk a1) (Re (Rb (Rk a3)) (Rbe (Rb (Rk a3)))) (ix4 c i h k) = (kd K G h k c i : EReal) := by
  rw [Rkd_at, k4 h1, e_eq h3, ← EReal.coe_mul]
  rfl

theorem u_eq (h1 : ∀ j, a1 j = (K j : EReal)) (h2 : ∀ j, a2 j = (V j : EReal)) (h3 : ∀ j, a3 j = (G j : EReal))
    (c : Fin 32) (h : Fin 4) (k : Fin 128) (w : Fin 256) :
    Ru (Rkd (Rk a1) (Re (Rb (Rk a3)) (Rbe (Rb (Rk a3))))) (Rv a2) (ix4 c h k w) = (up K G V h k w c : EReal) := by
  rw [Ru_at, up, coe_sum]
  exact Finset.sum_congr rfl fun i _ => by rw [kd_eq h1 h3, v4 h2, ← EReal.coe_mul]

theorem g_eq (h0 : ∀ j, a0 j = (Q j : EReal)) (h4 : ∀ j, a4 j = (O j : EReal)) (c : Fin 32) (h : Fin 4) (k : Fin 128) (w : Fin 256) :
    Rg (Rk a0) (Rv a4) (ix4 h k w c) = (ct Q O h k w c : EReal) := by
  rw [Rg_at, ct, coe_sum]
  exact Finset.sum_congr rfl fun i _ => by rw [k4 h0, v4 h4, scale, sc_eq, ← EReal.coe_mul, ← EReal.coe_mul]

theorem du_eq (h0 : ∀ j, a0 j = (Q j : EReal)) (h3 : ∀ j, a3 j = (G j : EReal)) (h4 : ∀ j, a4 j = (O j : EReal))
    (c : Fin 32) (h : Fin 4) (k : Fin 128) (w : Fin 256) :
    Rdu (Rg (Rk a0) (Rv a4)) (Rd (Rx (Rt (Rbe (Rb (Rk a3)))))) (ix4 c h k w) = (dU Q G O h k w c : EReal) := by
  rw [Rdu_at, dU, du, coe_sum]
  exact Finset.sum_congr rfl fun i _ => by rw [g_eq h0 h4, d_eq h3, ← EReal.coe_mul]

theorem s_eq (h1 : ∀ j, a1 j = (K j : EReal)) (h2 : ∀ j, a2 j = (V j : EReal)) (h3 : ∀ j, a3 j = (G j : EReal))
    (c : Fin 32) (h : Fin 4) (k : Fin 128) (w : Fin 256) :
    Rs (Ru (Rkd (Rk a1) (Re (Rb (Rk a3)) (Rbe (Rb (Rk a3))))) (Rv a2)) (Rd (Rx (Rt (Rbe (Rb (Rk a3)))))) (ix4 c h k w)
      = (S K G V h k w c : EReal) := by
  rw [Rs_at, S, st, coe_sum]
  exact Finset.sum_congr rfl fun i _ => by rw [u_eq h1 h2 h3, d_eq h3, ← EReal.coe_mul]

theorem dk_eq (h0 : ∀ j, a0 j = (Q j : EReal)) (h2 : ∀ j, a2 j = (V j : EReal)) (h3 : ∀ j, a3 j = (G j : EReal)) (h4 : ∀ j, a4 j = (O j : EReal))
    (c : Fin 32) (i : Fin 64) (h : Fin 4) (k : Fin 128) :
    Rdk (Rdu (Rg (Rk a0) (Rv a4)) (Rd (Rx (Rt (Rbe (Rb (Rk a3))))))) (Rv a2) (ix4 c i h k) = (dK Q G V O h k c i : EReal) := by
  rw [Rdk_at, dK, coe_sum]
  exact Finset.sum_congr rfl fun w _ => by rw [du_eq h0 h3 h4, v4 h2, ← EReal.coe_mul]

theorem w_eq (h0 : ∀ j, a0 j = (Q j : EReal)) (h1 : ∀ j, a1 j = (K j : EReal)) (h2 : ∀ j, a2 j = (V j : EReal)) (h3 : ∀ j, a3 j = (G j : EReal))
    (h4 : ∀ j, a4 j = (O j : EReal)) (c : Fin 32) (i : Fin 64) (h : Fin 4) (k : Fin 128) :
    Rw (Rk a1) (Rdk (Rdu (Rg (Rk a0) (Rv a4)) (Rd (Rx (Rt (Rbe (Rb (Rk a3))))))) (Rv a2)) (Re (Rb (Rk a3)) (Rbe (Rb (Rk a3)))) (ix4 c i h k)
      = (ww Q K G V O h k c i : EReal) := by
  rw [Rw_at, k4 h1, dk_eq h0 h2 h3 h4, e_eq h3, ← EReal.coe_mul, ← EReal.coe_mul]
  rfl

theorem xx_eq (h0 : ∀ j, a0 j = (Q j : EReal)) (h1 : ∀ j, a1 j = (K j : EReal)) (h2 : ∀ j, a2 j = (V j : EReal)) (h3 : ∀ j, a3 j = (G j : EReal))
    (h4 : ∀ j, a4 j = (O j : EReal)) (m n : Fin 32) (h : Fin 4) (k : Fin 128) :
    Rxx (Rg (Rk a0) (Rv a4)) (Ru (Rkd (Rk a1) (Re (Rb (Rk a3)) (Rbe (Rb (Rk a3))))) (Rv a2)) (Rx (Rt (Rbe (Rb (Rk a3))))) (ix4 m n h k)
      = (xx (GlaReal.T G h k) (fun c w => ct Q O h k w c) (fun c w => up K G V h k w c) m n : EReal) := by
  rw [Rxx_at, x_eq h3, xx, EReal.coe_mul, coe_ite, coe_sum]
  refine congrArg (fun z => z * _) (if_congr Iff.rfl (Finset.sum_congr rfl fun w _ => ?_) rfl)
  rw [g_eq h0 h4, u_eq h1 h2 h3, ← EReal.coe_mul]

theorem q_out (h1 : ∀ j, a1 j = (K j : EReal)) (h2 : ∀ j, a2 j = (V j : EReal)) (h3 : ∀ j, a3 j = (G j : EReal)) (h4 : ∀ j, a4 j = (O j : EReal))
    (c : Fin 32) (i : Fin 64) (h : Fin 4) (k : Fin 128) :
    Rq (Rv a4) (Rs (Ru (Rkd (Rk a1) (Re (Rb (Rk a3)) (Rbe (Rb (Rk a3))))) (Rv a2)) (Rd (Rx (Rt (Rbe (Rb (Rk a3)))))))
        (ix2 ⟨c.val * 64 + i.val, by omega⟩ ⟨h.val * 128 + k.val, by omega⟩)
      = (oq K G V O h k c i : EReal) := by
  rw [Rq_at, oq, EReal.coe_mul, coe_sum, scale, sc_eq]
  refine congrArg (fun z => z * _) (Finset.sum_congr rfl fun w _ => ?_)
  rw [v4 h4, s_eq h1 h2 h3, ← EReal.coe_mul]

theorem k_out (h0 : ∀ j, a0 j = (Q j : EReal)) (h2 : ∀ j, a2 j = (V j : EReal)) (h3 : ∀ j, a3 j = (G j : EReal)) (h4 : ∀ j, a4 j = (O j : EReal))
    (c : Fin 32) (i : Fin 64) (h : Fin 4) (k : Fin 128) :
    Rkk (Rdk (Rdu (Rg (Rk a0) (Rv a4)) (Rd (Rx (Rt (Rbe (Rb (Rk a3))))))) (Rv a2)) (Re (Rb (Rk a3)) (Rbe (Rb (Rk a3))))
        (ix2 ⟨c.val * 64 + i.val, by omega⟩ ⟨h.val * 128 + k.val, by omega⟩)
      = (ok Q G V O h k c i : EReal) := by
  rw [Rkk_at, dk_eq h0 h2 h3 h4, e_eq h3, ← EReal.coe_mul]
  rfl

theorem v_out (h0 : ∀ j, a0 j = (Q j : EReal)) (h1 : ∀ j, a1 j = (K j : EReal)) (h3 : ∀ j, a3 j = (G j : EReal)) (h4 : ∀ j, a4 j = (O j : EReal))
    (c : Fin 32) (i : Fin 64) (h : Fin 4) (w : Fin 256) :
    Rvv (Rdu (Rg (Rk a0) (Rv a4)) (Rd (Rx (Rt (Rbe (Rb (Rk a3))))))) (Rkd (Rk a1) (Re (Rb (Rk a3)) (Rbe (Rb (Rk a3)))))
        (ix2 ⟨c.val * 64 + i.val, by omega⟩ ⟨h.val * 256 + w.val, by omega⟩)
      = (ov Q K G O h w c i : EReal) := by
  rw [Rvv_at, ov, coe_sum]
  refine Finset.sum_congr rfl fun k _ => ?_
  rw [du_eq h0 h3 h4, kd_eq h1 h3, ← EReal.coe_mul]

theorem g_out (h0 : ∀ j, a0 j = (Q j : EReal)) (h1 : ∀ j, a1 j = (K j : EReal)) (h2 : ∀ j, a2 j = (V j : EReal)) (h3 : ∀ j, a3 j = (G j : EReal))
    (h4 : ∀ j, a4 j = (O j : EReal)) (c : Fin 32) (i : Fin 64) (h : Fin 4) (k : Fin 128) :
    (∑ i' : Fin 64, if i ≤ i' then
      Rp (Rw (Rk a1) (Rdk (Rdu (Rg (Rk a0) (Rv a4)) (Rd (Rx (Rt (Rbe (Rb (Rk a3))))))) (Rv a2)) (Re (Rb (Rk a3)) (Rbe (Rb (Rk a3)))))
        (RB (RdT (Rxx (Rg (Rk a0) (Rv a4)) (Ru (Rkd (Rk a1) (Re (Rb (Rk a3)) (Rbe (Rb (Rk a3))))) (Rv a2)) (Rx (Rt (Rbe (Rb (Rk a3)))))))
          (Rw (Rk a1) (Rdk (Rdu (Rg (Rk a0) (Rv a4)) (Rd (Rx (Rt (Rbe (Rb (Rk a3))))))) (Rv a2)) (Re (Rb (Rk a3)) (Rbe (Rb (Rk a3))))))
        (ix4 c i' h k) else 0)
      = (og Q K G V O h k c i : EReal) := by
  have hB : RB (RdT (Rxx (Rg (Rk a0) (Rv a4)) (Ru (Rkd (Rk a1) (Re (Rb (Rk a3)) (Rbe (Rb (Rk a3))))) (Rv a2)) (Rx (Rt (Rbe (Rb (Rk a3)))))))
          (Rw (Rk a1) (Rdk (Rdu (Rg (Rk a0) (Rv a4)) (Rd (Rx (Rt (Rbe (Rb (Rk a3))))))) (Rv a2)) (Re (Rb (Rk a3)) (Rbe (Rb (Rk a3)))))
          (ix3 c h k) = ((bb Q K G V O h k c + ∑ j, ww Q K G V O h k c j : ℝ) : EReal) := by
    rw [RB_at, EReal.coe_add, coe_sum]
    refine congrArg₂ (· + ·) ?_ (Finset.sum_congr rfl fun j _ => w_eq h0 h1 h2 h3 h4 c j h k)
    have hb := dT_eq (GlaReal.T G h k) (fun m w => ct Q O h k w m) (fun n w => up K G V h k w n) c
    rw [show bb Q K G V O h k c = _ from hb.symm, coe_sum]
    refine Finset.sum_congr rfl fun n _ => ?_
    rw [coe_ite]
    refine if_congr Iff.rfl ?_ rfl
    rw [RdT_at, EReal.coe_add, coe_sum, coe_sum]
    refine congrArg₂ (· + ·) (Finset.sum_congr rfl fun m _ => ?_) (Finset.sum_congr rfl fun m _ => xx_eq h0 h1 h2 h3 h4 n m h k)
    rw [xx_eq h0 h1 h2 h3 h4 m n h k, EReal.coe_neg]
  rw [og, ← dla_eq (fun j => ww Q K G V O h k c j) (bb Q K G V O h k c) i 63 rfl, coe_sum]
  refine Finset.sum_congr rfl fun i' _ => ?_
  rw [coe_ite]
  refine if_congr Iff.rfl ?_ rfl
  rw [Rp_at, w_eq h0 h1 h2 h3 h4, hB, EReal.coe_add (-ww Q K G V O h k c i'), coe_ite, EReal.coe_neg]

end

end Cert.Reference4Ideal.Gla

end
-- ==== Proof.GlaKReal.lean ====
module

public import proofs.«01_k».proof.Proof.GlaBlk
public import proofs.«01_k».proof.Proof.GlaOut
public import proofs.«01_k».proof.Proof.GlaReal

@[expose] public section

set_option maxRecDepth 16384

noncomputable section

namespace Cert.Kernel4Ideal.Hand

open Cert.Kernel4Ideal Cert.Kernel4Ideal.Gen Idealize.ShloMosaic Idealize.ShloMosaic.TcCoe
open Cert.GlaReal Cert.GlaMath Cert.Ext
open scoped BigOperators

/-! What a point computes where every argument is a real number. -/

section
variable {x0 x1 x3 : FVec Ideal S64x512 .f32} {x2 x8 : FVec Ideal S64x1024 .f32} {x4 x5 : FVec Ideal S64x64 .f32}
variable {x6 x7 : FVec Ideal S4x1x256x128 .f32} {s : FVec Ideal S4x256x128 .f32}
variable {Q K G : (⟨2, ![2048, 4 * 128]⟩ : Shape).Idx → ℝ} {V O : (⟨2, ![2048, 4 * 256]⟩ : Shape).Idx → ℝ} {n : Fin 32}

/-- A block of the chunk's rows reads an array of real numbers. -/
def R5 (x : FVec Ideal S64x512 .f32) (A : (⟨2, ![2048, 4 * 128]⟩ : Shape).Idx → ℝ) (n : Fin 32) : Prop :=
  ∀ (i : Fin 64) (h : Fin 4) (k : Fin 128), x (ix2 i ⟨h.val * 128 + k.val, by omega⟩) = (at4 A n i h k : EReal)

/-- The same for the wide arrays. -/
def R10 (x : FVec Ideal S64x1024 .f32) (A : (⟨2, ![2048, 4 * 256]⟩ : Shape).Idx → ℝ) (n : Fin 32) : Prop :=
  ∀ (i : Fin 64) (h : Fin 4) (k : Fin 256), x (ix2 i ⟨h.val * 256 + k.val, by omega⟩) = (at4 A n i h k : EReal)

theorem T_eq (r3 : R5 x3 G n) (h : Fin 4) (k : Fin 128) :
    (∑ j : Fin 64, x3 (ix2 j ⟨h.val * 128 + k.val, by omega⟩) : EReal) = (GlaReal.T G h k n : EReal) := by
  rw [GlaReal.T, coe_sum]
  exact Finset.sum_congr rfl fun j _ => r3 j h k

theorem one_zero (p : Prop) [Decidable p] (r : ℝ) : (if p then (1 : EReal) else 0) * (r : EReal) = ((if p then r else 0 : ℝ) : EReal) := by
  by_cases hp : p
  · rw [if_pos hp, if_pos hp, one_mul]
  · rw [if_neg hp, if_neg hp, zero_mul, EReal.coe_zero]

theorem Ke_eq (r3 : R5 x3 G n) (r4 : ∀ i j : Fin 64, x4 (ix2 i j) = (if j ≤ i then (1 : EReal) else 0)) (i : Fin 64) (h : Fin 4) (k : Fin 128) :
    Ke x3 x4 i h k = (ee G h k n i : EReal) := by
  have e : (∑ j : Fin 64, x4 (ix2 i j) * x3 (ix2 j ⟨h.val * 128 + k.val, by omega⟩) : EReal) = (cum G h k n i : EReal) := by
    rw [cum, coe_sum]
    exact Finset.sum_congr rfl fun j _ => by rw [r4, r3]; exact one_zero _ _
  unfold Ke
  rw [T_eq r3, e, ← EReal.coe_sub]
  rfl

theorem Kd_eq (r0 : R5 x0 Q n) (r8 : R10 x8 O n)
    (rs : ∀ (h : Fin 4) (w : Fin 256) (k : Fin 128), s (ix3 h w k) + (ct Q O h k w n : EReal) = (dU Q G O h k w n : EReal))
    (h : Fin 4) (w : Fin 256) (k : Fin 128) : Kd x0 x8 s h w k = (dU Q G O h k w n : EReal) := by
  rw [← rs]
  unfold Kd
  refine congrArg _ ?_
  rw [ct, coe_sum]
  exact Finset.sum_congr rfl fun i _ => by rw [r0, r8, sc_eq, EReal.coe_mul, EReal.coe_mul]

theorem Ks_eq (r0 : R5 x0 Q n) (r3 : R5 x3 G n) (r8 : R10 x8 O n)
    (rs : ∀ (h : Fin 4) (w : Fin 256) (k : Fin 128), s (ix3 h w k) + (ct Q O h k w n : EReal) = (dU Q G O h k w n : EReal))
    (h : Fin 4) (w : Fin 256) (k : Fin 128) :
    Ks x0 x3 x8 s h w k = ((dU Q G O h k w n * Real.exp (GlaReal.T G h k n) : ℝ) : EReal) := by
  unfold Ks
  rw [Kd_eq r0 r8 rs, T_eq r3, EReal.coe_mul]
  rfl

theorem Kk_eq (r0 : R5 x0 Q n) (r2 : R10 x2 V n) (r8 : R10 x8 O n)
    (rs : ∀ (h : Fin 4) (w : Fin 256) (k : Fin 128), s (ix3 h w k) + (ct Q O h k w n : EReal) = (dU Q G O h k w n : EReal))
    (i : Fin 64) (h : Fin 4) (k : Fin 128) : Kk x0 x2 x8 s i h k = (dK Q G V O h k n i : EReal) := by
  unfold Kk
  rw [dK, coe_sum]
  exact Finset.sum_congr rfl fun w _ => by rw [r2, Kd_eq r0 r8 rs, ← EReal.coe_mul, mul_comm]

theorem K9_eq (r6 : ∀ (h : Fin 4) (w : Fin 256) (k : Fin 128), x6 (ix4 h 0 w k) = (S K G V h k w n : EReal)) (r8 : R10 x8 O n)
    (i : Fin 64) (h : Fin 4) (k : Fin 128) : K9 x6 x8 i h k = (oq K G V O h k n i : EReal) := by
  unfold K9
  rw [oq, EReal.coe_mul, coe_sum, sc_eq]
  exact congrArg (· * _) (Finset.sum_congr rfl fun w _ => by rw [r6, r8, EReal.coe_mul])

theorem K10_eq (r0 : R5 x0 Q n) (r3 : R5 x3 G n) (r2 : R10 x2 V n) (r8 : R10 x8 O n)
    (r4 : ∀ i j : Fin 64, x4 (ix2 i j) = (if j ≤ i then (1 : EReal) else 0))
    (rs : ∀ (h : Fin 4) (w : Fin 256) (k : Fin 128), s (ix3 h w k) + (ct Q O h k w n : EReal) = (dU Q G O h k w n : EReal))
    (i : Fin 64) (h : Fin 4) (k : Fin 128) : K10 x0 x3 x2 x8 x4 s i h k = (ok Q G V O h k n i : EReal) := by
  unfold K10
  rw [Kk_eq r0 r2 r8 rs, Ke_eq r3 r4, ok, EReal.coe_mul]

theorem K11_eq (r0 : R5 x0 Q n) (r1 : R5 x1 K n) (r3 : R5 x3 G n) (r8 : R10 x8 O n)
    (r4 : ∀ i j : Fin 64, x4 (ix2 i j) = (if j ≤ i then (1 : EReal) else 0))
    (rs : ∀ (h : Fin 4) (w : Fin 256) (k : Fin 128), s (ix3 h w k) + (ct Q O h k w n : EReal) = (dU Q G O h k w n : EReal))
    (i : Fin 64) (h : Fin 4) (w : Fin 256) : K11 x0 x1 x3 x8 x4 s i h w = (ov Q K G O h w n i : EReal) := by
  unfold K11
  rw [ov, coe_sum]
  exact Finset.sum_congr rfl fun k _ => by rw [r1, Kd_eq r0 r8 rs, Ke_eq r3 r4, ← EReal.coe_mul, ← EReal.coe_mul, kd, mul_comm]

theorem Kw_eq (r0 : R5 x0 Q n) (r1 : R5 x1 K n) (r3 : R5 x3 G n) (r2 : R10 x2 V n) (r8 : R10 x8 O n)
    (r4 : ∀ i j : Fin 64, x4 (ix2 i j) = (if j ≤ i then (1 : EReal) else 0))
    (rs : ∀ (h : Fin 4) (w : Fin 256) (k : Fin 128), s (ix3 h w k) + (ct Q O h k w n : EReal) = (dU Q G O h k w n : EReal))
    (i : Fin 64) (h : Fin 4) (k : Fin 128) : Kw x0 x1 x3 x2 x8 x4 s i h k = (ww Q K G V O h k n i : EReal) := by
  unfold Kw
  rw [Kk_eq r0 r2 r8 rs, Ke_eq r3 r4, r1, ww, ← EReal.coe_mul, ← EReal.coe_mul, mul_comm (dK Q G V O h k n i)]

theorem K12_eq {v : BitVec 32} (hv : Scalar.cmpi .sgt v 0#32 = if n.val = 0 then 0#1 else 1#1)
    (r0 : R5 x0 Q n) (r1 : R5 x1 K n) (r3 : R5 x3 G n) (r2 : R10 x2 V n) (r8 : R10 x8 O n)
    (r4 : ∀ i j : Fin 64, x4 (ix2 i j) = (if j ≤ i then (1 : EReal) else 0))
    (r5 : ∀ i j : Fin 64, x5 (ix2 i j) = (if i ≤ j then (1 : EReal) else 0))
    (r7 : ∀ (hn : n.val ≠ 0) (h : Fin 4) (w : Fin 256) (k : Fin 128), x7 (ix4 h 0 w k) = (S K G V h k w ⟨n.val - 1, by omega⟩ : EReal))
    (rs : ∀ (h : Fin 4) (w : Fin 256) (k : Fin 128), s (ix3 h w k) + (ct Q O h k w n : EReal) = (dU Q G O h k w n : EReal))
    (i : Fin 64) (h : Fin 4) (k : Fin 128) : K12 v x0 x1 x3 x2 x8 x4 x5 x7 s i h k = (og Q K G V O h k n i : EReal) := by
  have e1 : (∑ j : Fin 64, Kw x0 x1 x3 x2 x8 x4 s j h k : EReal) = ((∑ j, ww Q K G V O h k n j : ℝ) : EReal) := by
    rw [coe_sum]
    exact Finset.sum_congr rfl fun j _ => Kw_eq r0 r1 r3 r2 r8 r4 rs j h k
  have e2 : (∑ w : Fin 256, (Scalar.select (Scalar.cmpi .sgt v 0#32) (Kd x0 x8 s h w k * x7 (ix4 h 0 w k)) 0 : EReal))
      = ((∑ w, dU Q G O h k w n * prev (GlaReal.T G h k) (up K G V h k w) n : ℝ) : EReal) := by
    rw [coe_sum]
    refine Finset.sum_congr rfl fun w _ => ?_
    rw [hv]
    by_cases hn : n.val = 0
    · rw [if_pos hn, prev, dif_pos hn, mul_zero, EReal.coe_zero]
      exact if_neg (by decide)
    · rw [if_neg hn, prev, dif_neg hn, EReal.coe_mul]
      refine (if_pos (by decide)).trans ?_
      rw [Kd_eq r0 r8 rs, r7 hn]
      rfl
  have e3 : (∑ j : Fin 64, x5 (ix2 i j) * Kw x0 x1 x3 x2 x8 x4 s j h k : EReal)
      = ((∑ i', (if i ≤ i' then 1 else 0) * ww Q K G V O h k n i' : ℝ) : EReal) := by
    rw [coe_sum]
    refine Finset.sum_congr rfl fun j _ => ?_
    rw [r5, Kw_eq r0 r1 r3 r2 r8 r4 rs, one_zero, ite_mul, one_mul, zero_mul]
  unfold K12
  rw [e1, e2, e3, T_eq r3, og, bb, EReal.coe_sub, EReal.coe_add, EReal.coe_mul]
  rfl

end

end Cert.Kernel4Ideal.Hand

end
-- ==== Proof.GlaOutQ.lean ====
module

public import proofs.«01_k».proof.Proof.GlaOut

@[expose] public section

set_option maxRecDepth 16384

noncomputable section

namespace Cert.Kernel4Ideal.Hand

open Cert.Kernel4Ideal Cert.Kernel4Ideal.Gen Idealize.ShloMosaic Idealize.ShloMosaic.TcCoe
open Idealize.ShloMosaic.Pipeline (Dat)

variable (m : (ℓ : Loc nD τ sig) → Buf (Elt Ideal) ℓ)

theorem o9A (c : Dev nD) (t : Fin cfg0.N) (ht : t.val % 32 = 0) (y : S64x512.Idx) (i : Fin 64) (h : Fin 4) (k : Fin 128)
    (hi : (y 0 : ℕ) = i.val) (hk : (y 1 : ℕ) = h.val * 128 + k.val) :
    (outsAt0 m c t.val t.isLt).1 y = K9 (iblk m c 6 t) (iblk m c 8 t) i h k := by
  generalize hz : K9 (iblk m c 6 t) (iblk m c 8 t) i h k = z
  rw [outsAt0_A m c t ht]
  frame_out
  subst hz
  canon_tiles x e
  all_goals
    open_payloads
    pointwise
    unfold K9
    blk_point []

theorem o9B (c : Dev nD) (t : Fin cfg0.N) (ht : ¬t.val % 32 = 0) (y : S64x512.Idx) (i : Fin 64) (h : Fin 4) (k : Fin 128)
    (hi : (y 0 : ℕ) = i.val) (hk : (y 1 : ℕ) = h.val * 128 + k.val) :
    (outsAt0 m c t.val t.isLt).1 y = K9 (iblk m c 6 t) (iblk m c 8 t) i h k := by
  generalize hz : K9 (iblk m c 6 t) (iblk m c 8 t) i h k = z
  rw [outsAt0_B m c t ht]
  frame_out
  subst hz
  canon_tiles x e
  all_goals
    open_payloads
    pointwise
    unfold K9
    blk_point []

theorem o10A (c : Dev nD) (t : Fin cfg0.N) (ht : t.val % 32 = 0) (y : S64x512.Idx) (i : Fin 64) (h : Fin 4) (k : Fin 128)
    (hi : (y 0 : ℕ) = i.val) (hk : (y 1 : ℕ) = h.val * 128 + k.val) :
    (outsAt0 m c t.val t.isLt).2.1 y = K10 (iblk m c 0 t) (iblk m c 3 t) (iblk m c 2 t) (iblk m c 8 t) (iblk m c 4 t) (k0_pay2 (F := Ideal)) i h k := by
  generalize hz : K10 (iblk m c 0 t) (iblk m c 3 t) (iblk m c 2 t) (iblk m c 8 t) (iblk m c 4 t) (k0_pay2 (F := Ideal)) i h k = z
  rw [outsAt0_A m c t ht]
  frame_out
  simp (disch := decide) only [↓ View.readCov_skip, ↓ View.readCov_cons_toLoadRect, ↓ View.readCov_fill]
  subst hz
  generalize k0_pay2 (F := Ideal) = Z
  canon_tiles x e
  all_goals
    open_payloads
    pointwise
    unfold K10 Kk Kd Ke
    blk_point []

theorem o10B (c : Dev nD) (t : Fin cfg0.N) (ht : ¬t.val % 32 = 0) (y : S64x512.Idx) (i : Fin 64) (h : Fin 4) (k : Fin 128)
    (hi : (y 0 : ℕ) = i.val) (hk : (y 1 : ℕ) = h.val * 128 + k.val) :
    (outsAt0 m c t.val t.isLt).2.1 y = K10 (iblk m c 0 t) (iblk m c 3 t) (iblk m c 2 t) (iblk m c 8 t) (iblk m c 4 t) (outsAt0 m c (t.val - 1) (Nat.lt_of_le_of_lt (Nat.sub_le _ _) t.isLt)).2.2.2.2 i h k := by
  generalize hz : K10 (iblk m c 0 t) (iblk m c 3 t) (iblk m c 2 t) (iblk m c 8 t) (iblk m c 4 t) (outsAt0 m c (t.val - 1) (Nat.lt_of_le_of_lt (Nat.sub_le _ _) t.isLt)).2.2.2.2 i h k = z
  rw [outsAt0_B m c t ht]
  frame_out
  rw [read_unread_whole]
  subst hz
  canon_tiles x e
  all_goals
    open_payloads
    pointwise
    unfold K10 Kk Kd Ke
    blk_point []

end Cert.Kernel4Ideal.Hand

end
-- ==== Proof.GlaOutV.lean ====
module

public import proofs.«01_k».proof.Proof.GlaOut

@[expose] public section

set_option maxRecDepth 16384

noncomputable section

namespace Cert.Kernel4Ideal.Hand

open Cert.Kernel4Ideal Cert.Kernel4Ideal.Gen Idealize.ShloMosaic Idealize.ShloMosaic.TcCoe
open Idealize.ShloMosaic.Pipeline (Dat)

variable (m : (ℓ : Loc nD τ sig) → Buf (Elt Ideal) ℓ)

theorem o11A (c : Dev nD) (t : Fin cfg0.N) (ht : t.val % 32 = 0) (y : S64x1024.Idx) (i : Fin 64) (h : Fin 4) (k : Fin 256)
    (hi : (y 0 : ℕ) = i.val) (hk : (y 1 : ℕ) = h.val * 256 + k.val) :
    (outsAt0 m c t.val t.isLt).2.2.1 y = K11 (iblk m c 0 t) (iblk m c 1 t) (iblk m c 3 t) (iblk m c 8 t) (iblk m c 4 t) (k0_pay2 (F := Ideal)) i h k := by
  generalize hz : K11 (iblk m c 0 t) (iblk m c 1 t) (iblk m c 3 t) (iblk m c 8 t) (iblk m c 4 t) (k0_pay2 (F := Ideal)) i h k = z
  rw [outsAt0_A m c t ht]
  frame_out
  simp (disch := decide) only [↓ View.readCov_skip, ↓ View.readCov_cons_toLoadRect, ↓ View.readCov_fill]
  subst hz
  generalize k0_pay2 (F := Ideal) = Z
  canon_tiles x e
  all_goals
    open_payloads
    pointwise
    unfold K11 Kd Ke
    blk_point []

theorem o11B (c : Dev nD) (t : Fin cfg0.N) (ht : ¬t.val % 32 = 0) (y : S64x1024.Idx) (i : Fin 64) (h : Fin 4) (k : Fin 256)
    (hi : (y 0 : ℕ) = i.val) (hk : (y 1 : ℕ) = h.val * 256 + k.val) :
    (outsAt0 m c t.val t.isLt).2.2.1 y = K11 (iblk m c 0 t) (iblk m c 1 t) (iblk m c 3 t) (iblk m c 8 t) (iblk m c 4 t) (outsAt0 m c (t.val - 1) (Nat.lt_of_le_of_lt (Nat.sub_le _ _) t.isLt)).2.2.2.2 i h k := by
  generalize hz : K11 (iblk m c 0 t) (iblk m c 1 t) (iblk m c 3 t) (iblk m c 8 t) (iblk m c 4 t) (outsAt0 m c (t.val - 1) (Nat.lt_of_le_of_lt (Nat.sub_le _ _) t.isLt)).2.2.2.2 i h k = z
  rw [outsAt0_B m c t ht]
  frame_out
  rw [read_unread_whole]
  subst hz
  canon_tiles x e
  all_goals
    open_payloads
    pointwise
    unfold K11 Kd Ke
    blk_point []

end Cert.Kernel4Ideal.Hand

end
-- ==== Proof.GlaOutG.lean ====
module

public import proofs.«01_k».proof.Proof.GlaOut

@[expose] public section

set_option maxRecDepth 16384

noncomputable section

namespace Cert.Kernel4Ideal.Hand

open Cert.Kernel4Ideal Cert.Kernel4Ideal.Gen Idealize.ShloMosaic Idealize.ShloMosaic.TcCoe
open Idealize.ShloMosaic.Pipeline (Dat)

variable (m : (ℓ : Loc nD τ sig) → Buf (Elt Ideal) ℓ)

theorem o12B (c : Dev nD) (t : Fin cfg0.N) (ht : ¬t.val % 32 = 0) (y : S64x512.Idx) (i : Fin 64) (h : Fin 4) (k : Fin 128)
    (hi : (y 0 : ℕ) = i.val) (hk : (y 1 : ℕ) = h.val * 128 + k.val) :
    (outsAt0 m c t.val t.isLt).2.2.2.1 y = K12 (Scalar.subi (31#32) (BitVec.ofNat 32 (grid0.coords t 0).val)) (iblk m c 0 t) (iblk m c 1 t) (iblk m c 3 t) (iblk m c 2 t) (iblk m c 8 t) (iblk m c 4 t) (iblk m c 5 t) (iblk m c 7 t) (outsAt0 m c (t.val - 1) (Nat.lt_of_le_of_lt (Nat.sub_le _ _) t.isLt)).2.2.2.2 i h k := by
  generalize hz : K12 (Scalar.subi (31#32) (BitVec.ofNat 32 (grid0.coords t 0).val)) (iblk m c 0 t) (iblk m c 1 t) (iblk m c 3 t) (iblk m c 2 t) (iblk m c 8 t) (iblk m c 4 t) (iblk m c 5 t) (iblk m c 7 t) (outsAt0 m c (t.val - 1) (Nat.lt_of_le_of_lt (Nat.sub_le _ _) t.isLt)).2.2.2.2 i h k = z
  rw [outsAt0_B m c t ht]
  frame_out
  rw [read_unread_whole]
  subst hz
  canon_tiles x e
  all_goals
    open_payloads
    pointwise
    unfold K12 Kw Kk Kd Ke
    blk_point []

end Cert.Kernel4Ideal.Hand

end
-- ==== Proof.GlaOutH.lean ====
module

public import proofs.«01_k».proof.Proof.GlaOut

@[expose] public section

set_option maxRecDepth 16384

noncomputable section

namespace Cert.Kernel4Ideal.Hand

open Cert.Kernel4Ideal Cert.Kernel4Ideal.Gen Idealize.ShloMosaic Idealize.ShloMosaic.TcCoe
open Idealize.ShloMosaic.Pipeline (Dat)

variable (m : (ℓ : Loc nD τ sig) → Buf (Elt Ideal) ℓ)

theorem o12A (c : Dev nD) (t : Fin cfg0.N) (ht : t.val % 32 = 0) (y : S64x512.Idx) (i : Fin 64) (h : Fin 4) (k : Fin 128)
    (hi : (y 0 : ℕ) = i.val) (hk : (y 1 : ℕ) = h.val * 128 + k.val) :
    (outsAt0 m c t.val t.isLt).2.2.2.1 y = K12 (Scalar.subi (31#32) (BitVec.ofNat 32 (grid0.coords t 0).val)) (iblk m c 0 t) (iblk m c 1 t) (iblk m c 3 t) (iblk m c 2 t) (iblk m c 8 t) (iblk m c 4 t) (iblk m c 5 t) (iblk m c 7 t) (k0_pay2 (F := Ideal)) i h k := by
  generalize hz : K12 (Scalar.subi (31#32) (BitVec.ofNat 32 (grid0.coords t 0).val)) (iblk m c 0 t) (iblk m c 1 t) (iblk m c 3 t) (iblk m c 2 t) (iblk m c 8 t) (iblk m c 4 t) (iblk m c 5 t) (iblk m c 7 t) (k0_pay2 (F := Ideal)) i h k = z
  rw [outsAt0_A m c t ht]
  frame_out
  simp (disch := decide) only [↓ View.readCov_skip, ↓ View.readCov_cons_toLoadRect, ↓ View.readCov_fill]
  subst hz
  generalize k0_pay2 (F := Ideal) = Z
  canon_tiles x e
  all_goals
    open_payloads
    pointwise
    unfold K12 Kw Kk Kd Ke
    blk_point []

end Cert.Kernel4Ideal.Hand

end
-- ==== Proof.GlaScr.lean ====
module

public import proofs.«01_k».proof.Proof.GlaKReal
public import proofs.«01_k».proof.Proof.GlaOutQ
public import proofs.«01_k».proof.Proof.GlaOutV
public import proofs.«01_k».proof.Proof.GlaOutG
public import proofs.«01_k».proof.Proof.GlaOutH

@[expose] public section

set_option maxRecDepth 16384

noncomputable section

namespace Cert.Kernel4Ideal.Hand

open Cert.Kernel4Ideal Cert.Kernel4Ideal.Gen Idealize.ShloMosaic Idealize.ShloMosaic.TcCoe
open Cert.GlaReal Cert.GlaMath Cert.Ext
open scoped BigOperators

/-! The scratch after each point, and the blocks the points write, where every argument is a real number. -/

variable {m : (ℓ : Loc nD τ sig) → Buf (Elt Ideal) ℓ} {c : Dev nD}
variable {Q K G : (⟨2, ![2048, 4 * 128]⟩ : Shape).Idx → ℝ} {V O : (⟨2, ![2048, 4 * 256]⟩ : Shape).Idx → ℝ}

theorem rd0 (h0 : ∀ j, m ((c.tc : Thread nD τ).loc main_arg0) j = (Q j : EReal)) (t : Fin cfg0.N) (n : Fin 32) (hn : n.val = 31 - t.val) :
    R5 (iblk m c 0 t) Q n := fun i h k => (b0 m c t n hn i ⟨h.val * 128 + k.val, by omega⟩).trans (h0 _)

theorem rd1 (h1 : ∀ j, m ((c.tc : Thread nD τ).loc main_arg1) j = (K j : EReal)) (t : Fin cfg0.N) (n : Fin 32) (hn : n.val = 31 - t.val) :
    R5 (iblk m c 1 t) K n := fun i h k => (b1 m c t n hn i ⟨h.val * 128 + k.val, by omega⟩).trans (h1 _)

theorem rd2 (h2 : ∀ j, m ((c.tc : Thread nD τ).loc main_arg2) j = (V j : EReal)) (t : Fin cfg0.N) (n : Fin 32) (hn : n.val = 31 - t.val) :
    R10 (iblk m c 2 t) V n := fun i h k => (b2 m c t n hn i ⟨h.val * 256 + k.val, by omega⟩).trans (h2 _)

theorem rd3 (h3 : ∀ j, m ((c.tc : Thread nD τ).loc main_arg3) j = (G j : EReal)) (t : Fin cfg0.N) (n : Fin 32) (hn : n.val = 31 - t.val) :
    R5 (iblk m c 3 t) G n := fun i h k => (b3 m c t n hn i ⟨h.val * 128 + k.val, by omega⟩).trans (h3 _)

theorem rd8 (h4 : ∀ j, m ((c.tc : Thread nD τ).loc main_arg4) j = (O j : EReal)) (t : Fin cfg0.N) (n : Fin 32) (hn : n.val = 31 - t.val) :
    R10 (iblk m c 8 t) O n := fun i h k => (b8 m c t n hn i ⟨h.val * 256 + k.val, by omega⟩).trans (h4 _)

theorem rd6 (h1 : ∀ j, m ((c.tc : Thread nD τ).loc main_arg1) j = (K j : EReal)) (h2 : ∀ j, m ((c.tc : Thread nD τ).loc main_arg2) j = (V j : EReal))
    (h3 : ∀ j, m ((c.tc : Thread nD τ).loc main_arg3) j = (G j : EReal)) (t : Fin cfg0.N) (n : Fin 32) (hn : n.val = 31 - t.val)
    (h : Fin 4) (w : Fin 256) (k : Fin 128) : iblk m c 6 t (ix4 h 0 w k) = (S K G V h k w n : EReal) :=
  (b6 m c t n hn h w k).trans (Cert.Reference4Ideal.Gla.s_eq h1 h2 h3 n h k w)

theorem rd7 (h1 : ∀ j, m ((c.tc : Thread nD τ).loc main_arg1) j = (K j : EReal)) (h2 : ∀ j, m ((c.tc : Thread nD τ).loc main_arg2) j = (V j : EReal))
    (h3 : ∀ j, m ((c.tc : Thread nD τ).loc main_arg3) j = (G j : EReal)) (t : Fin cfg0.N) (n : Fin 32) (hn : n.val = 31 - t.val)
    (hz : n.val ≠ 0) (h : Fin 4) (w : Fin 256) (k : Fin 128) :
    iblk m c 7 t (ix4 h 0 w k) = (S K G V h k w ⟨n.val - 1, by omega⟩ : EReal) :=
  (b7 m c t ⟨n.val - 1, by omega⟩ (by show n.val - 1 = _; omega) h w k).trans (Cert.Reference4Ideal.Gla.s_eq h1 h2 h3 _ h k w)

/-- At the first point the scratch counts as zero. -/
theorem rsA (n : Fin 32) (hn : n.val = 31) (h : Fin 4) (w : Fin 256) (k : Fin 128) :
    (0 : EReal) + (ct Q O h k w n : EReal) = (dU Q G O h k w n : EReal) := by
  rw [zero_add, dU, du_last _ _ n (by omega)]

/-- At a later point it holds the next chunk's part. -/
theorem rsB (n n' : Fin 32) (hn : n'.val = n.val + 1) (h : Fin 4) (w : Fin 256) (k : Fin 128) :
    ((dU Q G O h k w n' * Real.exp (GlaReal.T G h k n') : ℝ) : EReal) + (ct Q O h k w n : EReal) = (dU Q G O h k w n : EReal) := by
  have e : n' = ⟨n.val + 1, by omega⟩ := Fin.ext hn
  rw [← EReal.coe_add, e]
  exact congrArg _ (du_step (GlaReal.T G h k) (ct Q O h k w) n (by omega)).symm

/-- The scratch after a point. -/
theorem scr (h0 : ∀ j, m ((c.tc : Thread nD τ).loc main_arg0) j = (Q j : EReal)) (h3 : ∀ j, m ((c.tc : Thread nD τ).loc main_arg3) j = (G j : EReal))
    (h4 : ∀ j, m ((c.tc : Thread nD τ).loc main_arg4) j = (O j : EReal)) :
    ∀ (t : ℕ) (ht : t < cfg0.N) (n : Fin 32) (hn : n.val = 31 - t) (h : Fin 4) (w : Fin 256) (k : Fin 128),
      (outsAt0 m c t ht).2.2.2.2 (ix3 h w k) = ((dU Q G O h k w n * Real.exp (GlaReal.T G h k n) : ℝ) : EReal) := by
  intro t
  induction t with
  | zero =>
    intro ht n hn h w k
    exact (sA m c ⟨0, ht⟩ (Nat.zero_mod 32) (ix3 h w k)).trans
      (Ks_eq (rd0 h0 ⟨0, ht⟩ n hn) (rd3 h3 ⟨0, ht⟩ n hn) (rd8 h4 ⟨0, ht⟩ n hn) (fun h w k => rsA n hn h w k) h w k)
  | succ t ih =>
    intro ht n hn h w k
    have hN : cfg0.N = 32 := by decide
    have hlt : t + 1 < 32 := hN ▸ ht
    exact (sB m c ⟨t + 1, ht⟩ (by show ¬ (t + 1) % 32 = 0; omega) (ix3 h w k)).trans
      (Ks_eq (rd0 h0 ⟨t + 1, ht⟩ n hn) (rd3 h3 ⟨t + 1, ht⟩ n hn) (rd8 h4 ⟨t + 1, ht⟩ n hn) (fun h w k =>
        (congrArg (· + _) (ih (Nat.lt_of_succ_lt ht) ⟨n.val + 1, by omega⟩ (by show n.val + 1 = 31 - t; omega) h w k)).trans
          (rsB n ⟨n.val + 1, by omega⟩ rfl h w k)) h w k)

theorem pay2_zero (y : S4x256x128.Idx) : k0_pay2 (F := Ideal) y = (0 : EReal) := by
  pointwise [k0_pay2]

theorem hrsA (t : Fin cfg0.N) (ht : t.val % 32 = 0) (n : Fin 32) (hn : n.val = 31 - t.val) (h : Fin 4) (w : Fin 256) (k : Fin 128) :
    (k0_pay2 (F := Ideal) (ix3 h w k) : EReal) + (ct Q O h k w n : EReal) = (dU Q G O h k w n : EReal) := by
  have hN : cfg0.N = 32 := by decide
  have hlt : t.val < 32 := hN ▸ t.isLt
  refine (congrArg (· + _) (pay2_zero _)).trans (rsA n (by omega) h w k)

theorem hrsB (h0 : ∀ j, m ((c.tc : Thread nD τ).loc main_arg0) j = (Q j : EReal)) (h3 : ∀ j, m ((c.tc : Thread nD τ).loc main_arg3) j = (G j : EReal))
    (h4 : ∀ j, m ((c.tc : Thread nD τ).loc main_arg4) j = (O j : EReal))
    (t : Fin cfg0.N) (ht : ¬t.val % 32 = 0) (n : Fin 32) (hn : n.val = 31 - t.val) (h : Fin 4) (w : Fin 256) (k : Fin 128) :
    ((outsAt0 m c (t.val - 1) (Nat.lt_of_le_of_lt (Nat.sub_le _ _) t.isLt)).2.2.2.2 (ix3 h w k) : EReal) + (ct Q O h k w n : EReal)
      = (dU Q G O h k w n : EReal) := by
  have hN : cfg0.N = 32 := by decide
  have hlt : t.val < 32 := hN ▸ t.isLt
  exact (congrArg (· + _) (scr h0 h3 h4 (t.val - 1) _ ⟨n.val + 1, by omega⟩ (by show n.val + 1 = 31 - (t.val - 1); omega) h w k)).trans
    (rsB n ⟨n.val + 1, by omega⟩ rfl h w k)

theorem gt_n (t : Fin cfg0.N) (n : Fin 32) (hn : n.val = 31 - t.val) :
    Scalar.cmpi .sgt (Scalar.subi (31#32) (BitVec.ofNat 32 (grid0.coords t 0).val)) 0#32 = if n.val = 0 then 0#1 else 1#1 := by
  have hN : cfg0.N = 32 := by decide
  have hlt : t.val < 32 := hN ▸ t.isLt
  rw [gt_iff]
  by_cases h : t.val < 31
  · rw [if_pos h, if_neg (by omega)]
  · rw [if_neg h, if_pos (by omega)]

section
variable (h0 : ∀ j, m ((c.tc : Thread nD τ).loc main_arg0) j = (Q j : EReal)) (h1 : ∀ j, m ((c.tc : Thread nD τ).loc main_arg1) j = (K j : EReal))
  (h2 : ∀ j, m ((c.tc : Thread nD τ).loc main_arg2) j = (V j : EReal)) (h3 : ∀ j, m ((c.tc : Thread nD τ).loc main_arg3) j = (G j : EReal))
  (h4 : ∀ j, m ((c.tc : Thread nD τ).loc main_arg4) j = (O j : EReal))
include h0 h1 h2 h3 h4

theorem r9 (t : Fin cfg0.N) (n : Fin 32) (hn : n.val = 31 - t.val) (y : S64x512.Idx) (i : Fin 64) (h : Fin 4) (k : Fin 128)
    (hi : (y 0 : ℕ) = i.val) (hk : (y 1 : ℕ) = h.val * 128 + k.val) : (outsAt0 m c t.val t.isLt).1 y = (oq K G V O h k n i : EReal) := by
  by_cases ht : t.val % 32 = 0
  · exact (o9A m c t ht y i h k hi hk).trans (K9_eq (rd6 h1 h2 h3 t n hn) (rd8 h4 t n hn) i h k)
  · exact (o9B m c t ht y i h k hi hk).trans (K9_eq (rd6 h1 h2 h3 t n hn) (rd8 h4 t n hn) i h k)

theorem r10 (t : Fin cfg0.N) (n : Fin 32) (hn : n.val = 31 - t.val) (y : S64x512.Idx) (i : Fin 64) (h : Fin 4) (k : Fin 128)
    (hi : (y 0 : ℕ) = i.val) (hk : (y 1 : ℕ) = h.val * 128 + k.val) : (outsAt0 m c t.val t.isLt).2.1 y = (ok Q G V O h k n i : EReal) := by
  by_cases ht : t.val % 32 = 0
  · exact (o10A m c t ht y i h k hi hk).trans (K10_eq (rd0 h0 t n hn) (rd3 h3 t n hn) (rd2 h2 t n hn) (rd8 h4 t n hn) (b4 m c t) (hrsA t ht n hn) i h k)
  · exact (o10B m c t ht y i h k hi hk).trans (K10_eq (rd0 h0 t n hn) (rd3 h3 t n hn) (rd2 h2 t n hn) (rd8 h4 t n hn) (b4 m c t) (hrsB h0 h3 h4 t ht n hn) i h k)

theorem r11 (t : Fin cfg0.N) (n : Fin 32) (hn : n.val = 31 - t.val) (y : S64x1024.Idx) (i : Fin 64) (h : Fin 4) (k : Fin 256)
    (hi : (y 0 : ℕ) = i.val) (hk : (y 1 : ℕ) = h.val * 256 + k.val) : (outsAt0 m c t.val t.isLt).2.2.1 y = (ov Q K G O h k n i : EReal) := by
  by_cases ht : t.val % 32 = 0
  · exact (o11A m c t ht y i h k hi hk).trans (K11_eq (rd0 h0 t n hn) (rd1 h1 t n hn) (rd3 h3 t n hn) (rd8 h4 t n hn) (b4 m c t) (hrsA t ht n hn) i h k)
  · exact (o11B m c t ht y i h k hi hk).trans (K11_eq (rd0 h0 t n hn) (rd1 h1 t n hn) (rd3 h3 t n hn) (rd8 h4 t n hn) (b4 m c t) (hrsB h0 h3 h4 t ht n hn) i h k)

theorem r12 (t : Fin cfg0.N) (n : Fin 32) (hn : n.val = 31 - t.val) (y : S64x512.Idx) (i : Fin 64) (h : Fin 4) (k : Fin 128)
    (hi : (y 0 : ℕ) = i.val) (hk : (y 1 : ℕ) = h.val * 128 + k.val) : (outsAt0 m c t.val t.isLt).2.2.2.1 y = (og Q K G V O h k n i : EReal) := by
  by_cases ht : t.val % 32 = 0
  · exact (o12A m c t ht y i h k hi hk).trans (K12_eq (gt_n t n hn) (rd0 h0 t n hn) (rd1 h1 t n hn) (rd3 h3 t n hn) (rd2 h2 t n hn) (rd8 h4 t n hn)
      (b4 m c t) (b5 m c t) (rd7 h1 h2 h3 t n hn) (hrsA t ht n hn) i h k)
  · exact (o12B m c t ht y i h k hi hk).trans (K12_eq (gt_n t n hn) (rd0 h0 t n hn) (rd1 h1 t n hn) (rd3 h3 t n hn) (rd2 h2 t n hn) (rd8 h4 t n hn)
      (b4 m c t) (b5 m c t) (rd7 h1 h2 h3 t n hn) (hrsB h0 h3 h4 t ht n hn) i h k)

end

end Cert.Kernel4Ideal.Hand

end
-- ==== Proof.GlaFinal.lean ====
module

public import proofs.«01_k».proof.Proof.GlaScr

@[expose] public section

set_option maxRecDepth 16384

noncomputable section

namespace Cert.GlaReal

open Idealize.ShloMosaic

/-- An array of the gradients by chunk, row, head and column, over the rows and columns of the whole. -/
def spl (f : Fin 4 → Fin 128 → Fin 32 → Fin 64 → ℝ) (j : (⟨2, ![2048, 512]⟩ : Shape).Idx) : EReal :=
  (f ⟨(j 1).val / 128, by have h : (j 1).val < 512 := (j 1).isLt; omega⟩ ⟨(j 1).val % 128, Nat.mod_lt _ (by decide)⟩
    ⟨(j 0).val / 64, by have h : (j 0).val < 2048 := (j 0).isLt; omega⟩ ⟨(j 0).val % 64, Nat.mod_lt _ (by decide)⟩ : EReal)

/-- The same for the values' width. -/
def splW (f : Fin 4 → Fin 256 → Fin 32 → Fin 64 → ℝ) (j : (⟨2, ![2048, 1024]⟩ : Shape).Idx) : EReal :=
  (f ⟨(j 1).val / 256, by have h : (j 1).val < 1024 := (j 1).isLt; omega⟩ ⟨(j 1).val % 256, Nat.mod_lt _ (by decide)⟩
    ⟨(j 0).val / 64, by have h : (j 0).val < 2048 := (j 0).isLt; omega⟩ ⟨(j 0).val % 64, Nat.mod_lt _ (by decide)⟩ : EReal)

theorem spl_of (f : Fin 4 → Fin 128 → Fin 32 → Fin 64 → ℝ) (j : (⟨2, ![2048, 512]⟩ : Shape).Idx) (c : Fin 32) (i : Fin 64) (h : Fin 4) (k : Fin 128)
    (h0 : (j 0).val = c.val * 64 + i.val) (h1 : (j 1).val = h.val * 128 + k.val) : spl f j = (f h k c i : EReal) := by
  unfold spl
  congr 2 <;> first | (apply Fin.ext; simp only []; omega) | skip

theorem splW_of (f : Fin 4 → Fin 256 → Fin 32 → Fin 64 → ℝ) (j : (⟨2, ![2048, 1024]⟩ : Shape).Idx) (c : Fin 32) (i : Fin 64) (h : Fin 4) (k : Fin 256)
    (h0 : (j 0).val = c.val * 64 + i.val) (h1 : (j 1).val = h.val * 256 + k.val) : splW f j = (f h k c i : EReal) := by
  unfold splW
  congr 2 <;> first | (apply Fin.ext; simp only []; omega) | skip

end Cert.GlaReal

namespace Cert.Kernel4Ideal.Hand

open Cert.Kernel4Ideal Cert.Kernel4Ideal.Gen Idealize.ShloMosaic Idealize.ShloMosaic.TcCoe
open Idealize.ShloMosaic.Pipeline (Dat)
open Cert.GlaReal Cert.GlaMath Cert.Ext
open scoped BigOperators

/-! The kernel's results where every argument is a real number. -/

section
variable {m : (ℓ : Loc nD τ sig) → Buf (Elt Ideal) ℓ} {c : Dev nD}
variable {Q K G : (⟨2, ![2048, 4 * 128]⟩ : Shape).Idx → ℝ} {V O : (⟨2, ![2048, 4 * 256]⟩ : Shape).Idx → ℝ}
variable (h0 : ∀ j, m ((c.tc : Thread nD τ).loc main_arg0) j = (Q j : EReal)) (h1 : ∀ j, m ((c.tc : Thread nD τ).loc main_arg1) j = (K j : EReal))
  (h2 : ∀ j, m ((c.tc : Thread nD τ).loc main_arg2) j = (V j : EReal)) (h3 : ∀ j, m ((c.tc : Thread nD τ).loc main_arg3) j = (G j : EReal))
  (h4 : ∀ j, m ((c.tc : Thread nD τ).loc main_arg4) j = (O j : EReal))
include h0 h1 h2 h3 h4

theorem final9 : (dats m 0 c).arrAt 9 (cfgs 0).N = fun j => spl (oq K G V O) j := by
  refine (dats m 0 c).arrAt_eq_of_covers 9 _ (by decide +kernel) fun t hf y => ?_
  blk_simp
  rw [after0_9]
  have hN : cfg0.N = 32 := by decide
  have hlt : t.val < 32 := hN ▸ t.isLt
  have hy0 : (y 0 : ℕ) < 64 := (y 0).isLt
  have hy1 : (y 1 : ℕ) < 512 := (y 1).isLt
  refine (r9 h0 h1 h2 h3 h4 t ⟨31 - t.val, by omega⟩ rfl y ⟨(y 0 : ℕ), hy0⟩ ⟨(y 1 : ℕ) / 128, by omega⟩ ⟨(y 1 : ℕ) % 128, Nat.mod_lt _ (by decide)⟩ rfl
    (by show (y 1 : ℕ) = (y 1 : ℕ) / 128 * 128 + (y 1 : ℕ) % 128; omega)).trans ?_
  refine (spl_of (oq K G V O) _ ⟨31 - t.val, by omega⟩ ⟨(y 0 : ℕ), hy0⟩ ⟨(y 1 : ℕ) / 128, by omega⟩ ⟨(y 1 : ℕ) % 128, Nat.mod_lt _ (by decide)⟩ ?_ ?_).symm
  · show win0_9.index t 0 * 64 + 1 * (y 0 : ℕ) = (31 - t.val) * 64 + (y 0 : ℕ)
    rw [(idx t).2.2.2.2.2.2.2.2.2.1]; show (31 - t.val) * 64 + 1 * (y 0 : ℕ) = _; omega
  · show win0_9.index t 1 * 512 + 1 * (y 1 : ℕ) = (y 1 : ℕ) / 128 * 128 + (y 1 : ℕ) % 128
    rw [(idx t).2.2.2.2.2.2.2.2.2.1]; show 0 * 512 + 1 * (y 1 : ℕ) = _; omega

theorem final10 : (dats m 0 c).arrAt 10 (cfgs 0).N = fun j => spl (ok Q G V O) j := by
  refine (dats m 0 c).arrAt_eq_of_covers 10 _ (by decide +kernel) fun t hf y => ?_
  blk_simp
  rw [after0_10]
  have hN : cfg0.N = 32 := by decide
  have hlt : t.val < 32 := hN ▸ t.isLt
  have hy0 : (y 0 : ℕ) < 64 := (y 0).isLt
  have hy1 : (y 1 : ℕ) < 512 := (y 1).isLt
  refine (r10 h0 h1 h2 h3 h4 t ⟨31 - t.val, by omega⟩ rfl y ⟨(y 0 : ℕ), hy0⟩ ⟨(y 1 : ℕ) / 128, by omega⟩ ⟨(y 1 : ℕ) % 128, Nat.mod_lt _ (by decide)⟩ rfl
    (by show (y 1 : ℕ) = (y 1 : ℕ) / 128 * 128 + (y 1 : ℕ) % 128; omega)).trans ?_
  refine (spl_of (ok Q G V O) _ ⟨31 - t.val, by omega⟩ ⟨(y 0 : ℕ), hy0⟩ ⟨(y 1 : ℕ) / 128, by omega⟩ ⟨(y 1 : ℕ) % 128, Nat.mod_lt _ (by decide)⟩ ?_ ?_).symm
  · show win0_10.index t 0 * 64 + 1 * (y 0 : ℕ) = (31 - t.val) * 64 + (y 0 : ℕ)
    rw [(idx t).2.2.2.2.2.2.2.2.2.2.1]; show (31 - t.val) * 64 + 1 * (y 0 : ℕ) = _; omega
  · show win0_10.index t 1 * 512 + 1 * (y 1 : ℕ) = (y 1 : ℕ) / 128 * 128 + (y 1 : ℕ) % 128
    rw [(idx t).2.2.2.2.2.2.2.2.2.2.1]; show 0 * 512 + 1 * (y 1 : ℕ) = _; omega

theorem final11 : (dats m 0 c).arrAt 11 (cfgs 0).N = fun j => splW (ov Q K G O) j := by
  refine (dats m 0 c).arrAt_eq_of_covers 11 _ (by decide +kernel) fun t hf y => ?_
  blk_simp
  rw [after0_11]
  have hN : cfg0.N = 32 := by decide
  have hlt : t.val < 32 := hN ▸ t.isLt
  have hy0 : (y 0 : ℕ) < 64 := (y 0).isLt
  have hy1 : (y 1 : ℕ) < 1024 := (y 1).isLt
  refine (r11 h0 h1 h2 h3 h4 t ⟨31 - t.val, by omega⟩ rfl y ⟨(y 0 : ℕ), hy0⟩ ⟨(y 1 : ℕ) / 256, by omega⟩ ⟨(y 1 : ℕ) % 256, Nat.mod_lt _ (by decide)⟩ rfl
    (by show (y 1 : ℕ) = (y 1 : ℕ) / 256 * 256 + (y 1 : ℕ) % 256; omega)).trans ?_
  refine (splW_of (ov Q K G O) _ ⟨31 - t.val, by omega⟩ ⟨(y 0 : ℕ), hy0⟩ ⟨(y 1 : ℕ) / 256, by omega⟩ ⟨(y 1 : ℕ) % 256, Nat.mod_lt _ (by decide)⟩ ?_ ?_).symm
  · show win0_11.index t 0 * 64 + 1 * (y 0 : ℕ) = (31 - t.val) * 64 + (y 0 : ℕ)
    rw [(idx t).2.2.2.2.2.2.2.2.2.2.2.1]; show (31 - t.val) * 64 + 1 * (y 0 : ℕ) = _; omega
  · show win0_11.index t 1 * 1024 + 1 * (y 1 : ℕ) = (y 1 : ℕ) / 256 * 256 + (y 1 : ℕ) % 256
    rw [(idx t).2.2.2.2.2.2.2.2.2.2.2.1]; show 0 * 1024 + 1 * (y 1 : ℕ) = _; omega

theorem final12 : (dats m 0 c).arrAt 12 (cfgs 0).N = fun j => spl (og Q K G V O) j := by
  refine (dats m 0 c).arrAt_eq_of_covers 12 _ (by decide +kernel) fun t hf y => ?_
  blk_simp
  rw [after0_12]
  have hN : cfg0.N = 32 := by decide
  have hlt : t.val < 32 := hN ▸ t.isLt
  have hy0 : (y 0 : ℕ) < 64 := (y 0).isLt
  have hy1 : (y 1 : ℕ) < 512 := (y 1).isLt
  refine (r12 h0 h1 h2 h3 h4 t ⟨31 - t.val, by omega⟩ rfl y ⟨(y 0 : ℕ), hy0⟩ ⟨(y 1 : ℕ) / 128, by omega⟩ ⟨(y 1 : ℕ) % 128, Nat.mod_lt _ (by decide)⟩ rfl
    (by show (y 1 : ℕ) = (y 1 : ℕ) / 128 * 128 + (y 1 : ℕ) % 128; omega)).trans ?_
  refine (spl_of (og Q K G V O) _ ⟨31 - t.val, by omega⟩ ⟨(y 0 : ℕ), hy0⟩ ⟨(y 1 : ℕ) / 128, by omega⟩ ⟨(y 1 : ℕ) % 128, Nat.mod_lt _ (by decide)⟩ ?_ ?_).symm
  · show win0_12.index t 0 * 64 + 1 * (y 0 : ℕ) = (31 - t.val) * 64 + (y 0 : ℕ)
    rw [(idx t).2.2.2.2.2.2.2.2.2.2.2.2]; show (31 - t.val) * 64 + 1 * (y 0 : ℕ) = _; omega
  · show win0_12.index t 1 * 512 + 1 * (y 1 : ℕ) = (y 1 : ℕ) / 128 * 128 + (y 1 : ℕ) % 128
    rw [(idx t).2.2.2.2.2.2.2.2.2.2.2.2]; show 0 * 512 + 1 * (y 1 : ℕ) = _; omega

end

end Cert.Kernel4Ideal.Hand

end
-- ==== Proof.PairGla.lean ====
module

public import proofs.«01_k».proof.Defs
public import proofs.«01_k».proof.Proof.Gen.Kernel4.Frame
public import proofs.«01_k».proof.Proof.Gen.Kernel4Ideal.Frame
public import proofs.«01_k».proof.Proof.Gen.Reference4Ideal
public import proofs.«01_k».proof.Proof.Gen.Kernel4Ideal.Value
public import proofs.«01_k».proof.Proof.Gen.Reference4Ideal.Run
public import proofs.«01_k».proof.Proof.Gen.Pre_gla_finite
public import proofs.«01_k».proof.Proof.GlaFinal
public import proofs.«01_k».proof.Proof.Pre
public import Idealize.ShloMosaic.Lib.Claim
public import Idealize.ShloMosaic.Adequacy
public import Idealize.ShloMosaic.Init

@[expose] public section

set_option maxRecDepth 16384

noncomputable section

namespace Cert.GlaReal

open Idealize.ShloMosaic Cert.Reference4Ideal Cert.Reference4Ideal.Gen Cert.Reference4Ideal.Gla

section
variable {a0 a1 a3 : FVec Ideal S2048x512 .f32} {a2 a4 : FVec Ideal S2048x1024 .f32}
variable {Q K G : (⟨2, ![2048, 4 * 128]⟩ : Shape).Idx → ℝ} {V O : (⟨2, ![2048, 4 * 256]⟩ : Shape).Idx → ℝ}

theorem pos (j : S2048x512.Idx) : j = ix2 ⟨(j 0).val / 64 * 64 + (j 0).val % 64, by have h : (j 0).val < 2048 := (j 0).isLt; omega⟩
    ⟨(j 1).val / 128 * 128 + (j 1).val % 128, by have h : (j 1).val < 512 := (j 1).isLt; omega⟩ := by
  funext a
  apply Fin.ext
  match a with
  | ⟨0, _⟩ => show (j 0).val = (j 0).val / 64 * 64 + (j 0).val % 64; omega
  | ⟨1, _⟩ => show (j 1).val = (j 1).val / 128 * 128 + (j 1).val % 128; omega

theorem posW (j : S2048x1024.Idx) : j = ix2 ⟨(j 0).val / 64 * 64 + (j 0).val % 64, by have h : (j 0).val < 2048 := (j 0).isLt; omega⟩
    ⟨(j 1).val / 256 * 256 + (j 1).val % 256, by have h : (j 1).val < 1024 := (j 1).isLt; omega⟩ := by
  funext a
  apply Fin.ext
  match a with
  | ⟨0, _⟩ => show (j 0).val = (j 0).val / 64 * 64 + (j 0).val % 64; omega
  | ⟨1, _⟩ => show (j 1).val = (j 1).val / 256 * 256 + (j 1).val % 256; omega

theorem q_spl (h1 : ∀ j, a1 j = (K j : EReal)) (h2 : ∀ j, a2 j = (V j : EReal)) (h3 : ∀ j, a3 j = (G j : EReal)) (h4 : ∀ j, a4 j = (O j : EReal))
    (j : S2048x512.Idx) : spl (oq K G V O) j
      = Rq (Rv a4) (Rs (Ru (Rkd (Rk a1) (Re (Rb (Rk a3)) (Rbe (Rb (Rk a3))))) (Rv a2)) (Rd (Rx (Rt (Rbe (Rb (Rk a3))))))) j :=
  ((congrArg _ (pos j)).trans (q_out h1 h2 h3 h4 ⟨(j 0).val / 64, by have h : (j 0).val < 2048 := (j 0).isLt; omega⟩ ⟨(j 0).val % 64, Nat.mod_lt _ (by decide)⟩
    ⟨(j 1).val / 128, by have h : (j 1).val < 512 := (j 1).isLt; omega⟩ ⟨(j 1).val % 128, Nat.mod_lt _ (by decide)⟩)).symm

theorem k_spl (h0 : ∀ j, a0 j = (Q j : EReal)) (h2 : ∀ j, a2 j = (V j : EReal)) (h3 : ∀ j, a3 j = (G j : EReal)) (h4 : ∀ j, a4 j = (O j : EReal))
    (j : S2048x512.Idx) : spl (ok Q G V O) j
      = Rkk (Rdk (Rdu (Rg (Rk a0) (Rv a4)) (Rd (Rx (Rt (Rbe (Rb (Rk a3))))))) (Rv a2)) (Re (Rb (Rk a3)) (Rbe (Rb (Rk a3)))) j :=
  ((congrArg _ (pos j)).trans (k_out h0 h2 h3 h4 ⟨(j 0).val / 64, by have h : (j 0).val < 2048 := (j 0).isLt; omega⟩ ⟨(j 0).val % 64, Nat.mod_lt _ (by decide)⟩
    ⟨(j 1).val / 128, by have h : (j 1).val < 512 := (j 1).isLt; omega⟩ ⟨(j 1).val % 128, Nat.mod_lt _ (by decide)⟩)).symm

theorem v_spl (h0 : ∀ j, a0 j = (Q j : EReal)) (h1 : ∀ j, a1 j = (K j : EReal)) (h3 : ∀ j, a3 j = (G j : EReal)) (h4 : ∀ j, a4 j = (O j : EReal))
    (j : S2048x1024.Idx) : splW (ov Q K G O) j
      = Rvv (Rdu (Rg (Rk a0) (Rv a4)) (Rd (Rx (Rt (Rbe (Rb (Rk a3))))))) (Rkd (Rk a1) (Re (Rb (Rk a3)) (Rbe (Rb (Rk a3))))) j :=
  ((congrArg _ (posW j)).trans (v_out h0 h1 h3 h4 ⟨(j 0).val / 64, by have h : (j 0).val < 2048 := (j 0).isLt; omega⟩ ⟨(j 0).val % 64, Nat.mod_lt _ (by decide)⟩
    ⟨(j 1).val / 256, by have h : (j 1).val < 1024 := (j 1).isLt; omega⟩ ⟨(j 1).val % 256, Nat.mod_lt _ (by decide)⟩)).symm

theorem g_spl (h0 : ∀ j, a0 j = (Q j : EReal)) (h1 : ∀ j, a1 j = (K j : EReal)) (h2 : ∀ j, a2 j = (V j : EReal)) (h3 : ∀ j, a3 j = (G j : EReal))
    (h4 : ∀ j, a4 j = (O j : EReal)) (j : S2048x512.Idx) : spl (og Q K G V O) j
      = Rla (Rp (Rw (Rk a1) (Rdk (Rdu (Rg (Rk a0) (Rv a4)) (Rd (Rx (Rt (Rbe (Rb (Rk a3))))))) (Rv a2)) (Re (Rb (Rk a3)) (Rbe (Rb (Rk a3)))))
        (RB (RdT (Rxx (Rg (Rk a0) (Rv a4)) (Ru (Rkd (Rk a1) (Re (Rb (Rk a3)) (Rbe (Rb (Rk a3))))) (Rv a2)) (Rx (Rt (Rbe (Rb (Rk a3)))))))
          (Rw (Rk a1) (Rdk (Rdu (Rg (Rk a0) (Rv a4)) (Rd (Rx (Rt (Rbe (Rb (Rk a3))))))) (Rv a2)) (Re (Rb (Rk a3)) (Rbe (Rb (Rk a3))))))) j :=
  ((Rla_at _ j).trans (g_out h0 h1 h2 h3 h4 _ _ _ _)).symm

end

end Cert.GlaReal

namespace Cert.PairGla

open Idealize.ShloMosaic Idealize.SL.Sem Cert.GlaReal

theorem frame_kernel : Cert.quiescent_Kernel4 := fun m ρ _ => Cert.Kernel4.Gen.frame m ρ

theorem frame_ideal : Cert.quiescent_Kernel4Ideal := fun m ρ _ => Cert.Kernel4Ideal.Gen.frame m ρ

theorem frame_reference : Cert.quiescent_Reference4Ideal := fun m ρ _ =>
  (θ_run Cert.Reference4Ideal.defs _ _).mono (fun r h => ⟨fun c => (h c).2.2.2.2, sem_eq_zero_of_no_sems (by decide) r.2⟩)
    (Cert.Reference4Ideal.Value.run (F := Ideal) m ρ)

theorem frame_ideal_pre : Cert.quiescent_Kernel4Ideal_pre_gla_finite := fun m ρ _ => Cert.Kernel4Ideal.Gen.frame m ρ

theorem frame_reference_pre : Cert.quiescent_Reference4Ideal_pre_gla_finite := fun m ρ _ =>
  (θ_run Cert.Reference4Ideal.defs _ _).mono (fun r h => ⟨fun c => (h c).2.2.2.2, sem_eq_zero_of_no_sems (by decide) r.2⟩)
    (Cert.Reference4Ideal.Value.run (F := Ideal) m ρ)

theorem algebraic : Cert.algebraic_Kernel4Ideal_Reference4Ideal_pre_gla_finite := by
  pair_intro
  · run_from Cert.Kernel4Ideal.Value.run_blocks m g
  · run_from Cert.Reference4Ideal.Value.run m' g'
    all_goals
      obtain ⟨h0, h1, h2, h3, h4⟩ := Cert.PreRead.gla _ _ _ _ _ (hpre c)
      choose Q h0 using h0
      choose K h1 using h1
      choose V h2 using h2
      choose G h3 using h3
      choose O h4 using h4
    · rw [Cert.Kernel4Ideal.Hand.final9 (m := m) (c := c) h0 h1 h2 h3 h4]
      funext j
      refine Eq.trans ?_ (q_spl h1 h2 h3 h4 j).symm
      unfold Cert.Reference4Ideal.Value.res_main_v78
      simp only [hagree c]
      rfl
    · rw [Cert.Kernel4Ideal.Hand.final10 (m := m) (c := c) h0 h1 h2 h3 h4]
      funext j
      refine Eq.trans ?_ (k_spl h0 h2 h3 h4 j).symm
      unfold Cert.Reference4Ideal.Value.res_main_v70
      simp only [hagree c]
      rfl
    · rw [Cert.Kernel4Ideal.Hand.final11 (m := m) (c := c) h0 h1 h2 h3 h4]
      funext j
      refine Eq.trans ?_ (v_spl h0 h1 h3 h4 j).symm
      unfold Cert.Reference4Ideal.Value.res_main_v61
      simp only [hagree c]
      rfl
    · rw [Cert.Kernel4Ideal.Hand.final12 (m := m) (c := c) h0 h1 h2 h3 h4]
      funext j
      refine Eq.trans ?_ (g_spl h0 h1 h2 h3 h4 j).symm
      unfold Cert.Reference4Ideal.Value.res_main_v75
      simp only [hagree c]
      rfl

end Cert.PairGla

end
-- ==== Proof.Dwg.lean ====
module

public import proofs.«01_k».proof.Proof.Gen.Kernel5Ideal.Frame
public import proofs.«01_k».proof.Proof.Gen.Kernel5Ideal.Value
public import proofs.«01_k».proof.Proof.Gen.Reference5Ideal.Run
public import Idealize.ShloMosaic.Lib.Pipeline.ValueKit
public import Idealize.ShloMosaic.Lib.Pointwise
public import proofs.«01_k».proof.Proof.Ext

@[expose] public section

set_option maxRecDepth 16384

noncomputable section

open Idealize.ShloMosaic Idealize.ShloMosaic.TcCoe Idealize.SL.Sem
open Idealize.ShloMosaic.Pipeline (Dat)
open scoped BigOperators

namespace Cert.Kernel5Ideal.Dwg

open Cert.Kernel5Ideal Cert.Kernel5Ideal.Gen

variable (m : (ℓ : Loc nD τ sig) → Buf (Elt Ideal) ℓ)

/-- The reference's result as one term over the two arguments. -/
abbrev REF (a0 : FVec Ideal S2048x2048 .bf16) (a1 : FVec Ideal S2048x5632 .bf16) : FVec Ideal S4x2048x1408 .f32 :=
  transpose Cert.Reference5Ideal.S4x2048x1408 [1, 0, 2] (shapeCast Cert.Reference5Ideal.S2048x4x1408 (transpose Cert.Reference5Ideal.S2048x5632 [1, 0] (Host.dotGeneral (F := Ideal) Cert.Reference5Ideal.dot_S2048x5632_S2048x2048_S5632x2048_0_0_1_1_n_n none (extf .f32 a1 Cert.Reference5Ideal.Gen.bitsLt_bf16_f32) (extf .f32 a0 Cert.Reference5Ideal.Gen.bitsLt_bf16_f32)) Cert.Reference5Ideal.Gen.transposes_S5632x2048_S2048x5632_1_0) Cert.Reference5Ideal.Gen.shapeCasts_S2048x5632_S2048x4x1408) Cert.Reference5Ideal.Gen.transposes_S2048x4x1408_S4x2048x1408_1_0_2

/-- Every window's block index at every grid point. -/
theorem idx : ∀ t : Fin cfg0.N, win0_0.index t = ![0, t.val % 2]
    ∧ win0_1.index t = ![0, t.val / 2]
    ∧ win0_2.index t = ![t.val / 2, t.val % 2, 0] :=
  (by decide +kernel : ∀ t : Fin grid0.N, _)

theorem point (c : Dev nD) (t : Fin cfg0.N) (y) :
    k0_pay1 (iblk m c 0 t) (iblk m c 1 t) y
      = REF (m ((c : Thread nD τ).loc main_arg0)) (m ((c : Thread nD τ).loc main_arg1)) (((cfg0.win 2).blk t).view.emb y) := by
  pointwise [k0_pay1, REF]
  refine Fin.sum_fin_congr fun k => ?_
  refine (mul_comm _ _).trans ?_
  blk_point [iblk, V, idx t]

/-- The result array after the run is the reference's term over the arguments. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp; rw [after0_2]; frame_out
  exact point m c t y

end Cert.Kernel5Ideal.Dwg

end
-- ==== Proof.PairDwg.lean ====
module

public import proofs.«01_k».proof.Defs
public import proofs.«01_k».proof.Proof.Gen.Kernel5.Frame
public import proofs.«01_k».proof.Proof.Gen.Kernel5Ideal.Frame
public import proofs.«01_k».proof.Proof.Gen.Reference5Ideal
public import proofs.«01_k».proof.Proof.Gen.Kernel5Ideal.Value
public import proofs.«01_k».proof.Proof.Gen.Reference5Ideal.Run
public import proofs.«01_k».proof.Proof.Dwg
public import Idealize.ShloMosaic.Lib.Claim
public import Idealize.ShloMosaic.Adequacy
public import Idealize.ShloMosaic.Init

@[expose] public section

set_option maxRecDepth 16384

noncomputable section

namespace Cert.PairDwg

open Idealize.ShloMosaic Idealize.SL.Sem

theorem frame_kernel : Cert.quiescent_Kernel5 := fun m ρ _ => Cert.Kernel5.Gen.frame m ρ

theorem frame_ideal : Cert.quiescent_Kernel5Ideal := fun m ρ _ => Cert.Kernel5Ideal.Gen.frame m ρ

theorem frame_reference : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

theorem algebraic : Cert.algebraic_Kernel5Ideal_Reference5Ideal := by
  pair_intro
  · run_from (Cert.Kernel5Ideal.Value.run_blocks m g)
  · run_from Cert.Reference5Ideal.Value.run m' g'
    rw [Cert.Kernel5Ideal.Dwg.final m c]

end Cert.PairDwg

end
-- ==== Proof.Dn.lean ====
module

public import proofs.«01_k».proof.Proof.Gen.Kernel6Ideal.Frame
public import proofs.«01_k».proof.Proof.Gen.Kernel6Ideal.Value
public import proofs.«01_k».proof.Proof.Gen.Reference6Ideal.Run
public import Idealize.ShloMosaic.Lib.Pipeline.ValueKit
public import Idealize.ShloMosaic.Lib.Pointwise
public import Idealize.ShloMosaic.Lib.Pipeline.ReadBack
public import proofs.«01_k».proof.Proof.Ext

@[expose] public section

set_option maxRecDepth 16384

noncomputable section

open Idealize.ShloMosaic Idealize.ShloMosaic.TcCoe Idealize.SL.Sem
open Idealize.ShloMosaic.Pipeline (Dat)
open scoped BigOperators

namespace Cert.Kernel6Ideal.Dn

open Cert.Kernel6Ideal Cert.Kernel6Ideal.Gen

variable (m : (ℓ : Loc nD τ sig) → Buf (Elt Ideal) ℓ)

/-- A product with a transposed weight, as the reference writes it. -/
abbrev DOT (d w : FVec Ideal S2048x5632 .bf16) : FVec Ideal S2048x2048 .f32 :=
  Host.dotGeneral (F := Ideal) Cert.Reference6Ideal.dot_S2048x5632_S2048x5632_S2048x2048_1_1_0_0_n_n none (extf .f32 d Cert.Reference6Ideal.Gen.bitsLt_bf16_f32) (extf .f32 w Cert.Reference6Ideal.Gen.bitsLt_bf16_f32)

/-- The reference's result as one term over the four arguments. -/
abbrev REF (a0 a1 a2 a3 : FVec Ideal S2048x5632 .bf16) : FVec Ideal S2048x2048 .f32 := addf (DOT a2 a3) (DOT a0 a1)

/-- Every window's block index at every grid point. -/
theorem idx : ∀ t : Fin cfg0.N, win0_0.index t = ![t.val / 8, t.val % 4]
    ∧ win0_1.index t = ![t.val % 4, t.val / 4 % 2, 0]
    ∧ win0_2.index t = ![t.val / 8, t.val % 4]
    ∧ win0_3.index t = ![t.val % 4, t.val / 4 % 2, 0]
    ∧ win0_4.index t = ![t.val / 8, t.val / 4 % 2] :=
  (by decide +kernel : ∀ t : Fin grid0.N, _)

theorem V_wg (c : Dev nD) : V m c main_v1
    = transpose S4x2048x1408 [1, 0, 2] (shapeCast S2048x4x1408 (m ((c.tc : Thread nD τ).loc main_arg1)) shapeCasts_S2048x5632_S2048x4x1408) transposes_S2048x4x1408_S4x2048x1408_1_0_2 := by
  unfold V
  simp only [hostOps0, List.flatten_cons, List.flatten_nil, List.append_nil, List.cons_append, List.nil_append]
  after_results
  rfl

theorem V_wu (c : Dev nD) : V m c main_v3
    = transpose S4x2048x1408 [1, 0, 2] (shapeCast S2048x4x1408 (m ((c.tc : Thread nD τ).loc main_arg3)) shapeCasts_S2048x5632_S2048x4x1408) transposes_S2048x4x1408_S4x2048x1408_1_0_2 := by
  unfold V
  simp only [hostOps0, List.flatten_cons, List.flatten_nil, List.append_nil, List.cons_append, List.nil_append]
  after_results
  rfl

theorem dg (c : Dev nD) (t : Fin cfg0.N) (i : Fin 1024) (k : Fin 1408) (r : Fin 2048) (s : Fin 5632) (hr : r.val = t.val / 8 * 1024 + i.val)
    (hs : s.val = t.val % 4 * 1408 + k.val) : iblk m c 0 t (ix2 i k) = m ((c.tc : Thread nD τ).loc main_arg0) (ix2 r s) := by
  blk_ext [iblk, V, idx t]

theorem du (c : Dev nD) (t : Fin cfg0.N) (i : Fin 1024) (k : Fin 1408) (r : Fin 2048) (s : Fin 5632) (hr : r.val = t.val / 8 * 1024 + i.val)
    (hs : s.val = t.val % 4 * 1408 + k.val) : iblk m c 2 t (ix2 i k) = m ((c.tc : Thread nD τ).loc main_arg2) (ix2 r s) := by
  blk_ext [iblk, V, idx t]

theorem wg (c : Dev nD) (t : Fin cfg0.N) (j : Fin 1024) (k : Fin 1408) (r : Fin 2048) (s : Fin 5632) (hr : r.val = t.val / 4 % 2 * 1024 + j.val)
    (hs : s.val = t.val % 4 * 1408 + k.val) : iblk m c 1 t (ix3 0 j k) = m ((c.tc : Thread nD τ).loc main_arg1) (ix2 r s) := by
  blk_simp [iblk, idx t]
  rw [V_wg]
  pointwise
  have h0 : (((View.whole main_v1).slice (win0_1.rect t)).emb (ix3 0 j k) 0 : ℕ) = t.val % 4 := by
    show win0_1.index t 0 * 1 + 1 * 0 = _
    rw [(idx t).2.1]; show t.val % 4 * 1 + 1 * 0 = _; omega
  have h1 : (((View.whole main_v1).slice (win0_1.rect t)).emb (ix3 0 j k) 1 : ℕ) = r.val := by
    show win0_1.index t 1 * 1024 + 1 * j.val = _
    rw [(idx t).2.1, hr]; show t.val / 4 % 2 * 1024 + 1 * j.val = _; omega
  have h2 : (((View.whole main_v1).slice (win0_1.rect t)).emb (ix3 0 j k) 2 : ℕ) = k.val := by
    show win0_1.index t 2 * 1408 + 1 * k.val = _
    rw [(idx t).2.1]; show 0 * 1408 + 1 * k.val = _; omega
  exact congrArg _ (congrArg₂ ix2 (Fin.ext h1) (Fin.ext (by simp only [h0, h2, hs])))

theorem wu (c : Dev nD) (t : Fin cfg0.N) (j : Fin 1024) (k : Fin 1408) (r : Fin 2048) (s : Fin 5632) (hr : r.val = t.val / 4 % 2 * 1024 + j.val)
    (hs : s.val = t.val % 4 * 1408 + k.val) : iblk m c 3 t (ix3 0 j k) = m ((c.tc : Thread nD τ).loc main_arg3) (ix2 r s) := by
  blk_simp [iblk, idx t]
  rw [V_wu]
  pointwise
  have h0 : (((View.whole main_v3).slice (win0_3.rect t)).emb (ix3 0 j k) 0 : ℕ) = t.val % 4 := by
    show win0_3.index t 0 * 1 + 1 * 0 = _
    rw [(idx t).2.2.2.1]; show t.val % 4 * 1 + 1 * 0 = _; omega
  have h1 : (((View.whole main_v3).slice (win0_3.rect t)).emb (ix3 0 j k) 1 : ℕ) = r.val := by
    show win0_3.index t 1 * 1024 + 1 * j.val = _
    rw [(idx t).2.2.2.1, hr]; show t.val / 4 % 2 * 1024 + 1 * j.val = _; omega
  have h2 : (((View.whole main_v3).slice (win0_3.rect t)).emb (ix3 0 j k) 2 : ℕ) = k.val := by
    show win0_3.index t 2 * 1408 + 1 * k.val = _
    rw [(idx t).2.2.2.1]; show 0 * 1408 + 1 * k.val = _; omega
  exact congrArg _ (congrArg₂ ix2 (Fin.ext h1) (Fin.ext (by simp only [h0, h2, hs])))

/-- What a point adds to the accumulator, over its four blocks. -/
def part (x0 : FVec Ideal S1024x1408 .bf16) (x1 : FVec Ideal S1x1024x1408 .bf16) (x2 : FVec Ideal S1024x1408 .bf16) (x3 : FVec Ideal S1x1024x1408 .bf16)
    (y : S1024x1024.Idx) : EReal :=
  (∑ k : Fin 1408, (x0 (ix2 (y 0) k) : EReal) * (x1 (ix3 0 (y 1) k) : EReal)) + ∑ k : Fin 1408, (x2 (ix2 (y 0) k) : EReal) * (x3 (ix3 0 (y 1) k) : EReal)

/-- What point `t` adds to the accumulator. -/
def term (c : Dev nD) (t : Fin cfg0.N) (y : S1024x1024.Idx) : EReal :=
  part (iblk m c 0 t) (iblk m c 1 t) (iblk m c 2 t) (iblk m c 3 t) y

theorem pay2_eq (acc : FVec Ideal S1024x1024 .f32) (x0 : FVec Ideal S1024x1408 .bf16) (x1 : FVec Ideal S1x1024x1408 .bf16) (x2 : FVec Ideal S1024x1408 .bf16)
    (x3 : FVec Ideal S1x1024x1408 .bf16) (y : S1024x1024.Idx) : k0_pay2 acc x0 x1 x2 x3 y = (acc y : EReal) + part x0 x1 x2 x3 y := by
  unfold part
  pointwise [k0_pay2]

theorem pay1_zero : (k0_pay1 (F := Ideal)) = fun _ => (0 : EReal) := funext fun j => by pointwise [k0_pay1]

theorem scr0 (c : Dev nD) (t : Fin cfg0.N) (h : t.val % 4 = 0) (y : S1024x1024.Idx) : (outsAt0 m c t.val t.isLt).2 y = (0 : EReal) + term m c t y := by
  rw [outsAt0_A m c t h (by omega)]; frame_out
  exact (pay2_eq _ _ _ _ _ y).trans (by rw [pay1_zero]; rfl)

theorem scr1 (c : Dev nD) (t : Fin cfg0.N) (h : ¬t.val % 4 = 0) (y : S1024x1024.Idx) :
    (outsAt0 m c t.val t.isLt).2 y = ((outsAt0 m c (t.val - 1) (Nat.lt_of_le_of_lt (Nat.sub_le _ _) t.isLt)).2 y : EReal) + term m c t y := by
  by_cases h1 : t.val % 4 = 3
  · rw [outsAt0_C m c t h h1]; frame_out; rw [read_unread_whole]
    exact pay2_eq _ _ _ _ _ y
  · rw [outsAt0_B m c t h h1]; frame_out; rw [read_unread_whole]
    exact pay2_eq _ _ _ _ _ y

theorem out_scr (c : Dev nD) (t : Fin cfg0.N) (h1 : t.val % 4 = 3) (y : S1024x1024.Idx) :
    (outsAt0 m c t.val t.isLt).1 y = (outsAt0 m c t.val t.isLt).2 y := by
  rw [outsAt0_C m c t (by omega) h1]; frame_out

/-- The arrays' entries behind what point `t` adds. -/
theorem term_eq (c : Dev nD) (t : Fin cfg0.N) (y : S1024x1024.Idx) (i j : Fin 2048) (l : Fin 1408 → Fin 5632) (hi : i.val = t.val / 8 * 1024 + (y 0).val)
    (hj : j.val = t.val / 4 % 2 * 1024 + (y 1).val) (hl : ∀ k, (l k).val = t.val % 4 * 1408 + k.val)
    (a0 a1 a2 a3 : FVec Ideal S2048x5632 .bf16) (e0 : m ((c.tc : Thread nD τ).loc main_arg0) = a0) (e1 : m ((c.tc : Thread nD τ).loc main_arg1) = a1)
    (e2 : m ((c.tc : Thread nD τ).loc main_arg2) = a2) (e3 : m ((c.tc : Thread nD τ).loc main_arg3) = a3) :
    term m c t y = ∑ k : Fin 1408, ((a0 (ix2 i (l k)) : EReal) * (a1 (ix2 j (l k)) : EReal) + (a2 (ix2 i (l k)) : EReal) * (a3 (ix2 j (l k)) : EReal)) := by
  subst e0 e1 e2 e3
  refine Eq.trans ?_ Finset.sum_add_distrib.symm
  exact congrArg₂ (· + ·)
    (Finset.sum_congr rfl fun k _ => congrArg₂ (· * ·) (dg m c t (y 0) k i (l k) hi (hl k)) (wg m c t (y 1) k j (l k) hj (hl k)))
    (Finset.sum_congr rfl fun k _ => congrArg₂ (· * ·) (du m c t (y 0) k i (l k) hi (hl k)) (wu m c t (y 1) k j (l k) hj (hl k)))

theorem ref_eq (a0 a1 a2 a3 : FVec Ideal S2048x5632 .bf16) (j : S2048x2048.Idx) :
    REF a0 a1 a2 a3 j = ∑ l : Fin 5632, ((a0 (ix2 (j 0) l) : EReal) * (a1 (ix2 (j 1) l) : EReal) + (a2 (ix2 (j 0) l) : EReal) * (a3 (ix2 (j 1) l) : EReal)) := by
  refine Eq.trans ?_ Finset.sum_add_distrib.symm
  pointwise [REF, DOT]
  exact add_comm _ _

theorem e4 (t : Fin cfg0.N) (y : S1024x1024.Idx) : ((((cfg0.win 4).blk t).view.emb y) 0 : ℕ) = t.val / 8 * 1024 + (y 0).val
    ∧ ((((cfg0.win 4).blk t).view.emb y) 1 : ℕ) = t.val / 4 % 2 * 1024 + (y 1).val := by
  refine ⟨?_, ?_⟩
  · show win0_4.index t 0 * 1024 + 1 * (y 0).val = _
    rw [(idx t).2.2.2.2]; show t.val / 8 * 1024 + 1 * (y 0).val = _; omega
  · show win0_4.index t 1 * 1024 + 1 * (y 1).val = _
    rw [(idx t).2.2.2.2]; show t.val / 4 % 2 * 1024 + 1 * (y 1).val = _; omega

/-- The four points' parts of an entry are its whole sum. -/
theorem run_eq (c : Dev nD) (t : Fin cfg0.N) (h : ∀ s : Fin 4, 4 * (t.val / 4) + s.val < cfg0.N) (y : S1024x1024.Idx) (i j : Fin 2048)
    (hi : i.val = t.val / 8 * 1024 + (y 0).val) (hj : j.val = t.val / 4 % 2 * 1024 + (y 1).val) :
    (∑ s : Fin 4, term m c ⟨4 * (t.val / 4) + s.val, h s⟩ y)
      = REF (m ((c : Thread nD τ).loc main_arg0)) (m ((c : Thread nD τ).loc main_arg1)) (m ((c : Thread nD τ).loc main_arg2)) (m ((c : Thread nD τ).loc main_arg3)) (ix2 i j) := by
  refine Eq.trans ?_ (ref_eq _ _ _ _ _).symm
  refine Eq.trans (Finset.sum_congr rfl fun s _ => term_eq m c _ y i j (fun k => ⟨s.val * 1408 + k.val, by omega⟩) ?_ ?_ ?_ _ _ _ _ rfl rfl rfl rfl)
    (Fin.sum_mul_add_congr fun s k hl => rfl)
  · show i.val = (4 * (t.val / 4) + s.val) / 8 * 1024 + _; omega
  · show j.val = (4 * (t.val / 4) + s.val) / 4 % 2 * 1024 + _; omega
  · intro k; show s.val * 1408 + k.val = (4 * (t.val / 4) + s.val) % 4 * 1408 + k.val; omega

theorem eta (f : FVec Ideal S2048x2048 .f32) (j : S2048x2048.Idx) : f (ix2 (j 0) (j 1)) = f j :=
  congrArg f (funext fun a => match a with | ⟨0, _⟩ => rfl | ⟨1, _⟩ => rfl)

/-- The result array after the run is the reference's term over the arguments. -/
theorem final (c : Dev nD) : (dats m 0 c).arrAt 4 (cfgs 0).N
    = REF (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  have hr : t.val % 4 = 3 := (flush0_4 t).mp hf
  blk_simp
  rw [after0_4, out_scr m c t hr, Pipeline.eq_sum_fin_of_reset_step_apply_of_flush (fun n h => (outsAt0 m c n h).2) 4 (fun _ => (0 : EReal))
      (fun t y => term m c t y) (fun t h j => scr0 m c t h j) (fun t h j => scr1 m c t h j) t hr _, zero_add]
  exact (run_eq m c t _ y _ _ (e4 t y).1 (e4 t y).2).trans (eta _ _)

end Cert.Kernel6Ideal.Dn

end
-- ==== Proof.PairDn.lean ====
module

public import proofs.«01_k».proof.Defs
public import proofs.«01_k».proof.Proof.Gen.Kernel6.Frame
public import proofs.«01_k».proof.Proof.Gen.Kernel6Ideal.Frame
public import proofs.«01_k».proof.Proof.Gen.Reference6Ideal
public import proofs.«01_k».proof.Proof.Gen.Kernel6Ideal.Value
public import proofs.«01_k».proof.Proof.Gen.Reference6Ideal.Run
public import proofs.«01_k».proof.Proof.Dn
public import Idealize.ShloMosaic.Lib.Claim
public import Idealize.ShloMosaic.Adequacy
public import Idealize.ShloMosaic.Init

@[expose] public section

set_option maxRecDepth 16384

noncomputable section

namespace Cert.PairDn

open Idealize.ShloMosaic Idealize.SL.Sem

theorem frame_kernel : Cert.quiescent_Kernel6 := fun m ρ _ => Cert.Kernel6.Gen.frame m ρ

theorem frame_ideal : Cert.quiescent_Kernel6Ideal := fun m ρ _ => Cert.Kernel6Ideal.Gen.frame m ρ

theorem frame_reference : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

theorem algebraic : Cert.algebraic_Kernel6Ideal_Reference6Ideal := by
  pair_intro
  · run_from (Cert.Kernel6Ideal.Value.run_blocks m g)
  · run_from Cert.Reference6Ideal.Value.run m' g'
    rw [Cert.Kernel6Ideal.Dn.final m c]

end Cert.PairDn

end
-- ==== Proof.Up.lean ====
module

public import proofs.«01_k».proof.Proof.Gen.Kernel7Ideal.Frame
public import proofs.«01_k».proof.Proof.Gen.Kernel7Ideal.Value
public import proofs.«01_k».proof.Proof.Gen.Reference7Ideal.Run
public import Idealize.ShloMosaic.Lib.Pipeline.ValueKit
public import Idealize.ShloMosaic.Lib.Pointwise
public import proofs.«01_k».proof.Proof.Ext

@[expose] public section

set_option maxRecDepth 16384

noncomputable section

open Idealize.ShloMosaic Idealize.ShloMosaic.TcCoe Idealize.SL.Sem
open Idealize.ShloMosaic.Pipeline (Dat)
open scoped BigOperators

namespace Cert.Kernel7Ideal.Up

open Cert.Kernel7Ideal Cert.Kernel7Ideal.Gen

variable (m : (ℓ : Loc nD τ sig) → Buf (Elt Ideal) ℓ)

/-- The product of the normalised input with a weight, as the reference writes it. -/
abbrev DOT (a0 : FVec Ideal S2048x2048 .bf16) (w : FVec Ideal S2048x5632 .bf16) : FVec Ideal S2048x5632 .f32 :=
  Host.dotGeneral (F := Ideal) Cert.Reference7Ideal.dot_S2048x2048_S2048x5632_S2048x5632_1_0_0_1_n_n none (extf .f32 a0 Cert.Reference7Ideal.Gen.bitsLt_bf16_f32) (extf .f32 w Cert.Reference7Ideal.Gen.bitsLt_bf16_f32)

/-- The saved activation over the two products. -/
abbrev ACT (g u : FVec Ideal S2048x5632 .f32) : FVec Ideal S2048x5632 .bf16 :=
  truncf .bf16 (mulf (mulf g (Host.divf (broadcastInDim Cert.Reference7Ideal.S2048x5632 ![] Cert.Reference7Ideal.Gen.bcast_S_S2048x5632 (constant (F := Ideal) Cert.Reference7Ideal.S_ .f32 0x3F800000#32)) (addf (broadcastInDim Cert.Reference7Ideal.S2048x5632 ![] Cert.Reference7Ideal.Gen.bcast_S_S2048x5632 (constant (F := Ideal) Cert.Reference7Ideal.S_ .f32 0x3F800000#32)) (Host.exp (Host.negf g))))) u) Cert.Reference7Ideal.Gen.bitsLt_bf16_f32

/-- Every window's block index at every grid point. -/
theorem idx : ∀ t : Fin cfg0.N, win0_0.index t = ![t.val % 4, 0]
    ∧ win0_1.index t = ![t.val / 4, 0, 0]
    ∧ win0_2.index t = ![t.val / 4, 0, 0]
    ∧ win0_3.index t = ![t.val % 4, t.val / 4]
    ∧ win0_4.index t = ![t.val % 4, t.val / 4]
    ∧ win0_5.index t = ![t.val % 4, t.val / 4] :=
  (by decide +kernel : ∀ t : Fin grid0.N, _)

theorem V_wg (c : Dev nD) : V m c main_v1
    = transpose S4x2048x1408 [1, 0, 2] (shapeCast S2048x4x1408 (m ((c.tc : Thread nD τ).loc main_arg1)) shapeCasts_S2048x5632_S2048x4x1408) transposes_S2048x4x1408_S4x2048x1408_1_0_2 := by
  unfold V
  simp only [hostOps0, List.flatten_cons, List.flatten_nil, List.append_nil, List.cons_append, List.nil_append]
  after_results
  rfl

theorem V_wu (c : Dev nD) : V m c main_v3
    = transpose S4x2048x1408 [1, 0, 2] (shapeCast S2048x4x1408 (m ((c.tc : Thread nD τ).loc main_arg2)) shapeCasts_S2048x5632_S2048x4x1408) transposes_S2048x4x1408_S4x2048x1408_1_0_2 := by
  unfold V
  simp only [hostOps0, List.flatten_cons, List.flatten_nil, List.append_nil, List.cons_append, List.nil_append]
  after_results
  rfl

theorem bN (c : Dev nD) (t : Fin cfg0.N) (i : Fin 512) (k : Fin 2048) (r : Fin 2048) (hr : r.val = t.val % 4 * 512 + i.val) :
    iblk m c 0 t (ix2 i k) = m ((c.tc : Thread nD τ).loc main_arg0) (ix2 r k) := by
  blk_ext [iblk, V, idx t]

theorem bG (c : Dev nD) (t : Fin cfg0.N) (k : Fin 2048) (j : Fin 1408) (s : Fin 5632) (hs : s.val = t.val / 4 * 1408 + j.val) :
    iblk m c 1 t (ix3 0 k j) = m ((c.tc : Thread nD τ).loc main_arg1) (ix2 k s) := by
  blk_simp [iblk, idx t]
  rw [V_wg]
  pointwise
  have h0 : (((View.whole main_v1).slice (win0_1.rect t)).emb (ix3 0 k j) 0 : ℕ) = t.val / 4 := by
    show win0_1.index t 0 * 1 + 1 * 0 = _
    rw [(idx t).2.1]; show t.val / 4 * 1 + 1 * 0 = _; omega
  have h1 : (((View.whole main_v1).slice (win0_1.rect t)).emb (ix3 0 k j) 1 : ℕ) = k.val := by
    show win0_1.index t 1 * 2048 + 1 * k.val = _
    rw [(idx t).2.1]; show 0 * 2048 + 1 * k.val = _; omega
  have h2 : (((View.whole main_v1).slice (win0_1.rect t)).emb (ix3 0 k j) 2 : ℕ) = j.val := by
    show win0_1.index t 2 * 1408 + 1 * j.val = _
    rw [(idx t).2.1]; show 0 * 1408 + 1 * j.val = _; omega
  exact congrArg _ (congrArg₂ ix2 (Fin.ext h1) (Fin.ext (by simp only [h0, h2, hs])))

theorem bU (c : Dev nD) (t : Fin cfg0.N) (k : Fin 2048) (j : Fin 1408) (s : Fin 5632) (hs : s.val = t.val / 4 * 1408 + j.val) :
    iblk m c 2 t (ix3 0 k j) = m ((c.tc : Thread nD τ).loc main_arg2) (ix2 k s) := by
  blk_simp [iblk, idx t]
  rw [V_wu]
  pointwise
  have h0 : (((View.whole main_v3).slice (win0_2.rect t)).emb (ix3 0 k j) 0 : ℕ) = t.val / 4 := by
    show win0_2.index t 0 * 1 + 1 * 0 = _
    rw [(idx t).2.2.1]; show t.val / 4 * 1 + 1 * 0 = _; omega
  have h1 : (((View.whole main_v3).slice (win0_2.rect t)).emb (ix3 0 k j) 1 : ℕ) = k.val := by
    show win0_2.index t 1 * 2048 + 1 * k.val = _
    rw [(idx t).2.2.1]; show 0 * 2048 + 1 * k.val = _; omega
  have h2 : (((View.whole main_v3).slice (win0_2.rect t)).emb (ix3 0 k j) 2 : ℕ) = j.val := by
    show win0_2.index t 2 * 1408 + 1 * j.val = _
    rw [(idx t).2.2.1]; show 0 * 1408 + 1 * j.val = _; omega
  exact congrArg _ (congrArg₂ ix2 (Fin.ext h1) (Fin.ext (by simp only [h0, h2, hs])))

theorem pay1_eq (c : Dev nD) (t : Fin cfg0.N) (y : S512x1408.Idx) (r : Fin 2048) (s : Fin 5632)
    (hr : r.val = t.val % 4 * 512 + (y 0).val) (hs : s.val = t.val / 4 * 1408 + (y 1).val) :
    k0_pay1 (iblk m c 0 t) (iblk m c 1 t) y = DOT (m ((c.tc : Thread nD τ).loc main_arg0)) (m ((c.tc : Thread nD τ).loc main_arg1)) (ix2 r s) := by
  pointwise [k0_pay1, DOT]
  refine Fin.sum_fin_congr fun k => ?_
  exact congrArg₂ (· * ·) (bN m c t (y 0) k r hr) (bG m c t k (y 1) s hs)

theorem pay2_eq (c : Dev nD) (t : Fin cfg0.N) (y : S512x1408.Idx) (r : Fin 2048) (s : Fin 5632)
    (hr : r.val = t.val % 4 * 512 + (y 0).val) (hs : s.val = t.val / 4 * 1408 + (y 1).val) :
    k0_pay2 (iblk m c 0 t) (iblk m c 2 t) y = DOT (m ((c.tc : Thread nD τ).loc main_arg0)) (m ((c.tc : Thread nD τ).loc main_arg2)) (ix2 r s) := by
  pointwise [k0_pay2, DOT]
  refine Fin.sum_fin_congr fun k => ?_
  exact congrArg₂ (· * ·) (bN m c t (y 0) k r hr) (bU m c t k (y 1) s hs)

/-- The saved activation from the two products. -/
theorem pay5_eq (a : Vec Ideal S512x2048 .bf16) (w u : Vec Ideal S1x2048x1408 .bf16) (y : S512x1408.Idx) (g h : FVec Ideal S2048x5632 .f32) (j : S2048x5632.Idx)
    (hg : k0_pay1 a w y = g j) (hh : k0_pay2 a u y = h j) : k0_pay5 a w u y = ACT g h j := by
  unfold k0_pay5
  generalize k0_pay1 a w = G at *
  generalize k0_pay2 a u = H at *
  pointwise [ACT]
  rw [← hg, ← hh, zero_sub]

theorem eta (f : FVec Ideal S2048x5632 .f32) (j : S2048x5632.Idx) : f (ix2 (j 0) (j 1)) = f j :=
  congrArg f (funext fun a => match a with | ⟨0, _⟩ => rfl | ⟨1, _⟩ => rfl)

theorem e3 (t : Fin cfg0.N) (y : S512x1408.Idx) : ((((cfg0.win 3).blk t).view.emb y) 0 : ℕ) = t.val % 4 * 512 + (y 0).val
    ∧ ((((cfg0.win 3).blk t).view.emb y) 1 : ℕ) = t.val / 4 * 1408 + (y 1).val := by
  refine ⟨?_, ?_⟩
  · show win0_3.index t 0 * 512 + 1 * (y 0).val = _
    rw [(idx t).2.2.2.1]; show t.val % 4 * 512 + 1 * (y 0).val = _; omega
  · show win0_3.index t 1 * 1408 + 1 * (y 1).val = _
    rw [(idx t).2.2.2.1]; show t.val / 4 * 1408 + 1 * (y 1).val = _; omega

theorem final3 (c : Dev nD) : (dats m 0 c).arrAt 3 (cfgs 0).N
    = truncf .bf16 (DOT (m ((c : Thread nD τ).loc main_arg0)) (m ((c : Thread nD τ).loc main_arg1))) Cert.Reference7Ideal.Gen.bitsLt_bf16_f32 := by
  refine (dats m 0 c).arrAt_eq_of_covers 3 _ (by decide +kernel) fun t hf y => ?_
  blk_simp; rw [after0_3]; frame_out
  exact (pay1_eq m c t y _ _ (e3 t y).1 (e3 t y).2).trans (eta _ _)

theorem e4 (t : Fin cfg0.N) (y : S512x1408.Idx) : ((((cfg0.win 4).blk t).view.emb y) 0 : ℕ) = t.val % 4 * 512 + (y 0).val
    ∧ ((((cfg0.win 4).blk t).view.emb y) 1 : ℕ) = t.val / 4 * 1408 + (y 1).val := by
  refine ⟨?_, ?_⟩
  · show win0_4.index t 0 * 512 + 1 * (y 0).val = _
    rw [(idx t).2.2.2.2.1]; show t.val % 4 * 512 + 1 * (y 0).val = _; omega
  · show win0_4.index t 1 * 1408 + 1 * (y 1).val = _
    rw [(idx t).2.2.2.2.1]; show t.val / 4 * 1408 + 1 * (y 1).val = _; omega

theorem final4 (c : Dev nD) : (dats m 0 c).arrAt 4 (cfgs 0).N
    = truncf .bf16 (DOT (m ((c : Thread nD τ).loc main_arg0)) (m ((c : Thread nD τ).loc main_arg2))) Cert.Reference7Ideal.Gen.bitsLt_bf16_f32 := by
  refine (dats m 0 c).arrAt_eq_of_covers 4 _ (by decide +kernel) fun t hf y => ?_
  blk_simp; rw [after0_4]; frame_out
  exact (pay2_eq m c t y _ _ (e4 t y).1 (e4 t y).2).trans (eta _ _)

theorem e5 (t : Fin cfg0.N) (y : S512x1408.Idx) : ((((cfg0.win 5).blk t).view.emb y) 0 : ℕ) = t.val % 4 * 512 + (y 0).val
    ∧ ((((cfg0.win 5).blk t).view.emb y) 1 : ℕ) = t.val / 4 * 1408 + (y 1).val := by
  refine ⟨?_, ?_⟩
  · show win0_5.index t 0 * 512 + 1 * (y 0).val = _
    rw [(idx t).2.2.2.2.2]; show t.val % 4 * 512 + 1 * (y 0).val = _; omega
  · show win0_5.index t 1 * 1408 + 1 * (y 1).val = _
    rw [(idx t).2.2.2.2.2]; show t.val / 4 * 1408 + 1 * (y 1).val = _; omega

theorem final5 (c : Dev nD) : (dats m 0 c).arrAt 5 (cfgs 0).N
    = ACT (DOT (m ((c : Thread nD τ).loc main_arg0)) (m ((c : Thread nD τ).loc main_arg1))) (DOT (m ((c : Thread nD τ).loc main_arg0)) (m ((c : Thread nD τ).loc main_arg2))) := by
  refine (dats m 0 c).arrAt_eq_of_covers 5 _ (by decide +kernel) fun t hf y => ?_
  blk_simp; rw [after0_5]; frame_out
  exact pay5_eq _ _ _ y _ _ _ ((pay1_eq m c t y _ _ (e5 t y).1 (e5 t y).2).trans (eta _ _)) ((pay2_eq m c t y _ _ (e5 t y).1 (e5 t y).2).trans (eta _ _))

end Cert.Kernel7Ideal.Up

end
-- ==== Proof.PairUp.lean ====
module

public import proofs.«01_k».proof.Defs
public import proofs.«01_k».proof.Proof.Gen.Kernel7.Frame
public import proofs.«01_k».proof.Proof.Gen.Kernel7Ideal.Frame
public import proofs.«01_k».proof.Proof.Gen.Reference7Ideal
public import proofs.«01_k».proof.Proof.Gen.Kernel7Ideal.Value
public import proofs.«01_k».proof.Proof.Gen.Reference7Ideal.Run
public import proofs.«01_k».proof.Proof.Up
public import Idealize.ShloMosaic.Lib.Claim
public import Idealize.ShloMosaic.Adequacy
public import Idealize.ShloMosaic.Init

@[expose] public section

set_option maxRecDepth 16384

noncomputable section

namespace Cert.PairUp

open Idealize.ShloMosaic Idealize.SL.Sem

theorem frame_kernel : Cert.quiescent_Kernel7 := fun m ρ _ => Cert.Kernel7.Gen.frame m ρ

theorem frame_ideal : Cert.quiescent_Kernel7Ideal := fun m ρ _ => Cert.Kernel7Ideal.Gen.frame m ρ

theorem frame_reference : Cert.quiescent_Reference7Ideal := fun m ρ _ =>
  (θ_run Cert.Reference7Ideal.defs _ _).mono (fun r h => ⟨fun c => (h c).2.2.2, sem_eq_zero_of_no_sems (by decide) r.2⟩)
    (Cert.Reference7Ideal.Value.run (F := Ideal) m ρ)

theorem algebraic : Cert.algebraic_Kernel7Ideal_Reference7Ideal := by
  pair_intro
  · run_from (Cert.Kernel7Ideal.Value.run_blocks m g)
  · run_from Cert.Reference7Ideal.Value.run m' g'
    · rw [Cert.Kernel7Ideal.Up.final3 m c]
    · rw [Cert.Kernel7Ideal.Up.final4 m c]
    · rw [Cert.Kernel7Ideal.Up.final5 m c]

end Cert.PairUp

end
-- ==== Proof.Down.lean ====
module

public import proofs.«01_k».proof.Proof.Gen.Kernel8Ideal.Frame
public import proofs.«01_k».proof.Proof.Gen.Kernel8Ideal.Value
public import proofs.«01_k».proof.Proof.Gen.Reference8Ideal.Run
public import Idealize.ShloMosaic.Lib.Pipeline.ValueKit
public import Idealize.ShloMosaic.Lib.Pointwise
public import Idealize.ShloMosaic.Lib.Pipeline.ReadBack
public import proofs.«01_k».proof.Proof.Ext

@[expose] public section

set_option maxRecDepth 16384

noncomputable section

open Idealize.ShloMosaic Idealize.ShloMosaic.TcCoe Idealize.SL.Sem
open Idealize.ShloMosaic.Pipeline (Dat)
open scoped BigOperators

namespace Cert.Kernel8Ideal.Down

open Cert.Kernel8Ideal Cert.Kernel8Ideal.Gen

variable (m : (ℓ : Loc nD τ sig) → Buf (Elt Ideal) ℓ)

/-- The reference's result as one term over the three arguments. -/
abbrev REF (a0 : FVec Ideal S2048x5632 .bf16) (a1 : FVec Ideal S5632x2048 .bf16) (a2 : FVec Ideal S2048x2048 .f32) : FVec Ideal S2048x2048 .f32 :=
  addf a2 (mulf (broadcastInDim Cert.Reference8Ideal.S2048x2048 ![] Cert.Reference8Ideal.Gen.bcast_S_S2048x2048 (constant (F := Ideal) Cert.Reference8Ideal.S_ .f32 0x3F000000#32)) (Host.dotGeneral (F := Ideal) Cert.Reference8Ideal.dot_S2048x5632_S5632x2048_S2048x2048_1_0_0_1_n_n none (extf .f32 a0 Cert.Reference8Ideal.Gen.bitsLt_bf16_f32) (extf .f32 a1 Cert.Reference8Ideal.Gen.bitsLt_bf16_f32)))

/-- Every window's block index at every grid point. -/
theorem idx : ∀ t : Fin cfg0.N, win0_0.index t = ![t.val / 4, t.val % 2]
    ∧ win0_1.index t = ![t.val % 2, t.val / 2 % 2]
    ∧ win0_2.index t = ![t.val / 4, t.val / 2 % 2]
    ∧ win0_3.index t = ![t.val / 4, t.val / 2 % 2] :=
  (by decide +kernel : ∀ t : Fin grid0.N, _)

theorem ba (c : Dev nD) (t : Fin cfg0.N) (i : Fin 1024) (k : Fin 2816) (r : Fin 2048) (s : Fin 5632) (hr : r.val = t.val / 4 * 1024 + i.val)
    (hs : s.val = t.val % 2 * 2816 + k.val) : iblk m c 0 t (ix2 i k) = m ((c.tc : Thread nD τ).loc main_arg0) (ix2 r s) := by
  blk_ext [iblk, V, idx t]

theorem bw (c : Dev nD) (t : Fin cfg0.N) (k : Fin 2816) (j : Fin 1024) (s : Fin 5632) (r : Fin 2048) (hr : r.val = t.val / 2 % 2 * 1024 + j.val)
    (hs : s.val = t.val % 2 * 2816 + k.val) : iblk m c 1 t (ix2 k j) = m ((c.tc : Thread nD τ).loc main_arg1) (ix2 s r) := by
  blk_ext [iblk, V, idx t]

theorem bx (c : Dev nD) (t : Fin cfg0.N) (y : S1024x1024.Idx) (i j : Fin 2048) (hi : i.val = t.val / 4 * 1024 + (y 0).val)
    (hj : j.val = t.val / 2 % 2 * 1024 + (y 1).val) : iblk m c 2 t y = m ((c.tc : Thread nD τ).loc main_arg2) (ix2 i j) := by
  blk_ext [iblk, V, idx t]

/-- What a point adds to the accumulator, over its two blocks. -/
def part (x0 : FVec Ideal S1024x2816 .bf16) (x1 : FVec Ideal S2816x1024 .bf16) (y : S1024x1024.Idx) : EReal :=
  ∑ k : Fin 2816, (x0 (ix2 (y 0) k) : EReal) * (x1 (ix2 k (y 1)) : EReal)

/-- What point `t` adds to the accumulator. -/
def term (c : Dev nD) (t : Fin cfg0.N) (y : S1024x1024.Idx) : EReal := part (iblk m c 0 t) (iblk m c 1 t) y

theorem pay2_eq (acc : FVec Ideal S1024x1024 .f32) (x0 : FVec Ideal S1024x2816 .bf16) (x1 : FVec Ideal S2816x1024 .bf16) (y : S1024x1024.Idx) :
    k0_pay2 acc x0 x1 y = (acc y : EReal) + part x0 x1 y := by
  unfold part
  pointwise [k0_pay2]

theorem pay1_zero : (k0_pay1 (F := Ideal)) = fun _ => (0 : EReal) := funext fun j => by pointwise [k0_pay1]

theorem pay3_eq (acc x : FVec Ideal S1024x1024 .f32) (y : S1024x1024.Idx) :
    k0_pay3 acc x y = (x y : EReal) + ((1 / 2 : ℝ) : EReal) * (acc y : EReal) := by
  pointwise [k0_pay3]
  rw [Cert.Ext.half_eq, mul_comm]

theorem scr0 (c : Dev nD) (t : Fin cfg0.N) (h : t.val % 2 = 0) (y : S1024x1024.Idx) : (outsAt0 m c t.val t.isLt).2 y = (0 : EReal) + term m c t y := by
  rw [outsAt0_A m c t h (by omega)]; frame_out
  exact (pay2_eq _ _ _ y).trans (by rw [pay1_zero]; rfl)

theorem scr1 (c : Dev nD) (t : Fin cfg0.N) (h : ¬t.val % 2 = 0) (y : S1024x1024.Idx) :
    (outsAt0 m c t.val t.isLt).2 y = ((outsAt0 m c (t.val - 1) (Nat.lt_of_le_of_lt (Nat.sub_le _ _) t.isLt)).2 y : EReal) + term m c t y := by
  rw [outsAt0_B m c t h (by omega)]; frame_out; rw [read_unread_whole]
  exact pay2_eq _ _ _ y

theorem out_scr (c : Dev nD) (t : Fin cfg0.N) (h1 : t.val % 2 = 1) (y : S1024x1024.Idx) :
    (outsAt0 m c t.val t.isLt).1 y = k0_pay3 (outsAt0 m c t.val t.isLt).2 (iblk m c 2 t) y := by
  rw [outsAt0_B m c t (by omega) h1]; frame_out

/-- The arrays' entries behind what point `t` adds. -/
theorem term_eq (c : Dev nD) (t : Fin cfg0.N) (y : S1024x1024.Idx) (i j : Fin 2048) (l : Fin 2816 → Fin 5632) (hi : i.val = t.val / 4 * 1024 + (y 0).val)
    (hj : j.val = t.val / 2 % 2 * 1024 + (y 1).val) (hl : ∀ k, (l k).val = t.val % 2 * 2816 + k.val)
    (a0 : FVec Ideal S2048x5632 .bf16) (a1 : FVec Ideal S5632x2048 .bf16) (e0 : m ((c.tc : Thread nD τ).loc main_arg0) = a0) (e1 : m ((c.tc : Thread nD τ).loc main_arg1) = a1) :
    term m c t y = ∑ k : Fin 2816, (a0 (ix2 i (l k)) : EReal) * (a1 (ix2 (l k) j) : EReal) := by
  subst e0 e1
  unfold term part
  exact Finset.sum_congr rfl fun k _ => congrArg₂ (fun a b : EReal => a * b) (ba m c t (y 0) k i (l k) hi (hl k)) (bw m c t k (y 1) (l k) j hj (hl k))

theorem ref_eq (a0 : FVec Ideal S2048x5632 .bf16) (a1 : FVec Ideal S5632x2048 .bf16) (a2 : FVec Ideal S2048x2048 .f32) (j : S2048x2048.Idx) :
    REF a0 a1 a2 j = (a2 j : EReal) + ((1 / 2 : ℝ) : EReal) * ∑ l : Fin 5632, (a0 (ix2 (j 0) l) : EReal) * (a1 (ix2 l (j 1)) : EReal) := by
  pointwise [REF]
  rw [Cert.Ext.half_eq]

theorem e3 (t : Fin cfg0.N) (y : S1024x1024.Idx) : ((((cfg0.win 3).blk t).view.emb y) 0 : ℕ) = t.val / 4 * 1024 + (y 0).val
    ∧ ((((cfg0.win 3).blk t).view.emb y) 1 : ℕ) = t.val / 2 % 2 * 1024 + (y 1).val := by
  refine ⟨?_, ?_⟩
  · show win0_3.index t 0 * 1024 + 1 * (y 0).val = _
    rw [(idx t).2.2.2]; show t.val / 4 * 1024 + 1 * (y 0).val = _; omega
  · show win0_3.index t 1 * 1024 + 1 * (y 1).val = _
    rw [(idx t).2.2.2]; show t.val / 2 % 2 * 1024 + 1 * (y 1).val = _; omega

/-- The two points' parts of an entry are its whole sum. -/
theorem run_eq (c : Dev nD) (t : Fin cfg0.N) (h : ∀ s : Fin 2, 2 * (t.val / 2) + s.val < cfg0.N) (y : S1024x1024.Idx) (i j : Fin 2048)
    (hi : i.val = t.val / 4 * 1024 + (y 0).val) (hj : j.val = t.val / 2 % 2 * 1024 + (y 1).val)
    (a0 : FVec Ideal S2048x5632 .bf16) (a1 : FVec Ideal S5632x2048 .bf16) (e0 : m ((c.tc : Thread nD τ).loc main_arg0) = a0) (e1 : m ((c.tc : Thread nD τ).loc main_arg1) = a1) :
    (∑ s : Fin 2, term m c ⟨2 * (t.val / 2) + s.val, h s⟩ y) = ∑ l : Fin 5632, (a0 (ix2 i l) : EReal) * (a1 (ix2 l j) : EReal) := by
  refine Eq.trans (Finset.sum_congr rfl fun s _ => term_eq m c _ y i j (fun k => ⟨s.val * 2816 + k.val, by omega⟩) ?_ ?_ ?_ _ _ e0 e1)
    (Fin.sum_mul_add_congr fun s k hl => rfl)
  · show i.val = (2 * (t.val / 2) + s.val) / 4 * 1024 + _; omega
  · show j.val = (2 * (t.val / 2) + s.val) / 2 % 2 * 1024 + _; omega
  · intro k; show s.val * 2816 + k.val = (2 * (t.val / 2) + s.val) % 2 * 2816 + k.val; omega

theorem eta (f : FVec Ideal S2048x2048 .f32) (j : S2048x2048.Idx) : f (ix2 (j 0) (j 1)) = f j :=
  congrArg f (funext fun a => match a with | ⟨0, _⟩ => rfl | ⟨1, _⟩ => rfl)

/-- The result array after the run is the reference's term over the arguments. -/
theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t hf y => ?_
  have hr : t.val % 2 = 1 := (flush0_3 t).mp hf
  blk_simp
  rw [after0_3, out_scr m c t hr, pay3_eq, Pipeline.eq_sum_fin_of_reset_step_apply_of_flush (fun n h => (outsAt0 m c n h).2) 2 (fun _ => (0 : EReal))
      (fun t y => term m c t y) (fun t h j => scr0 m c t h j) (fun t h j => scr1 m c t h j) t hr _, zero_add]
  refine Eq.trans ?_ (ref_eq _ _ _ _).symm
  refine congrArg₂ (· + ·) ?_ (congrArg (_ * ·) ?_)
  · exact (bx m c t y _ _ (e3 t y).1 (e3 t y).2).trans (eta _ _)
  · exact run_eq m c t _ y _ _ (e3 t y).1 (e3 t y).2 _ _ rfl rfl

end Cert.Kernel8Ideal.Down

end
-- ==== Proof.PairDown.lean ====
module

public import proofs.«01_k».proof.Defs
public import proofs.«01_k».proof.Proof.Gen.Kernel8.Frame
public import proofs.«01_k».proof.Proof.Gen.Kernel8Ideal.Frame
public import proofs.«01_k».proof.Proof.Gen.Reference8Ideal
public import proofs.«01_k».proof.Proof.Gen.Kernel8Ideal.Value
public import proofs.«01_k».proof.Proof.Gen.Reference8Ideal.Run
public import proofs.«01_k».proof.Proof.Down
public import Idealize.ShloMosaic.Lib.Claim
public import Idealize.ShloMosaic.Adequacy
public import Idealize.ShloMosaic.Init

@[expose] public section

set_option maxRecDepth 16384

noncomputable section

namespace Cert.PairDown

open Idealize.ShloMosaic Idealize.SL.Sem

theorem frame_kernel : Cert.quiescent_Kernel8 := fun m ρ _ => Cert.Kernel8.Gen.frame m ρ

theorem frame_ideal : Cert.quiescent_Kernel8Ideal := fun m ρ _ => Cert.Kernel8Ideal.Gen.frame m ρ

theorem frame_reference : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

theorem algebraic : Cert.algebraic_Kernel8Ideal_Reference8Ideal := by
  pair_intro
  · run_from (Cert.Kernel8Ideal.Value.run_blocks m g)
  · run_from Cert.Reference8Ideal.Value.run m' g'
    rw [Cert.Kernel8Ideal.Down.final m c]

end Cert.PairDown

end
-- ==== Proof.InDw.lean ====
module

public import proofs.«01_k».proof.Proof.Gen.Kernel9Ideal.Frame
public import proofs.«01_k».proof.Proof.Gen.Kernel9Ideal.Value
public import proofs.«01_k».proof.Proof.Gen.Reference9Ideal.Run
public import Idealize.ShloMosaic.Lib.Pipeline.ValueKit
public import Idealize.ShloMosaic.Lib.Pointwise
public import proofs.«01_k».proof.Proof.Ext

@[expose] public section

set_option maxRecDepth 16384

noncomputable section

open Idealize.ShloMosaic Idealize.ShloMosaic.TcCoe Idealize.SL.Sem
open Idealize.ShloMosaic.Pipeline (Dat)
open scoped BigOperators

namespace Cert.Kernel9Ideal.InDw

open Cert.Kernel9Ideal Cert.Kernel9Ideal.Gen

variable (m : (ℓ : Loc nD τ sig) → Buf (Elt Ideal) ℓ)

/-- The reference's result as one term over the two arguments. -/
abbrev REF (a0 : FVec Ideal S2048x2048 .bf16) (a1 : FVec Ideal S2048x4096 .bf16) : FVec Ideal S4x2048x1024 .f32 :=
  transpose Cert.Reference9Ideal.S4x2048x1024 [1, 0, 2] (shapeCast Cert.Reference9Ideal.S2048x4x1024 (transpose Cert.Reference9Ideal.S2048x4096 [1, 0] (Host.dotGeneral (F := Ideal) Cert.Reference9Ideal.dot_S2048x4096_S2048x2048_S4096x2048_0_0_1_1_n_n none (extf .f32 a1 Cert.Reference9Ideal.Gen.bitsLt_bf16_f32) (extf .f32 a0 Cert.Reference9Ideal.Gen.bitsLt_bf16_f32)) Cert.Reference9Ideal.Gen.transposes_S4096x2048_S2048x4096_1_0) Cert.Reference9Ideal.Gen.shapeCasts_S2048x4096_S2048x4x1024) Cert.Reference9Ideal.Gen.transposes_S2048x4x1024_S4x2048x1024_1_0_2

/-- Every window's block index at every grid point. -/
theorem idx : ∀ t : Fin cfg0.N, win0_0.index t = ![0, t.val / 4]
    ∧ win0_1.index t = ![0, t.val % 4]
    ∧ win0_2.index t = ![t.val % 4, t.val / 4, 0] :=
  (by decide +kernel : ∀ t : Fin grid0.N, _)

theorem point (c : Dev nD) (t : Fin cfg0.N) (y) :
    k0_pay1 (iblk m c 0 t) (iblk m c 1 t) y
      = REF (m ((c : Thread nD τ).loc main_arg0)) (m ((c : Thread nD τ).loc main_arg1)) (((cfg0.win 2).blk t).view.emb y) := by
  pointwise [k0_pay1, REF]
  refine Fin.sum_fin_congr fun k => ?_
  refine (mul_comm _ _).trans ?_
  blk_point [iblk, V, idx t]

/-- The result array after the run is the reference's term over the arguments. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp; rw [after0_2]; frame_out
  exact point m c t y

end Cert.Kernel9Ideal.InDw

end
-- ==== Proof.PairInDw.lean ====
module

public import proofs.«01_k».proof.Defs
public import proofs.«01_k».proof.Proof.Gen.Kernel9.Frame
public import proofs.«01_k».proof.Proof.Gen.Kernel9Ideal.Frame
public import proofs.«01_k».proof.Proof.Gen.Reference9Ideal
public import proofs.«01_k».proof.Proof.Gen.Kernel9Ideal.Value
public import proofs.«01_k».proof.Proof.Gen.Reference9Ideal.Run
public import proofs.«01_k».proof.Proof.InDw
public import Idealize.ShloMosaic.Lib.Claim
public import Idealize.ShloMosaic.Adequacy
public import Idealize.ShloMosaic.Init

@[expose] public section

set_option maxRecDepth 16384

noncomputable section

namespace Cert.PairInDw

open Idealize.ShloMosaic Idealize.SL.Sem

theorem frame_kernel : Cert.quiescent_Kernel9 := fun m ρ _ => Cert.Kernel9.Gen.frame m ρ

theorem frame_ideal : Cert.quiescent_Kernel9Ideal := fun m ρ _ => Cert.Kernel9Ideal.Gen.frame m ρ

theorem frame_reference : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

theorem algebraic : Cert.algebraic_Kernel9Ideal_Reference9Ideal := by
  pair_intro
  · run_from (Cert.Kernel9Ideal.Value.run_blocks m g)
  · run_from Cert.Reference9Ideal.Value.run m' g'
    rw [Cert.Kernel9Ideal.InDw.final m c]

end Cert.PairInDw

end
-- ==== Proof.InDx.lean ====
module

public import proofs.«01_k».proof.Proof.Gen.Kernel10Ideal.Frame
public import proofs.«01_k».proof.Proof.Gen.Kernel10Ideal.Value
public import proofs.«01_k».proof.Proof.Gen.Reference10Ideal.Run
public import Idealize.ShloMosaic.Lib.Pipeline.ValueKit
public import Idealize.ShloMosaic.Lib.Pointwise
public import Idealize.ShloMosaic.Lib.Pipeline.ReadBack
public import proofs.«01_k».proof.Proof.Ext

@[expose] public section

set_option maxRecDepth 16384

noncomputable section

open Idealize.ShloMosaic Idealize.ShloMosaic.TcCoe Idealize.SL.Sem
open Idealize.ShloMosaic.Pipeline (Dat)
open scoped BigOperators

namespace Cert.Kernel10Ideal.InDx

open Cert.Kernel10Ideal Cert.Kernel10Ideal.Gen

variable (m : (ℓ : Loc nD τ sig) → Buf (Elt Ideal) ℓ)

/-- The reference's result as one term over the two arguments. -/
abbrev REF (a0 a1 : FVec Ideal S2048x4096 .bf16) : FVec Ideal S2048x2048 .f32 :=
  Host.dotGeneral (F := Ideal) Cert.Reference10Ideal.dot_S2048x4096_S2048x4096_S2048x2048_1_1_0_0_n_n none (extf .f32 a0 Cert.Reference10Ideal.Gen.bitsLt_bf16_f32) (extf .f32 a1 Cert.Reference10Ideal.Gen.bitsLt_bf16_f32)

/-- Every window's block index at every grid point. -/
theorem idx : ∀ t : Fin cfg0.N, win0_0.index t = ![t.val / 8, t.val % 4]
    ∧ win0_1.index t = ![t.val % 4, t.val / 4 % 2, 0]
    ∧ win0_2.index t = ![t.val / 8, t.val / 4 % 2] :=
  (by decide +kernel : ∀ t : Fin grid0.N, _)

theorem V_wg (c : Dev nD) : V m c main_v1
    = transpose S4x2048x1024 [1, 0, 2] (shapeCast S2048x4x1024 (m ((c.tc : Thread nD τ).loc main_arg1)) shapeCasts_S2048x4096_S2048x4x1024) transposes_S2048x4x1024_S4x2048x1024_1_0_2 := by
  unfold V
  simp only [hostOps0, List.flatten_cons, List.flatten_nil, List.append_nil, List.cons_append, List.nil_append]
  after_results
  rfl

theorem dg (c : Dev nD) (t : Fin cfg0.N) (i : Fin 1024) (k : Fin 1024) (r : Fin 2048) (s : Fin 4096) (hr : r.val = t.val / 8 * 1024 + i.val)
    (hs : s.val = t.val % 4 * 1024 + k.val) : iblk m c 0 t (ix2 i k) = m ((c.tc : Thread nD τ).loc main_arg0) (ix2 r s) := by
  blk_ext [iblk, V, idx t]

theorem wg (c : Dev nD) (t : Fin cfg0.N) (j : Fin 1024) (k : Fin 1024) (r : Fin 2048) (s : Fin 4096) (hr : r.val = t.val / 4 % 2 * 1024 + j.val)
    (hs : s.val = t.val % 4 * 1024 + k.val) : iblk m c 1 t (ix3 0 j k) = m ((c.tc : Thread nD τ).loc main_arg1) (ix2 r s) := by
  blk_simp [iblk, idx t]
  rw [V_wg]
  pointwise
  have h0 : (((View.whole main_v1).slice (win0_1.rect t)).emb (ix3 0 j k) 0 : ℕ) = t.val % 4 := by
    show win0_1.index t 0 * 1 + 1 * 0 = _
    rw [(idx t).2.1]; show t.val % 4 * 1 + 1 * 0 = _; omega
  have h1 : (((View.whole main_v1).slice (win0_1.rect t)).emb (ix3 0 j k) 1 : ℕ) = r.val := by
    show win0_1.index t 1 * 1024 + 1 * j.val = _
    rw [(idx t).2.1, hr]; show t.val / 4 % 2 * 1024 + 1 * j.val = _; omega
  have h2 : (((View.whole main_v1).slice (win0_1.rect t)).emb (ix3 0 j k) 2 : ℕ) = k.val := by
    show win0_1.index t 2 * 1024 + 1 * k.val = _
    rw [(idx t).2.1]; show 0 * 1024 + 1 * k.val = _; omega
  exact congrArg _ (congrArg₂ ix2 (Fin.ext h1) (Fin.ext (by simp only [h0, h2, hs])))

/-- What a point adds to the accumulator, over its two blocks. -/
def part (x0 : FVec Ideal S1024x1024 .bf16) (x1 : FVec Ideal S1x1024x1024 .bf16) (y : S1024x1024.Idx) : EReal :=
  ∑ k : Fin 1024, (x0 (ix2 (y 0) k) : EReal) * (x1 (ix3 0 (y 1) k) : EReal)

/-- What point `t` adds to the accumulator. -/
def term (c : Dev nD) (t : Fin cfg0.N) (y : S1024x1024.Idx) : EReal := part (iblk m c 0 t) (iblk m c 1 t) y

theorem pay2_eq (acc : FVec Ideal S1024x1024 .f32) (x0 : FVec Ideal S1024x1024 .bf16) (x1 : FVec Ideal S1x1024x1024 .bf16) (y : S1024x1024.Idx) :
    k0_pay2 acc x0 x1 y = (acc y : EReal) + part x0 x1 y := by
  unfold part
  pointwise [k0_pay2]

theorem pay1_zero : (k0_pay1 (F := Ideal)) = fun _ => (0 : EReal) := funext fun j => by pointwise [k0_pay1]

theorem scr0 (c : Dev nD) (t : Fin cfg0.N) (h : t.val % 4 = 0) (y : S1024x1024.Idx) : (outsAt0 m c t.val t.isLt).2 y = (0 : EReal) + term m c t y := by
  rw [outsAt0_A m c t h (by omega)]; frame_out
  exact (pay2_eq _ _ _ y).trans (by rw [pay1_zero]; rfl)

theorem scr1 (c : Dev nD) (t : Fin cfg0.N) (h : ¬t.val % 4 = 0) (y : S1024x1024.Idx) :
    (outsAt0 m c t.val t.isLt).2 y = ((outsAt0 m c (t.val - 1) (Nat.lt_of_le_of_lt (Nat.sub_le _ _) t.isLt)).2 y : EReal) + term m c t y := by
  by_cases h1 : t.val % 4 = 3
  · rw [outsAt0_C m c t h h1]; frame_out; rw [read_unread_whole]
    exact pay2_eq _ _ _ y
  · rw [outsAt0_B m c t h h1]; frame_out; rw [read_unread_whole]
    exact pay2_eq _ _ _ y

theorem out_scr (c : Dev nD) (t : Fin cfg0.N) (h1 : t.val % 4 = 3) (y : S1024x1024.Idx) :
    (outsAt0 m c t.val t.isLt).1 y = (outsAt0 m c t.val t.isLt).2 y := by
  rw [outsAt0_C m c t (by omega) h1]; frame_out

/-- The arrays' entries behind what point `t` adds. -/
theorem term_eq (c : Dev nD) (t : Fin cfg0.N) (y : S1024x1024.Idx) (i j : Fin 2048) (l : Fin 1024 → Fin 4096) (hi : i.val = t.val / 8 * 1024 + (y 0).val)
    (hj : j.val = t.val / 4 % 2 * 1024 + (y 1).val) (hl : ∀ k, (l k).val = t.val % 4 * 1024 + k.val)
    (a0 a1 : FVec Ideal S2048x4096 .bf16) (e0 : m ((c.tc : Thread nD τ).loc main_arg0) = a0) (e1 : m ((c.tc : Thread nD τ).loc main_arg1) = a1) :
    term m c t y = ∑ k : Fin 1024, (a0 (ix2 i (l k)) : EReal) * (a1 (ix2 j (l k)) : EReal) := by
  subst e0 e1
  unfold term part
  exact Finset.sum_congr rfl fun k _ => congrArg₂ (fun a b : EReal => a * b) (dg m c t (y 0) k i (l k) hi (hl k)) (wg m c t (y 1) k j (l k) hj (hl k))

theorem ref_eq (a0 a1 : FVec Ideal S2048x4096 .bf16) (j : S2048x2048.Idx) :
    REF a0 a1 j = ∑ l : Fin 4096, (a0 (ix2 (j 0) l) : EReal) * (a1 (ix2 (j 1) l) : EReal) := by
  pointwise [REF]

theorem e2 (t : Fin cfg0.N) (y : S1024x1024.Idx) : ((((cfg0.win 2).blk t).view.emb y) 0 : ℕ) = t.val / 8 * 1024 + (y 0).val
    ∧ ((((cfg0.win 2).blk t).view.emb y) 1 : ℕ) = t.val / 4 % 2 * 1024 + (y 1).val := by
  refine ⟨?_, ?_⟩
  · show win0_2.index t 0 * 1024 + 1 * (y 0).val = _
    rw [(idx t).2.2]; show t.val / 8 * 1024 + 1 * (y 0).val = _; omega
  · show win0_2.index t 1 * 1024 + 1 * (y 1).val = _
    rw [(idx t).2.2]; show t.val / 4 % 2 * 1024 + 1 * (y 1).val = _; omega

/-- The four points' parts of an entry are its whole sum. -/
theorem run_eq (c : Dev nD) (t : Fin cfg0.N) (h : ∀ s : Fin 4, 4 * (t.val / 4) + s.val < cfg0.N) (y : S1024x1024.Idx) (i j : Fin 2048)
    (hi : i.val = t.val / 8 * 1024 + (y 0).val) (hj : j.val = t.val / 4 % 2 * 1024 + (y 1).val) :
    (∑ s : Fin 4, term m c ⟨4 * (t.val / 4) + s.val, h s⟩ y)
      = REF (m ((c : Thread nD τ).loc main_arg0)) (m ((c : Thread nD τ).loc main_arg1)) (ix2 i j) := by
  refine Eq.trans ?_ (ref_eq _ _ _).symm
  refine Eq.trans (Finset.sum_congr rfl fun s _ => term_eq m c _ y i j (fun k => ⟨s.val * 1024 + k.val, by omega⟩) ?_ ?_ ?_ _ _ rfl rfl)
    (Fin.sum_mul_add_congr fun s k hl => rfl)
  · show i.val = (4 * (t.val / 4) + s.val) / 8 * 1024 + _; omega
  · show j.val = (4 * (t.val / 4) + s.val) / 4 % 2 * 1024 + _; omega
  · intro k; show s.val * 1024 + k.val = (4 * (t.val / 4) + s.val) % 4 * 1024 + k.val; omega

theorem eta (f : FVec Ideal S2048x2048 .f32) (j : S2048x2048.Idx) : f (ix2 (j 0) (j 1)) = f j :=
  congrArg f (funext fun a => match a with | ⟨0, _⟩ => rfl | ⟨1, _⟩ => rfl)

/-- The result array after the run is the reference's term over the arguments. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  have hr : t.val % 4 = 3 := (flush0_2 t).mp hf
  blk_simp
  rw [after0_2, out_scr m c t hr, Pipeline.eq_sum_fin_of_reset_step_apply_of_flush (fun n h => (outsAt0 m c n h).2) 4 (fun _ => (0 : EReal))
      (fun t y => term m c t y) (fun t h j => scr0 m c t h j) (fun t h j => scr1 m c t h j) t hr _, zero_add]
  exact (run_eq m c t _ y _ _ (e2 t y).1 (e2 t y).2).trans (eta _ _)

end Cert.Kernel10Ideal.InDx

end
-- ==== Proof.PairInDx.lean ====
module

public import proofs.«01_k».proof.Defs
public import proofs.«01_k».proof.Proof.Gen.Kernel10.Frame
public import proofs.«01_k».proof.Proof.Gen.Kernel10Ideal.Frame
public import proofs.«01_k».proof.Proof.Gen.Reference10Ideal
public import proofs.«01_k».proof.Proof.Gen.Kernel10Ideal.Value
public import proofs.«01_k».proof.Proof.Gen.Reference10Ideal.Run
public import proofs.«01_k».proof.Proof.InDx
public import Idealize.ShloMosaic.Lib.Claim
public import Idealize.ShloMosaic.Adequacy
public import Idealize.ShloMosaic.Init

@[expose] public section

set_option maxRecDepth 16384

noncomputable section

namespace Cert.PairInDx

open Idealize.ShloMosaic Idealize.SL.Sem

theorem frame_kernel : Cert.quiescent_Kernel10 := fun m ρ _ => Cert.Kernel10.Gen.frame m ρ

theorem frame_ideal : Cert.quiescent_Kernel10Ideal := fun m ρ _ => Cert.Kernel10Ideal.Gen.frame m ρ

theorem frame_reference : Cert.quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)

theorem algebraic : Cert.algebraic_Kernel10Ideal_Reference10Ideal := by
  pair_intro
  · run_from (Cert.Kernel10Ideal.Value.run_blocks m g)
  · run_from Cert.Reference10Ideal.Value.run m' g'
    rw [Cert.Kernel10Ideal.InDx.final m c]
    rfl

end Cert.PairInDx

end
-- ==== Proof.OutDx.lean ====
module

public import proofs.«01_k».proof.Proof.Gen.Kernel11Ideal.Frame
public import proofs.«01_k».proof.Proof.Gen.Kernel11Ideal.Value
public import proofs.«01_k».proof.Proof.Gen.Reference11Ideal.Run
public import Idealize.ShloMosaic.Lib.Pipeline.ValueKit
public import Idealize.ShloMosaic.Lib.Pointwise
public import proofs.«01_k».proof.Proof.Ext

@[expose] public section

set_option maxRecDepth 16384

noncomputable section

open Idealize.ShloMosaic Idealize.ShloMosaic.TcCoe Idealize.SL.Sem
open Idealize.ShloMosaic.Pipeline (Dat)
open scoped BigOperators

namespace Cert.Kernel11Ideal.OutDx

open Cert.Kernel11Ideal Cert.Kernel11Ideal.Gen

variable (m : (ℓ : Loc nD τ sig) → Buf (Elt Ideal) ℓ)

/-- The reference's result as one term over the two arguments. -/
abbrev REF (a0 : FVec Ideal S2048x2048 .f32) (a1 : FVec Ideal S2048x2048 .bf16) : FVec Ideal S2048x2048 .f32 :=
  Host.dotGeneral (F := Ideal) Cert.Reference11Ideal.dot_S2048x2048_S2048x2048_S2048x2048_1_1_0_0_n_n none a0 (extf .f32 a1 Cert.Reference11Ideal.Gen.bitsLt_bf16_f32)

/-- Every window's block index at every grid point. -/
theorem idx : ∀ t : Fin cfg0.N, win0_0.index t = ![t.val / 2, 0]
    ∧ win0_1.index t = ![t.val % 2, 0]
    ∧ win0_2.index t = ![t.val / 2, t.val % 2] :=
  (by decide +kernel : ∀ t : Fin grid0.N, _)

theorem point (c : Dev nD) (t : Fin cfg0.N) (y) :
    k0_pay1 (iblk m c 0 t) (iblk m c 1 t) y
      = REF (m ((c : Thread nD τ).loc main_arg0)) (m ((c : Thread nD τ).loc main_arg1)) (((cfg0.win 2).blk t).view.emb y) := by
  pointwise [k0_pay1, REF]
  refine Fin.sum_fin_congr fun k => ?_
  blk_point [iblk, V, idx t]

/-- The result array after the run is the reference's term over the arguments. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp; rw [after0_2]; frame_out
  exact point m c t y

end Cert.Kernel11Ideal.OutDx

end
-- ==== Proof.PairOutDx.lean ====
module

public import proofs.«01_k».proof.Defs
public import proofs.«01_k».proof.Proof.Gen.Kernel11.Frame
public import proofs.«01_k».proof.Proof.Gen.Kernel11Ideal.Frame
public import proofs.«01_k».proof.Proof.Gen.Reference11Ideal
public import proofs.«01_k».proof.Proof.Gen.Kernel11Ideal.Value
public import proofs.«01_k».proof.Proof.Gen.Reference11Ideal.Run
public import proofs.«01_k».proof.Proof.OutDx
public import Idealize.ShloMosaic.Lib.Claim
public import Idealize.ShloMosaic.Adequacy
public import Idealize.ShloMosaic.Init

@[expose] public section

set_option maxRecDepth 16384

noncomputable section

namespace Cert.PairOutDx

open Idealize.ShloMosaic Idealize.SL.Sem

theorem frame_kernel : Cert.quiescent_Kernel11 := fun m ρ _ => Cert.Kernel11.Gen.frame m ρ

theorem frame_ideal : Cert.quiescent_Kernel11Ideal := fun m ρ _ => Cert.Kernel11Ideal.Gen.frame m ρ

theorem frame_reference : Cert.quiescent_Reference11Ideal := fun m ρ _ =>
  (θ_run Cert.Reference11Ideal.defs _ _).mono (fun r h => ⟨fun c => (h c).2, sem_eq_zero_of_no_sems (by decide) r.2⟩)
    (Cert.Reference11Ideal.Value.run (F := Ideal) m ρ)

theorem algebraic : Cert.algebraic_Kernel11Ideal_Reference11Ideal := by
  pair_intro
  · run_from (Cert.Kernel11Ideal.Value.run_blocks m g)
  · run_from Cert.Reference11Ideal.Value.run m' g'
    rw [Cert.Kernel11Ideal.OutDx.final m c]
    rfl

end Cert.PairOutDx

end
-- ==== Proof.OutDw.lean ====
module

public import proofs.«01_k».proof.Proof.Gen.Kernel12Ideal.Frame
public import proofs.«01_k».proof.Proof.Gen.Kernel12Ideal.Value
public import proofs.«01_k».proof.Proof.Gen.Reference12Ideal.Run
public import Idealize.ShloMosaic.Lib.Pipeline.ValueKit
public import Idealize.ShloMosaic.Lib.Pointwise
public import proofs.«01_k».proof.Proof.Ext

@[expose] public section

set_option maxRecDepth 16384

noncomputable section

open Idealize.ShloMosaic Idealize.ShloMosaic.TcCoe Idealize.SL.Sem
open Idealize.ShloMosaic.Pipeline (Dat)
open scoped BigOperators

namespace Cert.Kernel12Ideal.OutDw

open Cert.Kernel12Ideal Cert.Kernel12Ideal.Gen

variable (m : (ℓ : Loc nD τ sig) → Buf (Elt Ideal) ℓ)

/-- The reference's result as one term over the two arguments. -/
abbrev REF (a0 : FVec Ideal S2048x2048 .bf16) (a1 : FVec Ideal S2048x2048 .f32) : FVec Ideal S2048x2048 .f32 :=
  transpose Cert.Reference12Ideal.S2048x2048 [1, 0] (Host.dotGeneral (F := Ideal) Cert.Reference12Ideal.dot_S2048x2048_S2048x2048_S2048x2048_0_0_1_1_n_n none a1 (extf .f32 a0 Cert.Reference12Ideal.Gen.bitsLt_bf16_f32)) Cert.Reference12Ideal.Gen.transposes_S2048x2048_S2048x2048_1_0

/-- Every window's block index at every grid point. -/
theorem idx : ∀ t : Fin cfg0.N, win0_0.index t = ![0, t.val / 2]
    ∧ win0_1.index t = ![0, t.val % 2]
    ∧ win0_2.index t = ![t.val / 2, t.val % 2] :=
  (by decide +kernel : ∀ t : Fin grid0.N, _)

theorem point (c : Dev nD) (t : Fin cfg0.N) (y) :
    k0_pay1 (iblk m c 0 t) (iblk m c 1 t) y
      = REF (m ((c : Thread nD τ).loc main_arg0)) (m ((c : Thread nD τ).loc main_arg1)) (((cfg0.win 2).blk t).view.emb y) := by
  pointwise [k0_pay1, REF]
  refine Fin.sum_fin_congr fun k => ?_
  refine (mul_comm _ _).trans ?_
  blk_point [iblk, V, idx t]

/-- The result array after the run is the reference's term over the arguments. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp; rw [after0_2]; frame_out
  exact point m c t y

end Cert.Kernel12Ideal.OutDw

end
-- ==== Proof.PairOutDw.lean ====
module

public import proofs.«01_k».proof.Defs
public import proofs.«01_k».proof.Proof.Gen.Kernel12.Frame
public import proofs.«01_k».proof.Proof.Gen.Kernel12Ideal.Frame
public import proofs.«01_k».proof.Proof.Gen.Reference12Ideal
public import proofs.«01_k».proof.Proof.Gen.Kernel12Ideal.Value
public import proofs.«01_k».proof.Proof.Gen.Reference12Ideal.Run
public import proofs.«01_k».proof.Proof.OutDw
public import Idealize.ShloMosaic.Lib.Claim
public import Idealize.ShloMosaic.Adequacy
public import Idealize.ShloMosaic.Init

@[expose] public section

set_option maxRecDepth 16384

noncomputable section

namespace Cert.PairOutDw

open Idealize.ShloMosaic Idealize.SL.Sem

theorem frame_kernel : Cert.quiescent_Kernel12 := fun m ρ _ => Cert.Kernel12.Gen.frame m ρ

theorem frame_ideal : Cert.quiescent_Kernel12Ideal := fun m ρ _ => Cert.Kernel12Ideal.Gen.frame m ρ

theorem frame_reference : Cert.quiescent_Reference12Ideal := fun m ρ _ =>
  (θ_run Cert.Reference12Ideal.defs _ _).mono (fun r h => ⟨fun c => (h c).2, sem_eq_zero_of_no_sems (by decide) r.2⟩)
    (Cert.Reference12Ideal.Value.run (F := Ideal) m ρ)

theorem algebraic : Cert.algebraic_Kernel12Ideal_Reference12Ideal := by
  pair_intro
  · run_from (Cert.Kernel12Ideal.Value.run_blocks m g)
  · run_from Cert.Reference12Ideal.Value.run m' g'
    rw [Cert.Kernel12Ideal.OutDw.final m c]

end Cert.PairOutDw

end
-- ==== Proof.InFwd.lean ====
module

public import proofs.«01_k».proof.Proof.Gen.Kernel13Ideal.Frame
public import proofs.«01_k».proof.Proof.Gen.Kernel13Ideal.Value
public import proofs.«01_k».proof.Proof.Gen.Reference13Ideal.Run
public import Idealize.ShloMosaic.Lib.Pipeline.ValueKit
public import Idealize.ShloMosaic.Lib.Pointwise
public import proofs.«01_k».proof.Proof.Ext

@[expose] public section

set_option maxRecDepth 16384

noncomputable section

open Idealize.ShloMosaic Idealize.ShloMosaic.TcCoe Idealize.SL.Sem
open Idealize.ShloMosaic.Pipeline (Dat)
open scoped BigOperators

namespace Cert.Kernel13Ideal.InFwd

open Cert.Kernel13Ideal Cert.Kernel13Ideal.Gen

variable (m : (ℓ : Loc nD τ sig) → Buf (Elt Ideal) ℓ)

/-- The reference's result as one term over the two arguments. -/
abbrev REF (a0 : FVec Ideal S2048x2048 .bf16) (a1 : FVec Ideal S2048x4096 .bf16) : FVec Ideal S2048x4096 .f32 :=
  Host.dotGeneral (F := Ideal) Cert.Reference13Ideal.dot_S2048x2048_S2048x4096_S2048x4096_1_0_0_1_n_n none (extf .f32 a0 Cert.Reference13Ideal.Gen.bitsLt_bf16_f32) (extf .f32 a1 Cert.Reference13Ideal.Gen.bitsLt_bf16_f32)

/-- Every window's block index at every grid point. -/
theorem idx : ∀ t : Fin cfg0.N, win0_0.index t = ![t.val / 4, 0]
    ∧ win0_1.index t = ![t.val % 4, 0, 0]
    ∧ win0_2.index t = ![t.val / 4, t.val % 4] :=
  (by decide +kernel : ∀ t : Fin grid0.N, _)

theorem V_w (c : Dev nD) : V m c main_v1
    = transpose S4x2048x1024 [1, 0, 2] (shapeCast S2048x4x1024 (m ((c.tc : Thread nD τ).loc main_arg1)) shapeCasts_S2048x4096_S2048x4x1024) transposes_S2048x4x1024_S4x2048x1024_1_0_2 := by
  unfold V
  simp only [hostOps0, List.flatten_cons, List.flatten_nil, List.append_nil, List.cons_append, List.nil_append]
  after_results
  rfl

theorem bh (c : Dev nD) (t : Fin cfg0.N) (i : Fin 1024) (k r : Fin 2048) (hr : r.val = t.val / 4 * 1024 + i.val) :
    iblk m c 0 t (ix2 i k) = m ((c.tc : Thread nD τ).loc main_arg0) (ix2 r k) := by
  blk_ext [iblk, V, idx t]

theorem bw (c : Dev nD) (t : Fin cfg0.N) (k : Fin 2048) (j : Fin 1024) (s : Fin 4096) (hs : s.val = t.val % 4 * 1024 + j.val) :
    iblk m c 1 t (ix3 0 k j) = m ((c.tc : Thread nD τ).loc main_arg1) (ix2 k s) := by
  blk_simp [iblk, idx t]
  rw [V_w]
  pointwise
  have h0 : (((View.whole main_v1).slice (win0_1.rect t)).emb (ix3 0 k j) 0 : ℕ) = t.val % 4 := by
    show win0_1.index t 0 * 1 + 1 * 0 = _
    rw [(idx t).2.1]; show t.val % 4 * 1 + 1 * 0 = _; omega
  have h1 : (((View.whole main_v1).slice (win0_1.rect t)).emb (ix3 0 k j) 1 : ℕ) = k.val := by
    show win0_1.index t 1 * 2048 + 1 * k.val = _
    rw [(idx t).2.1]; show 0 * 2048 + 1 * k.val = _; omega
  have h2 : (((View.whole main_v1).slice (win0_1.rect t)).emb (ix3 0 k j) 2 : ℕ) = j.val := by
    show win0_1.index t 2 * 1024 + 1 * j.val = _
    rw [(idx t).2.1]; show 0 * 1024 + 1 * j.val = _; omega
  exact congrArg _ (congrArg₂ ix2 (Fin.ext h1) (Fin.ext (by simp only [h0, h2, hs])))

theorem pay1_eq (x0 : FVec Ideal S1024x2048 .bf16) (x1 : FVec Ideal S1x2048x1024 .bf16) (y : S1024x1024.Idx) :
    k0_pay1 (F := Ideal) x0 x1 y = ∑ k : Fin 2048, (x0 (ix2 (y 0) k) : EReal) * (x1 (ix3 0 k (y 1)) : EReal) := by
  pointwise [k0_pay1]

theorem ref_eq (a0 : FVec Ideal S2048x2048 .bf16) (a1 : FVec Ideal S2048x4096 .bf16) (j : S2048x4096.Idx) :
    REF a0 a1 j = ∑ k : Fin 2048, (a0 (ix2 (j 0) k) : EReal) * (a1 (ix2 k (j 1)) : EReal) := by
  pointwise [REF]

theorem e2 (t : Fin cfg0.N) (y : S1024x1024.Idx) : ((((cfg0.win 2).blk t).view.emb y) 0 : ℕ) = t.val / 4 * 1024 + (y 0).val
    ∧ ((((cfg0.win 2).blk t).view.emb y) 1 : ℕ) = t.val % 4 * 1024 + (y 1).val := by
  refine ⟨?_, ?_⟩
  · show win0_2.index t 0 * 1024 + 1 * (y 0).val = _
    rw [(idx t).2.2]; show t.val / 4 * 1024 + 1 * (y 0).val = _; omega
  · show win0_2.index t 1 * 1024 + 1 * (y 1).val = _
    rw [(idx t).2.2]; show t.val % 4 * 1024 + 1 * (y 1).val = _; omega

/-- The result array after the run is the reference's term over the arguments. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp; rw [after0_2]; frame_out
  refine (pay1_eq _ _ _).trans (Eq.trans ?_ (ref_eq _ _ _).symm)
  exact Finset.sum_congr rfl fun k _ => congrArg₂ (fun a b : EReal => a * b) (bh m c t (y 0) k _ (e2 t y).1) (bw m c t k (y 1) _ (e2 t y).2)

end Cert.Kernel13Ideal.InFwd

end
-- ==== Proof.PairInFwd.lean ====
module

public import proofs.«01_k».proof.Defs
public import proofs.«01_k».proof.Proof.Gen.Kernel13.Frame
public import proofs.«01_k».proof.Proof.Gen.Kernel13Ideal.Frame
public import proofs.«01_k».proof.Proof.Gen.Reference13Ideal
public import proofs.«01_k».proof.Proof.Gen.Kernel13Ideal.Value
public import proofs.«01_k».proof.Proof.Gen.Reference13Ideal.Run
public import proofs.«01_k».proof.Proof.InFwd
public import Idealize.ShloMosaic.Lib.Claim
public import Idealize.ShloMosaic.Adequacy
public import Idealize.ShloMosaic.Init

@[expose] public section

set_option maxRecDepth 16384

noncomputable section

namespace Cert.PairInFwd

open Idealize.ShloMosaic Idealize.SL.Sem

theorem frame_kernel : Cert.quiescent_Kernel13 := fun m ρ _ => Cert.Kernel13.Gen.frame m ρ

theorem frame_ideal : Cert.quiescent_Kernel13Ideal := fun m ρ _ => Cert.Kernel13Ideal.Gen.frame m ρ

theorem frame_reference : Cert.quiescent_Reference13Ideal := fun m ρ _ =>
  (θ_run Cert.Reference13Ideal.defs _ _).mono (fun r h => ⟨fun c => (h c).2, sem_eq_zero_of_no_sems (by decide) r.2⟩)
    (Cert.Reference13Ideal.Value.run (F := Ideal) m ρ)

theorem algebraic : Cert.algebraic_Kernel13Ideal_Reference13Ideal := by
  pair_intro
  · run_from (Cert.Kernel13Ideal.Value.run_blocks m g)
  · run_from Cert.Reference13Ideal.Value.run m' g'
    rw [Cert.Kernel13Ideal.InFwd.final m c]
    rfl

end Cert.PairInFwd

end
-- ==== Proof.Out.lean ====
module

public import proofs.«01_k».proof.Proof.Gen.Kernel14Ideal.Frame
public import proofs.«01_k».proof.Proof.Gen.Kernel14Ideal.Value
public import proofs.«01_k».proof.Proof.Gen.Reference14Ideal.Run
public import Idealize.ShloMosaic.Lib.Pipeline.ValueKit
public import Idealize.ShloMosaic.Lib.Pointwise
public import proofs.«01_k».proof.Proof.Ext

@[expose] public section

set_option maxRecDepth 16384

noncomputable section

open Idealize.ShloMosaic Idealize.ShloMosaic.TcCoe Idealize.SL.Sem
open Idealize.ShloMosaic.Pipeline (Dat)
open scoped BigOperators

namespace Cert.Kernel14Ideal.Out

open Cert.Kernel14Ideal Cert.Kernel14Ideal.Gen

variable (m : (ℓ : Loc nD τ sig) → Buf (Elt Ideal) ℓ)

/-- The reference's result as one term over the three arguments. -/
abbrev REF (a0 : FVec Ideal S2048x2048 .bf16) (a1 : FVec Ideal S2048x2048 .bf16) (a2 : FVec Ideal S2048x2048 .f32) : FVec Ideal S2048x2048 .f32 :=
  addf a2 (Host.dotGeneral (F := Ideal) Cert.Reference14Ideal.dot_S2048x2048_S2048x2048_S2048x2048_1_0_0_1_n_n none (extf .f32 a0 Cert.Reference14Ideal.Gen.bitsLt_bf16_f32) (extf .f32 a1 Cert.Reference14Ideal.Gen.bitsLt_bf16_f32))

/-- Every window's block index at every grid point. -/
theorem idx : ∀ t : Fin cfg0.N, win0_0.index t = ![t.val / 2, 0]
    ∧ win0_1.index t = ![0, t.val % 2]
    ∧ win0_2.index t = ![t.val / 2, t.val % 2]
    ∧ win0_3.index t = ![t.val / 2, t.val % 2] :=
  (by decide +kernel : ∀ t : Fin grid0.N, _)

theorem point (c : Dev nD) (t : Fin cfg0.N) (y) :
    k0_pay1 (iblk m c 0 t) (iblk m c 1 t) (iblk m c 2 t) y
      = REF (m ((c : Thread nD τ).loc main_arg0)) (m ((c : Thread nD τ).loc main_arg1)) (m ((c : Thread nD τ).loc main_arg2)) (((cfg0.win 3).blk t).view.emb y) := by
  pointwise [k0_pay1, REF]
  refine congrArg₂ (fun a b : EReal => a + b) ?_ (Fin.sum_fin_congr fun k => ?_)
  · blk_point [iblk, V, idx t]
  · blk_point [iblk, V, idx t]

/-- The result array after the run is the reference's term over the arguments. -/
theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp; rw [after0_3]; frame_out
  exact point m c t y

end Cert.Kernel14Ideal.Out

end
-- ==== Proof.PairOut.lean ====
module

public import proofs.«01_k».proof.Defs
public import proofs.«01_k».proof.Proof.Gen.Kernel14.Frame
public import proofs.«01_k».proof.Proof.Gen.Kernel14Ideal.Frame
public import proofs.«01_k».proof.Proof.Gen.Reference14Ideal
public import proofs.«01_k».proof.Proof.Gen.Kernel14Ideal.Value
public import proofs.«01_k».proof.Proof.Gen.Reference14Ideal.Run
public import proofs.«01_k».proof.Proof.Out
public import Idealize.ShloMosaic.Lib.Claim
public import Idealize.ShloMosaic.Adequacy
public import Idealize.ShloMosaic.Init

@[expose] public section

set_option maxRecDepth 16384

noncomputable section

namespace Cert.PairOut

open Idealize.ShloMosaic Idealize.SL.Sem

theorem frame_kernel : Cert.quiescent_Kernel14 := fun m ρ _ => Cert.Kernel14.Gen.frame m ρ

theorem frame_ideal : Cert.quiescent_Kernel14Ideal := fun m ρ _ => Cert.Kernel14Ideal.Gen.frame m ρ

theorem frame_reference : Cert.quiescent_Reference14Ideal := fun m ρ _ =>
  (θ_run Cert.Reference14Ideal.defs _ _).mono (fun r h => ⟨fun c => (h c).2, sem_eq_zero_of_no_sems (by decide) r.2⟩)
    (Cert.Reference14Ideal.Value.run (F := Ideal) m ρ)

theorem algebraic : Cert.algebraic_Kernel14Ideal_Reference14Ideal := by
  pair_intro
  · run_from (Cert.Kernel14Ideal.Value.run_blocks m g)
  · run_from Cert.Reference14Ideal.Value.run m' g'
    rw [Cert.Kernel14Ideal.Out.final m c]

end Cert.PairOut

end
-- ==== Proof.QUpDx.lean ====
module

public import proofs.«01_k».proof.Proof.Gen.Kernel15Ideal.Frame
public import proofs.«01_k».proof.Proof.Gen.Kernel15Ideal.Value
public import proofs.«01_k».proof.Proof.Gen.Reference15Ideal.Run
public import Idealize.ShloMosaic.Lib.Pipeline.ValueKit
public import Idealize.ShloMosaic.Lib.Pointwise
public import proofs.«01_k».proof.Proof.Ext

@[expose] public section

set_option maxRecDepth 16384

noncomputable section

open Idealize.ShloMosaic Idealize.ShloMosaic.TcCoe Idealize.SL.Sem
open Idealize.ShloMosaic.Pipeline (Dat)
open scoped BigOperators

namespace Cert.Kernel15Ideal.QUpDx

open Cert.Kernel15Ideal Cert.Kernel15Ideal.Gen

variable (m : (ℓ : Loc nD τ sig) → Buf (Elt Ideal) ℓ)

/-- The reference's result as one term over the two arguments. -/
abbrev REF (a0 : FVec Ideal S2048x2048 .bf16) (a1 : FVec Ideal S512x2048 .bf16) : FVec Ideal S2048x512 .f32 :=
  Host.dotGeneral (F := Ideal) Cert.Reference15Ideal.dot_S2048x2048_S512x2048_S2048x512_1_1_0_0_n_n none (extf .f32 a0 Cert.Reference15Ideal.Gen.bitsLt_bf16_f32) (extf .f32 a1 Cert.Reference15Ideal.Gen.bitsLt_bf16_f32)

/-- Every window's block index at every grid point. -/
theorem idx : ∀ t : Fin cfg0.N, win0_0.index t = ![t.val, 0]
    ∧ win0_1.index t = ![0, 0]
    ∧ win0_2.index t = ![t.val, 0] :=
  (by decide +kernel : ∀ t : Fin grid0.N, _)

theorem point (c : Dev nD) (t : Fin cfg0.N) (y) :
    k0_pay1 (iblk m c 0 t) (iblk m c 1 t) y
      = REF (m ((c : Thread nD τ).loc main_arg0)) (m ((c : Thread nD τ).loc main_arg1)) (((cfg0.win 2).blk t).view.emb y) := by
  pointwise [k0_pay1, REF]
  refine Fin.sum_fin_congr fun k => ?_
  blk_point [iblk, V, idx t]

/-- The result array after the run is the reference's term over the arguments. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp; rw [after0_2]; frame_out
  exact point m c t y

end Cert.Kernel15Ideal.QUpDx

end
-- ==== Proof.PairQUpDx.lean ====
module

public import proofs.«01_k».proof.Defs
public import proofs.«01_k».proof.Proof.Gen.Kernel15.Frame
public import proofs.«01_k».proof.Proof.Gen.Kernel15Ideal.Frame
public import proofs.«01_k».proof.Proof.Gen.Reference15Ideal
public import proofs.«01_k».proof.Proof.Gen.Kernel15Ideal.Value
public import proofs.«01_k».proof.Proof.Gen.Reference15Ideal.Run
public import proofs.«01_k».proof.Proof.QUpDx
public import Idealize.ShloMosaic.Lib.Claim
public import Idealize.ShloMosaic.Adequacy
public import Idealize.ShloMosaic.Init

@[expose] public section

set_option maxRecDepth 16384

noncomputable section

namespace Cert.PairQUpDx

open Idealize.ShloMosaic Idealize.SL.Sem

theorem frame_kernel : Cert.quiescent_Kernel15 := fun m ρ _ => Cert.Kernel15.Gen.frame m ρ

theorem frame_ideal : Cert.quiescent_Kernel15Ideal := fun m ρ _ => Cert.Kernel15Ideal.Gen.frame m ρ

theorem frame_reference : Cert.quiescent_Reference15Ideal := fun m ρ _ =>
  (θ_run Cert.Reference15Ideal.defs _ _).mono (fun r h => ⟨fun c => (h c).2, sem_eq_zero_of_no_sems (by decide) r.2⟩)
    (Cert.Reference15Ideal.Value.run (F := Ideal) m ρ)

theorem algebraic : Cert.algebraic_Kernel15Ideal_Reference15Ideal := by
  pair_intro
  · run_from (Cert.Kernel15Ideal.Value.run_blocks m g)
  · run_from Cert.Reference15Ideal.Value.run m' g'
    rw [Cert.Kernel15Ideal.QUpDx.final m c]
    rfl

end Cert.PairQUpDx

end
-- ==== Proof.QUpDw.lean ====
module

public import proofs.«01_k».proof.Proof.Gen.Kernel16Ideal.Frame
public import proofs.«01_k».proof.Proof.Gen.Kernel16Ideal.Value
public import proofs.«01_k».proof.Proof.Gen.Reference16Ideal.Run
public import Idealize.ShloMosaic.Lib.Pipeline.ValueKit
public import Idealize.ShloMosaic.Lib.Pointwise
public import proofs.«01_k».proof.Proof.Ext

@[expose] public section

set_option maxRecDepth 16384

noncomputable section

open Idealize.ShloMosaic Idealize.ShloMosaic.TcCoe Idealize.SL.Sem
open Idealize.ShloMosaic.Pipeline (Dat)
open scoped BigOperators

namespace Cert.Kernel16Ideal.QUpDw

open Cert.Kernel16Ideal Cert.Kernel16Ideal.Gen

variable (m : (ℓ : Loc nD τ sig) → Buf (Elt Ideal) ℓ)

/-- The reference's result as one term over the two arguments. -/
abbrev REF (a0 : FVec Ideal S2048x512 .bf16) (a1 : FVec Ideal S2048x2048 .bf16) : FVec Ideal S512x2048 .f32 :=
  transpose Cert.Reference16Ideal.S512x2048 [1, 0] (Host.dotGeneral (F := Ideal) Cert.Reference16Ideal.dot_S2048x2048_S2048x512_S2048x512_0_0_1_1_n_n none (extf .f32 a1 Cert.Reference16Ideal.Gen.bitsLt_bf16_f32) (extf .f32 a0 Cert.Reference16Ideal.Gen.bitsLt_bf16_f32)) Cert.Reference16Ideal.Gen.transposes_S2048x512_S512x2048_1_0

/-- Every window's block index at every grid point. -/
theorem idx : ∀ t : Fin cfg0.N, win0_0.index t = ![0, 0]
    ∧ win0_1.index t = ![0, t.val]
    ∧ win0_2.index t = ![0, t.val] :=
  (by decide +kernel : ∀ t : Fin grid0.N, _)

theorem point (c : Dev nD) (t : Fin cfg0.N) (y) :
    k0_pay1 (iblk m c 0 t) (iblk m c 1 t) y
      = REF (m ((c : Thread nD τ).loc main_arg0)) (m ((c : Thread nD τ).loc main_arg1)) (((cfg0.win 2).blk t).view.emb y) := by
  pointwise [k0_pay1, REF]
  refine Fin.sum_fin_congr fun k => ?_
  refine (mul_comm _ _).trans ?_
  blk_point [iblk, V, idx t]

/-- The result array after the run is the reference's term over the arguments. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp; rw [after0_2]; frame_out
  exact point m c t y

end Cert.Kernel16Ideal.QUpDw

end
-- ==== Proof.PairQUpDw.lean ====
module

public import proofs.«01_k».proof.Defs
public import proofs.«01_k».proof.Proof.Gen.Kernel16.Frame
public import proofs.«01_k».proof.Proof.Gen.Kernel16Ideal.Frame
public import proofs.«01_k».proof.Proof.Gen.Reference16Ideal
public import proofs.«01_k».proof.Proof.Gen.Kernel16Ideal.Value
public import proofs.«01_k».proof.Proof.Gen.Reference16Ideal.Run
public import proofs.«01_k».proof.Proof.QUpDw
public import Idealize.ShloMosaic.Lib.Claim
public import Idealize.ShloMosaic.Adequacy
public import Idealize.ShloMosaic.Init

@[expose] public section

set_option maxRecDepth 16384

noncomputable section

namespace Cert.PairQUpDw

open Idealize.ShloMosaic Idealize.SL.Sem

theorem frame_kernel : Cert.quiescent_Kernel16 := fun m ρ _ => Cert.Kernel16.Gen.frame m ρ

theorem frame_ideal : Cert.quiescent_Kernel16Ideal := fun m ρ _ => Cert.Kernel16Ideal.Gen.frame m ρ

theorem frame_reference : Cert.quiescent_Reference16Ideal := fun m ρ _ =>
  (θ_run Cert.Reference16Ideal.defs _ _).mono (fun r h => ⟨fun c => (h c).2, sem_eq_zero_of_no_sems (by decide) r.2⟩)
    (Cert.Reference16Ideal.Value.run (F := Ideal) m ρ)

theorem algebraic : Cert.algebraic_Kernel16Ideal_Reference16Ideal := by
  pair_intro
  · run_from (Cert.Kernel16Ideal.Value.run_blocks m g)
  · run_from Cert.Reference16Ideal.Value.run m' g'
    rw [Cert.Kernel16Ideal.QUpDw.final m c]

end Cert.PairQUpDw

end
-- ==== Proof.KvUpDx.lean ====
module

public import proofs.«01_k».proof.Proof.Gen.Kernel17Ideal.Frame
public import proofs.«01_k».proof.Proof.Gen.Kernel17Ideal.Value
public import proofs.«01_k».proof.Proof.Gen.Reference17Ideal.Run
public import Idealize.ShloMosaic.Lib.Pipeline.ValueKit
public import Idealize.ShloMosaic.Lib.Pointwise
public import proofs.«01_k».proof.Proof.Ext

@[expose] public section

set_option maxRecDepth 16384

noncomputable section

open Idealize.ShloMosaic Idealize.ShloMosaic.TcCoe Idealize.SL.Sem
open Idealize.ShloMosaic.Pipeline (Dat)
open scoped BigOperators

namespace Cert.Kernel17Ideal.KvUpDx

open Cert.Kernel17Ideal Cert.Kernel17Ideal.Gen

variable (m : (ℓ : Loc nD τ sig) → Buf (Elt Ideal) ℓ)

/-- The reference's result as one term over the two arguments. -/
abbrev REF (a0 : FVec Ideal S2048x2048 .bf16) (a1 : FVec Ideal S256x2048 .bf16) : FVec Ideal S2048x256 .f32 :=
  Host.dotGeneral (F := Ideal) Cert.Reference17Ideal.dot_S2048x2048_S256x2048_S2048x256_1_1_0_0_n_n none (extf .f32 a0 Cert.Reference17Ideal.Gen.bitsLt_bf16_f32) (extf .f32 a1 Cert.Reference17Ideal.Gen.bitsLt_bf16_f32)

/-- Every window's block index at every grid point. -/
theorem idx : ∀ t : Fin cfg0.N, win0_0.index t = ![t.val, 0]
    ∧ win0_1.index t = ![0, 0]
    ∧ win0_2.index t = ![t.val, 0] :=
  (by decide +kernel : ∀ t : Fin grid0.N, _)

theorem point (c : Dev nD) (t : Fin cfg0.N) (y) :
    k0_pay1 (iblk m c 0 t) (iblk m c 1 t) y
      = REF (m ((c : Thread nD τ).loc main_arg0)) (m ((c : Thread nD τ).loc main_arg1)) (((cfg0.win 2).blk t).view.emb y) := by
  pointwise [k0_pay1, REF]
  refine Fin.sum_fin_congr fun k => ?_
  blk_point [iblk, V, idx t]

/-- The result array after the run is the reference's term over the arguments. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp; rw [after0_2]; frame_out
  exact point m c t y

end Cert.Kernel17Ideal.KvUpDx

end
-- ==== Proof.PairKvUpDx.lean ====
module

public import proofs.«01_k».proof.Defs
public import proofs.«01_k».proof.Proof.Gen.Kernel17.Frame
public import proofs.«01_k».proof.Proof.Gen.Kernel17Ideal.Frame
public import proofs.«01_k».proof.Proof.Gen.Reference17Ideal
public import proofs.«01_k».proof.Proof.Gen.Kernel17Ideal.Value
public import proofs.«01_k».proof.Proof.Gen.Reference17Ideal.Run
public import proofs.«01_k».proof.Proof.KvUpDx
public import Idealize.ShloMosaic.Lib.Claim
public import Idealize.ShloMosaic.Adequacy
public import Idealize.ShloMosaic.Init

@[expose] public section

set_option maxRecDepth 16384

noncomputable section

namespace Cert.PairKvUpDx

open Idealize.ShloMosaic Idealize.SL.Sem

theorem frame_kernel : Cert.quiescent_Kernel17 := fun m ρ _ => Cert.Kernel17.Gen.frame m ρ

theorem frame_ideal : Cert.quiescent_Kernel17Ideal := fun m ρ _ => Cert.Kernel17Ideal.Gen.frame m ρ

theorem frame_reference : Cert.quiescent_Reference17Ideal := fun m ρ _ =>
  (θ_run Cert.Reference17Ideal.defs _ _).mono (fun r h => ⟨fun c => (h c).2, sem_eq_zero_of_no_sems (by decide) r.2⟩)
    (Cert.Reference17Ideal.Value.run (F := Ideal) m ρ)

theorem algebraic : Cert.algebraic_Kernel17Ideal_Reference17Ideal := by
  pair_intro
  · run_from (Cert.Kernel17Ideal.Value.run_blocks m g)
  · run_from Cert.Reference17Ideal.Value.run m' g'
    rw [Cert.Kernel17Ideal.KvUpDx.final m c]
    rfl

end Cert.PairKvUpDx

end
-- ==== Proof.KvUpDw.lean ====
module

public import proofs.«01_k».proof.Proof.Gen.Kernel18Ideal.Frame
public import proofs.«01_k».proof.Proof.Gen.Kernel18Ideal.Value
public import proofs.«01_k».proof.Proof.Gen.Reference18Ideal.Run
public import Idealize.ShloMosaic.Lib.Pipeline.ValueKit
public import Idealize.ShloMosaic.Lib.Pointwise
public import proofs.«01_k».proof.Proof.Ext

@[expose] public section

set_option maxRecDepth 16384

noncomputable section

open Idealize.ShloMosaic Idealize.ShloMosaic.TcCoe Idealize.SL.Sem
open Idealize.ShloMosaic.Pipeline (Dat)
open scoped BigOperators

namespace Cert.Kernel18Ideal.KvUpDw

open Cert.Kernel18Ideal Cert.Kernel18Ideal.Gen

variable (m : (ℓ : Loc nD τ sig) → Buf (Elt Ideal) ℓ)

/-- The reference's result as one term over the two arguments. -/
abbrev REF (a0 : FVec Ideal S2048x256 .bf16) (a1 : FVec Ideal S2048x2048 .bf16) : FVec Ideal S256x2048 .f32 :=
  transpose Cert.Reference18Ideal.S256x2048 [1, 0] (Host.dotGeneral (F := Ideal) Cert.Reference18Ideal.dot_S2048x2048_S2048x256_S2048x256_0_0_1_1_n_n none (extf .f32 a1 Cert.Reference18Ideal.Gen.bitsLt_bf16_f32) (extf .f32 a0 Cert.Reference18Ideal.Gen.bitsLt_bf16_f32)) Cert.Reference18Ideal.Gen.transposes_S2048x256_S256x2048_1_0

/-- Every window's block index at every grid point. -/
theorem idx : ∀ t : Fin cfg0.N, win0_0.index t = ![0, 0]
    ∧ win0_1.index t = ![0, t.val]
    ∧ win0_2.index t = ![0, t.val] :=
  (by decide +kernel : ∀ t : Fin grid0.N, _)

theorem point (c : Dev nD) (t : Fin cfg0.N) (y) :
    k0_pay1 (iblk m c 0 t) (iblk m c 1 t) y
      = REF (m ((c : Thread nD τ).loc main_arg0)) (m ((c : Thread nD τ).loc main_arg1)) (((cfg0.win 2).blk t).view.emb y) := by
  pointwise [k0_pay1, REF]
  refine Fin.sum_fin_congr fun k => ?_
  refine (mul_comm _ _).trans ?_
  blk_point [iblk, V, idx t]

/-- The result array after the run is the reference's term over the arguments. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp; rw [after0_2]; frame_out
  exact point m c t y

end Cert.Kernel18Ideal.KvUpDw

end
-- ==== Proof.PairKvUpDw.lean ====
module

public import proofs.«01_k».proof.Defs
public import proofs.«01_k».proof.Proof.Gen.Kernel18.Frame
public import proofs.«01_k».proof.Proof.Gen.Kernel18Ideal.Frame
public import proofs.«01_k».proof.Proof.Gen.Reference18Ideal
public import proofs.«01_k».proof.Proof.Gen.Kernel18Ideal.Value
public import proofs.«01_k».proof.Proof.Gen.Reference18Ideal.Run
public import proofs.«01_k».proof.Proof.KvUpDw
public import Idealize.ShloMosaic.Lib.Claim
public import Idealize.ShloMosaic.Adequacy
public import Idealize.ShloMosaic.Init

@[expose] public section

set_option maxRecDepth 16384

noncomputable section

namespace Cert.PairKvUpDw

open Idealize.ShloMosaic Idealize.SL.Sem

theorem frame_kernel : Cert.quiescent_Kernel18 := fun m ρ _ => Cert.Kernel18.Gen.frame m ρ

theorem frame_ideal : Cert.quiescent_Kernel18Ideal := fun m ρ _ => Cert.Kernel18Ideal.Gen.frame m ρ

theorem frame_reference : Cert.quiescent_Reference18Ideal := fun m ρ _ =>
  (θ_run Cert.Reference18Ideal.defs _ _).mono (fun r h => ⟨fun c => (h c).2, sem_eq_zero_of_no_sems (by decide) r.2⟩)
    (Cert.Reference18Ideal.Value.run (F := Ideal) m ρ)

theorem algebraic : Cert.algebraic_Kernel18Ideal_Reference18Ideal := by
  pair_intro
  · run_from (Cert.Kernel18Ideal.Value.run_blocks m g)
  · run_from Cert.Reference18Ideal.Value.run m' g'
    rw [Cert.Kernel18Ideal.KvUpDw.final m c]

end Cert.PairKvUpDw

end
-- ==== Proof.MemODx.lean ====
module

public import proofs.«01_k».proof.Proof.Gen.Kernel19Ideal.Frame
public import proofs.«01_k».proof.Proof.Gen.Kernel19Ideal.Value
public import proofs.«01_k».proof.Proof.Gen.Reference19Ideal.Run
public import Idealize.ShloMosaic.Lib.Pipeline.ValueKit
public import Idealize.ShloMosaic.Lib.Pointwise
public import proofs.«01_k».proof.Proof.Ext

@[expose] public section

set_option maxRecDepth 16384

noncomputable section

open Idealize.ShloMosaic Idealize.ShloMosaic.TcCoe Idealize.SL.Sem
open Idealize.ShloMosaic.Pipeline (Dat)
open scoped BigOperators

namespace Cert.Kernel19Ideal.MemODx

open Cert.Kernel19Ideal Cert.Kernel19Ideal.Gen

variable (m : (ℓ : Loc nD τ sig) → Buf (Elt Ideal) ℓ)

/-- The reference's result as one term over the two arguments. -/
abbrev REF (a0 : FVec Ideal S2048x2048 .f32) (a1 : FVec Ideal S512x2048 .bf16) : FVec Ideal S2048x512 .f32 :=
  Host.dotGeneral (F := Ideal) Cert.Reference19Ideal.dot_S2048x2048_S512x2048_S2048x512_1_1_0_0_n_n none a0 (extf .f32 a1 Cert.Reference19Ideal.Gen.bitsLt_bf16_f32)

/-- Every window's block index at every grid point. -/
theorem idx : ∀ t : Fin cfg0.N, win0_0.index t = ![t.val, 0]
    ∧ win0_1.index t = ![0, 0]
    ∧ win0_2.index t = ![t.val, 0] :=
  (by decide +kernel : ∀ t : Fin grid0.N, _)

theorem point (c : Dev nD) (t : Fin cfg0.N) (y) :
    k0_pay1 (iblk m c 0 t) (iblk m c 1 t) y
      = REF (m ((c : Thread nD τ).loc main_arg0)) (m ((c : Thread nD τ).loc main_arg1)) (((cfg0.win 2).blk t).view.emb y) := by
  pointwise [k0_pay1, REF]
  refine Fin.sum_fin_congr fun k => ?_
  blk_point [iblk, V, idx t]

/-- The result array after the run is the reference's term over the arguments. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp; rw [after0_2]; frame_out
  exact point m c t y

end Cert.Kernel19Ideal.MemODx

end
-- ==== Proof.PairMemODx.lean ====
module

public import proofs.«01_k».proof.Defs
public import proofs.«01_k».proof.Proof.Gen.Kernel19.Frame
public import proofs.«01_k».proof.Proof.Gen.Kernel19Ideal.Frame
public import proofs.«01_k».proof.Proof.Gen.Reference19Ideal
public import proofs.«01_k».proof.Proof.Gen.Kernel19Ideal.Value
public import proofs.«01_k».proof.Proof.Gen.Reference19Ideal.Run
public import proofs.«01_k».proof.Proof.MemODx
public import Idealize.ShloMosaic.Lib.Claim
public import Idealize.ShloMosaic.Adequacy
public import Idealize.ShloMosaic.Init

@[expose] public section

set_option maxRecDepth 16384

noncomputable section

namespace Cert.PairMemODx

open Idealize.ShloMosaic Idealize.SL.Sem

theorem frame_kernel : Cert.quiescent_Kernel19 := fun m ρ _ => Cert.Kernel19.Gen.frame m ρ

theorem frame_ideal : Cert.quiescent_Kernel19Ideal := fun m ρ _ => Cert.Kernel19Ideal.Gen.frame m ρ

theorem frame_reference : Cert.quiescent_Reference19Ideal := fun m ρ _ =>
  (θ_run Cert.Reference19Ideal.defs _ _).mono (fun r h => ⟨fun c => (h c).2, sem_eq_zero_of_no_sems (by decide) r.2⟩)
    (Cert.Reference19Ideal.Value.run (F := Ideal) m ρ)

theorem algebraic : Cert.algebraic_Kernel19Ideal_Reference19Ideal := by
  pair_intro
  · run_from (Cert.Kernel19Ideal.Value.run_blocks m g)
  · run_from Cert.Reference19Ideal.Value.run m' g'
    rw [Cert.Kernel19Ideal.MemODx.final m c]
    rfl

end Cert.PairMemODx

end
-- ==== Proof.MemODw.lean ====
module

public import proofs.«01_k».proof.Proof.Gen.Kernel20Ideal.Frame
public import proofs.«01_k».proof.Proof.Gen.Kernel20Ideal.Value
public import proofs.«01_k».proof.Proof.Gen.Reference20Ideal.Run
public import Idealize.ShloMosaic.Lib.Pipeline.ValueKit
public import Idealize.ShloMosaic.Lib.Pointwise
public import proofs.«01_k».proof.Proof.Ext

@[expose] public section

set_option maxRecDepth 16384

noncomputable section

open Idealize.ShloMosaic Idealize.ShloMosaic.TcCoe Idealize.SL.Sem
open Idealize.ShloMosaic.Pipeline (Dat)
open scoped BigOperators

namespace Cert.Kernel20Ideal.MemODw

open Cert.Kernel20Ideal Cert.Kernel20Ideal.Gen

variable (m : (ℓ : Loc nD τ sig) → Buf (Elt Ideal) ℓ)

/-- The reference's result as one term over the two arguments. -/
abbrev REF (a0 : FVec Ideal S2048x512 .bf16) (a1 : FVec Ideal S2048x2048 .f32) : FVec Ideal S512x2048 .f32 :=
  transpose Cert.Reference20Ideal.S512x2048 [1, 0] (Host.dotGeneral (F := Ideal) Cert.Reference20Ideal.dot_S2048x2048_S2048x512_S2048x512_0_0_1_1_n_n none a1 (extf .f32 a0 Cert.Reference20Ideal.Gen.bitsLt_bf16_f32)) Cert.Reference20Ideal.Gen.transposes_S2048x512_S512x2048_1_0

/-- Every window's block index at every grid point. -/
theorem idx : ∀ t : Fin cfg0.N, win0_0.index t = ![0, 0]
    ∧ win0_1.index t = ![0, t.val]
    ∧ win0_2.index t = ![0, t.val] :=
  (by decide +kernel : ∀ t : Fin grid0.N, _)

theorem point (c : Dev nD) (t : Fin cfg0.N) (y) :
    k0_pay1 (iblk m c 0 t) (iblk m c 1 t) y
      = REF (m ((c : Thread nD τ).loc main_arg0)) (m ((c : Thread nD τ).loc main_arg1)) (((cfg0.win 2).blk t).view.emb y) := by
  pointwise [k0_pay1, REF]
  refine Fin.sum_fin_congr fun k => ?_
  refine (mul_comm _ _).trans ?_
  blk_point [iblk, V, idx t]

/-- The result array after the run is the reference's term over the arguments. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp; rw [after0_2]; frame_out
  exact point m c t y

end Cert.Kernel20Ideal.MemODw

end
-- ==== Proof.PairMemODw.lean ====
module

public import proofs.«01_k».proof.Defs
public import proofs.«01_k».proof.Proof.Gen.Kernel20.Frame
public import proofs.«01_k».proof.Proof.Gen.Kernel20Ideal.Frame
public import proofs.«01_k».proof.Proof.Gen.Reference20Ideal
public import proofs.«01_k».proof.Proof.Gen.Kernel20Ideal.Value
public import proofs.«01_k».proof.Proof.Gen.Reference20Ideal.Run
public import proofs.«01_k».proof.Proof.MemODw
public import Idealize.ShloMosaic.Lib.Claim
public import Idealize.ShloMosaic.Adequacy
public import Idealize.ShloMosaic.Init

@[expose] public section

set_option maxRecDepth 16384

noncomputable section

namespace Cert.PairMemODw

open Idealize.ShloMosaic Idealize.SL.Sem

theorem frame_kernel : Cert.quiescent_Kernel20 := fun m ρ _ => Cert.Kernel20.Gen.frame m ρ

theorem frame_ideal : Cert.quiescent_Kernel20Ideal := fun m ρ _ => Cert.Kernel20Ideal.Gen.frame m ρ

theorem frame_reference : Cert.quiescent_Reference20Ideal := fun m ρ _ =>
  (θ_run Cert.Reference20Ideal.defs _ _).mono (fun r h => ⟨fun c => (h c).2, sem_eq_zero_of_no_sems (by decide) r.2⟩)
    (Cert.Reference20Ideal.Value.run (F := Ideal) m ρ)

theorem algebraic : Cert.algebraic_Kernel20Ideal_Reference20Ideal := by
  pair_intro
  · run_from (Cert.Kernel20Ideal.Value.run_blocks m g)
  · run_from Cert.Reference20Ideal.Value.run m' g'
    rw [Cert.Kernel20Ideal.MemODw.final m c]

end Cert.PairMemODw

end
-- ==== Proof.MemQDx.lean ====
module

public import proofs.«01_k».proof.Proof.Gen.Kernel21Ideal.Frame
public import proofs.«01_k».proof.Proof.Gen.Kernel21Ideal.Value
public import proofs.«01_k».proof.Proof.Gen.Reference21Ideal.Run
public import Idealize.ShloMosaic.Lib.Pipeline.ValueKit
public import Idealize.ShloMosaic.Lib.Pointwise
public import proofs.«01_k».proof.Proof.Ext

@[expose] public section

set_option maxRecDepth 16384

noncomputable section

open Idealize.ShloMosaic Idealize.ShloMosaic.TcCoe Idealize.SL.Sem
open Idealize.ShloMosaic.Pipeline (Dat)
open scoped BigOperators

namespace Cert.Kernel21Ideal.MemQDx

open Cert.Kernel21Ideal Cert.Kernel21Ideal.Gen

variable (m : (ℓ : Loc nD τ sig) → Buf (Elt Ideal) ℓ)

/-- The reference's result as one term over the two arguments. -/
abbrev REF (a0 : FVec Ideal S2048x512 .bf16) (a1 : FVec Ideal S2048x512 .bf16) : FVec Ideal S2048x2048 .f32 :=
  Host.dotGeneral (F := Ideal) Cert.Reference21Ideal.dot_S2048x512_S2048x512_S2048x2048_1_1_0_0_n_n none (extf .f32 a0 Cert.Reference21Ideal.Gen.bitsLt_bf16_f32) (extf .f32 a1 Cert.Reference21Ideal.Gen.bitsLt_bf16_f32)

/-- Every window's block index at every grid point. -/
theorem idx : ∀ t : Fin cfg0.N, win0_0.index t = ![t.val / 2, 0]
    ∧ win0_1.index t = ![t.val % 2, 0]
    ∧ win0_2.index t = ![t.val / 2, t.val % 2] :=
  (by decide +kernel : ∀ t : Fin grid0.N, _)

theorem point (c : Dev nD) (t : Fin cfg0.N) (y) :
    k0_pay1 (iblk m c 0 t) (iblk m c 1 t) y
      = REF (m ((c : Thread nD τ).loc main_arg0)) (m ((c : Thread nD τ).loc main_arg1)) (((cfg0.win 2).blk t).view.emb y) := by
  pointwise [k0_pay1, REF]
  refine Fin.sum_fin_congr fun k => ?_
  blk_point [iblk, V, idx t]

/-- The result array after the run is the reference's term over the arguments. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp; rw [after0_2]; frame_out
  exact point m c t y

end Cert.Kernel21Ideal.MemQDx

end
-- ==== Proof.PairMemQDx.lean ====
module

public import proofs.«01_k».proof.Defs
public import proofs.«01_k».proof.Proof.Gen.Kernel21.Frame
public import proofs.«01_k».proof.Proof.Gen.Kernel21Ideal.Frame
public import proofs.«01_k».proof.Proof.Gen.Reference21Ideal
public import proofs.«01_k».proof.Proof.Gen.Kernel21Ideal.Value
public import proofs.«01_k».proof.Proof.Gen.Reference21Ideal.Run
public import proofs.«01_k».proof.Proof.MemQDx
public import Idealize.ShloMosaic.Lib.Claim
public import Idealize.ShloMosaic.Adequacy
public import Idealize.ShloMosaic.Init

@[expose] public section

set_option maxRecDepth 16384

noncomputable section

namespace Cert.PairMemQDx

open Idealize.ShloMosaic Idealize.SL.Sem

theorem frame_kernel : Cert.quiescent_Kernel21 := fun m ρ _ => Cert.Kernel21.Gen.frame m ρ

theorem frame_ideal : Cert.quiescent_Kernel21Ideal := fun m ρ _ => Cert.Kernel21Ideal.Gen.frame m ρ

theorem frame_reference : Cert.quiescent_Reference21Ideal := fun m ρ _ =>
  (θ_run Cert.Reference21Ideal.defs _ _).mono (fun r h => ⟨fun c => (h c).2, sem_eq_zero_of_no_sems (by decide) r.2⟩)
    (Cert.Reference21Ideal.Value.run (F := Ideal) m ρ)

theorem algebraic : Cert.algebraic_Kernel21Ideal_Reference21Ideal := by
  pair_intro
  · run_from (Cert.Kernel21Ideal.Value.run_blocks m g)
  · run_from Cert.Reference21Ideal.Value.run m' g'
    rw [Cert.Kernel21Ideal.MemQDx.final m c]
    rfl

end Cert.PairMemQDx

end
-- ==== Proof.MemQDw.lean ====
module

public import proofs.«01_k».proof.Proof.Gen.Kernel22Ideal.Frame
public import proofs.«01_k».proof.Proof.Gen.Kernel22Ideal.Value
public import proofs.«01_k».proof.Proof.Gen.Reference22Ideal.Run
public import Idealize.ShloMosaic.Lib.Pipeline.ValueKit
public import Idealize.ShloMosaic.Lib.Pointwise
public import proofs.«01_k».proof.Proof.Ext

@[expose] public section

set_option maxRecDepth 16384

noncomputable section

open Idealize.ShloMosaic Idealize.ShloMosaic.TcCoe Idealize.SL.Sem
open Idealize.ShloMosaic.Pipeline (Dat)
open scoped BigOperators

namespace Cert.Kernel22Ideal.MemQDw

open Cert.Kernel22Ideal Cert.Kernel22Ideal.Gen

variable (m : (ℓ : Loc nD τ sig) → Buf (Elt Ideal) ℓ)

/-- The reference's result as one term over the two arguments. -/
abbrev REF (a0 : FVec Ideal S2048x2048 .bf16) (a1 : FVec Ideal S2048x512 .bf16) : FVec Ideal S2048x512 .f32 :=
  transpose Cert.Reference22Ideal.S2048x512 [1, 0] (Host.dotGeneral (F := Ideal) Cert.Reference22Ideal.dot_S2048x512_S2048x2048_S512x2048_0_0_1_1_n_n none (extf .f32 a1 Cert.Reference22Ideal.Gen.bitsLt_bf16_f32) (extf .f32 a0 Cert.Reference22Ideal.Gen.bitsLt_bf16_f32)) Cert.Reference22Ideal.Gen.transposes_S512x2048_S2048x512_1_0

/-- Every window's block index at every grid point. -/
theorem idx : ∀ t : Fin cfg0.N, win0_0.index t = ![0, t.val]
    ∧ win0_1.index t = ![0, 0]
    ∧ win0_2.index t = ![t.val, 0] :=
  (by decide +kernel : ∀ t : Fin grid0.N, _)

theorem point (c : Dev nD) (t : Fin cfg0.N) (y) :
    k0_pay1 (iblk m c 0 t) (iblk m c 1 t) y
      = REF (m ((c : Thread nD τ).loc main_arg0)) (m ((c : Thread nD τ).loc main_arg1)) (((cfg0.win 2).blk t).view.emb y) := by
  pointwise [k0_pay1, REF]
  refine Fin.sum_fin_congr fun k => ?_
  refine (mul_comm _ _).trans ?_
  blk_point [iblk, V, idx t]

/-- The result array after the run is the reference's term over the arguments. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp; rw [after0_2]; frame_out
  exact point m c t y

end Cert.Kernel22Ideal.MemQDw

end
-- ==== Proof.PairMemQDw.lean ====
module

public import proofs.«01_k».proof.Defs
public import proofs.«01_k».proof.Proof.Gen.Kernel22.Frame
public import proofs.«01_k».proof.Proof.Gen.Kernel22Ideal.Frame
public import proofs.«01_k».proof.Proof.Gen.Reference22Ideal
public import proofs.«01_k».proof.Proof.Gen.Kernel22Ideal.Value
public import proofs.«01_k».proof.Proof.Gen.Reference22Ideal.Run
public import proofs.«01_k».proof.Proof.MemQDw
public import Idealize.ShloMosaic.Lib.Claim
public import Idealize.ShloMosaic.Adequacy
public import Idealize.ShloMosaic.Init

@[expose] public section

set_option maxRecDepth 16384

noncomputable section

namespace Cert.PairMemQDw

open Idealize.ShloMosaic Idealize.SL.Sem

theorem frame_kernel : Cert.quiescent_Kernel22 := fun m ρ _ => Cert.Kernel22.Gen.frame m ρ

theorem frame_ideal : Cert.quiescent_Kernel22Ideal := fun m ρ _ => Cert.Kernel22Ideal.Gen.frame m ρ

theorem frame_reference : Cert.quiescent_Reference22Ideal := fun m ρ _ =>
  (θ_run Cert.Reference22Ideal.defs _ _).mono (fun r h => ⟨fun c => (h c).2, sem_eq_zero_of_no_sems (by decide) r.2⟩)
    (Cert.Reference22Ideal.Value.run (F := Ideal) m ρ)

theorem algebraic : Cert.algebraic_Kernel22Ideal_Reference22Ideal := by
  pair_intro
  · run_from (Cert.Kernel22Ideal.Value.run_blocks m g)
  · run_from Cert.Reference22Ideal.Value.run m' g'
    rw [Cert.Kernel22Ideal.MemQDw.final m c]

end Cert.PairMemQDw

end
-- ==== Proof.Att.lean ====
module

public import proofs.«01_k».proof.Proof.Ext

@[expose] public section

noncomputable section

open Idealize.ShloMosaic
open scoped BigOperators

namespace Cert.Att

open Cert.Ext

/-- The exponentials of a row of scores less the row's greatest. -/
def ex {n : ℕ} (s : Fin n → EReal) (l : Fin n) : EReal := Ideal.exp (s l - Finset.univ.fold max ⊥ s)

/-- One entry of an attention's output: the softmax of a row of scores against a column of values. -/
def att {n : ℕ} (s v : Fin n → EReal) : EReal := ∑ l, Ideal.div (ex s l) (∑ k, ex s k) * v l

/-- The greatest score is unchanged by scores of `-∞` behind the row. -/
theorem max_cut {n r : ℕ} (S : Fin (n + r) → EReal) (hb : ∀ i : Fin r, S (Fin.natAdd n i) = ⊥) :
    Finset.univ.fold max ⊥ S = Finset.univ.fold max ⊥ fun l : Fin n => S (Fin.castAdd r l) := by
  change Finset.univ.sup S = Finset.univ.sup fun l : Fin n => S (Fin.castAdd r l)
  refine le_antisymm (Finset.sup_le fun i _ => ?_) (Finset.sup_le fun l _ => Finset.le_sup (f := S) (Finset.mem_univ _))
  induction i using Fin.addCases with
  | left l => exact Finset.le_sup (f := fun l : Fin n => S (Fin.castAdd r l)) (Finset.mem_univ l)
  | right i => rw [hb i]; exact bot_le

/-- A score of `-∞` has the exponential zero. -/
theorem ex_bot {n : ℕ} {s : Fin n → EReal} {l : Fin n} (h : s l = ⊥) : ex s l = 0 := by
  rw [ex, h, EReal.bot_sub]; rfl

theorem ex_nonneg {n : ℕ} (s : Fin n → EReal) (l : Fin n) : 0 ≤ ex s l := by
  unfold ex
  generalize s l - Finset.univ.fold max ⊥ s = x
  induction x with
  | bot => exact le_refl _
  | coe r => exact EReal.coe_nonneg.2 (Real.exp_pos r).le
  | top => exact le_top

/-- The sum of a row's exponentials is not zero, where no score is `+∞` and one is not `-∞`. -/
theorem sum_ne {n : ℕ} (s : Fin n → EReal) (ht : ∀ l, s l ≠ ⊤) (l0 : Fin n) (h0 : s l0 ≠ ⊥) : (∑ k, ex s k) ≠ 0 := by
  have hle : s l0 ≤ Finset.univ.sup s := Finset.le_sup (f := s) (Finset.mem_univ l0)
  have hm : Finset.univ.sup s ≠ ⊤ := by
    obtain ⟨k, -, hk⟩ := Finset.exists_mem_eq_sup' (⟨l0, Finset.mem_univ _⟩ : (Finset.univ : Finset (Fin n)).Nonempty) s
    rw [← Finset.sup'_eq_sup ⟨l0, Finset.mem_univ _⟩, hk]; exact ht k
  have hb : Finset.univ.sup s ≠ ⊥ := fun h => h0 (le_bot_iff.1 (h ▸ hle))
  have hpos : 0 < ex s l0 := by
    show 0 < Ideal.exp (s l0 - Finset.univ.sup s)
    lift Finset.univ.sup s to ℝ using ⟨hm, hb⟩ with M
    have h1 := ht l0
    generalize s l0 = x at h0 h1
    lift x to ℝ using ⟨h1, h0⟩
    exact EReal.coe_pos.2 (Real.exp_pos _)
  exact (lt_of_lt_of_le hpos (Finset.single_le_sum (fun k _ => ex_nonneg s k) (Finset.mem_univ l0))).ne'

/-- Scores of `-∞` behind a row leave the attention's output unchanged. -/
theorem att_cut {n r : ℕ} (S V : Fin (n + r) → EReal) (hb : ∀ i : Fin r, S (Fin.natAdd n i) = ⊥) (ht : ∀ i, S i ≠ ⊤)
    (l0 : Fin n) (h0 : S (Fin.castAdd r l0) ≠ ⊥) :
    att S V = att (fun l : Fin n => S (Fin.castAdd r l)) fun l : Fin n => V (Fin.castAdd r l) := by
  have he : ∀ l : Fin n, ex S (Fin.castAdd r l) = ex (fun l : Fin n => S (Fin.castAdd r l)) l := fun l => by
    unfold ex; rw [max_cut S hb]
  have hz : ∀ i : Fin r, ex S (Fin.natAdd n i) = 0 := fun i => ex_bot (hb i)
  have hs : (∑ k, ex S k) = ∑ k : Fin n, ex (fun l : Fin n => S (Fin.castAdd r l)) k := by
    rw [Fin.sum_univ_add, Finset.sum_congr rfl fun k _ => he k, Finset.sum_congr rfl fun k _ => hz k, Finset.sum_const_zero, add_zero]
  have hn := sum_ne (fun l : Fin n => S (Fin.castAdd r l)) (fun l => ht _) l0 h0
  unfold att
  rw [hs, Fin.sum_univ_add, Finset.sum_congr rfl fun k _ => by rw [he k]]
  refine (congrArg _ (Finset.sum_eq_zero fun i _ => ?_)).trans (add_zero _)
  rw [hz i, Ideal.div, if_neg hn, zero_mul, zero_mul]

end Cert.Att

end
-- ==== Proof.MlaMath.lean ====
module

public import proofs.«01_k».proof.Proof.Att

@[expose] public section

set_option maxRecDepth 16384

noncomputable section

open Idealize.ShloMosaic
open scoped BigOperators

namespace Cert.Mla

open Cert.Ext Cert.Att

/-- The scale `192^(-1/2)`, as the constant both programs carry. -/
abbrev scale : EReal := Ideal.ofBits FTy.f32 1033096506#32

theorem real_scale : IsReal scale := by
  refine ⟨9686330 / 134217728, ?_⟩
  simp [Ideal.ofBits, Ideal.ieee]
  rw [← EReal.coe_mul]
  norm_num

/-- One row of scaled scores: the query row against every key row. -/
def sc {n d : ℕ} (q : Fin d → EReal) (k : Fin n → Fin d → EReal) (l : Fin n) : EReal := (∑ x, q x * k l x) * scale

/-- The scores of query row `i`, of the keys of its own and of earlier chunks of 64; `-∞` of the others. -/
def ms {n d : ℕ} (i : ℕ) (q : Fin d → EReal) (k : Fin n → Fin d → EReal) (l : Fin n) : EReal :=
  if l.val / 64 ≤ i / 64 then sc q k l else ⊥

/-- The chunk a row lies in, as the kernel computes it: the quotient rounded to zero, less one where the signs differ
    and the division is not exact. -/
def chunk (x : BitVec 32) : BitVec 32 :=
  Scalar.select
    (IntOp.andi
      (IntOp.cmpi .ne (IntOp.subi (BitVec.setWidth 32 (IntOp.cmpi .sgt x 0#32)) (BitVec.setWidth 32 (IntOp.cmpi .slt x 0#32)))
        (Scalar.subi (Scalar.extui (Scalar.cmpi .sgt 64#32 0#32)) (Scalar.extui (Scalar.cmpi .slt 64#32 0#32))))
      (IntOp.cmpi .ne (IntOp.remsi .vector x 64#32) 0#32))
    (IntOp.subi (IntOp.divsi .vector x 64#32) 1#32) (IntOp.divsi .vector x 64#32)

theorem chunk_eq : ∀ n : Fin 2048, chunk (BitVec.ofNat 32 n.val) = BitVec.ofNat 32 (n.val / 64) := by decide +kernel

theorem le_eq : ∀ a b : Fin 32, IntOp.cmpi .sle (BitVec.ofNat 32 a.val) (BitVec.ofNat 32 b.val) = if a.val ≤ b.val then 1#1 else 0#1 := by
  decide +kernel

/-- The choice between a score and the mask's constant. -/
theorem choose_eq (l i : Fin 2048) (s b : EReal) :
    Scalar.select (IntOp.cmpi .sle (BitVec.ofNat 32 (l.val / 64)) (BitVec.ofNat 32 (i.val / 64))) s b
      = if l.val / 64 ≤ i.val / 64 then s else b := by
  have h := le_eq ⟨l.val / 64, by have := l.isLt; omega⟩ ⟨i.val / 64, by have := i.isLt; omega⟩
  dsimp only at h
  rw [h]
  by_cases hl : l.val / 64 ≤ i.val / 64
  · rw [if_pos hl, if_pos hl]; rfl
  · rw [if_neg hl, if_neg hl]; rfl

theorem ms_eq {n d : ℕ} (hn : n ≤ 2048) (b i : ℕ) (hi : b + i < 2048) (q : Fin d → EReal) (k : Fin n → Fin d → EReal) (l : Fin n) :
    Scalar.select (IntOp.cmpi .sle (chunk (BitVec.ofNat 32 l.val)) (chunk (IntOp.addi (BitVec.ofNat 32 b) (BitVec.ofNat 32 i)))) (sc q k l) ⊥
      = ms (b + i) q k l := by
  have hc := chunk_eq ⟨l.val, lt_of_lt_of_le l.isLt hn⟩
  dsimp only at hc
  have hr := chunk_eq ⟨b + i, hi⟩
  dsimp only at hr
  have ha : IntOp.addi (BitVec.ofNat 32 b) (BitVec.ofNat 32 i) = BitVec.ofNat 32 (b + i) := (BitVec.ofNat_add b i).symm
  rw [hc, ha, hr]
  exact choose_eq ⟨l.val, lt_of_lt_of_le l.isLt hn⟩ ⟨b + i, hi⟩ _ _

/-- The attention of a row over the first `n` keys is that over all keys, where the keys left out are masked. -/
theorem att_ms {n r d : ℕ} (i : ℕ) (hi : i / 64 < n / 64) (h64 : n % 64 = 0) (q : Fin d → EReal) (k : Fin (n + r) → Fin d → EReal)
    (hq : ∀ x, IsReal (q x)) (hk : ∀ l x, IsReal (k l x)) (v : Fin (n + r) → EReal) :
    att (ms i q k) v = att (ms i q fun l => k (Fin.castAdd r l)) fun l : Fin n => v (Fin.castAdd r l) := by
  have hs : ∀ l, IsReal (sc q k l) := fun l => (IsReal.sum fun x => (hq x).mul (hk l x)).mul real_scale
  have hn : 0 < n := by omega
  refine att_cut (ms i q k) v (fun l => ?_) (fun l => ?_) ⟨0, hn⟩ ?_
  · rw [ms, if_neg]
    simp only [Fin.val_natAdd]
    omega
  · unfold ms
    split
    · obtain ⟨x, hx⟩ := hs l
      rw [hx]; exact EReal.coe_ne_top x
    · exact bot_ne_top
  · rw [ms, if_pos (by simp)]
    obtain ⟨x, hx⟩ := hs (Fin.castAdd r ⟨0, hn⟩)
    rw [hx]; exact EReal.coe_ne_bot x

/-- A product of rows that are zero behind their first entries. -/
theorem sum_pad {n r : ℕ} (f g : Fin (n + r) → EReal) (h : ∀ x : Fin r, f (Fin.natAdd n x) = 0) :
    ∑ x, f x * g x = ∑ x : Fin n, f (Fin.castAdd r x) * g (Fin.castAdd r x) := by
  rw [Fin.sum_univ_add, Finset.sum_eq_zero (f := fun x : Fin r => _) fun x _ => by rw [h x, zero_mul], add_zero]

/-- Row `i` of an array of rows of eight heads of width 192, at head `h`. -/
def row (a : (⟨2, ![2048, 1536]⟩ : Shape).Idx → EReal) (h : Fin 8) (i : Fin 2048) (d : Fin 192) : EReal :=
  a (ix2 i ⟨h.val * 192 + d.val, by have := h.isLt; have := d.isLt; show _ < 1536; omega⟩)

/-- The head a column of the result lies in. -/
def hd (c : Fin 1024) : Fin 8 := ⟨c.val / 128, by have := c.isLt; omega⟩

/-- The values' entry for a column of the result: the second half of its head's columns. -/
def vrow (a : (⟨2, ![2048, 2048]⟩ : Shape).Idx → EReal) (l : Fin 2048) (c : Fin 1024) : EReal :=
  a (ix2 l ⟨c.val / 128 * 256 + (128 + c.val % 128), by have := c.isLt; show _ < 2048; omega⟩)

/-- The attention over the keys of a row's own and earlier chunks. -/
def OUT (q k : (⟨2, ![2048, 1536]⟩ : Shape).Idx → EReal) (v : (⟨2, ![2048, 2048]⟩ : Shape).Idx → EReal)
    (i : Fin 2048) (c : Fin 1024) : EReal :=
  att (ms i.val (row q (hd c) i) (row k (hd c))) fun l => vrow v l c

end Cert.Mla

end
-- ==== Proof.MlaKer.lean ====
module

public import proofs.«01_k».proof.Proof.Gen.Kernel23Ideal.Skeleton
public import Idealize.ShloMosaic.Lib.Pointwise
public import proofs.«01_k».proof.Proof.MlaMath

@[expose] public section

set_option maxRecDepth 16384

noncomputable section

open Idealize.ShloMosaic Idealize.ShloMosaic.TcCoe Idealize.SL.Sem
open scoped BigOperators

namespace Cert.Kernel23Ideal.Mla

open Cert.Kernel23Ideal Cert.Kernel23Ideal.Gen Cert.Mla Cert.Att

theorem named_mask : (Named.named κ "mask" 0xF149F2CA#32 : Ideal .f32) = ⊥ := rfl

/-- A row of a block that has `n` keys, all of them within the row's block of queries or before it. -/
abbrev ROW {n : ℕ} (b : ℕ) (x : FVec Ideal S512x256 .bf16) (k : (⟨2, ![n, 256]⟩ : Shape).Idx → EReal)
    (v : (⟨2, ![n, 128]⟩ : Shape).Idx → EReal) (j : S512x128.Idx) : EReal :=
  att (ms (b + (j 0).val) (fun d : Fin 256 => x (ix2 (j 0) d)) fun (l : Fin n) d => k (ix2 l d)) fun l => v (ix2 l (j 1))

theorem row_of {n : ℕ} (hn : n ≤ 2048) (b : ℕ) (hb : b + 512 ≤ 2048) (x : FVec Ideal S512x256 .bf16)
    (k : (⟨2, ![n, 256]⟩ : Shape).Idx → EReal) (v : (⟨2, ![n, 128]⟩ : Shape).Idx → EReal) (j : S512x128.Idx) :
    att (fun l : Fin n => Scalar.select (IntOp.cmpi .sle (chunk (BitVec.ofNat 32 l.val)) (chunk (IntOp.addi (BitVec.ofNat 32 b) (BitVec.ofNat 32 (j 0).val))))
        (sc (fun d : Fin 256 => x (ix2 (j 0) d)) (fun (l : Fin n) d => k (ix2 l d)) l) ⊥) (fun l => v (ix2 l (j 1)))
      = ROW b x k v j :=
  congrFun (congrArg att (funext fun l => ms_eq hn b (j 0).val (by have : (j 0).val < 512 := (j 0).isLt; omega) _ _ l)) _

theorem scoreA (x : FVec Ideal S512x256 .bf16) (k : FVec Ideal S512x256 .bf16) (j : S512x512.Idx) :
    k0_pay5 (F := Ideal) x k j = sc (fun d => x (ix2 (j 0) d)) (fun l d => k (ix2 l d)) (j 1) := by
  pointwise [k0_pay5]
  rfl

theorem chunkA (j : S512x512.Idx) : k0_pay6 j = chunk (IntOp.addi 0#32 (BitVec.ofNat 32 (j 0).val)) := by
  pointwise [k0_pay6]
  rfl

theorem caseA (x : FVec Ideal S512x256 .bf16) (k : FVec Ideal S512x256 .bf16) (v : FVec Ideal S512x128 .f32) (j : S512x128.Idx) :
    k0_pay1 (F := Ideal) (k0_pay5 x k) k0_pay6 (iota .tc S512x512 32 [1] iota_S512x512_d1_w32) 64#32 k0_pay7 k0_pay8 k0_pay9 v j
      = ROW (n := 512) 0 x k v j := by
  refine Eq.trans ?_ (row_of (by norm_num) 0 (by norm_num) x k v j)
  pointwise [k0_pay1, scoreA, chunkA, k0_pay7, k0_pay8, k0_pay9]
  rw [Cert.Ext.negInf_eq]
  rfl

theorem scoreB (x : FVec Ideal S512x256 .bf16) (k : FVec Ideal S1024x256 .bf16) (j : S512x1024.Idx) :
    k0_pay10 (F := Ideal) x k j = sc (fun d => x (ix2 (j 0) d)) (fun l d => k (ix2 l d)) (j 1) := by
  pointwise [k0_pay10]
  rfl

theorem chunkB (j : S512x1024.Idx) : k0_pay11 j = chunk (IntOp.addi 512#32 (BitVec.ofNat 32 (j 0).val)) := by
  pointwise [k0_pay11]
  rfl

theorem caseB (x : FVec Ideal S512x256 .bf16) (k : FVec Ideal S1024x256 .bf16) (v : FVec Ideal S1024x128 .f32) (j : S512x128.Idx) :
    k0_pay2 (F := Ideal) (k0_pay10 x k) k0_pay11 (iota .tc S512x1024 32 [1] iota_S512x1024_d1_w32) 64#32 k0_pay12 k0_pay13 k0_pay14 v j
      = ROW (n := 1024) 512 x k v j := by
  refine Eq.trans ?_ (row_of (by norm_num) 512 (by norm_num) x k v j)
  pointwise [k0_pay2, scoreB, chunkB, k0_pay12, k0_pay13, k0_pay14]
  rw [Cert.Ext.negInf_eq]
  rfl

theorem scoreC (x : FVec Ideal S512x256 .bf16) (k : FVec Ideal S1536x256 .bf16) (j : S512x1536.Idx) :
    k0_pay15 (F := Ideal) x k j = sc (fun d => x (ix2 (j 0) d)) (fun l d => k (ix2 l d)) (j 1) := by
  pointwise [k0_pay15]
  rfl

theorem chunkC (j : S512x1536.Idx) : k0_pay16 j = chunk (IntOp.addi 1024#32 (BitVec.ofNat 32 (j 0).val)) := by
  pointwise [k0_pay16]
  rfl

theorem caseC (x : FVec Ideal S512x256 .bf16) (k : FVec Ideal S1536x256 .bf16) (v : FVec Ideal S1536x128 .f32) (j : S512x128.Idx) :
    k0_pay3 (F := Ideal) (k0_pay15 x k) k0_pay16 (iota .tc S512x1536 32 [1] iota_S512x1536_d1_w32) 64#32 k0_pay17 k0_pay18 k0_pay19 v j
      = ROW (n := 1536) 1024 x k v j := by
  refine Eq.trans ?_ (row_of (by norm_num) 1024 (by norm_num) x k v j)
  pointwise [k0_pay3, scoreC, chunkC, k0_pay17, k0_pay18, k0_pay19]
  rw [Cert.Ext.negInf_eq]
  rfl

theorem scoreD (x : FVec Ideal S512x256 .bf16) (k : FVec Ideal S2048x256 .bf16) (j : S512x2048.Idx) :
    k0_pay20 (F := Ideal) x k j = sc (fun d => x (ix2 (j 0) d)) (fun l d => k (ix2 l d)) (j 1) := by
  pointwise [k0_pay20]
  rfl

theorem chunkD (j : S512x2048.Idx) : k0_pay21 j = chunk (IntOp.addi 1536#32 (BitVec.ofNat 32 (j 0).val)) := by
  pointwise [k0_pay21]
  rfl

theorem caseD (x : FVec Ideal S512x256 .bf16) (k : FVec Ideal S2048x256 .bf16) (v : FVec Ideal S2048x128 .f32) (j : S512x128.Idx) :
    k0_pay4 (F := Ideal) (k0_pay20 x k) k0_pay21 (iota .tc S512x2048 32 [1] iota_S512x2048_d1_w32) 64#32 k0_pay22 k0_pay23 k0_pay24 v j
      = ROW (n := 2048) 1536 x k v j := by
  refine Eq.trans ?_ (row_of (by norm_num) 1536 (by norm_num) x k v j)
  pointwise [k0_pay4, scoreD, chunkD, k0_pay22, k0_pay23, k0_pay24]
  rw [Cert.Ext.negInf_eq]
  rfl

end Cert.Kernel23Ideal.Mla

end
-- ==== Proof.MlaBlk.lean ====
module

public import proofs.«01_k».proof.Proof.MlaKer
public import proofs.«01_k».proof.Proof.Gen.Kernel23Ideal.Value
public import Idealize.ShloMosaic.Lib.Pipeline.ValueKit
public import Idealize.ShloMosaic.Lib.KernelVsHost

@[expose] public section

set_option maxRecDepth 16384

noncomputable section

open Idealize.ShloMosaic Idealize.ShloMosaic.TcCoe Idealize.SL.Sem
open scoped BigOperators

namespace Cert.Kernel23Ideal.Mla

open Cert.Kernel23Ideal Cert.Kernel23Ideal.Gen Cert.Mla Cert.Att Cert.Ext

variable (m : (ℓ : Loc nD τ sig) → Buf (Elt Ideal) ℓ)

/-- Every window's block index at every grid point. -/
theorem idx : ∀ t : Fin cfg0.N, win0_0.index t = ![t.val % 4, t.val / 4]
    ∧ win0_1.index t = ![0, t.val / 4]
    ∧ win0_2.index t = ![0, 2 * (t.val / 4) + 1]
    ∧ win0_3.index t = ![t.val % 4, t.val / 4] :=
  (by decide +kernel : ∀ t : Fin grid0.N, _)

/-- An array whose heads are padded from 192 to 256 columns. -/
abbrev PAD (a : FVec Ideal S2048x1536 .bf16) : FVec Ideal S2048x2048 .bf16 :=
  shapeCast S2048x2048 (pad S2048x8x256 ![0, 0, 0] ![0, 0, 64] ![0, 0, 0] (shapeCast S2048x8x192 a shapeCasts_S2048x1536_S2048x8x192) (sitofp .bf16 (constantI S_ 32 0#32)) pads_S2048x8x192_S2048x8x256_000_000_0640 h_S_) shapeCasts_S2048x8x256_S2048x2048

theorem V_q (c : Dev nD) : V m c main_v2 = PAD (m ((c.tc : Thread nD τ).loc main_arg0)) := by
  unfold V
  simp only [hostOps0, hostOps0_1, hostOps0_2, hostOps0_3, hostOps0_4, List.flatten_cons, List.flatten_nil, List.append_nil, List.cons_append, List.nil_append]
  after_results
  rfl

theorem V_k (c : Dev nD) : V m c main_v5 = PAD (m ((c.tc : Thread nD τ).loc main_arg1)) := by
  unfold V
  simp only [hostOps0, hostOps0_1, hostOps0_2, hostOps0_3, hostOps0_4, List.flatten_cons, List.flatten_nil, List.append_nil, List.cons_append, List.nil_append]
  after_results
  rfl

theorem pad_in (a : FVec Ideal S2048x1536 .bf16) (h : Fin 8) (i : Fin 2048) (d : Fin 192) (s : Fin 2048) (hs : s.val = h.val * 256 + d.val) :
    PAD a (ix2 i s) = row a h i d := by
  pointwise [PAD]
  have hh := h.isLt
  have hd := d.isLt
  rw [dif_pos ⟨by omega, by omega⟩]
  exact congrArg a (congrArg (ix2 i) (Fin.ext (by show s.val / 256 * 192 + s.val % 256 = h.val * 192 + d.val; omega)))

theorem pad_out (a : FVec Ideal S2048x1536 .bf16) (h : Fin 8) (i : Fin 2048) (d : Fin 64) (s : Fin 2048) (hs : s.val = h.val * 256 + (192 + d.val)) :
    PAD a (ix2 i s) = 0 := by
  pointwise [PAD]
  have hd := d.isLt
  rw [dif_neg (by omega)]
  exact sitofp_zero

theorem pad_real (a : FVec Ideal S2048x1536 .bf16) (ha : ∀ i, IsReal (a i)) (j : S2048x2048.Idx) : IsReal (PAD a j) := by
  pointwise [PAD]
  split
  · exact ha _
  · exact ⟨0, sitofp_zero (φ := .bf16)⟩

theorem eq (t : Fin cfg0.N) (y : S512x256.Idx) : (((win0_0.blk t).view.emb y) 0 : ℕ) = t.val % 4 * 512 + (y 0).val
    ∧ (((win0_0.blk t).view.emb y) 1 : ℕ) = t.val / 4 * 256 + (y 1).val := by
  refine ⟨?_, ?_⟩
  · show win0_0.index t 0 * 512 + 1 * (y 0).val = _
    rw [(idx t).1]; show t.val % 4 * 512 + 1 * (y 0).val = _; omega
  · show win0_0.index t 1 * 256 + 1 * (y 1).val = _
    rw [(idx t).1]; show t.val / 4 * 256 + 1 * (y 1).val = _; omega

theorem ek (t : Fin cfg0.N) (y : S2048x256.Idx) : (((win0_1.blk t).view.emb y) 0 : ℕ) = (y 0).val
    ∧ (((win0_1.blk t).view.emb y) 1 : ℕ) = t.val / 4 * 256 + (y 1).val := by
  refine ⟨?_, ?_⟩
  · show win0_1.index t 0 * 2048 + 1 * (y 0).val = _
    rw [(idx t).2.1]; show 0 * 2048 + 1 * (y 0).val = _; omega
  · show win0_1.index t 1 * 256 + 1 * (y 1).val = _
    rw [(idx t).2.1]; show t.val / 4 * 256 + 1 * (y 1).val = _; omega

theorem eo (t : Fin cfg0.N) (y : S512x128.Idx) : ((((cfg0.win 3).blk t).view.emb y) 0 : ℕ) = t.val % 4 * 512 + (y 0).val
    ∧ ((((cfg0.win 3).blk t).view.emb y) 1 : ℕ) = t.val / 4 * 128 + (y 1).val := by
  refine ⟨?_, ?_⟩
  · show win0_3.index t 0 * 512 + 1 * (y 0).val = _
    rw [(idx t).2.2.2]; show t.val % 4 * 512 + 1 * (y 0).val = _; omega
  · show win0_3.index t 1 * 128 + 1 * (y 1).val = _
    rw [(idx t).2.2.2]; show t.val / 4 * 128 + 1 * (y 1).val = _; omega

theorem bq0 (c : Dev nD) (t : Fin cfg0.N) (y : S512x256.Idx) :
    iblk m c 0 t y = PAD (m ((c.tc : Thread nD τ).loc main_arg0)) ((win0_0.blk t).view.emb y) := by
  blk_simp [iblk, idx t]
  rw [V_q]

theorem bk0 (c : Dev nD) (t : Fin cfg0.N) (y : S2048x256.Idx) :
    iblk m c 1 t y = PAD (m ((c.tc : Thread nD τ).loc main_arg1)) ((win0_1.blk t).view.emb y) := by
  blk_simp [iblk, idx t]
  rw [V_k]

theorem bq (c : Dev nD) (t : Fin cfg0.N) (i : Fin 512) (d : Fin 256) (r s : Fin 2048) (hr : r.val = t.val % 4 * 512 + i.val)
    (hs : s.val = t.val / 4 * 256 + d.val) :
    iblk m c 0 t (ix2 i d) = PAD (m ((c.tc : Thread nD τ).loc main_arg0)) (ix2 r s) :=
  (bq0 m c t _).trans (congrArg _ ((eq_ix2 ((win0_0.blk t).view.emb (ix2 i d))).trans
    (congrArg₂ ix2 (Fin.ext ((eq t _).1.trans hr.symm)) (Fin.ext ((eq t _).2.trans hs.symm)))))

theorem bk (c : Dev nD) (t : Fin cfg0.N) (l : Fin 2048) (d : Fin 256) (s : Fin 2048) (hs : s.val = t.val / 4 * 256 + d.val) :
    iblk m c 1 t (ix2 l d) = PAD (m ((c.tc : Thread nD τ).loc main_arg1)) (ix2 l s) :=
  (bk0 m c t _).trans (congrArg _ ((eq_ix2 ((win0_1.blk t).view.emb (ix2 l d))).trans
    (congrArg₂ ix2 (Fin.ext (ek t _).1) (Fin.ext ((ek t _).2.trans hs.symm)))))

theorem bv (c : Dev nD) (t : Fin cfg0.N) (l : Fin 2048) (e : Fin 128) (s : Fin 2048) (hs : s.val = (2 * (t.val / 4) + 1) * 128 + e.val) :
    iblk m c 2 t (ix2 l e) = m ((c.tc : Thread nD τ).loc main_arg2) (ix2 l s) := by
  blk_ext [iblk, V, idx t]

/-- A row over the first `n` keys is the row over all of them, where the row lies within the first `n`. -/
theorem row_cut {n r : ℕ} (b : ℕ) (hb : b + 512 ≤ n) (h64 : n % 64 = 0) (x : FVec Ideal S512x256 .bf16)
    (k : (⟨2, ![n + r, 256]⟩ : Shape).Idx → EReal) (v : (⟨2, ![n + r, 128]⟩ : Shape).Idx → EReal)
    (hx : ∀ i, IsReal (x i)) (hk : ∀ i, IsReal (k i)) (k' : (⟨2, ![n, 256]⟩ : Shape).Idx → EReal) (v' : (⟨2, ![n, 128]⟩ : Shape).Idx → EReal)
    (hk' : ∀ (l : Fin n) (d : Fin 256), k' (ix2 l d) = k (ix2 (Fin.castAdd r l) d))
    (hv' : ∀ (l : Fin n) (d : Fin 128), v' (ix2 l d) = v (ix2 (Fin.castAdd r l) d)) (j : S512x128.Idx) :
    ROW b x k' v' j = ROW b x k v j := by
  refine Eq.trans ?_ (att_ms (b + (j 0).val) (by have : (j 0).val < 512 := (j 0).isLt; omega) h64 _ _ (fun d => hx _) (fun l d => hk _) _).symm
  exact congr (congrArg att (congrArg (ms _ _) (funext fun l => funext fun d => hk' l d))) (funext fun l => hv' l _)

variable (hq : ∀ (c : Dev nD) i, IsReal (m ((c.tc : Thread nD τ).loc main_arg0) i))
  (hk : ∀ (c : Dev nD) i, IsReal (m ((c.tc : Thread nD τ).loc main_arg1) i))

include hq hk in
theorem outA (c : Dev nD) (t : Fin cfg0.N) (h0 : t.val % 4 = 0) (y : S512x128.Idx) :
    outsAt0 m c t.val t.isLt y = ROW (n := 2048) 0 (iblk m c 0 t) (iblk m c 1 t) (iblk m c 2 t) y := by
  rw [outsAt0_A m c t h0 (by omega) (by omega) (by omega)]
  unfold out0_A_3
  frame_out
  refine (caseA _ _ _ y).trans (row_cut (n := 512) (r := 1536) 0 (by norm_num) (by norm_num) _ (iblk m c 1 t) (iblk m c 2 t) ?_ ?_ _ _ ?_ ?_ y)
  · exact fun i => (bq0 m c t i).symm ▸ pad_real _ (hq c) _
  · exact fun i => (bk0 m c t i).symm ▸ pad_real _ (hk c) _
  · intro l d
    pointwise
    rfl
  · intro l d
    pointwise
    rfl

include hq hk in
theorem outB (c : Dev nD) (t : Fin cfg0.N) (h0 : t.val % 4 = 1) (y : S512x128.Idx) :
    outsAt0 m c t.val t.isLt y = ROW (n := 2048) 512 (iblk m c 0 t) (iblk m c 1 t) (iblk m c 2 t) y := by
  rw [outsAt0_B m c t (by omega) h0 (by omega) (by omega)]
  unfold out0_B_3
  frame_out
  refine (caseB _ _ _ y).trans (row_cut (n := 1024) (r := 1024) 512 (by norm_num) (by norm_num) _ (iblk m c 1 t) (iblk m c 2 t) ?_ ?_ _ _ ?_ ?_ y)
  · exact fun i => (bq0 m c t i).symm ▸ pad_real _ (hq c) _
  · exact fun i => (bk0 m c t i).symm ▸ pad_real _ (hk c) _
  · intro l d
    pointwise
    rfl
  · intro l d
    pointwise
    rfl

include hq hk in
theorem outC (c : Dev nD) (t : Fin cfg0.N) (h0 : t.val % 4 = 2) (y : S512x128.Idx) :
    outsAt0 m c t.val t.isLt y = ROW (n := 2048) 1024 (iblk m c 0 t) (iblk m c 1 t) (iblk m c 2 t) y := by
  rw [outsAt0_C m c t (by omega) (by omega) h0 (by omega)]
  unfold out0_C_3
  frame_out
  refine (caseC _ _ _ y).trans (row_cut (n := 1536) (r := 512) 1024 (by norm_num) (by norm_num) _ (iblk m c 1 t) (iblk m c 2 t) ?_ ?_ _ _ ?_ ?_ y)
  · exact fun i => (bq0 m c t i).symm ▸ pad_real _ (hq c) _
  · exact fun i => (bk0 m c t i).symm ▸ pad_real _ (hk c) _
  · intro l d
    pointwise
    rfl
  · intro l d
    pointwise
    rfl

theorem outD (c : Dev nD) (t : Fin cfg0.N) (h0 : t.val % 4 = 3) (y : S512x128.Idx) :
    outsAt0 m c t.val t.isLt y = ROW (n := 2048) 1536 (iblk m c 0 t) (iblk m c 1 t) (iblk m c 2 t) y := by
  rw [outsAt0_D m c t (by omega) (by omega) (by omega) h0]
  unfold out0_D_3
  frame_out
  exact caseD _ _ _ y

/-- The scores over the padded width are those over the heads' own. -/
theorem sc_eq (c : Dev nD) (t : Fin cfg0.N) (h : Fin 8) (hh : h.val = t.val / 4) (i : Fin 512) (r : Fin 2048) (hr : r.val = t.val % 4 * 512 + i.val) (l : Fin 2048) :
    sc (n := 2048) (fun d : Fin 256 => iblk m c 0 t (ix2 i d)) (fun (l : Fin 2048) d => iblk m c 1 t (ix2 l d)) l
      = sc (row (m ((c.tc : Thread nD τ).loc main_arg0)) h r) (row (m ((c.tc : Thread nD τ).loc main_arg1)) h) l := by
  have hh8 := h.isLt
  refine congrArg (· * scale) ((sum_pad (n := 192) (r := 64) _ _ fun d => ?_).trans (Finset.sum_congr rfl fun d _ => ?_))
  · have hd := d.isLt
    exact (bq m c t i (Fin.natAdd 192 d) r ⟨t.val / 4 * 256 + (192 + d.val), by omega⟩ hr rfl).trans (pad_out _ h r d _ (by rw [hh]))
  · have hd := d.isLt
    exact congrArg₂ (fun a b : EReal => a * b)
      ((bq m c t i (Fin.castAdd 64 d) r ⟨t.val / 4 * 256 + d.val, by omega⟩ hr rfl).trans (pad_in _ h r d _ (by rw [hh])))
      ((bk m c t l (Fin.castAdd 64 d) ⟨t.val / 4 * 256 + d.val, by omega⟩ rfl).trans (pad_in _ h l d _ (by rw [hh])))

include hq hk in
/-- The result array after the run. -/
theorem final (c : Dev nD) : (dats m 0 c).arrAt 3 (cfgs 0).N
    = fun j => OUT (m ((c.tc : Thread nD τ).loc main_arg0)) (m ((c.tc : Thread nD τ).loc main_arg1)) (m ((c.tc : Thread nD τ).loc main_arg2)) (j 0) (j 1) := by
  refine (dats m 0 c).arrAt_eq_of_covers 3 _ (by decide +kernel) fun t hf y => ?_
  blk_simp; rw [after0_3]
  have ho : outsAt0 m c t.val t.isLt y = ROW (n := 2048) (t.val % 4 * 512) (iblk m c 0 t) (iblk m c 1 t) (iblk m c 2 t) y := by
    rcases (by omega : t.val % 4 = 0 ∨ t.val % 4 = 1 ∨ t.val % 4 = 2 ∨ t.val % 4 = 3) with h | h | h | h
    · exact (outA m hq hk c t h y).trans (by rw [h])
    · exact (outB m hq hk c t h y).trans (by rw [h])
    · exact (outC m hq hk c t h y).trans (by rw [h])
    · exact (outD m c t h y).trans (by rw [h])
  refine ho.trans ?_
  obtain ⟨e0, e1⟩ := eo t y
  have hy : (y 1).val < 128 := (y 1).isLt
  have ht : t.val < 32 := t.isLt
  refine congr (congrArg att (funext fun l => ?_)) (funext fun l => ?_)
  · unfold ms
    rw [sc_eq m c t (hd (((cfg0.win 3).blk t).view.emb y 1)) (by show (((cfg0.win 3).blk t).view.emb y 1 : ℕ) / 128 = _; omega) (y 0) (((cfg0.win 3).blk t).view.emb y 0) e0 l, e0]
  · exact bv m c t l (y 1) _ (by show (((cfg0.win 3).blk t).view.emb y 1 : ℕ) / 128 * 256 + (128 + (((cfg0.win 3).blk t).view.emb y 1 : ℕ) % 128) = _; omega)

end Cert.Kernel23Ideal.Mla

end
-- ==== Proof.MlaRef.lean ====
module

public import proofs.«01_k».proof.Proof.Gen.Reference23Ideal.Run
public import Idealize.ShloMosaic.Lib.Pointwise
public import proofs.«01_k».proof.Proof.MlaMath

@[expose] public section

set_option maxRecDepth 16384

noncomputable section

open Idealize.ShloMosaic Idealize.ShloMosaic.TcCoe Idealize.SL.Sem
open scoped BigOperators

namespace Cert.Reference23Ideal.Mla

open Cert.Reference23Ideal Cert.Reference23Ideal.Gen Cert.Mla Cert.Att Cert.Ext

abbrev TQ := FVec Ideal S2048x1536 .bf16
abbrev TV := FVec Ideal S2048x2048 .f32
abbrev TS := FVec Ideal S1x8x2048x2048 .f32

/-- The chunks of the rows. -/
def RC : IVec S2048 32 :=
  select (andi (cmpi .ne (signi (iotaInDim S2048 32 0)) (broadcastInDim S2048 ![] bcast_S_S2048 (signi (id (constantI S_ 32 64#32))))) (cmpi .ne (Host.remsi (iotaInDim S2048 32 0) (broadcastInDim S2048 ![] bcast_S_S2048 (id (constantI S_ 32 64#32)))) (broadcastInDim S2048 ![] bcast_S_S2048 (constantI S_ 32 0#32)))) (subi (Host.divsi (iotaInDim S2048 32 0) (broadcastInDim S2048 ![] bcast_S_S2048 (id (constantI S_ 32 64#32)))) (broadcastInDim S2048 ![] bcast_S_S2048 (constantI S_ 32 1#32))) (Host.divsi (iotaInDim S2048 32 0) (broadcastInDim S2048 ![] bcast_S_S2048 (id (constantI S_ 32 64#32))))

/-- The scaled scores. -/
def RS (a0 a1 : TQ) : TS :=
  mulf (Host.dotGeneral (F := Ideal) dot_S1x2048x8x192_S1x2048x8x192_S1x8x2048x2048_3_3_1_1_02_02 none (shapeCast _ (extf .f32 a0 bitsLt_bf16_f32) shapeCasts_S2048x1536_S1x2048x8x192) (shapeCast _ (extf .f32 a1 bitsLt_bf16_f32) shapeCasts_S2048x1536_S1x2048x8x192)) (broadcastInDim S1x8x2048x2048 ![] bcast_S_S1x8x2048x2048 (constant (F := Ideal) S_ .f32 0x3D93CD3A#32))

/-- The scores masked. -/
def RK (c : IVec S2048 32) (s : TS) : TS :=
  select (broadcastInDim S1x8x2048x2048 ![2, 3] bcast_S2048x2048_S1x8x2048x2048_2_3 (cmpi .sle (broadcastInDim S2048x2048 ![0, 1] bcast_S1x2048_S2048x2048_0_1 (broadcastInDim S1x2048 ![1] bcast_S2048_S1x2048_1 c)) (broadcastInDim S2048x2048 ![0, 1] bcast_S2048x1_S2048x2048_0_1 (broadcastInDim S2048x1 ![0] bcast_S2048_S2048x1_0 c)))) s (broadcastInDim S1x8x2048x2048 ![] bcast_S_S1x8x2048x2048 (id (constant (F := Ideal) S_ .f32 0xFF800000#32)))

/-- The rows' greatest scores. -/
def RM (s : TS) : FVec Ideal S1x8x2048 .f32 :=
  maximumf (broadcastInDim S1x8x2048 ![] bcast_S_S1x8x2048 (constant (F := Ideal) S_ .f32 0xFF800000#32)) (Host.reduce FloatOps.maximumf s (constant (F := Ideal) S_ .f32 0xFF800000#32) reducesTo_S1x8x2048x2048_S1x8x2048_d3 h_S_)

/-- The exponentials of the scores less the row's greatest. -/
def RE (s : TS) (mx : FVec Ideal S1x8x2048 .f32) : TS :=
  Host.exp (subf s (broadcastInDim S1x8x2048x2048 ![0, 1, 2, 3] bcast_S1x8x2048x1_S1x8x2048x2048_0_1_2_3 (broadcastInDim S1x8x2048x1 ![0, 1, 2] bcast_S1x8x2048_S1x8x2048x1_0_1_2 mx)))

/-- The exponentials over their rows' sums. -/
def RP (e : TS) : TS :=
  Host.divf e (broadcastInDim S1x8x2048x2048 ![0, 1, 2, 3] bcast_S1x8x2048x1_S1x8x2048x2048_0_1_2_3 (broadcastInDim S1x8x2048x1 ![0, 1, 2] bcast_S1x8x2048_S1x8x2048x1_0_1_2 (Host.reduceAdd e (constant (F := Ideal) S_ .f32 0x00000000#32) reducesTo_S1x8x2048x2048_S1x8x2048_d3 h_S_)))

/-- The weights against the values. -/
def RO (p : TS) (a2 : TV) : FVec Ideal S2048x1024 .bf16 :=
  truncf .bf16 (shapeCast _ (transpose S1x2048x8x128 [0, 3, 1, 2] (Host.dotGeneral (F := Ideal) dot_S1x2048x8x128_S1x8x2048x2048_S1x8x128x2048_1_3_3_2_02_01 none (extractStridedSlice S1x2048x8x128 ![0, 0, 0, 128] (shapeCast _ a2 shapeCasts_S2048x2048_S1x2048x8x256) slices_S1x2048x8x256_S1x2048x8x128_0_0_0_128) p) transposes_S1x8x128x2048_S1x2048x8x128_0_3_1_2) shapeCasts_S1x2048x8x128_S2048x1024) bitsLt_bf16_f32

/-- The reference's result. -/
abbrev REF (a0 a1 : TQ) (a2 : TV) : FVec Ideal S2048x1024 .bf16 :=
  RO (RP (RE (RK RC (RS a0 a1)) (RM (RK RC (RS a0 a1))))) a2

/-- The chunk a row lies in, as the reference's floor division computes it. -/
def hostChunk (x : BitVec 32) : BitVec 32 :=
  Scalar.select
    (IntOp.andi (IntOp.cmpi .ne (if x = 0 then (0 : BitVec 32) else if x.msb = true then -1 else 1)
        (if 64#32 = 0 then (0 : BitVec 32) else if (64#32).msb = true then -1 else 1))
      (IntOp.cmpi .ne (IntOp.remsi .host x 64#32) 0#32))
    (IntOp.subi (IntOp.divsi .host x 64#32) 1#32) (IntOp.divsi .host x 64#32)

theorem hostChunk_eq : ∀ n : Fin 2048, hostChunk (BitVec.ofNat 32 n.val) = BitVec.ofNat 32 (n.val / 64) := by decide +kernel

theorem host_chunk (n : Fin 2048) : RC (ix1 n) = BitVec.ofNat 32 (n.val / 64) := by
  refine Eq.trans ?_ (hostChunk_eq n)
  pointwise [RC]
  rfl

theorem RS_eq (a0 a1 : TQ) (j : S1x8x2048x2048.Idx) :
    RS a0 a1 j = sc (n := 2048) (row a0 (j 1) (j 2)) (row a1 (j 1)) (j 3) := by
  pointwise [RS]
  rfl

theorem RK_eq (c : IVec S2048 32) (s : TS) (j : S1x8x2048x2048.Idx) :
    RK c s j = Scalar.select (IntOp.cmpi .sle (c (ix1 (j 3))) (c (ix1 (j 2)))) (s j) ⊥ := by
  pointwise [RK]
  exact congrArg (Scalar.select _ _) Cert.Ext.negInf_eq

theorem red_eq (s : TS) (j : S1x8x2048.Idx) :
    Host.reduce (FloatOps.maximumf (F := Ideal)) s (constant (F := Ideal) S_ .f32 0xFF800000#32) reducesTo_S1x8x2048x2048_S1x8x2048_d3 h_S_ j
      = Finset.univ.fold max (Ideal.ofBits FTy.f32 4286578688#32) fun k : Fin 2048 => s (ix4 0 (j 1) (j 2) k) := by
  pointwise

theorem max_eq (r : FVec Ideal S1x8x2048 .f32) (j : S1x8x2048.Idx) :
    maximumf (broadcastInDim S1x8x2048 ![] bcast_S_S1x8x2048 (constant (F := Ideal) S_ .f32 0xFF800000#32)) r j = max (Ideal.ofBits FTy.f32 4286578688#32) (r j) := by
  pointwise

theorem RM_eq (s : TS) (j : S1x8x2048.Idx) :
    RM s j = Finset.univ.fold max ⊥ fun k : Fin 2048 => s (ix4 0 (j 1) (j 2) k) := by
  refine (max_eq _ j).trans ?_
  rw [red_eq, Cert.Ext.negInf_eq, max_eq_right bot_le]

theorem RE_eq (s : TS) (mx : FVec Ideal S1x8x2048 .f32) (j : S1x8x2048x2048.Idx) :
    RE s mx j = Ideal.exp (s j - mx (ix3 0 (j 1) (j 2))) := by
  pointwise [RE]

theorem RP_eq (e : TS) (j : S1x8x2048x2048.Idx) :
    RP e j = Ideal.div (e j) (∑ k : Fin 2048, e (ix4 0 (j 1) (j 2) k)) := by
  pointwise [RP]

theorem RO_eq (p : TS) (a2 : TV) (j : S2048x1024.Idx) :
    RO p a2 j = ∑ k : Fin 2048, vrow a2 k (j 1) * p (ix4 0 (hd (j 1)) (j 0) k) := by
  pointwise [RO]
  rfl

theorem s_eq (a0 a1 : TQ) (h : Fin 8) (i l : Fin 2048) :
    RK RC (RS a0 a1) (ix4 0 h i l : S1x8x2048x2048.Idx) = ms i.val (row a0 h i) (row a1 h) l := by
  rw [RK_eq]
  refine Eq.trans ?_ (choose_eq l i (sc (row a0 h i) (row a1 h) l) ⊥)
  exact congr (congr (congrArg _ (congr (congrArg _ (host_chunk l)) (host_chunk i))) (RS_eq a0 a1 _)) rfl

theorem e_eq (a0 a1 : TQ) (h : Fin 8) (i l : Fin 2048) :
    RE (RK RC (RS a0 a1)) (RM (RK RC (RS a0 a1))) (ix4 0 h i l : S1x8x2048x2048.Idx) = ex (ms i.val (row a0 h i) (row a1 h)) l := by
  rw [RE_eq, RM_eq, ex]
  have hs := s_eq a0 a1 h i
  exact congrArg Ideal.exp (congr (congrArg _ (hs l)) (congrArg (Finset.univ.fold max ⊥) (funext fun k => hs k)))

theorem out (a0 a1 : TQ) (a2 : TV) (j : S2048x1024.Idx) : REF a0 a1 a2 j = OUT a0 a1 a2 (j 0) (j 1) := by
  show _ = ∑ l : Fin 2048, Ideal.div (ex (ms (j 0).val (row a0 (hd (j 1)) (j 0)) (row a1 (hd (j 1)))) l) (∑ k, ex (ms (j 0).val (row a0 (hd (j 1)) (j 0)) (row a1 (hd (j 1)))) k) * vrow a2 l (j 1)
  refine (RO_eq _ a2 j).trans <| Finset.sum_congr rfl fun k _ => (mul_comm _ _).trans (congrArg (· * _) ?_)
  refine (RP_eq _ _).trans (congr (congrArg _ (e_eq a0 a1 (hd (j 1)) (j 0) k)) (Finset.sum_congr rfl fun l _ => ?_))
  exact e_eq a0 a1 (hd (j 1)) (j 0) l

end Cert.Reference23Ideal.Mla

end
-- ==== Proof.PairMla.lean ====
module

public import proofs.«01_k».proof.Defs
public import proofs.«01_k».proof.Proof.Gen.Kernel23.Frame
public import proofs.«01_k».proof.Proof.Gen.Kernel23Ideal.Frame
public import proofs.«01_k».proof.Proof.Gen.Reference23Ideal
public import proofs.«01_k».proof.Proof.Gen.Kernel23Ideal.Value
public import proofs.«01_k».proof.Proof.Gen.Reference23Ideal.Run
public import proofs.«01_k».proof.Proof.Gen.Pre_mla_finite
public import proofs.«01_k».proof.Proof.MlaBlk
public import proofs.«01_k».proof.Proof.MlaRef
public import proofs.«01_k».proof.Proof.Pre
public import Idealize.ShloMosaic.Lib.Claim
public import Idealize.ShloMosaic.Adequacy
public import Idealize.ShloMosaic.Init

@[expose] public section

set_option maxRecDepth 16384

noncomputable section

namespace Cert.PairMla

open Idealize.ShloMosaic Idealize.SL.Sem

theorem frame_kernel : Cert.quiescent_Kernel23 := fun m ρ _ => Cert.Kernel23.Gen.frame m ρ

theorem frame_ideal : Cert.quiescent_Kernel23Ideal := fun m ρ _ => Cert.Kernel23Ideal.Gen.frame m ρ

theorem frame_reference : Cert.quiescent_Reference23Ideal := fun m ρ _ =>
  (θ_run Cert.Reference23Ideal.defs _ _).mono (fun r h => ⟨fun c => (h c).2, sem_eq_zero_of_no_sems (by decide) r.2⟩)
    (Cert.Reference23Ideal.Value.run (F := Ideal) m ρ)

theorem frame_ideal_pre : Cert.quiescent_Kernel23Ideal_pre_mla_finite := fun m ρ _ => Cert.Kernel23Ideal.Gen.frame m ρ

theorem frame_reference_pre : Cert.quiescent_Reference23Ideal_pre_mla_finite := fun m ρ _ =>
  (θ_run Cert.Reference23Ideal.defs _ _).mono (fun r h => ⟨fun c => (h c).2, sem_eq_zero_of_no_sems (by decide) r.2⟩)
    (Cert.Reference23Ideal.Value.run (F := Ideal) m ρ)

theorem preserves : Cert.preserves_Kernel23_Kernel23Ideal :=
  IdealRules.named_const.statement Cert.Kernel23Ideal.κ "mask" .f32 0xF149F2CA#32 ⊥ rfl

theorem algebraic : Cert.algebraic_Kernel23Ideal_Reference23Ideal_pre_mla_finite := by
  pair_intro
  · run_from Cert.Kernel23Ideal.Value.run_blocks m g
  · run_from Cert.Reference23Ideal.Value.run m' g'
    rw [Cert.Kernel23Ideal.Mla.final m (fun c => (Cert.PreRead.mla _ _ _ (hpre c)).1) (fun c => (Cert.PreRead.mla _ _ _ (hpre c)).2) c]
    funext j
    refine Eq.trans ?_ (Cert.Reference23Ideal.Mla.out _ _ _ j)
    unfold Cert.Reference23Ideal.Value.res_main_v31
    simp only [hagree c]
    rfl

end Cert.PairMla

end
-- ==== Proof.MemFwd.lean ====
module

public import proofs.«01_k».proof.Proof.Gen.Kernel24Ideal.Frame
public import proofs.«01_k».proof.Proof.Gen.Kernel24Ideal.Value
public import proofs.«01_k».proof.Proof.Gen.Reference24Ideal.Run
public import Idealize.ShloMosaic.Lib.Pipeline.ValueKit
public import Idealize.ShloMosaic.Lib.Pointwise
public import proofs.«01_k».proof.Proof.MemMath

@[expose] public section

set_option maxRecDepth 16384

noncomputable section

open Idealize.ShloMosaic Idealize.ShloMosaic.TcCoe Idealize.SL.Sem
open Idealize.ShloMosaic.Pipeline (Dat)
open scoped BigOperators

namespace Cert.MemMath

/-- The attention over the memory: each row's softmax against its head's columns of the values. -/
def OA (q : (⟨2, ![2048, 512]⟩ : Shape).Idx → EReal) (k v : (⟨2, ![256, 512]⟩ : Shape).Idx → EReal)
    (i : Fin 2048) (c : Fin 512) : EReal :=
  ∑ l : Fin 256, pr (row q (hd c) i) (row k (hd c)) l * v (ix2 l c)

end Cert.MemMath

namespace Cert.Kernel24Ideal.Mem

open Cert.Kernel24Ideal Cert.Kernel24Ideal.Gen Cert.MemMath

theorem pay1_eq (x0 : FVec Ideal S1024x128 .bf16) (x1 : FVec Ideal S256x128 .bf16) (x2 : FVec Ideal S256x128 .f32) (j : S1024x128.Idx) :
    k0_pay1 (F := Ideal) x0 x1 x2 j
      = ∑ l : Fin 256, pr (fun d => x0 (ix2 (j 0) d)) (fun l d => x1 (ix2 l d)) l * x2 (ix2 l (j 1)) := by
  pointwise [k0_pay1]
  rw [Cert.Ext.negInf_eq]
  rfl

variable (m : (ℓ : Loc nD τ sig) → Buf (Elt Ideal) ℓ)

/-- Every window's block index at every grid point. -/
theorem idx : ∀ t : Fin cfg0.N, win0_0.index t = ![t.val % 2, t.val / 2]
    ∧ win0_1.index t = ![0, t.val / 2]
    ∧ win0_2.index t = ![0, t.val / 2]
    ∧ win0_3.index t = ![t.val % 2, t.val / 2] :=
  (by decide +kernel : ∀ t : Fin grid0.N, _)

theorem lt8 (t : Fin cfg0.N) : t.val < 8 := t.isLt

/-- The head of a grid point, a row of its row block and a column of its head. -/
def hh (t : Fin cfg0.N) : Fin 4 := ⟨t.val / 2, by have := lt8 t; omega⟩
def ri (t : Fin cfg0.N) (r : Fin 1024) : Fin 2048 := ⟨t.val % 2 * 1024 + r.val, by have := r.isLt; omega⟩
def col (t : Fin cfg0.N) (d : Fin 128) : Fin 512 := ⟨t.val / 2 * 128 + d.val, by have := lt8 t; have := d.isLt; omega⟩

theorem hd_col (t : Fin cfg0.N) (d : Fin 128) : hd (col t d) = hh t := by
  apply Fin.ext; have := d.isLt; simp only [hd, col, hh]; omega

theorem ib0 (c : Dev nD) (t : Fin cfg0.N) (r : Fin 1024) (d : Fin 128) :
    iblk m c 0 t (ix2 r d) = row (m ((c : Thread nD τ).loc main_arg0)) (hh t) (ri t r) d := by
  simp only [row, hh, ri]
  blk_point [iblk, V, idx t]

theorem ib1 (c : Dev nD) (t : Fin cfg0.N) (r : Fin 256) (d : Fin 128) :
    iblk m c 1 t (ix2 r d) = row (m ((c : Thread nD τ).loc main_arg1)) (hh t) r d := by
  simp only [row, hh, ri]
  blk_point [iblk, V, idx t]

theorem ib2 (c : Dev nD) (t : Fin cfg0.N) (r : Fin 256) (d : Fin 128) :
    iblk m c 2 t (ix2 r d) = m ((c : Thread nD τ).loc main_arg2) (ix2 r (col t d)) := by
  simp only [col]
  blk_point [iblk, V, idx t]

theorem emb3 (t : Fin cfg0.N) (y : S1024x128.Idx) (F : S2048x512.Idx → EReal) :
    F (((cfg0.win 3).blk t).view.emb y) = F (ix2 (ri t (y 0)) (col t (y 1))) := by
  simp only [ri, col]
  blk_point [idx t]

/-- The block of the result at a grid point. -/
theorem point (c : Dev nD) (t : Fin cfg0.N) (r : Fin 1024) (d : Fin 128) :
    ∑ l : Fin 256, pr (fun d => iblk m c 0 t (ix2 r d)) (fun l d => iblk m c 1 t (ix2 l d)) l * iblk m c 2 t (ix2 l d)
      = OA (m ((c : Thread nD τ).loc main_arg0)) (m ((c : Thread nD τ).loc main_arg1)) (m ((c : Thread nD τ).loc main_arg2)) (ri t r) (col t d) := by
  rw [OA, hd_col]
  refine Finset.sum_congr rfl fun l _ => congr (congrArg _ ?_) (ib2 m c t l d)
  simp only [ib0 m c t, ib1 m c t]

theorem final (c : Dev nD) : (dats m 0 c).arrAt 3 (cfgs 0).N
    = fun j => OA (m ((c : Thread nD τ).loc main_arg0)) (m ((c : Thread nD τ).loc main_arg1)) (m ((c : Thread nD τ).loc main_arg2)) (j 0) (j 1) := by
  refine (dats m 0 c).arrAt_eq_of_covers 3 _ (by decide +kernel) fun t hf y => ?_
  blk_simp; rw [after0_3]; frame_out
  refine ((pay1_eq _ _ _ y).trans (point m c t (y 0) (y 1))).trans ?_
  exact (emb3 t y fun j => OA (m ((c : Thread nD τ).loc main_arg0)) (m ((c : Thread nD τ).loc main_arg1)) (m ((c : Thread nD τ).loc main_arg2)) (j 0) (j 1)).symm

end Cert.Kernel24Ideal.Mem

namespace Cert.Reference24Ideal.Mem

open Cert.Reference24Ideal Cert.Reference24Ideal.Gen Cert.MemMath

abbrev TQ := FVec Ideal S2048x512 .bf16
abbrev TK := FVec Ideal S256x512 .bf16
abbrev TV := FVec Ideal S256x512 .f32

/-- The scaled scores. -/
def RS (a0 : TQ) (a1 : TK) : FVec Ideal S1x4x2048x256 .f32 :=
  mulf (Host.dotGeneral (F := Ideal) dot_S1x2048x4x128_S1x256x4x128_S1x4x2048x256_3_3_1_1_02_02 none (shapeCast _ (extf .f32 a0 bitsLt_bf16_f32) shapeCasts_S2048x512_S1x2048x4x128) (shapeCast _ (extf .f32 a1 bitsLt_bf16_f32) shapeCasts_S256x512_S1x256x4x128)) (broadcastInDim S1x4x2048x256 ![] bcast_S_S1x4x2048x256 (constant (F := Ideal) S_ .f32 0x3DB504F3#32))

/-- The rows' greatest scores. -/
def RM (s : FVec Ideal S1x4x2048x256 .f32) : FVec Ideal S1x4x2048 .f32 :=
  maximumf (broadcastInDim S1x4x2048 ![] bcast_S_S1x4x2048 (constant (F := Ideal) S_ .f32 0xFF800000#32)) (Host.reduce FloatOps.maximumf s (constant (F := Ideal) S_ .f32 0xFF800000#32) reducesTo_S1x4x2048x256_S1x4x2048_d3 h_S_)

/-- The exponentials of the scores less the row's greatest. -/
def RE (s : FVec Ideal S1x4x2048x256 .f32) (mx : FVec Ideal S1x4x2048 .f32) : FVec Ideal S1x4x2048x256 .f32 :=
  Host.exp (subf s (broadcastInDim S1x4x2048x256 ![0, 1, 2, 3] bcast_S1x4x2048x1_S1x4x2048x256_0_1_2_3 (broadcastInDim S1x4x2048x1 ![0, 1, 2] bcast_S1x4x2048_S1x4x2048x1_0_1_2 mx)))

/-- The exponentials over their rows' sums. -/
def RP (e : FVec Ideal S1x4x2048x256 .f32) : FVec Ideal S1x4x2048x256 .f32 :=
  Host.divf e (broadcastInDim S1x4x2048x256 ![0, 1, 2, 3] bcast_S1x4x2048x1_S1x4x2048x256_0_1_2_3 (broadcastInDim S1x4x2048x1 ![0, 1, 2] bcast_S1x4x2048_S1x4x2048x1_0_1_2 (Host.reduceAdd e (constant (F := Ideal) S_ .f32 0x00000000#32) reducesTo_S1x4x2048x256_S1x4x2048_d3 h_S_)))

/-- The weights against the values. -/
def RO (p : FVec Ideal S1x4x2048x256 .f32) (a2 : TV) : FVec Ideal S2048x512 .bf16 :=
  truncf .bf16 (shapeCast _ (transpose S1x2048x4x128 [0, 3, 1, 2] (Host.dotGeneral (F := Ideal) dot_S1x256x4x128_S1x4x2048x256_S1x4x128x2048_1_3_3_2_02_01 none (shapeCast _ a2 shapeCasts_S256x512_S1x256x4x128) p) transposes_S1x4x128x2048_S1x2048x4x128_0_3_1_2) shapeCasts_S1x2048x4x128_S2048x512) bitsLt_bf16_f32

theorem RS_eq (a0 : TQ) (a1 : TK) (j : S1x4x2048x256.Idx) :
    RS a0 a1 j = sc (row a0 (j 1) (j 2)) (row a1 (j 1)) (j 3) := by
  pointwise [RS]
  rfl

theorem red_eq (s : FVec Ideal S1x4x2048x256 .f32) (j : S1x4x2048.Idx) :
    Host.reduce (FloatOps.maximumf (F := Ideal)) s (constant (F := Ideal) S_ .f32 0xFF800000#32) reducesTo_S1x4x2048x256_S1x4x2048_d3 h_S_ j
      = Finset.univ.fold max (Ideal.ofBits FTy.f32 4286578688#32) fun k : Fin 256 => s (ix4 0 (j 1) (j 2) k) := by
  pointwise

theorem max_eq (r : FVec Ideal S1x4x2048 .f32) (j : S1x4x2048.Idx) :
    maximumf (broadcastInDim S1x4x2048 ![] bcast_S_S1x4x2048 (constant (F := Ideal) S_ .f32 0xFF800000#32)) r j = max (Ideal.ofBits FTy.f32 4286578688#32) (r j) := by
  pointwise

theorem RM_eq (s : FVec Ideal S1x4x2048x256 .f32) (j : S1x4x2048.Idx) :
    RM s j = Finset.univ.fold max ⊥ fun k : Fin 256 => s (ix4 0 (j 1) (j 2) k) := by
  refine (max_eq _ j).trans ?_
  rw [red_eq, Cert.Ext.negInf_eq, max_eq_right bot_le]

theorem RE_eq (s : FVec Ideal S1x4x2048x256 .f32) (mx : FVec Ideal S1x4x2048 .f32) (j : S1x4x2048x256.Idx) :
    RE s mx j = Ideal.exp (s j - mx (ix3 0 (j 1) (j 2))) := by
  pointwise [RE]

theorem RP_eq (e : FVec Ideal S1x4x2048x256 .f32) (j : S1x4x2048x256.Idx) :
    RP e j = Ideal.div (e j) (∑ k : Fin 256, e (ix4 0 (j 1) (j 2) k)) := by
  pointwise [RP]

theorem RO_eq (p : FVec Ideal S1x4x2048x256 .f32) (a2 : TV) (j : S2048x512.Idx) :
    RO p a2 j = ∑ k : Fin 256, a2 (ix2 k (j 1)) * p (ix4 0 (hd (j 1)) (j 0) k) := by
  pointwise [RO]
  rfl

/-- The reference's result. -/
abbrev REF (a0 : TQ) (a1 : TK) (a2 : TV) : FVec Ideal S2048x512 .bf16 := RO (RP (RE (RS a0 a1) (RM (RS a0 a1)))) a2

theorem e_eq (a0 : TQ) (a1 : TK) (h : Fin 4) (i : Fin 2048) (k : Fin 256) :
    RE (RS a0 a1) (RM (RS a0 a1)) (ix4 0 h i k : S1x4x2048x256.Idx) = ex (row a0 h i) (row a1 h) k := by
  rw [RE_eq, RM_eq, ex]
  simp only [RS_eq]
  rfl

theorem out (a0 : TQ) (a1 : TK) (a2 : TV) (j : S2048x512.Idx) : REF a0 a1 a2 j = OA a0 a1 a2 (j 0) (j 1) := by
  refine (RO_eq _ a2 j).trans <| Finset.sum_congr rfl fun k _ => (mul_comm _ _).trans (congrArg (· * _) ?_)
  refine (RP_eq _ _).trans (congr (congrArg _ (e_eq a0 a1 (hd (j 1)) (j 0) k)) (Finset.sum_congr rfl fun l _ => ?_))
  exact e_eq a0 a1 (hd (j 1)) (j 0) l

end Cert.Reference24Ideal.Mem

end
-- ==== Proof.PairMemFwd.lean ====
module

public import proofs.«01_k».proof.Defs
public import proofs.«01_k».proof.Proof.Gen.Kernel24.Frame
public import proofs.«01_k».proof.Proof.Gen.Kernel24Ideal.Frame
public import proofs.«01_k».proof.Proof.Gen.Reference24Ideal
public import proofs.«01_k».proof.Proof.Gen.Kernel24Ideal.Value
public import proofs.«01_k».proof.Proof.Gen.Reference24Ideal.Run
public import proofs.«01_k».proof.Proof.MemFwd
public import Idealize.ShloMosaic.Lib.Claim
public import Idealize.ShloMosaic.Adequacy
public import Idealize.ShloMosaic.Init

@[expose] public section

set_option maxRecDepth 16384

noncomputable section

namespace Cert.PairMemFwd

open Idealize.ShloMosaic Idealize.SL.Sem

theorem frame_kernel : Cert.quiescent_Kernel24 := fun m ρ _ => Cert.Kernel24.Gen.frame m ρ

theorem frame_ideal : Cert.quiescent_Kernel24Ideal := fun m ρ _ => Cert.Kernel24Ideal.Gen.frame m ρ

theorem frame_reference : Cert.quiescent_Reference24Ideal := fun m ρ _ =>
  (θ_run Cert.Reference24Ideal.defs _ _).mono (fun r h => ⟨fun c => (h c).2, sem_eq_zero_of_no_sems (by decide) r.2⟩)
    (Cert.Reference24Ideal.Value.run (F := Ideal) m ρ)

theorem algebraic : Cert.algebraic_Kernel24Ideal_Reference24Ideal := by
  pair_intro
  · run_from Cert.Kernel24Ideal.Value.run_blocks m g
  · run_from Cert.Reference24Ideal.Value.run m' g'
    rw [Cert.Kernel24Ideal.Mem.final m c]
    funext j
    exact Cert.Reference24Ideal.Mem.out _ _ _ j

end Cert.PairMemFwd

end
-- ==== Proof.MixNorm.lean ====
module

public import proofs.«01_k».proof.Proof.Gen.Kernel25Ideal.Frame
public import proofs.«01_k».proof.Proof.Gen.Kernel25Ideal.Value
public import proofs.«01_k».proof.Proof.Gen.Reference25Ideal.Run
public import Idealize.ShloMosaic.Lib.Pipeline.ValueKit
public import Idealize.ShloMosaic.Lib.Pointwise
public import Idealize.ShloMosaic.Lib.Pipeline.ReadBack
public import proofs.«01_k».proof.Proof.Ext

@[expose] public section

set_option maxRecDepth 16384

noncomputable section

open Idealize.ShloMosaic Idealize.ShloMosaic.TcCoe Idealize.SL.Sem
open Idealize.ShloMosaic.Pipeline (Dat)
open scoped BigOperators

/-! The gradient of the layer's input norm: rows of the two gradients, and the gain's gradient summed over the row blocks. -/

namespace Cert.Kernel25Ideal.MixNorm

open Cert.Kernel25Ideal Cert.Kernel25Ideal.Gen

variable (m : (ℓ : Loc nD τ sig) → Buf (Elt Ideal) ℓ)

/-! ## One row, as a function of its entries -/

/-- A row's mean square with the small constant added. -/
def ms (x : Fin 2048 → EReal) : EReal := (∑ k, x k * x k) * Ideal.ofBits FTy.f32 0x3A000000#32 + Ideal.ofBits FTy.f32 0x358637BD#32

/-- The factor of a row's entries in the gradient through the mean square. -/
def wt (x dg : Fin 2048 → EReal) : EReal :=
  (∑ k, x k * dg k) * (Ideal.ofBits FTy.f32 0xBF000000#32 * Ideal.div (Ideal.rsqrt (ms x)) (ms x)) * Ideal.ofBits FTy.f32 0x3A000000#32

/-- An entry of the row's gradient, with the other gradient of the same row added. -/
def dx (x dg r : Fin 2048 → EReal) (j : Fin 2048) : EReal :=
  dg j * Ideal.rsqrt (ms x) + x j * wt x dg + wt x dg * x j + r j

/-- Division by 2048 is the product with its reciprocal. -/
theorem div_len (a : EReal) : Ideal.div a (Ideal.ofBits FTy.f32 0x45000000#32) = a * Ideal.ofBits FTy.f32 0x3A000000#32 := by
  have h0 : Ideal.ofBits FTy.f32 0x45000000#32 = ((2048 : ℝ) : EReal) := by
    simp [Ideal.ofBits, Ideal.ieee]; rw [← EReal.coe_mul]; norm_num
  have h1 : Ideal.ofBits FTy.f32 0x3A000000#32 = (((2048 : ℝ)⁻¹ : ℝ) : EReal) := by
    simp [Ideal.ofBits, Ideal.ieee]; rw [← EReal.coe_mul]; norm_num
  have h2 : ((2048 : ℝ) : EReal) ≠ 0 := by exact_mod_cast (by norm_num : (2048 : ℝ) ≠ 0)
  rw [h0, h1, Ideal.div, if_neg h2, ← EReal.coe_inv]

/-! ## The kernel's blocks -/

theorem pay3_eq (x : FVec Ideal S256x2048 .f32) (i : Fin 256) : k0_pay3 (F := Ideal) x (ix2 i 0) = ms (fun k => x (ix2 i k)) := by
  pointwise [k0_pay3, ms]

theorem pay4_eq (x : FVec Ideal S256x2048 .f32) (i : Fin 256) : k0_pay4 (F := Ideal) x (ix2 i 0) = Ideal.rsqrt (ms (fun k => x (ix2 i k))) :=
  congrArg Ideal.rsqrt (pay3_eq x i)

theorem pay5_eq (x d : FVec Ideal S256x2048 .f32) (j : Fin 2048) :
    k0_pay5 (F := Ideal) x d (ix2 0 j) = ∑ i : Fin 256, x (ix2 i j) * Ideal.rsqrt (ms (fun k => x (ix2 i k))) * d (ix2 i j) := by
  obtain ⟨P, hP⟩ : ∃ P, k0_pay4 (F := Ideal) x = P := ⟨_, rfl⟩
  simp only [← pay4_eq]
  unfold k0_pay5
  rw [hP]
  pointwise

theorem pay6_eq (g : FVec Ideal S1x2048 .f32) (x d r : FVec Ideal S256x2048 .f32) (i : Fin 256) (j : Fin 2048) :
    k0_pay6 (F := Ideal) g x d r (ix2 i j)
      = dx (fun k => x (ix2 i k)) (fun k => (d (ix2 i k) : EReal) * (g (ix2 0 k) : EReal)) (fun k => r (ix2 i k)) j := by
  unfold dx wt
  rw [← pay4_eq, ← pay3_eq]
  obtain ⟨P, hP⟩ : ∃ P, k0_pay4 (F := Ideal) x = P := ⟨_, rfl⟩
  obtain ⟨Q, hQ⟩ : ∃ Q, k0_pay3 (F := Ideal) x = Q := ⟨_, rfl⟩
  unfold k0_pay6
  rw [hP, hQ]
  pointwise
  simp only [Fin.sum_univ_one]

theorem pay2_eq (a b : FVec Ideal S1x2048 .f32) (j : Fin 2048) : k0_pay2 (F := Ideal) a b (ix2 0 j) = (b (ix2 0 j) : EReal) + (a (ix2 0 j) : EReal) := by
  pointwise [k0_pay2]

/-! ## The reference's results -/

/-- The rows' mean squares with the small constant added. -/
abbrev RMS (x : FVec Ideal S2048x2048 .f32) : FVec Ideal Cert.Reference25Ideal.S2048x1 .f32 :=
  addf (Host.divf (broadcastInDim Cert.Reference25Ideal.S2048x1 ![0] Cert.Reference25Ideal.Gen.bcast_S2048_S2048x1_0 (Host.reduceAdd (mulf x x) (constant (F := Ideal) Cert.Reference25Ideal.S_ .f32 0x00000000#32) Cert.Reference25Ideal.Gen.reducesTo_S2048x2048_S2048_d1 Cert.Reference25Ideal.Gen.h_S_))
    (broadcastInDim Cert.Reference25Ideal.S2048x1 ![] Cert.Reference25Ideal.Gen.bcast_S_S2048x1 (constant (F := Ideal) Cert.Reference25Ideal.S_ .f32 0x45000000#32)))
    (broadcastInDim Cert.Reference25Ideal.S2048x1 ![] Cert.Reference25Ideal.Gen.bcast_S_S2048x1 (constant (F := Ideal) Cert.Reference25Ideal.S_ .f32 0x358637BD#32))

/-- The gradient of the normed rows: the incoming one times the gain. -/
abbrev RDG (g : FVec Ideal S2048 .f32) (d : FVec Ideal S2048x2048 .f32) : FVec Ideal S2048x2048 .f32 :=
  mulf d (broadcastInDim Cert.Reference25Ideal.S2048x2048 ![0, 1] Cert.Reference25Ideal.Gen.bcast_S1x2048_S2048x2048_0_1 (broadcastInDim Cert.Reference25Ideal.S1x2048 ![1] Cert.Reference25Ideal.Gen.bcast_S2048_S1x2048_1 g))

/-- The rows' factors, over the rows' mean squares `Q` and their inverse roots `P`. -/
abbrev RWT (x dg : FVec Ideal S2048x2048 .f32) (P Q : FVec Ideal Cert.Reference25Ideal.S2048x1 .f32) : FVec Ideal S2048 .f32 :=
  Host.reduceAdd (Host.divf (mulf (shapeCast Cert.Reference25Ideal.S2048x1 (Host.reduceAdd (mulf x dg) (constant (F := Ideal) Cert.Reference25Ideal.S_ .f32 0x00000000#32) Cert.Reference25Ideal.Gen.reducesTo_S2048x2048_S2048_d1 Cert.Reference25Ideal.Gen.h_S_) Cert.Reference25Ideal.Gen.shapeCasts_S2048_S2048x1)
    (mulf (broadcastInDim Cert.Reference25Ideal.S2048x1 ![] Cert.Reference25Ideal.Gen.bcast_S_S2048x1 (constant (F := Ideal) Cert.Reference25Ideal.S_ .f32 0xBF000000#32)) (Host.divf P Q)))
    (broadcastInDim Cert.Reference25Ideal.S2048x1 ![] Cert.Reference25Ideal.Gen.bcast_S_S2048x1 (constant (F := Ideal) Cert.Reference25Ideal.S_ .f32 0x45000000#32)))
    (constant (F := Ideal) Cert.Reference25Ideal.S_ .f32 0x00000000#32) Cert.Reference25Ideal.Gen.reducesTo_S2048x1_S2048_d1 Cert.Reference25Ideal.Gen.h_S_

/-- The rows' gradients over the factors. -/
abbrev RDX (x dg r : FVec Ideal S2048x2048 .f32) (P : FVec Ideal Cert.Reference25Ideal.S2048x1 .f32) (W : FVec Ideal S2048 .f32) : FVec Ideal S2048x2048 .f32 :=
  addf (addf (addf r (mulf dg (broadcastInDim Cert.Reference25Ideal.S2048x2048 ![0, 1] Cert.Reference25Ideal.Gen.bcast_S2048x1_S2048x2048_0_1 P)))
    (mulf x (broadcastInDim Cert.Reference25Ideal.S2048x2048 ![0] Cert.Reference25Ideal.Gen.bcast_S2048_S2048x2048_0 W)))
    (mulf (broadcastInDim Cert.Reference25Ideal.S2048x2048 ![0] Cert.Reference25Ideal.Gen.bcast_S2048_S2048x2048_0 W) x)

/-- The gain's gradient over the rows' inverse roots. -/
abbrev RG (x d : FVec Ideal S2048x2048 .f32) (P : FVec Ideal Cert.Reference25Ideal.S2048x1 .f32) : FVec Ideal S1x2048 .f32 :=
  shapeCast Cert.Reference25Ideal.S1x2048 (Host.reduceAdd (shapeCast Cert.Reference25Ideal.S1x2048 (Host.reduceAdd (mulf (mulf x (broadcastInDim Cert.Reference25Ideal.S2048x2048 ![0, 1] Cert.Reference25Ideal.Gen.bcast_S2048x1_S2048x2048_0_1 P)) d)
    (constant (F := Ideal) Cert.Reference25Ideal.S_ .f32 0x00000000#32) Cert.Reference25Ideal.Gen.reducesTo_S2048x2048_S2048_d0 Cert.Reference25Ideal.Gen.h_S_) Cert.Reference25Ideal.Gen.shapeCasts_S2048_S1x2048)
    (constant (F := Ideal) Cert.Reference25Ideal.S_ .f32 0x00000000#32) Cert.Reference25Ideal.Gen.reducesTo_S1x2048_S2048_d0 Cert.Reference25Ideal.Gen.h_S_) Cert.Reference25Ideal.Gen.shapeCasts_S2048_S1x2048

/-- The reference's gradient of the rows as one term over the arguments. -/
abbrev REF (x : FVec Ideal S2048x2048 .f32) (g : FVec Ideal S2048 .f32) (d r : FVec Ideal S2048x2048 .f32) : FVec Ideal S2048x2048 .f32 :=
  RDX x (RDG g d) r (Host.rsqrt (RMS x)) (RWT x (RDG g d) (Host.rsqrt (RMS x)) (RMS x))

theorem rms_eq (x : FVec Ideal S2048x2048 .f32) (i : Fin 2048) : RMS x (ix2 i 0) = ms (fun k => x (ix2 i k)) := by
  pointwise [RMS, ms]
  rw [div_len]

theorem rrs_eq (x : FVec Ideal S2048x2048 .f32) (i : Fin 2048) : Host.rsqrt (F := Ideal) (RMS x) (ix2 i 0) = Ideal.rsqrt (ms (fun k => x (ix2 i k))) :=
  congrArg Ideal.rsqrt (rms_eq x i)

theorem rdg_eq (g : FVec Ideal S2048 .f32) (d : FVec Ideal S2048x2048 .f32) (i k : Fin 2048) : RDG g d (ix2 i k) = (d (ix2 i k) : EReal) * (g (ix1 k) : EReal) := by
  pointwise [RDG]

theorem rwt_eq (x dg : FVec Ideal S2048x2048 .f32) (P Q : FVec Ideal Cert.Reference25Ideal.S2048x1 .f32) (i : Fin 2048) :
    RWT x dg P Q (ix1 i) = (∑ k : Fin 2048, (x (ix2 i k) : EReal) * (dg (ix2 i k) : EReal))
      * (Ideal.ofBits FTy.f32 0xBF000000#32 * Ideal.div (P (ix2 i 0)) (Q (ix2 i 0))) * Ideal.ofBits FTy.f32 0x3A000000#32 := by
  pointwise [RWT]
  simp only [Fin.sum_univ_one]
  rw [div_len]

theorem rdx_eq (x dg r : FVec Ideal S2048x2048 .f32) (P : FVec Ideal Cert.Reference25Ideal.S2048x1 .f32) (W : FVec Ideal S2048 .f32) (i j : Fin 2048) :
    RDX x dg r P W (ix2 i j) = (dg (ix2 i j) : EReal) * (P (ix2 i 0) : EReal) + (x (ix2 i j) : EReal) * (W (ix1 i) : EReal) + (W (ix1 i) : EReal) * (x (ix2 i j) : EReal) + (r (ix2 i j) : EReal) := by
  pointwise [RDX]
  rw [add_comm, ← add_assoc, add_comm]
  abel

theorem ref_eq (x : FVec Ideal S2048x2048 .f32) (g : FVec Ideal S2048 .f32) (d r : FVec Ideal S2048x2048 .f32) (i j : Fin 2048) :
    REF x g d r (ix2 i j) = dx (fun k => x (ix2 i k)) (fun k => (d (ix2 i k) : EReal) * (g (ix1 k) : EReal)) (fun k => r (ix2 i k)) j := by
  refine (rdx_eq x _ r _ _ i j).trans ?_
  rw [rwt_eq, rrs_eq, rms_eq, rdg_eq]
  simp only [rdg_eq]
  rfl

theorem rg_eq (x d : FVec Ideal S2048x2048 .f32) (P : FVec Ideal Cert.Reference25Ideal.S2048x1 .f32) (j : Fin 2048) :
    RG x d P (ix2 0 j) = ∑ i : Fin 2048, (x (ix2 i j) : EReal) * (P (ix2 i 0) : EReal) * (d (ix2 i j) : EReal) := by
  pointwise [RG]
  simp only [Fin.sum_univ_one]

/-! ## The blocks of the arguments -/

theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![t.val, 0] ∧ win0_6.index t = ![0, 0] :=
  (by decide +kernel : ∀ t : Fin grid0.N, _)

theorem V_g (c : Dev nD) : V m c main_v0 = shapeCast S1x2048 (m ((c.tc : Thread nD τ).loc main_arg1)) shapeCasts_S2048_S1x2048 := by
  unfold V
  simp only [hostOps0, List.flatten_cons, List.flatten_nil, List.append_nil, List.cons_append, List.nil_append]
  after_results
  rfl

theorem bx (c : Dev nD) (t : Fin cfg0.N) (i : Fin 256) (k r : Fin 2048) (hr : r.val = t.val * 256 + i.val) :
    iblk m c 0 t (ix2 i k) = m ((c.tc : Thread nD τ).loc main_arg0) (ix2 r k) := by
  blk_ext [iblk, V, idx t]

theorem bd (c : Dev nD) (t : Fin cfg0.N) (i : Fin 256) (k r : Fin 2048) (hr : r.val = t.val * 256 + i.val) :
    iblk m c 2 t (ix2 i k) = m ((c.tc : Thread nD τ).loc main_arg2) (ix2 r k) := by
  blk_ext [iblk, V, idx t]

theorem br (c : Dev nD) (t : Fin cfg0.N) (i : Fin 256) (k r : Fin 2048) (hr : r.val = t.val * 256 + i.val) :
    iblk m c 3 t (ix2 i k) = m ((c.tc : Thread nD τ).loc main_arg3) (ix2 r k) := by
  blk_ext [iblk, V, idx t]

theorem bg (c : Dev nD) (t : Fin cfg0.N) (k : Fin 2048) : iblk m c 1 t (ix2 0 k) = m ((c.tc : Thread nD τ).loc main_arg1) (ix1 k) := by
  blk_simp [iblk, idx t]
  rw [V_g]
  pointwise
  have h1 : (((View.whole main_v0).slice (win0_1.rect t)).emb (ix2 0 k) 1 : ℕ) = k.val := by
    show win0_1.index t 1 * 2048 + 1 * k.val = _
    rw [(idx t).2.1]; show 0 * 2048 + 1 * k.val = _; omega
  exact congrArg _ (congrArg ix1 (Fin.ext h1))

/-- A point's block of the rows' gradients is the reference's. -/
theorem point (c : Dev nD) (t : Fin cfg0.N) (i : Fin 256) (j r : Fin 2048) (hr : r.val = t.val * 256 + i.val) :
    k0_pay6 (F := Ideal) (iblk m c 1 t) (iblk m c 0 t) (iblk m c 2 t) (iblk m c 3 t) (ix2 i j)
      = REF (m ((c.tc : Thread nD τ).loc main_arg0)) (m ((c.tc : Thread nD τ).loc main_arg1)) (m ((c.tc : Thread nD τ).loc main_arg2)) (m ((c.tc : Thread nD τ).loc main_arg3)) (ix2 r j) := by
  rw [ref_eq]
  refine (pay6_eq _ _ _ _ i j).trans ?_
  rw [funext fun k => bx m c t i k r hr, funext fun k => br m c t i k r hr]
  exact congrArg (fun f => dx _ f _ j) (funext fun k => congrArg₂ (fun a b : EReal => a * b) (bd m c t i k r hr) (bg m c t k))

/-- What point `t` adds to the gain's gradient. -/
def term (c : Dev nD) (t : Fin cfg0.N) (y : S1x2048.Idx) : EReal := k0_pay5 (F := Ideal) (iblk m c 0 t) (iblk m c 2 t) (ix2 0 (y 1))

theorem term_eq (c : Dev nD) (t : Fin cfg0.N) (y : S1x2048.Idx) (l : Fin 256 → Fin 2048) (hl : ∀ k, (l k).val = t.val * 256 + k.val)
    (x d : FVec Ideal S2048x2048 .f32) (e0 : m ((c.tc : Thread nD τ).loc main_arg0) = x) (e2 : m ((c.tc : Thread nD τ).loc main_arg2) = d) :
    term m c t y = ∑ i : Fin 256, x (ix2 (l i) (y 1)) * Ideal.rsqrt (ms (fun k => x (ix2 (l i) k))) * d (ix2 (l i) (y 1)) := by
  subst e0 e2
  refine (pay5_eq _ _ _).trans (Finset.sum_congr rfl fun i _ => ?_)
  rw [funext fun k => bx m c t i k (l i) (hl i), bx m c t i (y 1) (l i) (hl i), bd m c t i (y 1) (l i) (hl i)]

theorem eta1 (f : FVec Ideal S1x2048 .f32) (y : S1x2048.Idx) : f (ix2 0 (y 1)) = f y :=
  congrArg f (funext fun a => match a with | ⟨0, _⟩ => Subsingleton.elim (α := Fin 1) _ _ | ⟨1, _⟩ => rfl)

theorem eta2 (f : FVec Ideal S2048x2048 .f32) (j : S2048x2048.Idx) : f (ix2 (j 0) (j 1)) = f j :=
  congrArg f (funext fun a => match a with | ⟨0, _⟩ => rfl | ⟨1, _⟩ => rfl)

theorem eta3 (f : FVec Ideal S256x2048 .f32) (y : S256x2048.Idx) : f (ix2 (y 0) (y 1)) = f y :=
  congrArg f (funext fun a => match a with | ⟨0, _⟩ => rfl | ⟨1, _⟩ => rfl)

/-! ## What the points leave in the three results -/

theorem out4 (c : Dev nD) (t : Fin cfg0.N) (y : S256x2048.Idx) :
    (outsAt0 m c t.val t.isLt).1 y = k0_pay6 (F := Ideal) (iblk m c 1 t) (iblk m c 0 t) (iblk m c 2 t) (iblk m c 3 t) y := by
  by_cases h : t.val % 8 = 0
  · rw [outsAt0_A m c t h (by have := lt_of_lt_of_eq t.isLt (show cfg0.N = 8 from N_0); omega)]; frame_out
  · rw [outsAt0_B m c t h (by omega)]; frame_out

theorem out5 (c : Dev nD) (t : Fin cfg0.N) (y : S256x2048.Idx) :
    (outsAt0 m c t.val t.isLt).2.1 y = k0_pay6 (F := Ideal) (iblk m c 1 t) (iblk m c 0 t) (iblk m c 2 t) (iblk m c 3 t) y := by
  by_cases h : t.val % 8 = 0
  · rw [outsAt0_A m c t h (by have := lt_of_lt_of_eq t.isLt (show cfg0.N = 8 from N_0); omega)]; frame_out
    rfl
  · rw [outsAt0_B m c t h (by omega)]; frame_out
    rfl

theorem out6_0 (c : Dev nD) (t : Fin cfg0.N) (h : t.val % 8 = 0) (y : S1x2048.Idx) : (outsAt0 m c t.val t.isLt).2.2 y = (0 : EReal) + term m c t y := by
  rw [outsAt0_A m c t h (by have := lt_of_lt_of_eq t.isLt (show cfg0.N = 8 from N_0); omega)]; frame_out
  rw [zero_add]
  exact (eta1 _ y).symm

theorem out6_1 (c : Dev nD) (t : Fin cfg0.N) (h : ¬t.val % 8 = 0) (y : S1x2048.Idx) :
    (outsAt0 m c t.val t.isLt).2.2 y = ((outsAt0 m c (t.val - 1) (Nat.lt_of_le_of_lt (Nat.sub_le _ _) t.isLt)).2.2 y : EReal) + term m c t y := by
  rw [outsAt0_B m c t h (by omega)]; frame_out
  refine (eta1 _ y).symm.trans ((pay2_eq _ _ _).trans (congrArg₂ (fun a b : EReal => a + b) (eta1 _ y) rfl))

theorem e45 (t : Fin cfg0.N) (y : S256x2048.Idx) : ((((cfg0.win 4).blk t).view.emb y) 0 : ℕ) = t.val * 256 + (y 0).val
    ∧ ((((cfg0.win 4).blk t).view.emb y) 1 : ℕ) = (y 1).val := by
  refine ⟨?_, ?_⟩
  · show win0_4.index t 0 * 256 + 1 * (y 0).val = _
    rw [(idx t).2.2.2.2.1]; show t.val * 256 + 1 * (y 0).val = _; omega
  · show win0_4.index t 1 * 2048 + 1 * (y 1).val = _
    rw [(idx t).2.2.2.2.1]; show 0 * 2048 + 1 * (y 1).val = _; omega

theorem e55 (t : Fin cfg0.N) (y : S256x2048.Idx) : ((((cfg0.win 5).blk t).view.emb y) 0 : ℕ) = t.val * 256 + (y 0).val
    ∧ ((((cfg0.win 5).blk t).view.emb y) 1 : ℕ) = (y 1).val := by
  refine ⟨?_, ?_⟩
  · show win0_5.index t 0 * 256 + 1 * (y 0).val = _
    rw [(idx t).2.2.2.2.2.1]; show t.val * 256 + 1 * (y 0).val = _; omega
  · show win0_5.index t 1 * 2048 + 1 * (y 1).val = _
    rw [(idx t).2.2.2.2.2.1]; show 0 * 2048 + 1 * (y 1).val = _; omega

theorem e65 (t : Fin cfg0.N) (y : S1x2048.Idx) : ((((cfg0.win 6).blk t).view.emb y) 1 : ℕ) = (y 1).val := by
  show win0_6.index t 1 * 2048 + 1 * (y 1).val = _
  rw [(idx t).2.2.2.2.2.2]; show 0 * 2048 + 1 * (y 1).val = _; omega

/-- A point's block of the rows' gradients, at an index of the whole array. -/
theorem block (c : Dev nD) (t : Fin cfg0.N) (y : S256x2048.Idx) (z : S2048x2048.Idx) (h0 : (z 0 : ℕ) = t.val * 256 + (y 0).val) (h1 : (z 1 : ℕ) = (y 1).val) :
    k0_pay6 (F := Ideal) (iblk m c 1 t) (iblk m c 0 t) (iblk m c 2 t) (iblk m c 3 t) y
      = REF (m ((c.tc : Thread nD τ).loc main_arg0)) (m ((c.tc : Thread nD τ).loc main_arg1)) (m ((c.tc : Thread nD τ).loc main_arg2)) (m ((c.tc : Thread nD τ).loc main_arg3)) z := by
  refine (eta3 _ y).symm.trans ((point m c t (y 0) (y 1) (z 0) h0).trans (Eq.trans ?_ (eta2 _ z)))
  exact congrArg (fun b => REF _ _ _ _ (ix2 (z 0) b)) (Fin.ext h1.symm)

/-- The rows' gradients after the run are the reference's term over the arguments. -/
theorem final4 (c : Dev nD) : (dats m 0 c).arrAt 4 (cfgs 0).N
    = REF (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 4 _ (by decide +kernel) fun t hf y => ?_
  blk_simp
  rw [after0_4, out4 m c t]
  exact block m c t y _ (e45 t y).1 (e45 t y).2

/-- Their copy after the run is the reference's term over the arguments. -/
theorem final5 (c : Dev nD) : (dats m 0 c).arrAt 5 (cfgs 0).N
    = truncf .bf16 (REF (m ((c.tc : Thread nD τ).loc main_arg0)) (m ((c.tc : Thread nD τ).loc main_arg1)) (m ((c.tc : Thread nD τ).loc main_arg2)) (m ((c.tc : Thread nD τ).loc main_arg3))) Cert.Reference25Ideal.Gen.bitsLt_bf16_f32 := by
  refine (dats m 0 c).arrAt_eq_of_covers 5 _ (by decide +kernel) fun t hf y => ?_
  blk_simp
  rw [after0_5, out5 m c t]
  exact block m c t y _ (e55 t y).1 (e55 t y).2

/-- The eight points' parts of an entry of the gain's gradient are its whole sum. -/
theorem run_eq (c : Dev nD) (t : Fin cfg0.N) (h : ∀ s : Fin 8, 8 * (t.val / 8) + s.val < cfg0.N) (y : S1x2048.Idx)
    (x d : FVec Ideal S2048x2048 .f32) (e0 : m ((c.tc : Thread nD τ).loc main_arg0) = x) (e2 : m ((c.tc : Thread nD τ).loc main_arg2) = d) :
    (∑ s : Fin 8, term m c ⟨8 * (t.val / 8) + s.val, h s⟩ y) = RG x d (Host.rsqrt (RMS x)) (ix2 0 (y 1)) := by
  have hN := lt_of_lt_of_eq t.isLt (show cfg0.N = 8 from N_0)
  refine Eq.trans ?_ (rg_eq _ _ _ (y 1)).symm
  simp only [rrs_eq]
  refine Eq.trans (Finset.sum_congr rfl fun s _ => term_eq m c _ y (fun k => ⟨s.val * 256 + k.val, by omega⟩) ?_ _ _ e0 e2)
    (Fin.sum_mul_add_congr fun s k hl => rfl)
  intro k; show s.val * 256 + k.val = (8 * (t.val / 8) + s.val) * 256 + k.val; omega

/-- The gain's gradient after the run is the reference's term over the arguments. -/
theorem final6 (c : Dev nD) : (dats m 0 c).arrAt 6 (cfgs 0).N
    = RG (m ((c.tc : Thread nD τ).loc main_arg0)) (m ((c.tc : Thread nD τ).loc main_arg2)) (Host.rsqrt (RMS (m ((c.tc : Thread nD τ).loc main_arg0)))) := by
  refine (dats m 0 c).arrAt_eq_of_covers 6 _ (by decide +kernel) fun t hf y => ?_
  have hr : t.val % 8 = 7 := (flush0_6 t).mp hf
  blk_simp
  rw [after0_6, Pipeline.eq_sum_fin_of_reset_step_apply_of_flush (fun n h => (outsAt0 m c n h).2.2) 8 (fun _ => (0 : EReal))
      (fun t y => term m c t y) (fun t h j => out6_0 m c t h j) (fun t h j => out6_1 m c t h j) t hr _, zero_add]
  refine (run_eq m c t _ y _ _ rfl rfl).trans (Eq.trans ?_ (eta1 _ _))
  exact congrArg (fun b => RG _ _ _ (ix2 0 b)) (Fin.ext (e65 t y).symm)

end Cert.Kernel25Ideal.MixNorm

end
-- ==== Proof.PairMixNorm.lean ====
module

public import proofs.«01_k».proof.Defs
public import proofs.«01_k».proof.Proof.Gen.Kernel25.Frame
public import proofs.«01_k».proof.Proof.Gen.Kernel25Ideal.Frame
public import proofs.«01_k».proof.Proof.Gen.Reference25Ideal
public import proofs.«01_k».proof.Proof.Gen.Kernel25Ideal.Value
public import proofs.«01_k».proof.Proof.Gen.Reference25Ideal.Run
public import proofs.«01_k».proof.Proof.MixNorm
public import Idealize.ShloMosaic.Lib.Claim
public import Idealize.ShloMosaic.Adequacy
public import Idealize.ShloMosaic.Init

@[expose] public section

set_option maxRecDepth 16384

noncomputable section

namespace Cert.PairMixNorm

open Idealize.ShloMosaic Idealize.SL.Sem

theorem frame_kernel : Cert.quiescent_Kernel25 := fun m ρ _ => Cert.Kernel25.Gen.frame m ρ

theorem frame_ideal : Cert.quiescent_Kernel25Ideal := fun m ρ _ => Cert.Kernel25Ideal.Gen.frame m ρ

theorem frame_reference : Cert.quiescent_Reference25Ideal := fun m ρ _ =>
  (θ_run Cert.Reference25Ideal.defs _ _).mono (fun r h => ⟨fun c => (h c).2.2.2, sem_eq_zero_of_no_sems (by decide) r.2⟩)
    (Cert.Reference25Ideal.Value.run (F := Ideal) m ρ)

theorem algebraic : Cert.algebraic_Kernel25Ideal_Reference25Ideal := by
  pair_intro
  · run_from Cert.Kernel25Ideal.Value.run_blocks m g
  · run_from Cert.Reference25Ideal.Value.run m' g'
    · exact (Cert.Kernel25Ideal.MixNorm.final4 m c).symm
    · exact (Cert.Kernel25Ideal.MixNorm.final5 m c).symm
    · exact (Cert.Kernel25Ideal.MixNorm.final6 m c).symm

end Cert.PairMixNorm

end
-- ==== Proof.Prods.lean ====
module

public import proofs.«01_k».proof.Proof.Gen.Kernel26Ideal.Frame
public import proofs.«01_k».proof.Proof.Gen.Kernel26Ideal.Value
public import proofs.«01_k».proof.Proof.Gen.Reference26Ideal.Run
public import proofs.«01_k».proof.Proof.Gen.Kernel27Ideal.Frame
public import proofs.«01_k».proof.Proof.Gen.Kernel27Ideal.Value
public import proofs.«01_k».proof.Proof.Gen.Reference27Ideal.Run
public import proofs.«01_k».proof.Proof.Gen.Kernel28Ideal.Frame
public import proofs.«01_k».proof.Proof.Gen.Kernel28Ideal.Value
public import proofs.«01_k».proof.Proof.Gen.Reference28Ideal.Run
public import proofs.«01_k».proof.Proof.Gen.Kernel29Ideal.Frame
public import proofs.«01_k».proof.Proof.Gen.Kernel29Ideal.Value
public import proofs.«01_k».proof.Proof.Gen.Reference29Ideal.Run
public import proofs.«01_k».proof.Proof.Gen.Kernel30Ideal.Frame
public import proofs.«01_k».proof.Proof.Gen.Kernel30Ideal.Value
public import proofs.«01_k».proof.Proof.Gen.Reference30Ideal.Run
public import proofs.«01_k».proof.Proof.Gen.Kernel31Ideal.Frame
public import proofs.«01_k».proof.Proof.Gen.Kernel31Ideal.Value
public import proofs.«01_k».proof.Proof.Gen.Reference31Ideal.Run
public import proofs.«01_k».proof.Proof.Gen.Kernel32Ideal.Frame
public import proofs.«01_k».proof.Proof.Gen.Kernel32Ideal.Value
public import proofs.«01_k».proof.Proof.Gen.Reference32Ideal.Run
public import proofs.«01_k».proof.Proof.Gen.Kernel33Ideal.Frame
public import proofs.«01_k».proof.Proof.Gen.Kernel33Ideal.Value
public import proofs.«01_k».proof.Proof.Gen.Reference33Ideal.Run
public import Idealize.ShloMosaic.Lib.Pipeline.ValueKit
public import Idealize.ShloMosaic.Lib.Pointwise
public import proofs.«01_k».proof.Proof.Ext

@[expose] public section

set_option maxRecDepth 16384

noncomputable section

open Idealize.ShloMosaic Idealize.ShloMosaic.TcCoe Idealize.SL.Sem
open Idealize.ShloMosaic.Pipeline (Dat)
open scoped BigOperators

/-! The small products: every block of the kernel's result is the same block of the reference's product. -/

namespace Cert.Kernel26Ideal.MemKvDx

open Cert.Kernel26Ideal Cert.Kernel26Ideal.Gen

variable (m : (ℓ : Loc nD τ sig) → Buf (Elt Ideal) ℓ)

/-- The reference's result as one term over the four arguments: the two products with the transposed weights, added. -/
abbrev REF (a0 : FVec Ideal S256x512 .bf16) (a1 : FVec Ideal S256x512 .f32) (a2 a3 : FVec Ideal S2048x512 .bf16) : FVec Ideal S256x2048 .f32 :=
  addf (Host.dotGeneral (F := Ideal) Cert.Reference26Ideal.dot_S256x512_S2048x512_S256x2048_1_1_0_0_n_n none a1 (extf .f32 a3 Cert.Reference26Ideal.Gen.bitsLt_bf16_f32))
    (Host.dotGeneral (F := Ideal) Cert.Reference26Ideal.dot_S256x512_S2048x512_S256x2048_1_1_0_0_n_n none (extf .f32 a0 Cert.Reference26Ideal.Gen.bitsLt_bf16_f32) (extf .f32 a2 Cert.Reference26Ideal.Gen.bitsLt_bf16_f32))

theorem idx : ∀ t : Fin cfg0.N, win0_0.index t = ![0, 0] ∧ win0_1.index t = ![t.val, 0] ∧ win0_2.index t = ![0, 0]
    ∧ win0_3.index t = ![t.val, 0] ∧ win0_4.index t = ![0, t.val] :=
  (by decide +kernel : ∀ t : Fin grid0.N, _)

theorem point (c : Dev nD) (t : Fin cfg0.N) (y) :
    k0_pay1 (iblk m c 0 t) (iblk m c 1 t) (iblk m c 2 t) (iblk m c 3 t) y
      = REF (m ((c : Thread nD τ).loc main_arg0)) (m ((c : Thread nD τ).loc main_arg1)) (m ((c : Thread nD τ).loc main_arg2)) (m ((c : Thread nD τ).loc main_arg3)) (((cfg0.win 4).blk t).view.emb y) := by
  pointwise [k0_pay1, REF]
  refine (add_comm _ _).trans ?_
  refine congrArg₂ (fun a b : EReal => a + b) (Fin.sum_fin_congr fun k => ?_) (Fin.sum_fin_congr fun k => ?_)
  · blk_point [iblk, V, idx t]
  · blk_point [iblk, V, idx t]

/-- The result array after the run is the reference's term over the arguments. -/
theorem final (c : Dev nD) : (dats m 0 c).arrAt 4 (cfgs 0).N
    = REF (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp; rw [after0_4]; frame_out
  exact point m c t y

end Cert.Kernel26Ideal.MemKvDx

namespace Cert.Kernel27Ideal.MemKDw

open Cert.Kernel27Ideal Cert.Kernel27Ideal.Gen

variable (m : (ℓ : Loc nD τ sig) → Buf (Elt Ideal) ℓ)

/-- The reference's result as one term over the two arguments. -/
abbrev REF (a0 : FVec Ideal S256x2048 .bf16) (a1 : FVec Ideal S256x512 .bf16) : FVec Ideal S2048x512 .f32 :=
  transpose Cert.Reference27Ideal.S2048x512 [1, 0] (Host.dotGeneral (F := Ideal) Cert.Reference27Ideal.dot_S256x512_S256x2048_S512x2048_0_0_1_1_n_n none (extf .f32 a1 Cert.Reference27Ideal.Gen.bitsLt_bf16_f32) (extf .f32 a0 Cert.Reference27Ideal.Gen.bitsLt_bf16_f32)) Cert.Reference27Ideal.Gen.transposes_S512x2048_S2048x512_1_0

theorem idx : ∀ t : Fin cfg0.N, win0_0.index t = ![0, t.val] ∧ win0_1.index t = ![0, 0] ∧ win0_2.index t = ![t.val, 0] :=
  (by decide +kernel : ∀ t : Fin grid0.N, _)

theorem point (c : Dev nD) (t : Fin cfg0.N) (y) :
    k0_pay1 (iblk m c 0 t) (iblk m c 1 t) y
      = REF (m ((c : Thread nD τ).loc main_arg0)) (m ((c : Thread nD τ).loc main_arg1)) (((cfg0.win 2).blk t).view.emb y) := by
  pointwise [k0_pay1, REF]
  refine Fin.sum_fin_congr fun k => ?_
  refine (mul_comm _ _).trans ?_
  blk_point [iblk, V, idx t]

/-- The result array after the run is the reference's term over the arguments. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp; rw [after0_2]; frame_out
  exact point m c t y

end Cert.Kernel27Ideal.MemKDw

namespace Cert.Kernel28Ideal.MemVDw

open Cert.Kernel28Ideal Cert.Kernel28Ideal.Gen

variable (m : (ℓ : Loc nD τ sig) → Buf (Elt Ideal) ℓ)

/-- The reference's result as one term over the two arguments. -/
abbrev REF (a0 : FVec Ideal S256x2048 .bf16) (a1 : FVec Ideal S256x512 .f32) : FVec Ideal S2048x512 .f32 :=
  transpose Cert.Reference28Ideal.S2048x512 [1, 0] (Host.dotGeneral (F := Ideal) Cert.Reference28Ideal.dot_S256x512_S256x2048_S512x2048_0_0_1_1_n_n none a1 (extf .f32 a0 Cert.Reference28Ideal.Gen.bitsLt_bf16_f32)) Cert.Reference28Ideal.Gen.transposes_S512x2048_S2048x512_1_0

theorem idx : ∀ t : Fin cfg0.N, win0_0.index t = ![0, t.val] ∧ win0_1.index t = ![0, 0] ∧ win0_2.index t = ![t.val, 0] :=
  (by decide +kernel : ∀ t : Fin grid0.N, _)

theorem point (c : Dev nD) (t : Fin cfg0.N) (y) :
    k0_pay1 (iblk m c 0 t) (iblk m c 1 t) y
      = REF (m ((c : Thread nD τ).loc main_arg0)) (m ((c : Thread nD τ).loc main_arg1)) (((cfg0.win 2).blk t).view.emb y) := by
  pointwise [k0_pay1, REF]
  refine Fin.sum_fin_congr fun k => ?_
  refine (mul_comm _ _).trans ?_
  blk_point [iblk, V, idx t]

/-- The result array after the run is the reference's term over the arguments. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp; rw [after0_2]; frame_out
  exact point m c t y

end Cert.Kernel28Ideal.MemVDw

namespace Cert.Kernel29Ideal.QUp

open Cert.Kernel29Ideal Cert.Kernel29Ideal.Gen

variable (m : (ℓ : Loc nD τ sig) → Buf (Elt Ideal) ℓ)

/-- The reference's result as one term over the two arguments. -/
abbrev REF (a0 : FVec Ideal S2048x512 .bf16) (a1 : FVec Ideal S512x2048 .bf16) : FVec Ideal S2048x2048 .f32 :=
  Host.dotGeneral (F := Ideal) Cert.Reference29Ideal.dot_S2048x512_S512x2048_S2048x2048_1_0_0_1_n_n none (extf .f32 a0 Cert.Reference29Ideal.Gen.bitsLt_bf16_f32) (extf .f32 a1 Cert.Reference29Ideal.Gen.bitsLt_bf16_f32)

theorem idx : ∀ t : Fin cfg0.N, win0_0.index t = ![t.val / 2, 0] ∧ win0_1.index t = ![0, t.val % 2] ∧ win0_2.index t = ![t.val / 2, t.val % 2] :=
  (by decide +kernel : ∀ t : Fin grid0.N, _)

theorem point (c : Dev nD) (t : Fin cfg0.N) (y) :
    k0_pay1 (iblk m c 0 t) (iblk m c 1 t) y
      = REF (m ((c : Thread nD τ).loc main_arg0)) (m ((c : Thread nD τ).loc main_arg1)) (((cfg0.win 2).blk t).view.emb y) := by
  pointwise [k0_pay1, REF]
  refine Fin.sum_fin_congr fun k => ?_
  blk_point [iblk, V, idx t]

/-- The result array after the run is the reference's term over the arguments. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp; rw [after0_2]; frame_out
  exact point m c t y

end Cert.Kernel29Ideal.QUp

namespace Cert.Kernel30Ideal.KvUp

open Cert.Kernel30Ideal Cert.Kernel30Ideal.Gen

variable (m : (ℓ : Loc nD τ sig) → Buf (Elt Ideal) ℓ)

/-- The reference's result as one term over the two arguments. -/
abbrev REF (a0 : FVec Ideal S2048x256 .bf16) (a1 : FVec Ideal S256x2048 .bf16) : FVec Ideal S2048x2048 .f32 :=
  Host.dotGeneral (F := Ideal) Cert.Reference30Ideal.dot_S2048x256_S256x2048_S2048x2048_1_0_0_1_n_n none (extf .f32 a0 Cert.Reference30Ideal.Gen.bitsLt_bf16_f32) (extf .f32 a1 Cert.Reference30Ideal.Gen.bitsLt_bf16_f32)

theorem idx : ∀ t : Fin cfg0.N, win0_0.index t = ![t.val / 2, 0] ∧ win0_1.index t = ![0, t.val % 2] ∧ win0_2.index t = ![t.val / 2, t.val % 2] :=
  (by decide +kernel : ∀ t : Fin grid0.N, _)

theorem point (c : Dev nD) (t : Fin cfg0.N) (y) :
    k0_pay1 (iblk m c 0 t) (iblk m c 1 t) y
      = REF (m ((c : Thread nD τ).loc main_arg0)) (m ((c : Thread nD τ).loc main_arg1)) (((cfg0.win 2).blk t).view.emb y) := by
  pointwise [k0_pay1, REF]
  refine Fin.sum_fin_congr fun k => ?_
  blk_point [iblk, V, idx t]

/-- The result array after the run is the reference's term over the arguments. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp; rw [after0_2]; frame_out
  exact point m c t y

end Cert.Kernel30Ideal.KvUp

namespace Cert.Kernel31Ideal.MemQ

open Cert.Kernel31Ideal Cert.Kernel31Ideal.Gen

variable (m : (ℓ : Loc nD τ sig) → Buf (Elt Ideal) ℓ)

/-- The reference's result as one term over the two arguments. -/
abbrev REF (a0 : FVec Ideal S2048x2048 .bf16) (a1 : FVec Ideal S2048x512 .bf16) : FVec Ideal S2048x512 .f32 :=
  Host.dotGeneral (F := Ideal) Cert.Reference31Ideal.dot_S2048x2048_S2048x512_S2048x512_1_0_0_1_n_n none (extf .f32 a0 Cert.Reference31Ideal.Gen.bitsLt_bf16_f32) (extf .f32 a1 Cert.Reference31Ideal.Gen.bitsLt_bf16_f32)

theorem idx : ∀ t : Fin cfg0.N, win0_0.index t = ![t.val, 0] ∧ win0_1.index t = ![0, 0] ∧ win0_2.index t = ![t.val, 0] :=
  (by decide +kernel : ∀ t : Fin grid0.N, _)

theorem point (c : Dev nD) (t : Fin cfg0.N) (y) :
    k0_pay1 (iblk m c 0 t) (iblk m c 1 t) y
      = REF (m ((c : Thread nD τ).loc main_arg0)) (m ((c : Thread nD τ).loc main_arg1)) (((cfg0.win 2).blk t).view.emb y) := by
  pointwise [k0_pay1, REF]
  refine Fin.sum_fin_congr fun k => ?_
  blk_point [iblk, V, idx t]

/-- The result array after the run is the reference's term over the arguments. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp; rw [after0_2]; frame_out
  exact point m c t y

end Cert.Kernel31Ideal.MemQ

namespace Cert.Kernel32Ideal.MemK

open Cert.Kernel32Ideal Cert.Kernel32Ideal.Gen

variable (m : (ℓ : Loc nD τ sig) → Buf (Elt Ideal) ℓ)

/-- The reference's result as one term over the two arguments. -/
abbrev REF (a0 : FVec Ideal S256x2048 .bf16) (a1 : FVec Ideal S2048x512 .bf16) : FVec Ideal S256x512 .f32 :=
  Host.dotGeneral (F := Ideal) Cert.Reference32Ideal.dot_S256x2048_S2048x512_S256x512_1_0_0_1_n_n none (extf .f32 a0 Cert.Reference32Ideal.Gen.bitsLt_bf16_f32) (extf .f32 a1 Cert.Reference32Ideal.Gen.bitsLt_bf16_f32)

theorem idx : ∀ t : Fin cfg0.N, win0_0.index t = ![0, 0] ∧ win0_1.index t = ![0, 0] ∧ win0_2.index t = ![0, 0] :=
  (by decide +kernel : ∀ t : Fin grid0.N, _)

theorem point (c : Dev nD) (t : Fin cfg0.N) (y) :
    k0_pay1 (iblk m c 0 t) (iblk m c 1 t) y
      = REF (m ((c : Thread nD τ).loc main_arg0)) (m ((c : Thread nD τ).loc main_arg1)) (((cfg0.win 2).blk t).view.emb y) := by
  pointwise [k0_pay1, REF]
  refine Fin.sum_fin_congr fun k => ?_
  blk_point [iblk, V, idx t]

/-- The result array after the run is the reference's term over the arguments. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp; rw [after0_2]; frame_out
  exact point m c t y

end Cert.Kernel32Ideal.MemK

namespace Cert.Kernel33Ideal.MemO

open Cert.Kernel33Ideal Cert.Kernel33Ideal.Gen

variable (m : (ℓ : Loc nD τ sig) → Buf (Elt Ideal) ℓ)

/-- The reference's result as one term over the three arguments. -/
abbrev REF (a0 : FVec Ideal S2048x512 .bf16) (a1 : FVec Ideal S512x2048 .bf16) (a2 : FVec Ideal S2048x2048 .f32) : FVec Ideal S2048x2048 .f32 :=
  addf a2 (Host.dotGeneral (F := Ideal) Cert.Reference33Ideal.dot_S2048x512_S512x2048_S2048x2048_1_0_0_1_n_n none (extf .f32 a0 Cert.Reference33Ideal.Gen.bitsLt_bf16_f32) (extf .f32 a1 Cert.Reference33Ideal.Gen.bitsLt_bf16_f32))

theorem idx : ∀ t : Fin cfg0.N, win0_0.index t = ![t.val / 2, 0] ∧ win0_1.index t = ![0, t.val % 2] ∧ win0_2.index t = ![t.val / 2, t.val % 2]
    ∧ win0_3.index t = ![t.val / 2, t.val % 2] :=
  (by decide +kernel : ∀ t : Fin grid0.N, _)

theorem point (c : Dev nD) (t : Fin cfg0.N) (y) :
    k0_pay1 (iblk m c 0 t) (iblk m c 1 t) (iblk m c 2 t) y
      = REF (m ((c : Thread nD τ).loc main_arg0)) (m ((c : Thread nD τ).loc main_arg1)) (m ((c : Thread nD τ).loc main_arg2)) (((cfg0.win 3).blk t).view.emb y) := by
  pointwise [k0_pay1, REF]
  refine congrArg₂ (fun a b : EReal => a + b) ?_ (Fin.sum_fin_congr fun k => ?_)
  · blk_point [iblk, V, idx t]
  · blk_point [iblk, V, idx t]

/-- The result array after the run is the reference's term over the arguments. -/
theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp; rw [after0_3]; frame_out
  exact point m c t y

end Cert.Kernel33Ideal.MemO

end
-- ==== Proof.PairProds.lean ====
module

public import proofs.«01_k».proof.Defs
public import proofs.«01_k».proof.Proof.Gen.Kernel26.Frame
public import proofs.«01_k».proof.Proof.Gen.Kernel26Ideal.Frame
public import proofs.«01_k».proof.Proof.Gen.Reference26Ideal
public import proofs.«01_k».proof.Proof.Gen.Kernel26Ideal.Value
public import proofs.«01_k».proof.Proof.Gen.Reference26Ideal.Run
public import proofs.«01_k».proof.Proof.Gen.Kernel27.Frame
public import proofs.«01_k».proof.Proof.Gen.Kernel27Ideal.Frame
public import proofs.«01_k».proof.Proof.Gen.Reference27Ideal
public import proofs.«01_k».proof.Proof.Gen.Kernel27Ideal.Value
public import proofs.«01_k».proof.Proof.Gen.Reference27Ideal.Run
public import proofs.«01_k».proof.Proof.Gen.Kernel28.Frame
public import proofs.«01_k».proof.Proof.Gen.Kernel28Ideal.Frame
public import proofs.«01_k».proof.Proof.Gen.Reference28Ideal
public import proofs.«01_k».proof.Proof.Gen.Kernel28Ideal.Value
public import proofs.«01_k».proof.Proof.Gen.Reference28Ideal.Run
public import proofs.«01_k».proof.Proof.Gen.Kernel29.Frame
public import proofs.«01_k».proof.Proof.Gen.Kernel29Ideal.Frame
public import proofs.«01_k».proof.Proof.Gen.Reference29Ideal
public import proofs.«01_k».proof.Proof.Gen.Kernel29Ideal.Value
public import proofs.«01_k».proof.Proof.Gen.Reference29Ideal.Run
public import proofs.«01_k».proof.Proof.Gen.Kernel30.Frame
public import proofs.«01_k».proof.Proof.Gen.Kernel30Ideal.Frame
public import proofs.«01_k».proof.Proof.Gen.Reference30Ideal
public import proofs.«01_k».proof.Proof.Gen.Kernel30Ideal.Value
public import proofs.«01_k».proof.Proof.Gen.Reference30Ideal.Run
public import proofs.«01_k».proof.Proof.Gen.Kernel31.Frame
public import proofs.«01_k».proof.Proof.Gen.Kernel31Ideal.Frame
public import proofs.«01_k».proof.Proof.Gen.Reference31Ideal
public import proofs.«01_k».proof.Proof.Gen.Kernel31Ideal.Value
public import proofs.«01_k».proof.Proof.Gen.Reference31Ideal.Run
public import proofs.«01_k».proof.Proof.Gen.Kernel32.Frame
public import proofs.«01_k».proof.Proof.Gen.Kernel32Ideal.Frame
public import proofs.«01_k».proof.Proof.Gen.Reference32Ideal
public import proofs.«01_k».proof.Proof.Gen.Kernel32Ideal.Value
public import proofs.«01_k».proof.Proof.Gen.Reference32Ideal.Run
public import proofs.«01_k».proof.Proof.Gen.Kernel33.Frame
public import proofs.«01_k».proof.Proof.Gen.Kernel33Ideal.Frame
public import proofs.«01_k».proof.Proof.Gen.Reference33Ideal
public import proofs.«01_k».proof.Proof.Gen.Kernel33Ideal.Value
public import proofs.«01_k».proof.Proof.Gen.Reference33Ideal.Run
public import proofs.«01_k».proof.Proof.Prods
public import Idealize.ShloMosaic.Lib.Claim
public import Idealize.ShloMosaic.Adequacy
public import Idealize.ShloMosaic.Init

@[expose] public section

set_option maxRecDepth 16384

noncomputable section

open Idealize.ShloMosaic Idealize.SL.Sem

/-! The claims of the small products. -/

namespace Cert.PairMemKvDx

theorem frame_kernel : Cert.quiescent_Kernel26 := fun m ρ _ => Cert.Kernel26.Gen.frame m ρ

theorem frame_ideal : Cert.quiescent_Kernel26Ideal := fun m ρ _ => Cert.Kernel26Ideal.Gen.frame m ρ

theorem frame_reference : Cert.quiescent_Reference26Ideal := fun m ρ _ =>
  (θ_run Cert.Reference26Ideal.defs _ _).mono (fun r h => ⟨fun c => (h c).2, sem_eq_zero_of_no_sems (by decide) r.2⟩)
    (Cert.Reference26Ideal.Value.run (F := Ideal) m ρ)

theorem algebraic : Cert.algebraic_Kernel26Ideal_Reference26Ideal := by
  pair_intro
  · run_from (Cert.Kernel26Ideal.Value.run_blocks m g)
  · run_from Cert.Reference26Ideal.Value.run m' g'
    exact (Cert.Kernel26Ideal.MemKvDx.final m c).symm

end Cert.PairMemKvDx

namespace Cert.PairMemKDw

theorem frame_kernel : Cert.quiescent_Kernel27 := fun m ρ _ => Cert.Kernel27.Gen.frame m ρ

theorem frame_ideal : Cert.quiescent_Kernel27Ideal := fun m ρ _ => Cert.Kernel27Ideal.Gen.frame m ρ

theorem frame_reference : Cert.quiescent_Reference27Ideal := fun m ρ _ =>
  (θ_run Cert.Reference27Ideal.defs _ _).mono (fun r h => ⟨fun c => (h c).2, sem_eq_zero_of_no_sems (by decide) r.2⟩)
    (Cert.Reference27Ideal.Value.run (F := Ideal) m ρ)

theorem algebraic : Cert.algebraic_Kernel27Ideal_Reference27Ideal := by
  pair_intro
  · run_from (Cert.Kernel27Ideal.Value.run_blocks m g)
  · run_from Cert.Reference27Ideal.Value.run m' g'
    exact (Cert.Kernel27Ideal.MemKDw.final m c).symm

end Cert.PairMemKDw

namespace Cert.PairMemVDw

theorem frame_kernel : Cert.quiescent_Kernel28 := fun m ρ _ => Cert.Kernel28.Gen.frame m ρ

theorem frame_ideal : Cert.quiescent_Kernel28Ideal := fun m ρ _ => Cert.Kernel28Ideal.Gen.frame m ρ

theorem frame_reference : Cert.quiescent_Reference28Ideal := fun m ρ _ =>
  (θ_run Cert.Reference28Ideal.defs _ _).mono (fun r h => ⟨fun c => (h c).2, sem_eq_zero_of_no_sems (by decide) r.2⟩)
    (Cert.Reference28Ideal.Value.run (F := Ideal) m ρ)

theorem algebraic : Cert.algebraic_Kernel28Ideal_Reference28Ideal := by
  pair_intro
  · run_from (Cert.Kernel28Ideal.Value.run_blocks m g)
  · run_from Cert.Reference28Ideal.Value.run m' g'
    exact (Cert.Kernel28Ideal.MemVDw.final m c).symm

end Cert.PairMemVDw

namespace Cert.PairQUp

theorem frame_kernel : Cert.quiescent_Kernel29 := fun m ρ _ => Cert.Kernel29.Gen.frame m ρ

theorem frame_ideal : Cert.quiescent_Kernel29Ideal := fun m ρ _ => Cert.Kernel29Ideal.Gen.frame m ρ

theorem frame_reference : Cert.quiescent_Reference29Ideal := fun m ρ _ =>
  (θ_run Cert.Reference29Ideal.defs _ _).mono (fun r h => ⟨fun c => (h c).2, sem_eq_zero_of_no_sems (by decide) r.2⟩)
    (Cert.Reference29Ideal.Value.run (F := Ideal) m ρ)

theorem algebraic : Cert.algebraic_Kernel29Ideal_Reference29Ideal := by
  pair_intro
  · run_from (Cert.Kernel29Ideal.Value.run_blocks m g)
  · run_from Cert.Reference29Ideal.Value.run m' g'
    exact (Cert.Kernel29Ideal.QUp.final m c).symm

end Cert.PairQUp

namespace Cert.PairKvUp

theorem frame_kernel : Cert.quiescent_Kernel30 := fun m ρ _ => Cert.Kernel30.Gen.frame m ρ

theorem frame_ideal : Cert.quiescent_Kernel30Ideal := fun m ρ _ => Cert.Kernel30Ideal.Gen.frame m ρ

theorem frame_reference : Cert.quiescent_Reference30Ideal := fun m ρ _ =>
  (θ_run Cert.Reference30Ideal.defs _ _).mono (fun r h => ⟨fun c => (h c).2, sem_eq_zero_of_no_sems (by decide) r.2⟩)
    (Cert.Reference30Ideal.Value.run (F := Ideal) m ρ)

theorem algebraic : Cert.algebraic_Kernel30Ideal_Reference30Ideal := by
  pair_intro
  · run_from (Cert.Kernel30Ideal.Value.run_blocks m g)
  · run_from Cert.Reference30Ideal.Value.run m' g'
    exact (Cert.Kernel30Ideal.KvUp.final m c).symm

end Cert.PairKvUp

namespace Cert.PairMemQ

theorem frame_kernel : Cert.quiescent_Kernel31 := fun m ρ _ => Cert.Kernel31.Gen.frame m ρ

theorem frame_ideal : Cert.quiescent_Kernel31Ideal := fun m ρ _ => Cert.Kernel31Ideal.Gen.frame m ρ

theorem frame_reference : Cert.quiescent_Reference31Ideal := fun m ρ _ =>
  (θ_run Cert.Reference31Ideal.defs _ _).mono (fun r h => ⟨fun c => (h c).2, sem_eq_zero_of_no_sems (by decide) r.2⟩)
    (Cert.Reference31Ideal.Value.run (F := Ideal) m ρ)

theorem algebraic : Cert.algebraic_Kernel31Ideal_Reference31Ideal := by
  pair_intro
  · run_from (Cert.Kernel31Ideal.Value.run_blocks m g)
  · run_from Cert.Reference31Ideal.Value.run m' g'
    exact (Cert.Kernel31Ideal.MemQ.final m c).symm

end Cert.PairMemQ

namespace Cert.PairMemK

theorem frame_kernel : Cert.quiescent_Kernel32 := fun m ρ _ => Cert.Kernel32.Gen.frame m ρ

theorem frame_ideal : Cert.quiescent_Kernel32Ideal := fun m ρ _ => Cert.Kernel32Ideal.Gen.frame m ρ

theorem frame_reference : Cert.quiescent_Reference32Ideal := fun m ρ _ =>
  (θ_run Cert.Reference32Ideal.defs _ _).mono (fun r h => ⟨fun c => (h c).2, sem_eq_zero_of_no_sems (by decide) r.2⟩)
    (Cert.Reference32Ideal.Value.run (F := Ideal) m ρ)

theorem algebraic : Cert.algebraic_Kernel32Ideal_Reference32Ideal := by
  pair_intro
  · run_from (Cert.Kernel32Ideal.Value.run_blocks m g)
  · run_from Cert.Reference32Ideal.Value.run m' g'
    exact (Cert.Kernel32Ideal.MemK.final m c).symm

end Cert.PairMemK

namespace Cert.PairMemO

theorem frame_kernel : Cert.quiescent_Kernel33 := fun m ρ _ => Cert.Kernel33.Gen.frame m ρ

theorem frame_ideal : Cert.quiescent_Kernel33Ideal := fun m ρ _ => Cert.Kernel33Ideal.Gen.frame m ρ

theorem frame_reference : Cert.quiescent_Reference33Ideal := fun m ρ _ =>
  (θ_run Cert.Reference33Ideal.defs _ _).mono (fun r h => ⟨fun c => (h c).2, sem_eq_zero_of_no_sems (by decide) r.2⟩)
    (Cert.Reference33Ideal.Value.run (F := Ideal) m ρ)

theorem algebraic : Cert.algebraic_Kernel33Ideal_Reference33Ideal := by
  pair_intro
  · run_from (Cert.Kernel33Ideal.Value.run_blocks m g)
  · run_from Cert.Reference33Ideal.Value.run m' g'
    exact (Cert.Kernel33Ideal.MemO.final m c).symm

end Cert.PairMemO

end
-- ==== Proof.GlaFwdOut.lean ====
module

public import proofs.«01_k».proof.Proof.Gen.Kernel34Ideal.Value
public import Idealize.ShloMosaic.Lib.Pipeline.ValueKit
public import Idealize.ShloMosaic.Lib.Pipeline.ReadBack

@[expose] public section

set_option maxRecDepth 16384
set_option pp.deepTerms false

noncomputable section

namespace Cert.Kernel34Ideal.Fwd

open Cert.Kernel34Ideal Cert.Kernel34Ideal.Gen Idealize.ShloMosaic Idealize.ShloMosaic.TcCoe
open Idealize.ShloMosaic.Pipeline (Dat)

/-- A row's decay to the end of its chunk. -/
def Fe (x3 : FVec Ideal S64x512 .f32) (x4 : FVec Ideal S64x64 .f32) (i : Fin 64) (h : Fin 4) (k : Fin 128) : EReal :=
  Ideal.exp ((∑ j : Fin 64, x3 (ix2 j ⟨h.val * 128 + k.val, by omega⟩)) - ∑ j : Fin 64, x4 (ix2 i j) * x3 (ix2 j ⟨h.val * 128 + k.val, by omega⟩))

/-- The state after a point. -/
def Fs (x1 : FVec Ideal S64x512 .f32) (x2 : FVec Ideal S64x1024 .f32) (x3 : FVec Ideal S64x512 .f32) (x4 : FVec Ideal S64x64 .f32) (s : FVec Ideal S4x256x128 .f32)
    (h : Fin 4) (w : Fin 256) (k : Fin 128) : EReal :=
  s (ix3 h w k) * Ideal.exp (∑ j : Fin 64, x3 (ix2 j ⟨h.val * 128 + k.val, by omega⟩))
    + ∑ i : Fin 64, x2 (ix2 i ⟨h.val * 256 + w.val, by omega⟩) * (x1 (ix2 i ⟨h.val * 128 + k.val, by omega⟩) * Fe x3 x4 i h k)

/-- The block of the output. -/
def Fo (x0 x1 : FVec Ideal S64x512 .f32) (x2 : FVec Ideal S64x1024 .f32) (x3 : FVec Ideal S64x512 .f32) (x4 : FVec Ideal S64x64 .f32) (s : FVec Ideal S4x256x128 .f32)
    (i : Fin 64) (h : Fin 4) (w : Fin 256) : EReal :=
  ∑ k : Fin 128, (x0 (ix2 i ⟨h.val * 128 + k.val, by omega⟩) * Ideal.ofBits .f32 0x3DB504F3#32) * Fs x1 x2 x3 x4 s h w k

variable (m : (ℓ : Loc nD τ sig) → Buf (Elt Ideal) ℓ)

theorem oB (c : Dev nD) (t : Fin cfg0.N) (ht : ¬t.val % 32 = 0) (y : S64x1024.Idx) (i : Fin 64) (h : Fin 4) (w : Fin 256)
    (hi : (y 0 : ℕ) = i.val) (hk : (y 1 : ℕ) = h.val * 256 + w.val) :
    (outsAt0 m c t.val t.isLt).1 y = Fo (iblk m c 0 t) (iblk m c 1 t) (iblk m c 2 t) (iblk m c 3 t) (iblk m c 4 t) (outsAt0 m c (t.val - 1) (Nat.lt_of_le_of_lt (Nat.sub_le _ _) t.isLt)).2.2 i h w := by
  generalize hz : Fo (iblk m c 0 t) (iblk m c 1 t) (iblk m c 2 t) (iblk m c 3 t) (iblk m c 4 t) (outsAt0 m c (t.val - 1) (Nat.lt_of_le_of_lt (Nat.sub_le _ _) t.isLt)).2.2 i h w = z
  rw [outsAt0_B m c t ht]
  frame_out
  rw [read_unread_whole]
  subst hz
  canon_tiles x e
  all_goals
    open_payloads
    pointwise
    unfold Fo Fs Fe
    blk_point []

theorem oA (c : Dev nD) (t : Fin cfg0.N) (ht : t.val % 32 = 0) (y : S64x1024.Idx) (i : Fin 64) (h : Fin 4) (w : Fin 256)
    (hi : (y 0 : ℕ) = i.val) (hk : (y 1 : ℕ) = h.val * 256 + w.val) :
    (outsAt0 m c t.val t.isLt).1 y = Fo (iblk m c 0 t) (iblk m c 1 t) (iblk m c 2 t) (iblk m c 3 t) (iblk m c 4 t) (k0_pay5 (F := Ideal)) i h w := by
  generalize hz : Fo (iblk m c 0 t) (iblk m c 1 t) (iblk m c 2 t) (iblk m c 3 t) (iblk m c 4 t) (k0_pay5 (F := Ideal)) i h w = z
  rw [outsAt0_A m c t ht]
  frame_out
  simp (disch := decide) only [↓ View.readCov_skip, ↓ View.readCov_cons_toLoadRect, ↓ View.readCov_fill]
  subst hz
  generalize k0_pay5 (F := Ideal) = Z
  canon_tiles x e
  all_goals
    open_payloads
    pointwise
    unfold Fo Fs Fe
    blk_point []

theorem eB (c : Dev nD) (t : Fin cfg0.N) (ht : ¬t.val % 32 = 0) (y : S4x1x256x128.Idx) :
    (outsAt0 m c t.val t.isLt).2.1 y = Fs (iblk m c 1 t) (iblk m c 2 t) (iblk m c 3 t) (iblk m c 4 t) (outsAt0 m c (t.val - 1) (Nat.lt_of_le_of_lt (Nat.sub_le _ _) t.isLt)).2.2 (y 0) (y 2) (y 3) := by
  generalize hz : Fs (iblk m c 1 t) (iblk m c 2 t) (iblk m c 3 t) (iblk m c 4 t) (outsAt0 m c (t.val - 1) (Nat.lt_of_le_of_lt (Nat.sub_le _ _) t.isLt)).2.2 (y 0) (y 2) (y 3) = z
  rw [outsAt0_B m c t ht]
  frame_out
  rw [read_unread_whole]
  subst hz
  canon_tiles x e
  all_goals
    open_payloads
    pointwise
    unfold Fs Fe
    blk_point []

theorem eA (c : Dev nD) (t : Fin cfg0.N) (ht : t.val % 32 = 0) (y : S4x1x256x128.Idx) :
    (outsAt0 m c t.val t.isLt).2.1 y = Fs (iblk m c 1 t) (iblk m c 2 t) (iblk m c 3 t) (iblk m c 4 t) (k0_pay5 (F := Ideal)) (y 0) (y 2) (y 3) := by
  generalize hz : Fs (iblk m c 1 t) (iblk m c 2 t) (iblk m c 3 t) (iblk m c 4 t) (k0_pay5 (F := Ideal)) (y 0) (y 2) (y 3) = z
  rw [outsAt0_A m c t ht]
  frame_out
  simp (disch := decide) only [↓ View.readCov_skip, ↓ View.readCov_cons_toLoadRect, ↓ View.readCov_fill]
  subst hz
  generalize k0_pay5 (F := Ideal) = Z
  canon_tiles x e
  all_goals
    open_payloads
    pointwise
    unfold Fs Fe
    blk_point []

end Cert.Kernel34Ideal.Fwd

end
-- ==== Proof.GlaFwdScr.lean ====
module

public import proofs.«01_k».proof.Proof.GlaFwdOut

@[expose] public section

set_option maxRecDepth 16384
set_option pp.deepTerms false

noncomputable section

namespace Cert.Kernel34Ideal.Fwd

open Cert.Kernel34Ideal Cert.Kernel34Ideal.Gen Idealize.ShloMosaic Idealize.ShloMosaic.TcCoe
open Idealize.ShloMosaic.Pipeline (Dat)

/-! What the scratch holds after a point: a head's rows at a time. -/

theorem ps3 (x1 : FVec Ideal S64x512 .f32) (x2 : FVec Ideal S64x1024 .f32) (x3 : FVec Ideal S64x512 .f32) (x4 : FVec Ideal S64x64 .f32) (s : FVec Ideal S4x256x128 .f32)
    (y : S4x256x128.Idx) (x : S1x256x128.Idx) (h0 : (y 0 : ℕ) = 3 + (x 0 : ℕ)) (h1 : (y 1 : ℕ) = (x 1 : ℕ)) (h2 : (y 2 : ℕ) = (x 2 : ℕ)) :
    k0_pay2 (F := Ideal) (k0_pay23 (View.ld (Val := Elt Ideal) (e' := .f32) x3 (Rect.unit ![0, 384] ![64, 128] inb_S64x512_S64x128_0_384))) (k0_pay24 (View.ld (Val := Elt Ideal) (e' := .f32) x1 (Rect.unit ![0, 384] ![64, 128] inb_S64x512_S64x128_0_384)) (View.ld (Val := Elt Ideal) (e' := .f32) x2 (Rect.unit ![0, 768] ![64, 256] inb_S64x1024_S64x256_0_768)) (View.ld (Val := Elt Ideal) (e' := .f32) x3 (Rect.unit ![0, 384] ![64, 128] inb_S64x512_S64x128_0_384)) x4) (View.ld (Val := Elt Ideal) (S := S4x256x128) (e' := .f32) s (Rect.unit ![3, 0, 0] ![1, 256, 128] inb_S4x256x128_S1x256x128_3_0_0)) x
      = Fs x1 x2 x3 x4 s (y 0) (y 1) (y 2) := by
  have x0_lt : (x 0 : ℕ) < 1 := (x 0).isLt
  have x1_lt : (x 1 : ℕ) < 256 := (x 1).isLt
  have x2_lt : (x 2 : ℕ) < 128 := (x 2).isLt
  pointwise [k0_pay2, k0_pay1, k0_pay23, k0_pay24, k0_pay22]
  unfold Fs Fe
  blk_point []

theorem ps2 (x1 : FVec Ideal S64x512 .f32) (x2 : FVec Ideal S64x1024 .f32) (x3 : FVec Ideal S64x512 .f32) (x4 : FVec Ideal S64x64 .f32) (s : FVec Ideal S4x256x128 .f32)
    (y : S4x256x128.Idx) (x : S1x256x128.Idx) (h0 : (y 0 : ℕ) = 2 + (x 0 : ℕ)) (h1 : (y 1 : ℕ) = (x 1 : ℕ)) (h2 : (y 2 : ℕ) = (x 2 : ℕ)) :
    k0_pay18 (F := Ideal) (k0_pay17 (View.ld (Val := Elt Ideal) (e' := .f32) x1 (Rect.unit ![0, 256] ![64, 128] inb_S64x512_S64x128_0_256)) (View.ld (Val := Elt Ideal) (e' := .f32) x2 (Rect.unit ![0, 512] ![64, 256] inb_S64x1024_S64x256_0_512)) (View.ld (Val := Elt Ideal) (e' := .f32) x3 (Rect.unit ![0, 256] ![64, 128] inb_S64x512_S64x128_0_256)) x4 (View.ld (Val := Elt Ideal) (S := S4x256x128) (e' := .f32) s (Rect.unit ![2, 0, 0] ![1, 256, 128] inb_S4x256x128_S1x256x128_2_0_0))) x
      = Fs x1 x2 x3 x4 s (y 0) (y 1) (y 2) := by
  have x0_lt : (x 0 : ℕ) < 1 := (x 0).isLt
  have x1_lt : (x 1 : ℕ) < 256 := (x 1).isLt
  have x2_lt : (x 2 : ℕ) < 128 := (x 2).isLt
  pointwise [k0_pay18, k0_pay17]
  unfold Fs Fe
  blk_point []

theorem ps1 (x1 : FVec Ideal S64x512 .f32) (x2 : FVec Ideal S64x1024 .f32) (x3 : FVec Ideal S64x512 .f32) (x4 : FVec Ideal S64x64 .f32) (s : FVec Ideal S4x256x128 .f32)
    (y : S4x256x128.Idx) (x : S1x256x128.Idx) (h0 : (y 0 : ℕ) = 1 + (x 0 : ℕ)) (h1 : (y 1 : ℕ) = (x 1 : ℕ)) (h2 : (y 2 : ℕ) = (x 2 : ℕ)) :
    k0_pay13 (F := Ideal) (View.ld (Val := Elt Ideal) (e' := .f32) x1 (Rect.unit ![0, 128] ![64, 128] inb_S64x512_S64x128_0_128)) (View.ld (Val := Elt Ideal) (e' := .f32) x2 (Rect.unit ![0, 256] ![64, 256] inb_S64x1024_S64x256_0_256)) (View.ld (Val := Elt Ideal) (e' := .f32) x3 (Rect.unit ![0, 128] ![64, 128] inb_S64x512_S64x128_0_128)) x4 (View.ld (Val := Elt Ideal) (S := S4x256x128) (e' := .f32) s (Rect.unit ![1, 0, 0] ![1, 256, 128] inb_S4x256x128_S1x256x128_1_0_0)) x
      = Fs x1 x2 x3 x4 s (y 0) (y 1) (y 2) := by
  have x0_lt : (x 0 : ℕ) < 1 := (x 0).isLt
  have x1_lt : (x 1 : ℕ) < 256 := (x 1).isLt
  have x2_lt : (x 2 : ℕ) < 128 := (x 2).isLt
  pointwise [k0_pay13, k0_pay12]
  unfold Fs Fe
  blk_point []

theorem ps0 (x1 : FVec Ideal S64x512 .f32) (x2 : FVec Ideal S64x1024 .f32) (x3 : FVec Ideal S64x512 .f32) (x4 : FVec Ideal S64x64 .f32) (s : FVec Ideal S4x256x128 .f32)
    (y : S4x256x128.Idx) (x : S1x256x128.Idx) (h0 : (y 0 : ℕ) = 0 + (x 0 : ℕ)) (h1 : (y 1 : ℕ) = (x 1 : ℕ)) (h2 : (y 2 : ℕ) = (x 2 : ℕ)) :
    k0_pay8 (F := Ideal) (View.ld (Val := Elt Ideal) (e' := .f32) x1 (Rect.unit ![0, 0] ![64, 128] inb_S64x512_S64x128_0_0)) (View.ld (Val := Elt Ideal) (e' := .f32) x2 (Rect.unit ![0, 0] ![64, 256] inb_S64x1024_S64x256_0_0)) (View.ld (Val := Elt Ideal) (e' := .f32) x3 (Rect.unit ![0, 0] ![64, 128] inb_S64x512_S64x128_0_0)) x4 (View.ld (Val := Elt Ideal) (S := S4x256x128) (e' := .f32) s (Rect.unit ![0, 0, 0] ![1, 256, 128] inb_S4x256x128_S1x256x128_0_0_0)) x
      = Fs x1 x2 x3 x4 s (y 0) (y 1) (y 2) := by
  have x0_lt : (x 0 : ℕ) < 1 := (x 0).isLt
  have x1_lt : (x 1 : ℕ) < 256 := (x 1).isLt
  have x2_lt : (x 2 : ℕ) < 128 := (x 2).isLt
  pointwise [k0_pay8, k0_pay7]
  unfold Fs Fe
  blk_point []

variable (m : (ℓ : Loc nD τ sig) → Buf (Elt Ideal) ℓ)

theorem sB (c : Dev nD) (t : Fin cfg0.N) (ht : ¬t.val % 32 = 0) (y : S4x256x128.Idx) :
    (outsAt0 m c t.val t.isLt).2.2 y = Fs (iblk m c 1 t) (iblk m c 2 t) (iblk m c 3 t) (iblk m c 4 t) (outsAt0 m c (t.val - 1) (Nat.lt_of_le_of_lt (Nat.sub_le _ _) t.isLt)).2.2 (y 0) (y 1) (y 2) := by
  rw [outsAt0_B m c t ht]
  frame_out
  rw [read_unread_whole]
  canon_tiles x h
  · exact ps3 _ _ _ _ _ y x h0 h1 h2
  · exact ps2 _ _ _ _ _ y x h0 h1 h2
  · exact ps1 _ _ _ _ _ y x h0 h1 h2
  · exact ps0 _ _ _ _ _ y x (by omega) h1 h2

theorem sA (c : Dev nD) (t : Fin cfg0.N) (ht : t.val % 32 = 0) (y : S4x256x128.Idx) :
    (outsAt0 m c t.val t.isLt).2.2 y = Fs (iblk m c 1 t) (iblk m c 2 t) (iblk m c 3 t) (iblk m c 4 t) (k0_pay5 (F := Ideal)) (y 0) (y 1) (y 2) := by
  generalize hz : Fs (iblk m c 1 t) (iblk m c 2 t) (iblk m c 3 t) (iblk m c 4 t) (k0_pay5 (F := Ideal)) (y 0) (y 1) (y 2) = z
  rw [outsAt0_A m c t ht]
  frame_out
  simp (disch := decide) only [↓ View.readCov_skip, ↓ View.readCov_cons_toLoadRect, ↓ View.readCov_fill]
  subst hz
  generalize k0_pay5 (F := Ideal) = Z
  refine View.canon_append_of_piecesOf (Val := Elt Ideal) (e := .f32) (fun y : S4x256x128.Idx => Fs (iblk m c 1 t) (iblk m c 2 t) (iblk m c 3 t) (iblk m c 4 t) Z (y 0) (y 1) (y 2))
    [_] [_, _, _, _] ⟨fun (x : S1x256x128.Idx) => ?_, fun (x : S1x256x128.Idx) => ?_, fun (x : S1x256x128.Idx) => ?_, fun (x : S1x256x128.Idx) => ?_, trivial⟩ y ?_
  · refine ps3 _ _ _ _ _ _ x ?_ ?_ ?_
    · show 3 + 1 * (x 0 : ℕ) = _
      omega
    · show 0 + 1 * (x 1 : ℕ) = _
      omega
    · show 0 + 1 * (x 2 : ℕ) = _
      omega
  · refine ps2 _ _ _ _ _ _ x ?_ ?_ ?_
    · show 2 + 1 * (x 0 : ℕ) = _
      omega
    · show 0 + 1 * (x 1 : ℕ) = _
      omega
    · show 0 + 1 * (x 2 : ℕ) = _
      omega
  · refine ps1 _ _ _ _ _ _ x ?_ ?_ ?_
    · show 1 + 1 * (x 0 : ℕ) = _
      omega
    · show 0 + 1 * (x 1 : ℕ) = _
      omega
    · show 0 + 1 * (x 2 : ℕ) = _
      omega
  · refine ps0 _ _ _ _ _ _ x ?_ ?_ ?_
    · show 0 + 1 * (x 0 : ℕ) = _
      omega
    · show 0 + 1 * (x 1 : ℕ) = _
      omega
    · show 0 + 1 * (x 2 : ℕ) = _
      omega
  · simp only [List.mem_cons, List.not_mem_nil, or_false, exists_eq_or_imp, exists_eq_left]
    rw [Rect.mem_set_unit, Rect.mem_set_unit, Rect.mem_set_unit, Rect.mem_set_unit]
    have b0 : (y 0 : ℕ) < 4 := (y 0).isLt
    have b1 : (y 1 : ℕ) < 256 := (y 1).isLt
    have b2 : (y 2 : ℕ) < 128 := (y 2).isLt
    have key : ∀ n : ℕ, (y 0 : ℕ) = n → ∀ a : Fin 3, (![n, 0, 0] : Fin 3 → ℕ) a ≤ (y a : ℕ) ∧ (y a : ℕ) < (![n, 0, 0] : Fin 3 → ℕ) a + (![1, 256, 128] : Fin 3 → ℕ) a := by
      intro n hn a
      fin_cases a
      · show n ≤ (y 0 : ℕ) ∧ (y 0 : ℕ) < n + 1
        omega
      · show 0 ≤ (y 1 : ℕ) ∧ (y 1 : ℕ) < 0 + 256
        omega
      · show 0 ≤ (y 2 : ℕ) ∧ (y 2 : ℕ) < 0 + 128
        omega
    obtain h | h | h | h : (y 0 : ℕ) = 3 ∨ (y 0 : ℕ) = 2 ∨ (y 0 : ℕ) = 1 ∨ (y 0 : ℕ) = 0 := by omega
    · exact .inl (key 3 h)
    · exact .inr (.inl (key 2 h))
    · exact .inr (.inr (.inl (key 1 h)))
    · exact .inr (.inr (.inr (key 0 h)))

end Cert.Kernel34Ideal.Fwd

end
-- ==== Proof.GlaFwdDef.lean ====
module

public import proofs.«01_k».proof.Proof.GlaRef

@[expose] public section

set_option maxRecDepth 16384

noncomputable section

open Idealize.ShloMosaic Idealize.ShloMosaic.TcCoe
open scoped BigOperators

namespace Cert.Reference4Ideal.Gla

open Cert.Reference4Ideal Cert.Reference4Ideal.Gen

/-! The forward gated linear attention: the state after each chunk, and the two results, at an index. -/

/-- The decay of a chunk. -/
def Fd (G : FVec Ideal S2048x512 .f32) : FVec Ideal S32x4x128 .f32 := Host.exp (Rbe (Rb (Rk G)))

/-- The part a chunk adds to the state. -/
def Fu (K : FVec Ideal S2048x512 .f32) (V : FVec Ideal S2048x1024 .f32) (G : FVec Ideal S2048x512 .f32) : FVec Ideal S32x4x128x256 .f32 :=
  Ru (Rkd (Rk K) (Re (Rb (Rk G)) (Rbe (Rb (Rk G))))) (Rv V)

/-- The state after a number of chunks. -/
def St (d : FVec Ideal S32x4x128 .f32) (u : FVec Ideal S32x4x128x256 .f32) : ℕ → Fin 4 → Fin 128 → Fin 256 → EReal
  | 0 => fun _ _ _ => 0
  | n + 1 => fun h k w => if hn : n < 32 then d (ix3 ⟨n, hn⟩ h k) * St d u n h k w + u (ix4 ⟨n, hn⟩ h k w) else 0

theorem St_succ (d : FVec Ideal S32x4x128 .f32) (u : FVec Ideal S32x4x128x256 .f32) (n : ℕ) (hn : n < 32) (h : Fin 4) (k : Fin 128) (w : Fin 256) :
    St d u (n + 1) h k w = d (ix3 ⟨n, hn⟩ h k) * St d u n h k w + u (ix4 ⟨n, hn⟩ h k w) := dif_pos hn

/-- The attention's output. -/
def Fout (q K : FVec Ideal S2048x512 .f32) (V : FVec Ideal S2048x1024 .f32) (G : FVec Ideal S2048x512 .f32) : FVec Ideal S2048x1024 .f32 := fun y =>
  ∑ k : Fin 128, (q (ix2 (y 0) ⟨(y 1).val / 256 * 128 + k.val, by have h : (y 1).val < 1024 := (y 1).isLt; omega⟩) * scale)
    * St (Fd G) (Fu K V G) ((y 0).val / 64 + 1) ⟨(y 1).val / 256, by have h : (y 1).val < 1024 := (y 1).isLt; omega⟩ k ⟨(y 1).val % 256, Nat.mod_lt _ (by decide)⟩

/-- The saved states, in the order the backward reads them. -/
def Fst (K : FVec Ideal S2048x512 .f32) (V : FVec Ideal S2048x1024 .f32) (G : FVec Ideal S2048x512 .f32) : (⟨4, ![4, 32, 256, 128]⟩ : Shape).Idx → EReal := fun y =>
  St (Fd G) (Fu K V G) ((y 1).val + 1) (y 0) (y 3) (y 2)

theorem Fd_at (G : FVec Ideal S2048x512 .f32) (n : Fin 32) (h : Fin 4) (k : Fin 128) :
    Fd G (ix3 n h k) = Ideal.exp (∑ j : Fin 64, G (ix2 ⟨n.val * 64 + j.val, by omega⟩ ⟨h.val * 128 + k.val, by omega⟩)) := by
  refine congrArg Ideal.exp ?_
  rw [Rbe_at, Rb_at]
  refine Finset.sum_congr rfl fun j _ => ?_
  rw [if_pos (show j ≤ 63 from Fin.le_last j), Rk_at]

theorem Fu_at (K : FVec Ideal S2048x512 .f32) (V : FVec Ideal S2048x1024 .f32) (G : FVec Ideal S2048x512 .f32) (n : Fin 32) (h : Fin 4) (k : Fin 128) (w : Fin 256) :
    Fu K V G (ix4 n h k w) = ∑ i : Fin 64, (K (ix2 ⟨n.val * 64 + i.val, by omega⟩ ⟨h.val * 128 + k.val, by omega⟩)
        * Ideal.exp ((∑ j : Fin 64, G (ix2 ⟨n.val * 64 + j.val, by omega⟩ ⟨h.val * 128 + k.val, by omega⟩))
            - ∑ j : Fin 64, if j ≤ i then G (ix2 ⟨n.val * 64 + j.val, by omega⟩ ⟨h.val * 128 + k.val, by omega⟩) else 0))
        * V (ix2 ⟨n.val * 64 + i.val, by omega⟩ ⟨h.val * 256 + w.val, by omega⟩) := by
  unfold Fu
  rw [Ru_at]
  refine Finset.sum_congr rfl fun i _ => ?_
  rw [Rkd_at, Re_at, Rk_at, Rv_at, Rbe_at, Rb_at, Rb_at]
  have e : (∑ j : Fin 64, if j ≤ 63 then Rk G (ix4 n j h k) else 0) = ∑ j : Fin 64, G (ix2 ⟨n.val * 64 + j.val, by omega⟩ ⟨h.val * 128 + k.val, by omega⟩) :=
    Finset.sum_congr rfl fun j _ => by rw [if_pos (show j ≤ 63 from Fin.le_last j), Rk_at]
  rw [e]
  simp only [Rk_at]

end Cert.Reference4Ideal.Gla

end
-- ==== Proof.GlaFwd.lean ====
module

public import proofs.«01_k».proof.Proof.GlaFwdScr
public import proofs.«01_k».proof.Proof.GlaFwdOut
public import proofs.«01_k».proof.Proof.GlaFwdDef
public import proofs.«01_k».proof.Proof.Ext

@[expose] public section

set_option maxRecDepth 16384

noncomputable section

namespace Cert.Kernel34Ideal.Fwd

open Cert.Kernel34Ideal Cert.Kernel34Ideal.Gen Idealize.ShloMosaic Idealize.ShloMosaic.TcCoe
open Idealize.ShloMosaic.Pipeline (Dat)
open Cert.Reference4Ideal.Gla

theorem idx : ∀ t : Fin cfg0.N, win0_0.index t = ![t.val, 5] ∧ win0_1.index t = ![t.val, 6] ∧ win0_2.index t = ![t.val, 0]
    ∧ win0_3.index t = ![t.val, 0] ∧ win0_4.index t = ![0, 0] ∧ win0_5.index t = ![t.val, 0] ∧ win0_6.index t = ![0, t.val, 0, 0] :=
  (by decide +kernel : ∀ t : Fin grid0.N, _)

theorem lit_eq : ∀ n : Fin 4096, lit0 n = if n.val % 64 ≤ n.val / 64 then 0x3F800000#32 else 0x00000000#32 := by
  decide +kernel

theorem one_eq : Ideal.ofBits FTy.f32 0x3F800000#32 = 1 := by
  rw [show (1 : EReal) = ((1 : ℝ) : EReal) by norm_cast]
  simp [Ideal.ofBits, Ideal.ieee, -EReal.coe_mul]; norm_num

variable (m : (ℓ : Loc nD τ sig) → Buf (Elt Ideal) ℓ)

/-- The array the queries, keys and values are read from. -/
theorem V_z (c : Dev nD) : V m c main_v2
    = concatenate S2048x4096 1 [⟨S2048x1024, (m ((c.tc : Thread nD τ).loc main_arg2))⟩, ⟨S2048x1536, fun _ => Ideal.ofBits .f32 0x00000000#32⟩,
        ⟨S2048x512, (m ((c.tc : Thread nD τ).loc main_arg0))⟩, ⟨S2048x512, (m ((c.tc : Thread nD τ).loc main_arg1))⟩, ⟨S2048x512, fun _ => Ideal.ofBits .f32 0x00000000#32⟩] concatenates_S2048x1024_S2048x1536_S2048x512_S2048x512_S2048x512_S2048x4096_d1 := by
  unfold V
  simp only [hostOps0, List.flatten_cons, List.flatten_nil, List.append_nil, List.cons_append, List.nil_append]
  after_results
  rfl

theorem V_tri (c : Dev nD) : V m c main_cst = fun i => Ideal.ofBits .f32 (lit0 (S64x64.rowMajor i)) := by
  unfold V
  simp only [hostOps0, List.flatten_cons, List.flatten_nil, List.append_nil, List.cons_append, List.nil_append]
  after_results
  rfl

theorem b0 (c : Dev nD) (t : Fin cfg0.N) (n : Fin 32) (hn : n.val = t.val) (i : Fin 64) (k : Fin 512) :
    iblk m c 0 t (ix2 i k) = m ((c.tc : Thread nD τ).loc main_arg0) (ix2 ⟨n.val * 64 + i.val, by omega⟩ k) := by
  blk_simp [iblk, idx t]
  rw [V_z]
  pointwise
  have h0 : (((View.whole main_v2).slice (win0_0.rect t)).emb (ix2 i k) 0 : ℕ) = n.val * 64 + i.val := by
    show win0_0.index t 0 * 64 + 1 * i.val = _
    rw [(idx t).1, hn]; show t.val * 64 + 1 * i.val = _; omega
  have h1 : (((View.whole main_v2).slice (win0_0.rect t)).emb (ix2 i k) 1 : ℕ) = 2560 + k.val := by
    show win0_0.index t 1 * 512 + 1 * k.val = _
    rw [(idx t).1]; show 5 * 512 + 1 * k.val = _; omega
  have hk := k.isLt
  split_ifs <;> first | (exfalso; omega) | exact congrArg _ (congrArg₂ ix2 (Fin.ext h0) (Fin.ext (by first | exact h1 | (simp only [h1]; omega))))

theorem b1 (c : Dev nD) (t : Fin cfg0.N) (n : Fin 32) (hn : n.val = t.val) (i : Fin 64) (k : Fin 512) :
    iblk m c 1 t (ix2 i k) = m ((c.tc : Thread nD τ).loc main_arg1) (ix2 ⟨n.val * 64 + i.val, by omega⟩ k) := by
  blk_simp [iblk, idx t]
  rw [V_z]
  pointwise
  have h0 : (((View.whole main_v2).slice (win0_1.rect t)).emb (ix2 i k) 0 : ℕ) = n.val * 64 + i.val := by
    show win0_1.index t 0 * 64 + 1 * i.val = _
    rw [(idx t).2.1, hn]; show t.val * 64 + 1 * i.val = _; omega
  have h1 : (((View.whole main_v2).slice (win0_1.rect t)).emb (ix2 i k) 1 : ℕ) = 3072 + k.val := by
    show win0_1.index t 1 * 512 + 1 * k.val = _
    rw [(idx t).2.1]; show 6 * 512 + 1 * k.val = _; omega
  have hk := k.isLt
  split_ifs <;> first | (exfalso; omega) | exact congrArg _ (congrArg₂ ix2 (Fin.ext h0) (Fin.ext (by first | exact h1 | (simp only [h1]; omega))))

theorem b2 (c : Dev nD) (t : Fin cfg0.N) (n : Fin 32) (hn : n.val = t.val) (i : Fin 64) (k : Fin 1024) :
    iblk m c 2 t (ix2 i k) = m ((c.tc : Thread nD τ).loc main_arg2) (ix2 ⟨n.val * 64 + i.val, by omega⟩ k) := by
  blk_simp [iblk, idx t]
  rw [V_z]
  pointwise
  have h0 : (((View.whole main_v2).slice (win0_2.rect t)).emb (ix2 i k) 0 : ℕ) = n.val * 64 + i.val := by
    show win0_2.index t 0 * 64 + 1 * i.val = _
    rw [(idx t).2.2.1, hn]; show t.val * 64 + 1 * i.val = _; omega
  have h1 : (((View.whole main_v2).slice (win0_2.rect t)).emb (ix2 i k) 1 : ℕ) = 0 + k.val := by
    show win0_2.index t 1 * 1024 + 1 * k.val = _
    rw [(idx t).2.2.1]; show 0 * 1024 + 1 * k.val = _; omega
  have hk := k.isLt
  split_ifs <;> first | (exfalso; omega) | exact congrArg _ (congrArg₂ ix2 (Fin.ext h0) (Fin.ext (by first | exact h1 | (simp only [h1]; omega))))

theorem b3 (c : Dev nD) (t : Fin cfg0.N) (n : Fin 32) (hn : n.val = t.val) (i : Fin 64) (k : Fin 512) :
    iblk m c 3 t (ix2 i k) = m ((c.tc : Thread nD τ).loc main_arg3) (ix2 ⟨n.val * 64 + i.val, by omega⟩ k) := by
  blk_simp [iblk, idx t]
  rw [V_main_arg3]
  refine congrArg _ (funext fun a => Fin.ext ?_)
  match a with
  | ⟨0, _⟩ =>
    show win0_3.index t 0 * 64 + 1 * i.val = n.val * 64 + i.val
    rw [(idx t).2.2.2.1, hn]; show t.val * 64 + 1 * i.val = _; omega
  | ⟨1, _⟩ =>
    show win0_3.index t 1 * 512 + 1 * k.val = _
    rw [(idx t).2.2.2.1]; show 0 * 512 + 1 * k.val = k.val; omega

/-- The lower triangle of ones. -/
theorem lit_tri (i j : Fin 64) : Ideal.ofBits FTy.f32 (lit0 (S64x64.rowMajor (ix2 i j))) = if j ≤ i then (1 : EReal) else 0 := by
  have hv : (S64x64.rowMajor (ix2 i j) : ℕ) = i.val * 64 + j.val := by
    exact Shape.rowMajor_val_two _
  refine (congrArg (Ideal.ofBits FTy.f32) (lit_eq _)).trans ?_
  rw [hv, show (i.val * 64 + j.val) % 64 = j.val by omega, show (i.val * 64 + j.val) / 64 = i.val by omega]
  by_cases h : j ≤ i
  · rw [if_pos h, if_pos (show j.val ≤ i.val from h), one_eq]
  · rw [if_neg h, if_neg (show ¬ j.val ≤ i.val from h)]
    exact Ideal.ofBits_zero _

theorem b4 (c : Dev nD) (t : Fin cfg0.N) (i j : Fin 64) : iblk m c 4 t (ix2 i j) = (if j ≤ i then (1 : EReal) else 0) := by
  blk_simp [iblk, idx t]
  rw [V_tri]
  refine Eq.trans ?_ (lit_tri i j)
  refine congrArg (fun z => Ideal.ofBits FTy.f32 (lit0 (S64x64.rowMajor z))) (funext fun a => Fin.ext ?_)
  match a with
  | ⟨0, _⟩ =>
    show win0_4.index t 0 * 64 + 1 * i.val = _
    rw [(idx t).2.2.2.2.1]; show 0 * 64 + 1 * i.val = i.val; omega
  | ⟨1, _⟩ =>
    show win0_4.index t 1 * 64 + 1 * j.val = _
    rw [(idx t).2.2.2.2.1]; show 0 * 64 + 1 * j.val = j.val; omega

/-- A point's state, from the chunk's decay and part. -/
theorem Fs_eq (c : Dev nD) (t : Fin cfg0.N) (n : Fin 32) (hn : n.val = t.val) (s : FVec Ideal S4x256x128 .f32) (h : Fin 4) (w : Fin 256) (k : Fin 128) :
    Fs (iblk m c 1 t) (iblk m c 2 t) (iblk m c 3 t) (iblk m c 4 t) s h w k
      = Fd (m ((c.tc : Thread nD τ).loc main_arg3)) (ix3 n h k) * s (ix3 h w k)
        + Fu (m ((c.tc : Thread nD τ).loc main_arg1)) (m ((c.tc : Thread nD τ).loc main_arg2)) (m ((c.tc : Thread nD τ).loc main_arg3)) (ix4 n h k w) := by
  unfold Fs Fe
  rw [Fd_at, Fu_at]
  simp only [b1 m c t n hn, b2 m c t n hn, b3 m c t n hn, b4 m c t, ite_mul, one_mul, zero_mul]
  exact congrArg₂ (· + ·) (mul_comm _ _) (Finset.sum_congr rfl fun i _ => mul_comm _ _)

theorem pay5_zero (y : S4x256x128.Idx) : k0_pay5 (F := Ideal) y = (0 : EReal) := by
  pointwise [k0_pay5]

/-- The state of the reference. -/
abbrev R (c : Dev nD) : ℕ → Fin 4 → Fin 128 → Fin 256 → EReal :=
  St (Fd (m ((c.tc : Thread nD τ).loc main_arg3))) (Fu (m ((c.tc : Thread nD τ).loc main_arg1)) (m ((c.tc : Thread nD τ).loc main_arg2)) (m ((c.tc : Thread nD τ).loc main_arg3)))

/-- One point's step, over a scratch that holds the state before it. -/
theorem Fs_step (c : Dev nD) (t : Fin cfg0.N) (s : FVec Ideal S4x256x128 .f32) (hs : ∀ h w k, s (ix3 h w k) = R m c t.val h k w) (h : Fin 4) (w : Fin 256) (k : Fin 128) :
    Fs (iblk m c 1 t) (iblk m c 2 t) (iblk m c 3 t) (iblk m c 4 t) s h w k = R m c (t.val + 1) h k w := by
  have hN : cfg0.N = 32 := by decide
  have hlt : t.val < 32 := hN ▸ t.isLt
  refine (Fs_eq m c t ⟨t.val, hlt⟩ rfl s h w k).trans ?_
  rw [hs, R, St_succ _ _ t.val hlt]

/-- The scratch after each point. -/
theorem scr (c : Dev nD) : ∀ (t : ℕ) (ht : t < cfg0.N) (h : Fin 4) (w : Fin 256) (k : Fin 128), (outsAt0 m c t ht).2.2 (ix3 h w k) = R m c (t + 1) h k w := by
  intro t
  induction t with
  | zero =>
    intro ht h w k
    exact (sA m c ⟨0, ht⟩ (Nat.zero_mod 32) (ix3 h w k)).trans (Fs_step m c ⟨0, ht⟩ _ (fun h w k => pay5_zero _) h w k)
  | succ t ih =>
    intro ht h w k
    have hN : cfg0.N = 32 := by decide
    have hlt : t + 1 < 32 := hN ▸ ht
    exact (sB m c ⟨t + 1, ht⟩ (by show ¬ (t + 1) % 32 = 0; omega) (ix3 h w k)).trans
      (Fs_step m c ⟨t + 1, ht⟩ _ (fun h w k => ih (Nat.lt_of_succ_lt ht) h w k) h w k)

/-- The scratch a later point reads. -/
theorem prev (c : Dev nD) (t : Fin cfg0.N) (ht : ¬t.val % 32 = 0) (h : Fin 4) (w : Fin 256) (k : Fin 128) :
    (outsAt0 m c (t.val - 1) (Nat.lt_of_le_of_lt (Nat.sub_le _ _) t.isLt)).2.2 (ix3 h w k) = R m c t.val h k w := by
  have hp : t.val - 1 + 1 = t.val := by omega
  exact (scr m c (t.val - 1) _ h w k).trans (by rw [hp])

theorem first (c : Dev nD) (t : Fin cfg0.N) (ht : t.val % 32 = 0) (h : Fin 4) (w : Fin 256) (k : Fin 128) :
    (k0_pay5 (F := Ideal) (ix3 h w k) : EReal) = R m c t.val h k w := by
  have hN : cfg0.N = 32 := by decide
  have hlt : t.val < 32 := hN ▸ t.isLt
  have h0 : t.val = 0 := by omega
  rw [h0]
  exact pay5_zero _

theorem e_eq (c : Dev nD) (t : Fin cfg0.N) (y : S4x1x256x128.Idx) : (outsAt0 m c t.val t.isLt).2.1 y = R m c (t.val + 1) (y 0) (y 3) (y 2) := by
  by_cases ht : t.val % 32 = 0
  · exact (eA m c t ht y).trans (Fs_step m c t _ (first m c t ht) _ _ _)
  · exact (eB m c t ht y).trans (Fs_step m c t _ (prev m c t ht) _ _ _)

/-- The queries. -/
def Qa (c : Dev nD) : FVec Ideal S2048x512 .f32 := m ((c.tc : Thread nD τ).loc main_arg0)

theorem Fo_eq (c : Dev nD) (t : Fin cfg0.N) (s : FVec Ideal S4x256x128 .f32) (hs : ∀ h w k, s (ix3 h w k) = R m c t.val h k w) (n : Fin 32) (hn : n.val = t.val) (i : Fin 64) (h : Fin 4) (w : Fin 256) :
    Fo (iblk m c 0 t) (iblk m c 1 t) (iblk m c 2 t) (iblk m c 3 t) (iblk m c 4 t) s i h w
      = ∑ k : Fin 128, (Qa m c (ix2 ⟨n.val * 64 + i.val, by omega⟩ ⟨h.val * 128 + k.val, by omega⟩) * scale) * R m c (t.val + 1) h k w := by
  unfold Fo
  refine Finset.sum_congr rfl fun k _ => ?_
  rw [Fs_step m c t s hs, b0 m c t n hn]
  rfl

theorem o_eq (c : Dev nD) (t : Fin cfg0.N) (n : Fin 32) (hn : n.val = t.val) (y : S64x1024.Idx) (i : Fin 64) (h : Fin 4) (w : Fin 256)
    (hi : (y 0 : ℕ) = i.val) (hk : (y 1 : ℕ) = h.val * 256 + w.val) : (outsAt0 m c t.val t.isLt).1 y
      = ∑ k : Fin 128, (Qa m c (ix2 ⟨n.val * 64 + i.val, by omega⟩ ⟨h.val * 128 + k.val, by omega⟩) * scale) * R m c (t.val + 1) h k w := by
  by_cases ht : t.val % 32 = 0
  · exact (oA m c t ht y i h w hi hk).trans (Fo_eq m c t _ (first m c t ht) n hn i h w)
  · exact (oB m c t ht y i h w hi hk).trans (Fo_eq m c t _ (prev m c t ht) n hn i h w)

/-- The output at a position given by its chunk, row, head and column. -/
theorem Fout_of (q K : FVec Ideal S2048x512 .f32) (V : FVec Ideal S2048x1024 .f32) (G : FVec Ideal S2048x512 .f32) (z : S2048x1024.Idx) (n : Fin 32) (i : Fin 64) (h : Fin 4) (w : Fin 256)
    (h0 : (z 0).val = n.val * 64 + i.val) (h1 : (z 1).val = h.val * 256 + w.val) :
    Fout q K V G z = ∑ k : Fin 128, (q (ix2 ⟨n.val * 64 + i.val, by omega⟩ ⟨h.val * 128 + k.val, by omega⟩) * scale) * St (Fd G) (Fu K V G) (n.val + 1) h k w := by
  have e0 : (z 0).val / 64 = n.val := by omega
  have e1 : (z 1).val / 256 = h.val := by omega
  have e2 : (z 1).val % 256 = w.val := by omega
  unfold Fout
  refine Finset.sum_congr rfl fun k _ => ?_
  refine congrArg₂ (· * ·) (congrArg (fun j => q j * scale) (congrArg₂ ix2 (Fin.ext h0) (Fin.ext ?_))) ?_
  · show (z 1).val / 256 * 128 + k.val = h.val * 128 + k.val
    rw [e1]
  · rw [e0]
    exact congrArg₂ (fun a b => St (Fd G) (Fu K V G) (n.val + 1) a k b) (Fin.ext e1) (Fin.ext e2)

theorem final5 (c : Dev nD) : (dats m 0 c).arrAt 5 (cfgs 0).N
    = Fout (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 5 _ (by decide +kernel) fun t hf y => ?_
  blk_simp
  rw [after0_5]
  have hN : cfg0.N = 32 := by decide
  have hlt : t.val < 32 := hN ▸ t.isLt
  have hy0 : (y 0 : ℕ) < 64 := (y 0).isLt
  have hy1 : (y 1 : ℕ) < 1024 := (y 1).isLt
  refine (o_eq m c t ⟨t.val, hlt⟩ rfl y ⟨(y 0 : ℕ), hy0⟩ ⟨(y 1 : ℕ) / 256, by omega⟩ ⟨(y 1 : ℕ) % 256, Nat.mod_lt _ (by decide)⟩ rfl
    (by show (y 1 : ℕ) = (y 1 : ℕ) / 256 * 256 + (y 1 : ℕ) % 256; omega)).trans ?_
  refine (Fout_of _ _ _ _ _ ⟨t.val, hlt⟩ ⟨(y 0 : ℕ), hy0⟩ ⟨(y 1 : ℕ) / 256, by omega⟩ ⟨(y 1 : ℕ) % 256, Nat.mod_lt _ (by decide)⟩ ?_ ?_).symm
  · show win0_5.index t 0 * 64 + 1 * (y 0 : ℕ) = t.val * 64 + (y 0 : ℕ)
    rw [(idx t).2.2.2.2.2.1]; show t.val * 64 + 1 * (y 0 : ℕ) = _; omega
  · show win0_5.index t 1 * 1024 + 1 * (y 1 : ℕ) = (y 1 : ℕ) / 256 * 256 + (y 1 : ℕ) % 256
    rw [(idx t).2.2.2.2.2.1]; show 0 * 1024 + 1 * (y 1 : ℕ) = _; omega

theorem final6 (c : Dev nD) : (dats m 0 c).arrAt 6 (cfgs 0).N
    = Fst (m ((c.tc : Thread nD τ).loc main_arg1)) (m ((c.tc : Thread nD τ).loc main_arg2)) (m ((c.tc : Thread nD τ).loc main_arg3)) := by
  refine (dats m 0 c).arrAt_eq_of_covers 6 _ (by decide +kernel) fun t hf y => ?_
  blk_simp
  rw [after0_6]
  refine (e_eq m c t y).trans ?_
  have hy1 : (y 1 : ℕ) < 1 := (y 1).isLt
  have i0 : ((win0_6.rect t).emb y 0 : ℕ) = (y 0 : ℕ) := by
    show win0_6.index t 0 * 4 + 1 * (y 0 : ℕ) = _
    rw [(idx t).2.2.2.2.2.2]; show 0 * 4 + 1 * (y 0 : ℕ) = _; omega
  have i1 : ((win0_6.rect t).emb y 1 : ℕ) = t.val := by
    show win0_6.index t 1 * 1 + 1 * (y 1 : ℕ) = _
    rw [(idx t).2.2.2.2.2.2]; show t.val * 1 + 1 * (y 1 : ℕ) = _; omega
  have i2 : ((win0_6.rect t).emb y 2 : ℕ) = (y 2 : ℕ) := by
    show win0_6.index t 2 * 256 + 1 * (y 2 : ℕ) = _
    rw [(idx t).2.2.2.2.2.2]; show 0 * 256 + 1 * (y 2 : ℕ) = _; omega
  have i3 : ((win0_6.rect t).emb y 3 : ℕ) = (y 3 : ℕ) := by
    show win0_6.index t 3 * 128 + 1 * (y 3 : ℕ) = _
    rw [(idx t).2.2.2.2.2.2]; show 0 * 128 + 1 * (y 3 : ℕ) = _; omega
  have key : ∀ (a a' : ℕ) (h h' : Fin 4) (k k' : Fin 128) (w w' : Fin 256), a = a' → (h : ℕ) = h' → (k : ℕ) = k' → (w : ℕ) = w' → R m c (a + 1) h k w = R m c (a' + 1) h' k' w' := by
    intro a a' h h' k k' w w' e1 e2 e3 e4
    rw [e1, Fin.ext e2, Fin.ext e3, Fin.ext e4]
  exact key _ _ _ _ _ _ _ _ i1.symm i0.symm i3.symm i2.symm

end Cert.Kernel34Ideal.Fwd

end
-- ==== Proof.GlaFwdRef.lean ====
module

public import proofs.«01_k».proof.Proof.Gen.Reference34Ideal.Run
public import proofs.«01_k».proof.Proof.GlaFwdDef
public import Idealize.ShloMosaic.Lib.WordCmp
public import Idealize.ShloMosaic.Lib.DynamicIndex

@[expose] public section

set_option maxRecDepth 16384

noncomputable section

open Idealize.ShloMosaic Idealize.ShloMosaic.TcCoe
open scoped BigOperators

namespace Cert.Reference34Ideal.Fwd

open Cert.Reference34Ideal Cert.Reference34Ideal.Gen Cert.Reference34Ideal.Value Cert.Reference4Ideal.Gla
open Idealize.ShloMosaic.StableHlo Idealize.ShloMosaic.Tactic
open Idealize.ShloMosaic.WordCmp (dynamicSlice_eq_extract dynamicUpdateSlice_eq_update addi_ofNat)

/-! The reference's loop over the chunks: what the carried arrays hold before each trip. -/

theorem st3 (b : IVec S_ 32) (n : ℕ) (hn : n < 32) (hb : b = fun _ => BitVec.ofNat 32 n) (a : Fin 3) :
    ((![b, constantI S_ 32 0#32, constantI S_ 32 0#32] : Fin 3 → IVec S_ 32) a (Shape.Idx.first h_S_)).toInt = ((![n, 0, 0] : Fin 3 → ℕ) a : ℤ) := by
  subst hb
  fin_cases a
  · exact toInt_ofNat_of_lt (by omega)
  · rfl
  · rfl

theorem st4 (b : IVec S_ 32) (n : ℕ) (hn : n < 32) (hb : b = fun _ => BitVec.ofNat 32 n) (a : Fin 4) :
    ((![b, constantI S_ 32 0#32, constantI S_ 32 0#32, constantI S_ 32 0#32] : Fin 4 → IVec S_ 32) a (Shape.Idx.first h_S_)).toInt = ((![n, 0, 0, 0] : Fin 4 → ℕ) a : ℤ) := by
  subst hb
  fin_cases a
  · exact toInt_ofNat_of_lt (by omega)
  · rfl
  · rfl
  · rfl

theorem fit3 (n : ℕ) (hn : n < 32) : S32x4x128.Slices ![n, 0, 0] S1x4x128 :=
  ⟨rfl, fun a => by
    fin_cases a
    · show n + 1 ≤ 32
      omega
    · exact le_refl 4
    · exact le_refl 128⟩

theorem fit4 (n : ℕ) (hn : n < 32) : S32x4x128x256.Slices ![n, 0, 0, 0] S1x4x128x256 :=
  ⟨rfl, fun a => by
    fin_cases a
    · show n + 1 ≤ 32
      omega
    · exact le_refl 4
    · exact le_refl 128
    · exact le_refl 256⟩

/-- One chunk's row of an array, read by a block. -/
theorem row3 (x : FVec Ideal S32x4x128 .f32) (n : ℕ) (hn : n < 32) (h : Fin 4) (k : Fin 128) :
    extractStridedSlice S1x4x128 ![n, 0, 0] x (fit3 n hn) (ix3 0 h k) = x (ix3 ⟨n, hn⟩ h k) := by
  refine congrArg x (funext fun a => Fin.ext ?_)
  fin_cases a
  · exact Nat.add_zero n
  · exact Nat.zero_add _
  · exact Nat.zero_add _

theorem row4 (x : FVec Ideal S32x4x128x256 .f32) (n : ℕ) (hn : n < 32) (h : Fin 4) (k : Fin 128) (w : Fin 256) :
    extractStridedSlice S1x4x128x256 ![n, 0, 0, 0] x (fit4 n hn) (ix4 0 h k w) = x (ix4 ⟨n, hn⟩ h k w) := by
  refine congrArg x (funext fun a => Fin.ext ?_)
  fin_cases a
  · exact Nat.add_zero n
  · exact Nat.zero_add _
  · exact Nat.zero_add _
  · exact Nat.zero_add _

/-- The next state, from the arrays a trip reads. -/
def nxt (x : FVec Ideal S1x4x128 .f32) (y : FVec Ideal S1x4x128x256 .f32) (s : FVec Ideal S4x128x256 .f32) : FVec Ideal S4x128x256 .f32 :=
  addf (mulf (broadcastInDim S4x128x256 ![0, 1, 2] bcast_S4x128x1_S4x128x256_0_1_2 (broadcastInDim S4x128x1 ![0, 1] bcast_S4x128_S4x128x1_0_1 (shapeCast S4x128 x shapeCasts_S1x4x128_S4x128))) s)
    (shapeCast S4x128x256 y shapeCasts_S1x4x128x256_S4x128x256)

theorem nxt_at (x : FVec Ideal S1x4x128 .f32) (y : FVec Ideal S1x4x128x256 .f32) (s : FVec Ideal S4x128x256 .f32) (h : Fin 4) (k : Fin 128) (w : Fin 256) :
    nxt x y s (ix3 h k w) = x (ix3 0 h k) * s (ix3 h k w) + y (ix4 0 h k w) := by
  pointwise [nxt]

section

variable (V0 : Valuation τ sig (Elt Ideal)) (n : ℕ) (hn : n < 32) (hb : V0 (Proc.devRef .tc main_v15_2) = fun _ => BitVec.ofNat 32 n)
include hn hb

theorem res_at (x0 : FVec Ideal S32x4x128 .f32) (x1 : FVec Ideal S32x4x128x256 .f32) (x3 : FVec Ideal S4x128x256 .f32)
    (e0 : V0 (Proc.devRef .tc main_v15_0) = x0) (e1 : V0 (Proc.devRef .tc main_v15_1) = x1) (e3 : V0 (Proc.devRef .tc main_v15_3) = x3) (h : Fin 4) (k : Fin 128) (w : Fin 256) :
    (res_main_while0b_v28 V0 : FVec Ideal S4x128x256 .f32) (ix3 h k w) = x0 (ix3 ⟨n, hn⟩ h k) * x3 (ix3 h k w) + x1 (ix4 ⟨n, hn⟩ h k w) := by
  subst e0 e1 e3
  refine (nxt_at _ _ _ h k w).trans ?_
  refine congrArg₂ (· + ·) (congrArg (· * _) ?_) ?_
  · refine (congrFun (dynamicSlice_eq_extract S1x4x128 (V0 (Proc.devRef .tc main_v15_0) : FVec Ideal S32x4x128 .f32) _ sliceFits_S32x4x128_S1x4x128 ![n, 0, 0] (fit3 n hn)
      (st3 (V0 (Proc.devRef .tc main_v15_2)) n hn hb)) (ix3 0 h k)).trans (row3 _ n hn h k)
  · refine (congrFun (dynamicSlice_eq_extract S1x4x128x256 (V0 (Proc.devRef .tc main_v15_1) : FVec Ideal S32x4x128x256 .f32) _ sliceFits_S32x4x128x256_S1x4x128x256 ![n, 0, 0, 0] (fit4 n hn)
      (st4 (V0 (Proc.devRef .tc main_v15_2)) n hn hb)) (ix4 0 h k w)).trans (row4 _ n hn h k w)

/-- The saved states after a trip: the trip's row is the new state, the others stay. -/
theorem put_eq : (step_main_v15_4 V0 : FVec Ideal S32x4x128x256 .f32)
    = updateSlice (V0 (Proc.devRef .tc main_v15_4) : FVec Ideal S32x4x128x256 .f32)
        (broadcastInDim S1x4x128x256 ![1, 2, 3] bcast_S4x128x256_S1x4x128x256_1_2_3 (res_main_while0b_v28 V0 : FVec Ideal S4x128x256 .f32)) ![n, 0, 0, 0] (fit4 n hn) :=
  dynamicUpdateSlice_eq_update _ _ _ updateFits_S32x4x128x256_S1x4x128x256 ![n, 0, 0, 0] (fit4 n hn) (st4 (V0 (Proc.devRef .tc main_v15_2)) n hn hb)

theorem put_new (h : Fin 4) (k : Fin 128) (w : Fin 256) :
    (step_main_v15_4 V0 : FVec Ideal S32x4x128x256 .f32) (ix4 ⟨n, hn⟩ h k w) = (res_main_while0b_v28 V0 : FVec Ideal S4x128x256 .f32) (ix3 h k w) := by
  refine (congrFun (put_eq V0 n hn hb) _).trans ?_
  generalize (res_main_while0b_v28 V0 : FVec Ideal S4x128x256 .f32) = r
  refine (dif_pos ?_).trans ?_
  · intro a
    fin_cases a
    · exact ⟨le_refl n, Nat.lt_succ_self n⟩
    · exact ⟨Nat.zero_le _, by show h.val < 0 + 4; omega⟩
    · exact ⟨Nat.zero_le _, by show k.val < 0 + 128; omega⟩
    · exact ⟨Nat.zero_le _, by show w.val < 0 + 256; omega⟩
  · refine congrArg r (funext fun a => Fin.ext ?_)
    fin_cases a <;> rfl

theorem put_old (i : Fin 32) (hi : i.val < n) (h : Fin 4) (k : Fin 128) (w : Fin 256) :
    (step_main_v15_4 V0 : FVec Ideal S32x4x128x256 .f32) (ix4 i h k w) = (V0 (Proc.devRef .tc main_v15_4) : FVec Ideal S32x4x128x256 .f32) (ix4 i h k w) := by
  refine (congrFun (put_eq V0 n hn hb) _).trans ?_
  refine dif_neg fun hh => ?_
  have h0 : n ≤ i.val := (hh 0).1
  omega

theorem step_ctr : step_main_v15_2 V0 = fun _ => BitVec.ofNat 32 (n + 1) := by
  show addi (V0 (Proc.devRef .tc main_v15_2)) (constantI S_ 32 1#32) = _
  rw [hb]
  exact funext fun _ => addi_ofNat n 1

end

variable (m : (ℓ : Loc nD τ sig) → Buf (Elt Ideal) ℓ) (c : Dev nD)

theorem entry0 : entryContents preI m c (Proc.devRef .tc main_v15_0) = Fd (m ((c.tc : Thread nD τ).loc main_arg3)) := by
  simp only [entryContents, afterL_cons, afterL_nil]
  after_reads_simp
  rfl

theorem entry1 : entryContents preI m c (Proc.devRef .tc main_v15_1)
    = Fu (m ((c.tc : Thread nD τ).loc main_arg1)) (m ((c.tc : Thread nD τ).loc main_arg2)) (m ((c.tc : Thread nD τ).loc main_arg3)) := by
  simp only [entryContents, afterL_cons, afterL_nil]
  after_reads_simp
  rfl

theorem entry3 : entryContents preI m c (Proc.devRef .tc main_v15_3) = fun _ => Ideal.ofBits FTy.f32 0x00000000#32 := by
  simp only [entryContents, afterL_cons, afterL_nil]
  after_reads_simp
  rfl

/-- The carried arrays before a trip. -/
theorem inv : ∀ n : ℕ, n ≤ 32 →
    (STEP^[n] (entryContents preI m c)) (Proc.devRef .tc main_v15_0) = Fd (m ((c.tc : Thread nD τ).loc main_arg3))
    ∧ (STEP^[n] (entryContents preI m c)) (Proc.devRef .tc main_v15_1) = Fu (m ((c.tc : Thread nD τ).loc main_arg1)) (m ((c.tc : Thread nD τ).loc main_arg2)) (m ((c.tc : Thread nD τ).loc main_arg3))
    ∧ ((STEP^[n] (entryContents preI m c)) (Proc.devRef .tc main_v15_2) = fun _ => BitVec.ofNat 32 n)
    ∧ (∀ (h : Fin 4) (k : Fin 128) (w : Fin 256), ((STEP^[n] (entryContents preI m c)) (Proc.devRef .tc main_v15_3) : FVec Ideal S4x128x256 .f32) (ix3 h k w)
        = St (Fd (m ((c.tc : Thread nD τ).loc main_arg3))) (Fu (m ((c.tc : Thread nD τ).loc main_arg1)) (m ((c.tc : Thread nD τ).loc main_arg2)) (m ((c.tc : Thread nD τ).loc main_arg3))) n h k w)
    ∧ ∀ (i : Fin 32), i.val < n → ∀ (h : Fin 4) (k : Fin 128) (w : Fin 256), ((STEP^[n] (entryContents preI m c)) (Proc.devRef .tc main_v15_4) : FVec Ideal S32x4x128x256 .f32) (ix4 i h k w)
        = St (Fd (m ((c.tc : Thread nD τ).loc main_arg3))) (Fu (m ((c.tc : Thread nD τ).loc main_arg1)) (m ((c.tc : Thread nD τ).loc main_arg2)) (m ((c.tc : Thread nD τ).loc main_arg3))) (i.val + 1) h k w := by
  intro n
  induction n with
  | zero =>
    intro _
    rw [Function.iterate_zero, id_eq]
    refine ⟨entry0 m c, entry1 m c, ctr_entry m c, fun h k w => ?_, fun i hi => absurd hi (Nat.not_lt_zero _)⟩
    exact (congrFun (entry3 m c) _).trans Ideal.ofBits_zero_f32
  | succ n ih =>
    intro hn
    obtain ⟨h0, h1, h2, h3, h4⟩ := ih (Nat.le_of_succ_le hn)
    rw [Function.iterate_succ_apply']
    generalize STEP^[n] (entryContents preI m c) = E at h0 h1 h2 h3 h4
    have hlt : n < 32 := hn
    have hr : ∀ (h : Fin 4) (k : Fin 128) (w : Fin 256), (res_main_while0b_v28 E : FVec Ideal S4x128x256 .f32) (ix3 h k w)
        = St (Fd (m ((c.tc : Thread nD τ).loc main_arg3))) (Fu (m ((c.tc : Thread nD τ).loc main_arg1)) (m ((c.tc : Thread nD τ).loc main_arg2)) (m ((c.tc : Thread nD τ).loc main_arg3))) (n + 1) h k w := fun h k w => by
      refine (res_at E n hlt h2 _ _ _ h0 h1 rfl h k w).trans ?_
      rw [St_succ _ _ n hlt, h3]
    refine ⟨(STEP_main_v15_0 E).trans h0, (STEP_main_v15_1 E).trans h1, (STEP_main_v15_2 E).trans (step_ctr E n hlt h2), fun h k w => ?_, fun i hi h k w => ?_⟩
    · exact (congrFun (STEP_main_v15_3 E) _).trans (hr h k w)
    · refine (congrFun (STEP_main_v15_4 E) _).trans ?_
      by_cases e : i.val < n
      · exact (put_old E n hlt h2 i e h k w).trans (h4 i e h k w)
      · have e' : i = ⟨n, hlt⟩ := Fin.ext (by show i.val = n; omega)
        subst e'
        exact (put_new E n hlt h2 h k w).trans (hr h k w)

/-- The results, from the saved states. -/
def fin1 (X : FVec Ideal S32x4x128x256 .f32) (q : FVec Ideal S2048x512 .f32) : FVec Ideal S2048x1024 .f32 :=
  shapeCast _ (transpose S32x64x4x256 [0, 3, 1, 2] (Host.dotGeneral dot_S32x4x128x256_S32x64x4x128_S32x4x256x64_2_3_3_1_01_02 none X (mulf (shapeCast _ q shapeCasts_S2048x512_S32x64x4x128) (broadcastInDim S32x64x4x128 ![] bcast_S_S32x64x4x128 (constant (F := Ideal) S_ .f32 0x3DB504F3#32)))) transposes_S32x4x256x64_S32x64x4x256_0_3_1_2) shapeCasts_S32x64x4x256_S2048x1024

theorem fin1_at (X : FVec Ideal S32x4x128x256 .f32) (q : FVec Ideal S2048x512 .f32) (n : Fin 32) (i : Fin 64) (h : Fin 4) (w : Fin 256) :
    fin1 X q (ix2 ⟨n.val * 64 + i.val, by omega⟩ ⟨h.val * 256 + w.val, by omega⟩)
      = ∑ k : Fin 128, X (ix4 n h k w) * (q (ix2 ⟨n.val * 64 + i.val, by omega⟩ ⟨h.val * 128 + k.val, by omega⟩) * scale) := by
  pointwise [fin1]
  rfl

def fin2 (X : FVec Ideal S32x4x128x256 .f32) : FVec Ideal S4x32x256x128 .f32 :=
  transpose S4x32x256x128 [1, 0, 3, 2] X transposes_S32x4x128x256_S4x32x256x128_1_0_3_2

theorem fin2_at (X : FVec Ideal S32x4x128x256 .f32) (h : Fin 4) (n : Fin 32) (w : Fin 256) (k : Fin 128) :
    fin2 X (ix4 h n w k) = X (ix4 n h k w) := by
  pointwise [fin2]

theorem ix2_eq (y : S2048x1024.Idx) (n : Fin 32) (i : Fin 64) (h : Fin 4) (w : Fin 256) (h0 : (y 0).val = n.val * 64 + i.val) (h1 : (y 1).val = h.val * 256 + w.val) :
    y = ix2 ⟨n.val * 64 + i.val, by omega⟩ ⟨h.val * 256 + w.val, by omega⟩ := by
  funext a
  apply Fin.ext
  match a with
  | ⟨0, _⟩ => exact h0
  | ⟨1, _⟩ => exact h1

theorem out1 : out_main_v21 (STEP^[32] (entryContents preI m c))
    = Fout (m ((c.tc : Thread nD τ).loc main_arg0)) (m ((c.tc : Thread nD τ).loc main_arg1)) (m ((c.tc : Thread nD τ).loc main_arg2)) (m ((c.tc : Thread nD τ).loc main_arg3)) := by
  have hq := iter_main_arg0 m c 32
  obtain ⟨-, -, -, -, h4⟩ := inv m c 32 (le_refl _)
  refine funext fun (y : S2048x1024.Idx) => ?_
  have b0 : (y 0).val < 2048 := (y 0).isLt
  have b1 : (y 1).val < 1024 := (y 1).isLt
  have ey := ix2_eq y ⟨(y 0).val / 64, by omega⟩ ⟨(y 0).val % 64, Nat.mod_lt _ (by decide)⟩ ⟨(y 1).val / 256, by omega⟩ ⟨(y 1).val % 256, Nat.mod_lt _ (by decide)⟩
    (by show (y 0).val = (y 0).val / 64 * 64 + (y 0).val % 64; omega) (by show (y 1).val = (y 1).val / 256 * 256 + (y 1).val % 256; omega)
  show fin1 ((STEP^[32] (entryContents preI m c)) (Proc.devRef .tc main_v15_4)) ((STEP^[32] (entryContents preI m c)) (Proc.devRef .tc main_arg0)) y = _
  rw [hq]
  refine (congrArg _ ey).trans ?_
  refine (fin1_at _ _ ⟨(y 0).val / 64, by omega⟩ ⟨(y 0).val % 64, Nat.mod_lt _ (by decide)⟩ ⟨(y 1).val / 256, by omega⟩ ⟨(y 1).val % 256, Nat.mod_lt _ (by decide)⟩).trans ?_
  refine Finset.sum_congr rfl fun k _ => ?_
  rw [h4 _ (Fin.isLt _), mul_comm]
  refine congrArg (fun z : EReal => z * scale * _) (congrArg (m ((c.tc : Thread nD τ).loc main_arg0)) ?_)
  refine congrArg (fun z => ix2 z _) (Fin.ext ?_)
  show (y 0).val / 64 * 64 + (y 0).val % 64 = (y 0).val
  omega

theorem out2 : out_main_v22 (STEP^[32] (entryContents preI m c))
    = Fst (m ((c.tc : Thread nD τ).loc main_arg1)) (m ((c.tc : Thread nD τ).loc main_arg2)) (m ((c.tc : Thread nD τ).loc main_arg3)) := by
  obtain ⟨-, -, -, -, h4⟩ := inv m c 32 (le_refl _)
  refine funext fun (y : S4x32x256x128.Idx) => ?_
  have ey : y = ix4 (y 0) (y 1) (y 2) (y 3) := funext fun a => by fin_cases a <;> rfl
  show fin2 ((STEP^[32] (entryContents preI m c)) (Proc.devRef .tc main_v15_4)) y = _
  refine (congrArg _ ey).trans ((fin2_at _ (y 0) (y 1) (y 2) (y 3)).trans ?_)
  exact h4 (y 1) (y 1).isLt (y 0) (y 3) (y 2)

end Cert.Reference34Ideal.Fwd

end
-- ==== Proof.PairGlaFwd.lean ====
module

public import proofs.«01_k».proof.Defs
public import proofs.«01_k».proof.Proof.Gen.Kernel34.Frame
public import proofs.«01_k».proof.Proof.Gen.Kernel34Ideal.Frame
public import proofs.«01_k».proof.Proof.Gen.Reference34Ideal
public import proofs.«01_k».proof.Proof.Gen.Kernel34Ideal.Value
public import proofs.«01_k».proof.Proof.Gen.Reference34Ideal.Run
public import proofs.«01_k».proof.Proof.GlaFwd
public import proofs.«01_k».proof.Proof.GlaFwdRef
public import Idealize.ShloMosaic.Lib.Claim
public import Idealize.ShloMosaic.Adequacy
public import Idealize.ShloMosaic.Init

@[expose] public section

set_option maxRecDepth 16384

noncomputable section

open Idealize.ShloMosaic Idealize.SL.Sem

/-! The claims of the forward gated linear attention. -/

namespace Cert.PairGlaFwd

theorem frame_kernel : Cert.quiescent_Kernel34 := fun m ρ _ => Cert.Kernel34.Gen.frame m ρ

theorem frame_ideal : Cert.quiescent_Kernel34Ideal := fun m ρ _ => Cert.Kernel34Ideal.Gen.frame m ρ

theorem frame_reference : Cert.quiescent_Reference34Ideal := fun m ρ _ =>
  (θ_run Cert.Reference34Ideal.defs _ _).mono (fun r h => ⟨fun c => (h c).2.2, sem_eq_zero_of_no_sems (by decide) r.2⟩)
    (Cert.Reference34Ideal.Value.run (F := Ideal) m ρ)

open Cert.Reference4Ideal.Gla Cert.Reference4Ideal

theorem Fout_congr {q q' K K' G G' : FVec Ideal S2048x512 .f32} {V V' : FVec Ideal S2048x1024 .f32} (h0 : q = q') (h1 : K = K') (h2 : V = V') (h3 : G = G') :
    Fout q K V G = Fout q' K' V' G' := by
  rw [h0, h1, h2, h3]

theorem Fst_congr {K K' G G' : FVec Ideal S2048x512 .f32} {V V' : FVec Ideal S2048x1024 .f32} (h1 : K = K') (h2 : V = V') (h3 : G = G') :
    Fst K V G = Fst K' V' G' := by
  rw [h1, h2, h3]

theorem algebraic : Cert.algebraic_Kernel34Ideal_Reference34Ideal := fun m g m' g' _ hagree =>
  ⟨_, _,
    (θ_run Cert.Kernel34Ideal.defs _ _).mono (fun r h c => ⟨(h c).1.trans (Cert.Kernel34Ideal.Fwd.final5 m c), (h c).2.1.trans (Cert.Kernel34Ideal.Fwd.final6 m c), (h c).2.2⟩)
      (Cert.Kernel34Ideal.Value.run_blocks m g),
    (θ_run Cert.Reference34Ideal.defs _ _).mono (fun r h c =>
      ⟨(h c).1.trans ((Cert.Reference34Ideal.Fwd.out1 m' c).trans (Fout_congr (hagree c).1 (hagree c).2.1 (hagree c).2.2.1 (hagree c).2.2.2)),
        (h c).2.1.trans ((Cert.Reference34Ideal.Fwd.out2 m' c).trans (Fst_congr (hagree c).2.1 (hagree c).2.2.1 (hagree c).2.2.2)), (h c).2.2⟩)
      (Cert.Reference34Ideal.Value.run (F := Ideal) m' g')⟩

end Cert.PairGlaFwd

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Pre_mem_finite
public import proofs.«01_k».proof.Proof.Gen.Pre_dact_finite
public import proofs.«01_k».proof.Proof.Gen.KernelIdeal.Value
public import proofs.«01_k».proof.Proof.Gen.ReferenceIdeal.Run
public import proofs.«01_k».proof.Proof.Gen.Kernel2Ideal.Value
public import proofs.«01_k».proof.Proof.Gen.Reference2Ideal.Run
public import proofs.«01_k».proof.Proof.Gen.Kernel3Ideal.Value
public import proofs.«01_k».proof.Proof.Gen.Reference3Ideal.Run
public import proofs.«01_k».proof.Proof.PairMem
public import proofs.«01_k».proof.Proof.PairDact
public import proofs.«01_k».proof.Proof.PairDwd
public import proofs.«01_k».proof.Proof.PairGla
public import proofs.«01_k».proof.Proof.PairDwg
public import proofs.«01_k».proof.Proof.PairDn
public import proofs.«01_k».proof.Proof.PairUp
public import proofs.«01_k».proof.Proof.PairDown
public import Idealize.ShloMosaic.Lib.Claim
public import proofs.«01_k».proof.Proof.Gen.Pre_gla_finite
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Kernel8.Frame
public import proofs.«01_k».proof.Proof.Gen.Kernel8Ideal.Value
public import proofs.«01_k».proof.Proof.Gen.Reference8Ideal.Run
public import proofs.«01_k».proof.Proof.Gen.Kernel9.Frame
public import proofs.«01_k».proof.Proof.Gen.Kernel9Ideal.Value
public import proofs.«01_k».proof.Proof.Gen.Reference9Ideal.Run
public import proofs.«01_k».proof.Proof.Gen.Kernel10.Frame
public import proofs.«01_k».proof.Proof.Gen.Kernel10Ideal.Value
public import proofs.«01_k».proof.Proof.Gen.Reference10Ideal.Run
public import proofs.«01_k».proof.Proof.Gen.Kernel11.Frame
public import proofs.«01_k».proof.Proof.Gen.Kernel11Ideal.Value
public import proofs.«01_k».proof.Proof.Gen.Reference11Ideal.Run
public import proofs.«01_k».proof.Proof.Gen.Kernel12.Frame
public import proofs.«01_k».proof.Proof.Gen.Kernel12Ideal.Value
public import proofs.«01_k».proof.Proof.Gen.Reference12Ideal.Run
public import proofs.«01_k».proof.Proof.Gen.Kernel13.Frame
public import proofs.«01_k».proof.Proof.Gen.Kernel13Ideal.Value
public import proofs.«01_k».proof.Proof.Gen.Reference13Ideal.Run
public import proofs.«01_k».proof.Proof.Gen.Kernel14.Frame
public import proofs.«01_k».proof.Proof.Gen.Kernel14Ideal.Value
public import proofs.«01_k».proof.Proof.Gen.Reference14Ideal.Run
public import proofs.«01_k».proof.Proof.Gen.Kernel15.Frame
public import proofs.«01_k».proof.Proof.Gen.Kernel15Ideal.Value
public import proofs.«01_k».proof.Proof.Gen.Reference15Ideal.Run
public import proofs.«01_k».proof.Proof.Gen.Kernel16.Frame
public import proofs.«01_k».proof.Proof.Gen.Kernel16Ideal.Value
public import proofs.«01_k».proof.Proof.Gen.Reference16Ideal.Run
public import proofs.«01_k».proof.Proof.Gen.Kernel17.Frame
public import proofs.«01_k».proof.Proof.Gen.Kernel17Ideal.Value
public import proofs.«01_k».proof.Proof.Gen.Reference17Ideal.Run
public import proofs.«01_k».proof.Proof.Gen.Kernel18.Frame
public import proofs.«01_k».proof.Proof.Gen.Kernel18Ideal.Value
public import proofs.«01_k».proof.Proof.Gen.Reference18Ideal.Run
public import proofs.«01_k».proof.Proof.Gen.Kernel19.Frame
public import proofs.«01_k».proof.Proof.Gen.Kernel19Ideal.Value
public import proofs.«01_k».proof.Proof.Gen.Reference19Ideal.Run
public import proofs.«01_k».proof.Proof.Gen.Kernel20.Frame
public import proofs.«01_k».proof.Proof.Gen.Kernel20Ideal.Value
public import proofs.«01_k».proof.Proof.Gen.Reference20Ideal.Run
public import proofs.«01_k».proof.Proof.Gen.Kernel21.Frame
public import proofs.«01_k».proof.Proof.Gen.Kernel21Ideal.Value
public import proofs.«01_k».proof.Proof.Gen.Reference21Ideal.Run
public import proofs.«01_k».proof.Proof.Gen.Kernel22.Frame
public import proofs.«01_k».proof.Proof.Gen.Kernel22Ideal.Value
public import proofs.«01_k».proof.Proof.Gen.Reference22Ideal.Run
public import proofs.«01_k».proof.Proof.Gen.Kernel23.Frame
public import proofs.«01_k».proof.Proof.Gen.Kernel23Ideal.Value
public import proofs.«01_k».proof.Proof.Gen.Reference23Ideal.Run
public import proofs.«01_k».proof.Proof.Gen.Kernel24.Frame
public import proofs.«01_k».proof.Proof.Gen.Kernel24Ideal.Value
public import proofs.«01_k».proof.Proof.Gen.Reference24Ideal.Run
public import proofs.«01_k».proof.Proof.Gen.Kernel25.Frame
public import proofs.«01_k».proof.Proof.Gen.Kernel25Ideal.Value
public import proofs.«01_k».proof.Proof.Gen.Reference25Ideal.Run
public import proofs.«01_k».proof.Proof.Gen.Kernel26.Frame
public import proofs.«01_k».proof.Proof.Gen.Kernel26Ideal.Value
public import proofs.«01_k».proof.Proof.Gen.Reference26Ideal.Run
public import proofs.«01_k».proof.Proof.Gen.Kernel27.Frame
public import proofs.«01_k».proof.Proof.Gen.Kernel27Ideal.Value
public import proofs.«01_k».proof.Proof.Gen.Reference27Ideal.Run
public import proofs.«01_k».proof.Proof.Gen.Kernel28.Frame
public import proofs.«01_k».proof.Proof.Gen.Kernel28Ideal.Value
public import proofs.«01_k».proof.Proof.Gen.Reference28Ideal.Run
public import proofs.«01_k».proof.Proof.Gen.Kernel29.Frame
public import proofs.«01_k».proof.Proof.Gen.Kernel29Ideal.Value
public import proofs.«01_k».proof.Proof.Gen.Reference29Ideal.Run
public import proofs.«01_k».proof.Proof.Gen.Kernel30.Frame
public import proofs.«01_k».proof.Proof.Gen.Kernel30Ideal.Value
public import proofs.«01_k».proof.Proof.Gen.Reference30Ideal.Run
public import proofs.«01_k».proof.Proof.Gen.Kernel31.Frame
public import proofs.«01_k».proof.Proof.Gen.Kernel31Ideal.Value
public import proofs.«01_k».proof.Proof.Gen.Reference31Ideal.Run
public import proofs.«01_k».proof.Proof.Gen.Kernel32.Frame
public import proofs.«01_k».proof.Proof.Gen.Kernel32Ideal.Value
public import proofs.«01_k».proof.Proof.Gen.Reference32Ideal.Run
public import proofs.«01_k».proof.Proof.Gen.Kernel33.Frame
public import proofs.«01_k».proof.Proof.Gen.Kernel33Ideal.Value
public import proofs.«01_k».proof.Proof.Gen.Reference33Ideal.Run
public import proofs.«01_k».proof.Proof.Gen.Kernel34.Frame
public import proofs.«01_k».proof.Proof.Gen.Kernel34Ideal.Value
public import proofs.«01_k».proof.Proof.Gen.Reference34Ideal.Run
public import proofs.«01_k».proof.Proof.Gen.Pre_mla_finite
public import proofs.«01_k».proof.Proof.PairInDw
public import proofs.«01_k».proof.Proof.PairInDx
public import proofs.«01_k».proof.Proof.PairOutDx
public import proofs.«01_k».proof.Proof.PairOutDw
public import proofs.«01_k».proof.Proof.PairInFwd
public import proofs.«01_k».proof.Proof.PairOut
public import proofs.«01_k».proof.Proof.PairQUpDx
public import proofs.«01_k».proof.Proof.PairQUpDw
public import proofs.«01_k».proof.Proof.PairKvUpDx
public import proofs.«01_k».proof.Proof.PairKvUpDw
public import proofs.«01_k».proof.Proof.PairMemODx
public import proofs.«01_k».proof.Proof.PairMemODw
public import proofs.«01_k».proof.Proof.PairMemQDx
public import proofs.«01_k».proof.Proof.PairMemQDw
public import proofs.«01_k».proof.Proof.PairMla
public import proofs.«01_k».proof.Proof.PairMemFwd
public import proofs.«01_k».proof.Proof.PairMixNorm
public import proofs.«01_k».proof.Proof.PairProds
public import proofs.«01_k».proof.Proof.PairGlaFwd
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts, Cert.Kernel19.Gen.facts, Cert.Kernel19Ideal.Gen.facts, Cert.Reference19Ideal.Gen.facts, Cert.Kernel20.Gen.facts, Cert.Kernel20Ideal.Gen.facts, Cert.Reference20Ideal.Gen.facts, Cert.Kernel21.Gen.facts, Cert.Kernel21Ideal.Gen.facts, Cert.Reference21Ideal.Gen.facts, Cert.Kernel22.Gen.facts, Cert.Kernel22Ideal.Gen.facts, Cert.Reference22Ideal.Gen.facts, Cert.Kernel23.Gen.facts, Cert.Kernel23Ideal.Gen.facts, Cert.Reference23Ideal.Gen.facts, Cert.Kernel24.Gen.facts, Cert.Kernel24Ideal.Gen.facts, Cert.Reference24Ideal.Gen.facts, Cert.Kernel25.Gen.facts, Cert.Kernel25Ideal.Gen.facts, Cert.Reference25Ideal.Gen.facts, Cert.Kernel26.Gen.facts, Cert.Kernel26Ideal.Gen.facts, Cert.Reference26Ideal.Gen.facts, Cert.Kernel27.Gen.facts, Cert.Kernel27Ideal.Gen.facts, Cert.Reference27Ideal.Gen.facts, Cert.Kernel28.Gen.facts, Cert.Kernel28Ideal.Gen.facts, Cert.Reference28Ideal.Gen.facts, Cert.Kernel29.Gen.facts, Cert.Kernel29Ideal.Gen.facts, Cert.Reference29Ideal.Gen.facts, Cert.Kernel30.Gen.facts, Cert.Kernel30Ideal.Gen.facts, Cert.Reference30Ideal.Gen.facts, Cert.Kernel31.Gen.facts, Cert.Kernel31Ideal.Gen.facts, Cert.Reference31Ideal.Gen.facts, Cert.Kernel32.Gen.facts, Cert.Kernel32Ideal.Gen.facts, Cert.Reference32Ideal.Gen.facts, Cert.Kernel33.Gen.facts, Cert.Kernel33Ideal.Gen.facts, Cert.Reference33Ideal.Gen.facts, Cert.Kernel34.Gen.facts, Cert.Kernel34Ideal.Gen.facts, Cert.Reference34Ideal.Gen.facts, Cert.Pre_mem_finite.Gen.facts, Cert.Pre_dact_finite.Gen.facts, Cert.Pre_gla_finite.Gen.facts, Cert.Pre_mla_finite.Gen.facts, Cert.PairMem.frame_kernel,
  Cert.PairMem.frame_ideal,
  Cert.PairMem.frame_ideal_pre,
  Cert.PairMem.frame_reference,
  Cert.PairMem.frame_reference_pre,
  Cert.PairDact.frame_kernel,
  Cert.PairDact.frame_ideal,
  Cert.PairDact.frame_ideal_pre,
  Cert.PairDact.frame_reference,
  Cert.PairDact.frame_reference_pre,
  Cert.PairDwd.frame_kernel,
  Cert.PairDwd.frame_ideal,
  Cert.PairDwd.frame_reference,
  Cert.PairGla.frame_kernel,
  Cert.PairGla.frame_ideal,
  Cert.PairGla.frame_ideal_pre,
  Cert.PairGla.frame_reference,
  Cert.PairGla.frame_reference_pre,
  Cert.PairDwg.frame_kernel,
  Cert.PairDwg.frame_ideal,
  Cert.PairDwg.frame_reference,
  Cert.PairDn.frame_kernel,
  Cert.PairDn.frame_ideal,
  Cert.PairDn.frame_reference,
  Cert.PairUp.frame_kernel,
  Cert.PairUp.frame_ideal,
  Cert.PairUp.frame_reference,
  Cert.PairDown.frame_kernel,
  Cert.PairDown.frame_ideal,
  Cert.PairDown.frame_reference,
  Cert.PairInDw.frame_kernel,
  Cert.PairInDw.frame_ideal,
  Cert.PairInDw.frame_reference,
  Cert.PairInDx.frame_kernel,
  Cert.PairInDx.frame_ideal,
  Cert.PairInDx.frame_reference,
  Cert.PairOutDx.frame_kernel,
  Cert.PairOutDx.frame_ideal,
  Cert.PairOutDx.frame_reference,
  Cert.PairOutDw.frame_kernel,
  Cert.PairOutDw.frame_ideal,
  Cert.PairOutDw.frame_reference,
  Cert.PairInFwd.frame_kernel,
  Cert.PairInFwd.frame_ideal,
  Cert.PairInFwd.frame_reference,
  Cert.PairOut.frame_kernel,
  Cert.PairOut.frame_ideal,
  Cert.PairOut.frame_reference,
  Cert.PairQUpDx.frame_kernel,
  Cert.PairQUpDx.frame_ideal,
  Cert.PairQUpDx.frame_reference,
  Cert.PairQUpDw.frame_kernel,
  Cert.PairQUpDw.frame_ideal,
  Cert.PairQUpDw.frame_reference,
  Cert.PairKvUpDx.frame_kernel,
  Cert.PairKvUpDx.frame_ideal,
  Cert.PairKvUpDx.frame_reference,
  Cert.PairKvUpDw.frame_kernel,
  Cert.PairKvUpDw.frame_ideal,
  Cert.PairKvUpDw.frame_reference,
  Cert.PairMemODx.frame_kernel,
  Cert.PairMemODx.frame_ideal,
  Cert.PairMemODx.frame_reference,
  Cert.PairMemODw.frame_kernel,
  Cert.PairMemODw.frame_ideal,
  Cert.PairMemODw.frame_reference,
  Cert.PairMemQDx.frame_kernel,
  Cert.PairMemQDx.frame_ideal,
  Cert.PairMemQDx.frame_reference,
  Cert.PairMemQDw.frame_kernel,
  Cert.PairMemQDw.frame_ideal,
  Cert.PairMemQDw.frame_reference,
  Cert.PairMla.frame_kernel,
  Cert.PairMla.frame_ideal,
  Cert.PairMla.frame_ideal_pre,
  Cert.PairMla.frame_reference,
  Cert.PairMla.frame_reference_pre,
  Cert.PairMemFwd.frame_kernel,
  Cert.PairMemFwd.frame_ideal,
  Cert.PairMemFwd.frame_reference,
  Cert.PairMixNorm.frame_kernel,
  Cert.PairMixNorm.frame_ideal,
  Cert.PairMixNorm.frame_reference,
  Cert.PairMemKvDx.frame_kernel,
  Cert.PairMemKvDx.frame_ideal,
  Cert.PairMemKvDx.frame_reference,
  Cert.PairMemKDw.frame_kernel,
  Cert.PairMemKDw.frame_ideal,
  Cert.PairMemKDw.frame_reference,
  Cert.PairMemVDw.frame_kernel,
  Cert.PairMemVDw.frame_ideal,
  Cert.PairMemVDw.frame_reference,
  Cert.PairQUp.frame_kernel,
  Cert.PairQUp.frame_ideal,
  Cert.PairQUp.frame_reference,
  Cert.PairKvUp.frame_kernel,
  Cert.PairKvUp.frame_ideal,
  Cert.PairKvUp.frame_reference,
  Cert.PairMemQ.frame_kernel,
  Cert.PairMemQ.frame_ideal,
  Cert.PairMemQ.frame_reference,
  Cert.PairMemK.frame_kernel,
  Cert.PairMemK.frame_ideal,
  Cert.PairMemK.frame_reference,
  Cert.PairMemO.frame_kernel,
  Cert.PairMemO.frame_ideal,
  Cert.PairMemO.frame_reference,
  Cert.PairGlaFwd.frame_kernel,
  Cert.PairGlaFwd.frame_ideal,
  Cert.PairGlaFwd.frame_reference,
  trivial,
  Cert.PairMem.algebraic,
  trivial,
  Cert.PairDact.algebraic,
  trivial,
  Cert.PairDwd.algebraic,
  trivial,
  Cert.PairGla.algebraic,
  trivial,
  Cert.PairDwg.algebraic,
  trivial,
  Cert.PairDn.algebraic,
  trivial,
  Cert.PairUp.algebraic,
  trivial,
  Cert.PairDown.algebraic,
  trivial,
  Cert.PairInDw.algebraic,
  trivial,
  Cert.PairInDx.algebraic,
  trivial,
  Cert.PairOutDx.algebraic,
  trivial,
  Cert.PairOutDw.algebraic,
  trivial,
  Cert.PairInFwd.algebraic,
  trivial,
  Cert.PairOut.algebraic,
  trivial,
  Cert.PairQUpDx.algebraic,
  trivial,
  Cert.PairQUpDw.algebraic,
  trivial,
  Cert.PairKvUpDx.algebraic,
  trivial,
  Cert.PairKvUpDw.algebraic,
  trivial,
  Cert.PairMemODx.algebraic,
  trivial,
  Cert.PairMemODw.algebraic,
  trivial,
  Cert.PairMemQDx.algebraic,
  trivial,
  Cert.PairMemQDw.algebraic,
  Cert.PairMla.preserves,
  Cert.PairMla.algebraic,
  trivial,
  Cert.PairMemFwd.algebraic,
  trivial,
  Cert.PairMixNorm.algebraic,
  trivial,
  Cert.PairMemKvDx.algebraic,
  trivial,
  Cert.PairMemKDw.algebraic,
  trivial,
  Cert.PairMemVDw.algebraic,
  trivial,
  Cert.PairQUp.algebraic,
  trivial,
  Cert.PairKvUp.algebraic,
  trivial,
  Cert.PairMemQ.algebraic,
  trivial,
  Cert.PairMemK.algebraic,
  trivial,
  Cert.PairMemO.algebraic,
  trivial,
  Cert.PairGlaFwd.algebraic⟩

end Cert.Proof

end
